-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBRefIdeal (m : (ℓ : Loc Cert.ProjBRefIdeal.nD Cert.ProjBRefIdeal.τ Cert.ProjBRefIdeal.sig) → Buf (Elt Ideal) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def Pre_ProjAS (m : (ℓ : Loc Cert.ProjAS.nD Cert.ProjAS.τ Cert.ProjAS.sig) → Buf (Elt Bits) ℓ) : Prop :=
  True

def Pre_ProjASIdeal (m : (ℓ : Loc Cert.ProjASIdeal.nD Cert.ProjASIdeal.τ Cert.ProjASIdeal.sig) → Buf (Elt Ideal) ℓ) : Prop :=
  True

def Pre_ProjASRefIdeal (m : (ℓ : Loc Cert.ProjASRefIdeal.nD Cert.ProjASRefIdeal.τ Cert.ProjASRefIdeal.sig) → Buf (Elt Ideal) ℓ) : Prop :=
  True

def Pre_ProjBS (m : (ℓ : Loc Cert.ProjBS.nD Cert.ProjBS.τ Cert.ProjBS.sig) → Buf (Elt Bits) ℓ) : Prop :=
  True

def Pre_ProjBSIdeal (m : (ℓ : Loc Cert.ProjBSIdeal.nD Cert.ProjBSIdeal.τ Cert.ProjBSIdeal.sig) → Buf (Elt Ideal) ℓ) : Prop :=
  True

def Pre_ProjBSRefIdeal (m : (ℓ : Loc Cert.ProjBSRefIdeal.nD Cert.ProjBSRefIdeal.τ Cert.ProjBSRefIdeal.sig) → Buf (Elt Ideal) ℓ) : Prop :=
  True

def Pre_GatesS (m : (ℓ : Loc Cert.GatesS.nD Cert.GatesS.τ Cert.GatesS.sig) → Buf (Elt Bits) ℓ) : Prop :=
  True

def Pre_GatesSIdeal (m : (ℓ : Loc Cert.GatesSIdeal.nD Cert.GatesSIdeal.τ Cert.GatesSIdeal.sig) → Buf (Elt Ideal) ℓ) : Prop :=
  True

def Pre_GatesSRefIdeal (m : (ℓ : Loc Cert.GatesSRefIdeal.nD Cert.GatesSRefIdeal.τ Cert.GatesSRefIdeal.sig) → Buf (Elt Ideal) ℓ) : Prop :=
  True

def Pre_PostS (m : (ℓ : Loc Cert.PostS.nD Cert.PostS.τ Cert.PostS.sig) → Buf (Elt Bits) ℓ) : Prop :=
  True

def Pre_PostSIdeal (m : (ℓ : Loc Cert.PostSIdeal.nD Cert.PostSIdeal.τ Cert.PostSIdeal.sig) → Buf (Elt Ideal) ℓ) : Prop :=
  True

def Pre_PostSRefIdeal (m : (ℓ : Loc Cert.PostSRefIdeal.nD Cert.PostSRefIdeal.τ Cert.PostSRefIdeal.sig) → Buf (Elt Ideal) ℓ) : Prop :=
  True

def Pre_Adaln (m : (ℓ : Loc Cert.Adaln.nD Cert.Adaln.τ Cert.Adaln.sig) → Buf (Elt Bits) ℓ) : Prop :=
  True

def Pre_AdalnIdeal (m : (ℓ : Loc Cert.AdalnIdeal.nD Cert.AdalnIdeal.τ Cert.AdalnIdeal.sig) → Buf (Elt Ideal) ℓ) : Prop :=
  True

def Pre_AdalnRefIdeal (m : (ℓ : Loc Cert.AdalnRefIdeal.nD Cert.AdalnRefIdeal.τ Cert.AdalnRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1)
      ∧ r.2.mem ((c.tc : Thread Cert.ProjA.nD Cert.ProjA.τ).loc Cert.ProjA.main_arg2) = m ((c.tc : Thread Cert.ProjA.nD Cert.ProjA.τ).loc Cert.ProjA.main_arg2))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
      ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1)
      ∧ r.2.mem ((c.tc : Thread Cert.ProjARefIdeal.nD Cert.ProjARefIdeal.τ).loc Cert.ProjARefIdeal.main_arg2) = m ((c.tc : Thread Cert.ProjARefIdeal.nD Cert.ProjARefIdeal.τ).loc Cert.ProjARefIdeal.main_arg2))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1)
      ∧ r.2.mem ((c.tc : Thread Cert.ProjB.nD Cert.ProjB.τ).loc Cert.ProjB.main_arg2) = m ((c.tc : Thread Cert.ProjB.nD Cert.ProjB.τ).loc Cert.ProjB.main_arg2))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
      ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2))
      ∧ r.2.sem = fun _ => 0)

def quiescent_ProjBRefIdeal [hProjBRefIdeal : Cert.ProjBRefIdeal.Facts] : Prop :=
  ∀ (m : (ℓ : Loc Cert.ProjBRefIdeal.nD Cert.ProjBRefIdeal.τ Cert.ProjBRefIdeal.sig) → Buf (Elt Ideal) ℓ) (g : Dev Cert.ProjBRefIdeal.nD → PrngReg), Pre_ProjBRefIdeal m →
    θ_run (Cert.ProjBRefIdeal.defs (F := Ideal)) (onTc (τ := Cert.ProjBRefIdeal.τ) (Cert.ProjBRefIdeal.main (F := Ideal))) ⟨m, fun _ => 0, g⟩ (fun r => (∀ c : Dev Cert.ProjBRefIdeal.nD,
      r.2.mem ((c.tc : Thread Cert.ProjBRefIdeal.nD Cert.ProjBRefIdeal.τ).loc Cert.ProjBRefIdeal.main_arg0) = m ((c.tc : Thread Cert.ProjBRefIdeal.nD Cert.ProjBRefIdeal.τ).loc Cert.ProjBRefIdeal.main_arg0)
      ∧ r.2.mem ((c.tc : Thread Cert.ProjBRefIdeal.nD Cert.ProjBRefIdeal.τ).loc Cert.ProjBRefIdeal.main_arg1) = m ((c.tc : Thread Cert.ProjBRefIdeal.nD Cert.ProjBRefIdeal.τ).loc Cert.ProjBRefIdeal.main_arg1)
      ∧ r.2.mem ((c.tc : Thread Cert.ProjBRefIdeal.nD Cert.ProjBRefIdeal.τ).loc Cert.ProjBRefIdeal.main_arg2) = m ((c.tc : Thread Cert.ProjBRefIdeal.nD Cert.ProjBRefIdeal.τ).loc Cert.ProjBRefIdeal.main_arg2))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4)
      ∧ r.2.mem ((c.tc : Thread Cert.FfnS.nD Cert.FfnS.τ).loc Cert.FfnS.main_arg5) = m ((c.tc : Thread Cert.FfnS.nD Cert.FfnS.τ).loc Cert.FfnS.main_arg5))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
      ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3)
      ∧ r.2.mem ((c.tc : Thread Cert.FfnSRefIdeal.nD Cert.FfnSRefIdeal.τ).loc Cert.FfnSRefIdeal.main_arg4) = m ((c.tc : Thread Cert.FfnSRefIdeal.nD Cert.FfnSRefIdeal.τ).loc Cert.FfnSRefIdeal.main_arg4)
      ∧ r.2.mem ((c.tc : Thread Cert.FfnSRefIdeal.nD Cert.FfnSRefIdeal.τ).loc Cert.FfnSRefIdeal.main_arg5) = m ((c.tc : Thread Cert.FfnSRefIdeal.nD Cert.FfnSRefIdeal.τ).loc Cert.FfnSRefIdeal.main_arg5))
      ∧ r.2.sem = fun _ => 0)

def quiescent_ProjAS [hProjAS : Cert.ProjAS.Facts] : Prop :=
  ∀ (m : (ℓ : Loc Cert.ProjAS.nD Cert.ProjAS.τ Cert.ProjAS.sig) → Buf (Elt Bits) ℓ) (g : Dev Cert.ProjAS.nD → PrngReg), Pre_ProjAS m →
    θ_run (Cert.ProjAS.defs (F := Bits)) (onTc (τ := Cert.ProjAS.τ) (Cert.ProjAS.main (F := Bits))) ⟨m, fun _ => 0, g⟩ (fun r => (∀ c : Dev Cert.ProjAS.nD,
      r.2.mem ((c.tc : Thread Cert.ProjAS.nD Cert.ProjAS.τ).loc Cert.ProjAS.main_arg0) = m ((c.tc : Thread Cert.ProjAS.nD Cert.ProjAS.τ).loc Cert.ProjAS.main_arg0)
      ∧ r.2.mem ((c.tc : Thread Cert.ProjAS.nD Cert.ProjAS.τ).loc Cert.ProjAS.main_arg1) = m ((c.tc : Thread Cert.ProjAS.nD Cert.ProjAS.τ).loc Cert.ProjAS.main_arg1)
      ∧ r.2.mem ((c.tc : Thread Cert.ProjAS.nD Cert.ProjAS.τ).loc Cert.ProjAS.main_arg2) = m ((c.tc : Thread Cert.ProjAS.nD Cert.ProjAS.τ).loc Cert.ProjAS.main_arg2))
      ∧ r.2.sem = fun _ => 0)

def quiescent_ProjASIdeal [hProjASIdeal : Cert.ProjASIdeal.Facts] : Prop :=
  ∀ (m : (ℓ : Loc Cert.ProjASIdeal.nD Cert.ProjASIdeal.τ Cert.ProjASIdeal.sig) → Buf (Elt Ideal) ℓ) (g : Dev Cert.ProjASIdeal.nD → PrngReg), Pre_ProjASIdeal m →
    θ_run (Cert.ProjASIdeal.defs (F := Ideal)) (onTc (τ := Cert.ProjASIdeal.τ) (Cert.ProjASIdeal.main (F := Ideal))) ⟨m, fun _ => 0, g⟩ (fun r => (∀ c : Dev Cert.ProjASIdeal.nD,
      r.2.mem ((c.tc : Thread Cert.ProjASIdeal.nD Cert.ProjASIdeal.τ).loc Cert.ProjASIdeal.main_arg0) = m ((c.tc : Thread Cert.ProjASIdeal.nD Cert.ProjASIdeal.τ).loc Cert.ProjASIdeal.main_arg0)
      ∧ r.2.mem ((c.tc : Thread Cert.ProjASIdeal.nD Cert.ProjASIdeal.τ).loc Cert.ProjASIdeal.main_arg1) = m ((c.tc : Thread Cert.ProjASIdeal.nD Cert.ProjASIdeal.τ).loc Cert.ProjASIdeal.main_arg1)
      ∧ r.2.mem ((c.tc : Thread Cert.ProjASIdeal.nD Cert.ProjASIdeal.τ).loc Cert.ProjASIdeal.main_arg2) = m ((c.tc : Thread Cert.ProjASIdeal.nD Cert.ProjASIdeal.τ).loc Cert.ProjASIdeal.main_arg2))
      ∧ r.2.sem = fun _ => 0)

def quiescent_ProjASRefIdeal [hProjASRefIdeal : Cert.ProjASRefIdeal.Facts] : Prop :=
  ∀ (m : (ℓ : Loc Cert.ProjASRefIdeal.nD Cert.ProjASRefIdeal.τ Cert.ProjASRefIdeal.sig) → Buf (Elt Ideal) ℓ) (g : Dev Cert.ProjASRefIdeal.nD → PrngReg), Pre_ProjASRefIdeal m →
    θ_run (Cert.ProjASRefIdeal.defs (F := Ideal)) (onTc (τ := Cert.ProjASRefIdeal.τ) (Cert.ProjASRefIdeal.main (F := Ideal))) ⟨m, fun _ => 0, g⟩ (fun r => (∀ c : Dev Cert.ProjASRefIdeal.nD,
      r.2.mem ((c.tc : Thread Cert.ProjASRefIdeal.nD Cert.ProjASRefIdeal.τ).loc Cert.ProjASRefIdeal.main_arg0) = m ((c.tc : Thread Cert.ProjASRefIdeal.nD Cert.ProjASRefIdeal.τ).loc Cert.ProjASRefIdeal.main_arg0)
      ∧ r.2.mem ((c.tc : Thread Cert.ProjASRefIdeal.nD Cert.ProjASRefIdeal.τ).loc Cert.ProjASRefIdeal.main_arg1) = m ((c.tc : Thread Cert.ProjASRefIdeal.nD Cert.ProjASRefIdeal.τ).loc Cert.ProjASRefIdeal.main_arg1)
      ∧ r.2.mem ((c.tc : Thread Cert.ProjASRefIdeal.nD Cert.ProjASRefIdeal.τ).loc Cert.ProjASRefIdeal.main_arg2) = m ((c.tc : Thread Cert.ProjASRefIdeal.nD Cert.ProjASRefIdeal.τ).loc Cert.ProjASRefIdeal.main_arg2))
      ∧ r.2.sem = fun _ => 0)

def quiescent_ProjBS [hProjBS : Cert.ProjBS.Facts] : Prop :=
  ∀ (m : (ℓ : Loc Cert.ProjBS.nD Cert.ProjBS.τ Cert.ProjBS.sig) → Buf (Elt Bits) ℓ) (g : Dev Cert.ProjBS.nD → PrngReg), Pre_ProjBS m →
    θ_run (Cert.ProjBS.defs (F := Bits)) (onTc (τ := Cert.ProjBS.τ) (Cert.ProjBS.main (F := Bits))) ⟨m, fun _ => 0, g⟩ (fun r => (∀ c : Dev Cert.ProjBS.nD,
      r.2.mem ((c.tc : Thread Cert.ProjBS.nD Cert.ProjBS.τ).loc Cert.ProjBS.main_arg0) = m ((c.tc : Thread Cert.ProjBS.nD Cert.ProjBS.τ).loc Cert.ProjBS.main_arg0)
      ∧ r.2.mem ((c.tc : Thread Cert.ProjBS.nD Cert.ProjBS.τ).loc Cert.ProjBS.main_arg1) = m ((c.tc : Thread Cert.ProjBS.nD Cert.ProjBS.τ).loc Cert.ProjBS.main_arg1)
      ∧ r.2.mem ((c.tc : Thread Cert.ProjBS.nD Cert.ProjBS.τ).loc Cert.ProjBS.main_arg2) = m ((c.tc : Thread Cert.ProjBS.nD Cert.ProjBS.τ).loc Cert.ProjBS.main_arg2))
      ∧ r.2.sem = fun _ => 0)

def quiescent_ProjBSIdeal [hProjBSIdeal : Cert.ProjBSIdeal.Facts] : Prop :=
  ∀ (m : (ℓ : Loc Cert.ProjBSIdeal.nD Cert.ProjBSIdeal.τ Cert.ProjBSIdeal.sig) → Buf (Elt Ideal) ℓ) (g : Dev Cert.ProjBSIdeal.nD → PrngReg), Pre_ProjBSIdeal m →
    θ_run (Cert.ProjBSIdeal.defs (F := Ideal)) (onTc (τ := Cert.ProjBSIdeal.τ) (Cert.ProjBSIdeal.main (F := Ideal))) ⟨m, fun _ => 0, g⟩ (fun r => (∀ c : Dev Cert.ProjBSIdeal.nD,
      r.2.mem ((c.tc : Thread Cert.ProjBSIdeal.nD Cert.ProjBSIdeal.τ).loc Cert.ProjBSIdeal.main_arg0) = m ((c.tc : Thread Cert.ProjBSIdeal.nD Cert.ProjBSIdeal.τ).loc Cert.ProjBSIdeal.main_arg0)
      ∧ r.2.mem ((c.tc : Thread Cert.ProjBSIdeal.nD Cert.ProjBSIdeal.τ).loc Cert.ProjBSIdeal.main_arg1) = m ((c.tc : Thread Cert.ProjBSIdeal.nD Cert.ProjBSIdeal.τ).loc Cert.ProjBSIdeal.main_arg1)
      ∧ r.2.mem ((c.tc : Thread Cert.ProjBSIdeal.nD Cert.ProjBSIdeal.τ).loc Cert.ProjBSIdeal.main_arg2) = m ((c.tc : Thread Cert.ProjBSIdeal.nD Cert.ProjBSIdeal.τ).loc Cert.ProjBSIdeal.main_arg2))
      ∧ r.2.sem = fun _ => 0)

def quiescent_ProjBSRefIdeal [hProjBSRefIdeal : Cert.ProjBSRefIdeal.Facts] : Prop :=
  ∀ (m : (ℓ : Loc Cert.ProjBSRefIdeal.nD Cert.ProjBSRefIdeal.τ Cert.ProjBSRefIdeal.sig) → Buf (Elt Ideal) ℓ) (g : Dev Cert.ProjBSRefIdeal.nD → PrngReg), Pre_ProjBSRefIdeal m →
    θ_run (Cert.ProjBSRefIdeal.defs (F := Ideal)) (onTc (τ := Cert.ProjBSRefIdeal.τ) (Cert.ProjBSRefIdeal.main (F := Ideal))) ⟨m, fun _ => 0, g⟩ (fun r => (∀ c : Dev Cert.ProjBSRefIdeal.nD,
      r.2.mem ((c.tc : Thread Cert.ProjBSRefIdeal.nD Cert.ProjBSRefIdeal.τ).loc Cert.ProjBSRefIdeal.main_arg0) = m ((c.tc : Thread Cert.ProjBSRefIdeal.nD Cert.ProjBSRefIdeal.τ).loc Cert.ProjBSRefIdeal.main_arg0)
      ∧ r.2.mem ((c.tc : Thread Cert.ProjBSRefIdeal.nD Cert.ProjBSRefIdeal.τ).loc Cert.ProjBSRefIdeal.main_arg1) = m ((c.tc : Thread Cert.ProjBSRefIdeal.nD Cert.ProjBSRefIdeal.τ).loc Cert.ProjBSRefIdeal.main_arg1)
      ∧ r.2.mem ((c.tc : Thread Cert.ProjBSRefIdeal.nD Cert.ProjBSRefIdeal.τ).loc Cert.ProjBSRefIdeal.main_arg2) = m ((c.tc : Thread Cert.ProjBSRefIdeal.nD Cert.ProjBSRefIdeal.τ).loc Cert.ProjBSRefIdeal.main_arg2))
      ∧ r.2.sem = fun _ => 0)

def quiescent_GatesS [hGatesS : Cert.GatesS.Facts] : Prop :=
  ∀ (m : (ℓ : Loc Cert.GatesS.nD Cert.GatesS.τ Cert.GatesS.sig) → Buf (Elt Bits) ℓ) (g : Dev Cert.GatesS.nD → PrngReg), Pre_GatesS m →
    θ_run (Cert.GatesS.defs (F := Bits)) (onTc (τ := Cert.GatesS.τ) (Cert.GatesS.main (F := Bits))) ⟨m, fun _ => 0, g⟩ (fun r => (∀ c : Dev Cert.GatesS.nD,
      r.2.mem ((c.tc : Thread Cert.GatesS.nD Cert.GatesS.τ).loc Cert.GatesS.main_arg0) = m ((c.tc : Thread Cert.GatesS.nD Cert.GatesS.τ).loc Cert.GatesS.main_arg0)
      ∧ r.2.mem ((c.tc : Thread Cert.GatesS.nD Cert.GatesS.τ).loc Cert.GatesS.main_arg1) = m ((c.tc : Thread Cert.GatesS.nD Cert.GatesS.τ).loc Cert.GatesS.main_arg1)
      ∧ r.2.mem ((c.tc : Thread Cert.GatesS.nD Cert.GatesS.τ).loc Cert.GatesS.main_arg2) = m ((c.tc : Thread Cert.GatesS.nD Cert.GatesS.τ).loc Cert.GatesS.main_arg2))
      ∧ r.2.sem = fun _ => 0)

def quiescent_GatesSIdeal [hGatesSIdeal : Cert.GatesSIdeal.Facts] : Prop :=
  ∀ (m : (ℓ : Loc Cert.GatesSIdeal.nD Cert.GatesSIdeal.τ Cert.GatesSIdeal.sig) → Buf (Elt Ideal) ℓ) (g : Dev Cert.GatesSIdeal.nD → PrngReg), Pre_GatesSIdeal m →
    θ_run (Cert.GatesSIdeal.defs (F := Ideal)) (onTc (τ := Cert.GatesSIdeal.τ) (Cert.GatesSIdeal.main (F := Ideal))) ⟨m, fun _ => 0, g⟩ (fun r => (∀ c : Dev Cert.GatesSIdeal.nD,
      r.2.mem ((c.tc : Thread Cert.GatesSIdeal.nD Cert.GatesSIdeal.τ).loc Cert.GatesSIdeal.main_arg0) = m ((c.tc : Thread Cert.GatesSIdeal.nD Cert.GatesSIdeal.τ).loc Cert.GatesSIdeal.main_arg0)
      ∧ r.2.mem ((c.tc : Thread Cert.GatesSIdeal.nD Cert.GatesSIdeal.τ).loc Cert.GatesSIdeal.main_arg1) = m ((c.tc : Thread Cert.GatesSIdeal.nD Cert.GatesSIdeal.τ).loc Cert.GatesSIdeal.main_arg1)
      ∧ r.2.mem ((c.tc : Thread Cert.GatesSIdeal.nD Cert.GatesSIdeal.τ).loc Cert.GatesSIdeal.main_arg2) = m ((c.tc : Thread Cert.GatesSIdeal.nD Cert.GatesSIdeal.τ).loc Cert.GatesSIdeal.main_arg2))
      ∧ r.2.sem = fun _ => 0)

def quiescent_GatesSRefIdeal [hGatesSRefIdeal : Cert.GatesSRefIdeal.Facts] : Prop :=
  ∀ (m : (ℓ : Loc Cert.GatesSRefIdeal.nD Cert.GatesSRefIdeal.τ Cert.GatesSRefIdeal.sig) → Buf (Elt Ideal) ℓ) (g : Dev Cert.GatesSRefIdeal.nD → PrngReg), Pre_GatesSRefIdeal m →
    θ_run (Cert.GatesSRefIdeal.defs (F := Ideal)) (onTc (τ := Cert.GatesSRefIdeal.τ) (Cert.GatesSRefIdeal.main (F := Ideal))) ⟨m, fun _ => 0, g⟩ (fun r => (∀ c : Dev Cert.GatesSRefIdeal.nD,
      r.2.mem ((c.tc : Thread Cert.GatesSRefIdeal.nD Cert.GatesSRefIdeal.τ).loc Cert.GatesSRefIdeal.main_arg0) = m ((c.tc : Thread Cert.GatesSRefIdeal.nD Cert.GatesSRefIdeal.τ).loc Cert.GatesSRefIdeal.main_arg0)
      ∧ r.2.mem ((c.tc : Thread Cert.GatesSRefIdeal.nD Cert.GatesSRefIdeal.τ).loc Cert.GatesSRefIdeal.main_arg1) = m ((c.tc : Thread Cert.GatesSRefIdeal.nD Cert.GatesSRefIdeal.τ).loc Cert.GatesSRefIdeal.main_arg1)
      ∧ r.2.mem ((c.tc : Thread Cert.GatesSRefIdeal.nD Cert.GatesSRefIdeal.τ).loc Cert.GatesSRefIdeal.main_arg2) = m ((c.tc : Thread Cert.GatesSRefIdeal.nD Cert.GatesSRefIdeal.τ).loc Cert.GatesSRefIdeal.main_arg2))
      ∧ r.2.sem = fun _ => 0)

def quiescent_PostS [hPostS : Cert.PostS.Facts] : Prop :=
  ∀ (m : (ℓ : Loc Cert.PostS.nD Cert.PostS.τ Cert.PostS.sig) → Buf (Elt Bits) ℓ) (g : Dev Cert.PostS.nD → PrngReg), Pre_PostS m →
    θ_run (Cert.PostS.defs (F := Bits)) (onTc (τ := Cert.PostS.τ) (Cert.PostS.main (F := Bits))) ⟨m, fun _ => 0, g⟩ (fun r => (∀ c : Dev Cert.PostS.nD,
      r.2.mem ((c.tc : Thread Cert.PostS.nD Cert.PostS.τ).loc Cert.PostS.main_arg0) = m ((c.tc : Thread Cert.PostS.nD Cert.PostS.τ).loc Cert.PostS.main_arg0)
      ∧ r.2.mem ((c.tc : Thread Cert.PostS.nD Cert.PostS.τ).loc Cert.PostS.main_arg1) = m ((c.tc : Thread Cert.PostS.nD Cert.PostS.τ).loc Cert.PostS.main_arg1)
      ∧ r.2.mem ((c.tc : Thread Cert.PostS.nD Cert.PostS.τ).loc Cert.PostS.main_arg2) = m ((c.tc : Thread Cert.PostS.nD Cert.PostS.τ).loc Cert.PostS.main_arg2)
      ∧ r.2.mem ((c.tc : Thread Cert.PostS.nD Cert.PostS.τ).loc Cert.PostS.main_arg3) = m ((c.tc : Thread Cert.PostS.nD Cert.PostS.τ).loc Cert.PostS.main_arg3)
      ∧ r.2.mem ((c.tc : Thread Cert.PostS.nD Cert.PostS.τ).loc Cert.PostS.main_arg4) = m ((c.tc : Thread Cert.PostS.nD Cert.PostS.τ).loc Cert.PostS.main_arg4)
      ∧ r.2.mem ((c.tc : Thread Cert.PostS.nD Cert.PostS.τ).loc Cert.PostS.main_arg5) = m ((c.tc : Thread Cert.PostS.nD Cert.PostS.τ).loc Cert.PostS.main_arg5)
      ∧ r.2.mem ((c.tc : Thread Cert.PostS.nD Cert.PostS.τ).loc Cert.PostS.main_arg6) = m ((c.tc : Thread Cert.PostS.nD Cert.PostS.τ).loc Cert.PostS.main_arg6)
      ∧ r.2.mem ((c.tc : Thread Cert.PostS.nD Cert.PostS.τ).loc Cert.PostS.main_arg7) = m ((c.tc : Thread Cert.PostS.nD Cert.PostS.τ).loc Cert.PostS.main_arg7)
      ∧ r.2.mem ((c.tc : Thread Cert.PostS.nD Cert.PostS.τ).loc Cert.PostS.main_arg8) = m ((c.tc : Thread Cert.PostS.nD Cert.PostS.τ).loc Cert.PostS.main_arg8)
      ∧ r.2.mem ((c.tc : Thread Cert.PostS.nD Cert.PostS.τ).loc Cert.PostS.main_arg9) = m ((c.tc : Thread Cert.PostS.nD Cert.PostS.τ).loc Cert.PostS.main_arg9))
      ∧ r.2.sem = fun _ => 0)

def quiescent_PostSIdeal [hPostSIdeal : Cert.PostSIdeal.Facts] : Prop :=
  ∀ (m : (ℓ : Loc Cert.PostSIdeal.nD Cert.PostSIdeal.τ Cert.PostSIdeal.sig) → Buf (Elt Ideal) ℓ) (g : Dev Cert.PostSIdeal.nD → PrngReg), Pre_PostSIdeal m →
    θ_run (Cert.PostSIdeal.defs (F := Ideal)) (onTc (τ := Cert.PostSIdeal.τ) (Cert.PostSIdeal.main (F := Ideal))) ⟨m, fun _ => 0, g⟩ (fun r => (∀ c : Dev Cert.PostSIdeal.nD,
      r.2.mem ((c.tc : Thread Cert.PostSIdeal.nD Cert.PostSIdeal.τ).loc Cert.PostSIdeal.main_arg0) = m ((c.tc : Thread Cert.PostSIdeal.nD Cert.PostSIdeal.τ).loc Cert.PostSIdeal.main_arg0)
      ∧ r.2.mem ((c.tc : Thread Cert.PostSIdeal.nD Cert.PostSIdeal.τ).loc Cert.PostSIdeal.main_arg1) = m ((c.tc : Thread Cert.PostSIdeal.nD Cert.PostSIdeal.τ).loc Cert.PostSIdeal.main_arg1)
      ∧ r.2.mem ((c.tc : Thread Cert.PostSIdeal.nD Cert.PostSIdeal.τ).loc Cert.PostSIdeal.main_arg2) = m ((c.tc : Thread Cert.PostSIdeal.nD Cert.PostSIdeal.τ).loc Cert.PostSIdeal.main_arg2)
      ∧ r.2.mem ((c.tc : Thread Cert.PostSIdeal.nD Cert.PostSIdeal.τ).loc Cert.PostSIdeal.main_arg3) = m ((c.tc : Thread Cert.PostSIdeal.nD Cert.PostSIdeal.τ).loc Cert.PostSIdeal.main_arg3)
      ∧ r.2.mem ((c.tc : Thread Cert.PostSIdeal.nD Cert.PostSIdeal.τ).loc Cert.PostSIdeal.main_arg4) = m ((c.tc : Thread Cert.PostSIdeal.nD Cert.PostSIdeal.τ).loc Cert.PostSIdeal.main_arg4)
      ∧ r.2.mem ((c.tc : Thread Cert.PostSIdeal.nD Cert.PostSIdeal.τ).loc Cert.PostSIdeal.main_arg5) = m ((c.tc : Thread Cert.PostSIdeal.nD Cert.PostSIdeal.τ).loc Cert.PostSIdeal.main_arg5)
      ∧ r.2.mem ((c.tc : Thread Cert.PostSIdeal.nD Cert.PostSIdeal.τ).loc Cert.PostSIdeal.main_arg6) = m ((c.tc : Thread Cert.PostSIdeal.nD Cert.PostSIdeal.τ).loc Cert.PostSIdeal.main_arg6)
      ∧ r.2.mem ((c.tc : Thread Cert.PostSIdeal.nD Cert.PostSIdeal.τ).loc Cert.PostSIdeal.main_arg7) = m ((c.tc : Thread Cert.PostSIdeal.nD Cert.PostSIdeal.τ).loc Cert.PostSIdeal.main_arg7)
      ∧ r.2.mem ((c.tc : Thread Cert.PostSIdeal.nD Cert.PostSIdeal.τ).loc Cert.PostSIdeal.main_arg8) = m ((c.tc : Thread Cert.PostSIdeal.nD Cert.PostSIdeal.τ).loc Cert.PostSIdeal.main_arg8)
      ∧ r.2.mem ((c.tc : Thread Cert.PostSIdeal.nD Cert.PostSIdeal.τ).loc Cert.PostSIdeal.main_arg9) = m ((c.tc : Thread Cert.PostSIdeal.nD Cert.PostSIdeal.τ).loc Cert.PostSIdeal.main_arg9))
      ∧ r.2.sem = fun _ => 0)

def quiescent_PostSRefIdeal [hPostSRefIdeal : Cert.PostSRefIdeal.Facts] : Prop :=
  ∀ (m : (ℓ : Loc Cert.PostSRefIdeal.nD Cert.PostSRefIdeal.τ Cert.PostSRefIdeal.sig) → Buf (Elt Ideal) ℓ) (g : Dev Cert.PostSRefIdeal.nD → PrngReg), Pre_PostSRefIdeal m →
    θ_run (Cert.PostSRefIdeal.defs (F := Ideal)) (onTc (τ := Cert.PostSRefIdeal.τ) (Cert.PostSRefIdeal.main (F := Ideal))) ⟨m, fun _ => 0, g⟩ (fun r => (∀ c : Dev Cert.PostSRefIdeal.nD,
      r.2.mem ((c.tc : Thread Cert.PostSRefIdeal.nD Cert.PostSRefIdeal.τ).loc Cert.PostSRefIdeal.main_arg0) = m ((c.tc : Thread Cert.PostSRefIdeal.nD Cert.PostSRefIdeal.τ).loc Cert.PostSRefIdeal.main_arg0)
      ∧ r.2.mem ((c.tc : Thread Cert.PostSRefIdeal.nD Cert.PostSRefIdeal.τ).loc Cert.PostSRefIdeal.main_arg1) = m ((c.tc : Thread Cert.PostSRefIdeal.nD Cert.PostSRefIdeal.τ).loc Cert.PostSRefIdeal.main_arg1)
      ∧ r.2.mem ((c.tc : Thread Cert.PostSRefIdeal.nD Cert.PostSRefIdeal.τ).loc Cert.PostSRefIdeal.main_arg2) = m ((c.tc : Thread Cert.PostSRefIdeal.nD Cert.PostSRefIdeal.τ).loc Cert.PostSRefIdeal.main_arg2)
      ∧ r.2.mem ((c.tc : Thread Cert.PostSRefIdeal.nD Cert.PostSRefIdeal.τ).loc Cert.PostSRefIdeal.main_arg3) = m ((c.tc : Thread Cert.PostSRefIdeal.nD Cert.PostSRefIdeal.τ).loc Cert.PostSRefIdeal.main_arg3)
      ∧ r.2.mem ((c.tc : Thread Cert.PostSRefIdeal.nD Cert.PostSRefIdeal.τ).loc Cert.PostSRefIdeal.main_arg4) = m ((c.tc : Thread Cert.PostSRefIdeal.nD Cert.PostSRefIdeal.τ).loc Cert.PostSRefIdeal.main_arg4)
      ∧ r.2.mem ((c.tc : Thread Cert.PostSRefIdeal.nD Cert.PostSRefIdeal.τ).loc Cert.PostSRefIdeal.main_arg5) = m ((c.tc : Thread Cert.PostSRefIdeal.nD Cert.PostSRefIdeal.τ).loc Cert.PostSRefIdeal.main_arg5)
      ∧ r.2.mem ((c.tc : Thread Cert.PostSRefIdeal.nD Cert.PostSRefIdeal.τ).loc Cert.PostSRefIdeal.main_arg6) = m ((c.tc : Thread Cert.PostSRefIdeal.nD Cert.PostSRefIdeal.τ).loc Cert.PostSRefIdeal.main_arg6)
      ∧ r.2.mem ((c.tc : Thread Cert.PostSRefIdeal.nD Cert.PostSRefIdeal.τ).loc Cert.PostSRefIdeal.main_arg7) = m ((c.tc : Thread Cert.PostSRefIdeal.nD Cert.PostSRefIdeal.τ).loc Cert.PostSRefIdeal.main_arg7)
      ∧ r.2.mem ((c.tc : Thread Cert.PostSRefIdeal.nD Cert.PostSRefIdeal.τ).loc Cert.PostSRefIdeal.main_arg8) = m ((c.tc : Thread Cert.PostSRefIdeal.nD Cert.PostSRefIdeal.τ).loc Cert.PostSRefIdeal.main_arg8)
      ∧ r.2.mem ((c.tc : Thread Cert.PostSRefIdeal.nD Cert.PostSRefIdeal.τ).loc Cert.PostSRefIdeal.main_arg9) = m ((c.tc : Thread Cert.PostSRefIdeal.nD Cert.PostSRefIdeal.τ).loc Cert.PostSRefIdeal.main_arg9))
      ∧ r.2.sem = fun _ => 0)

def quiescent_Adaln [hAdaln : Cert.Adaln.Facts] : Prop :=
  ∀ (m : (ℓ : Loc Cert.Adaln.nD Cert.Adaln.τ Cert.Adaln.sig) → Buf (Elt Bits) ℓ) (g : Dev Cert.Adaln.nD → PrngReg), Pre_Adaln m →
    θ_run (Cert.Adaln.defs (F := Bits)) (onTc (τ := Cert.Adaln.τ) (Cert.Adaln.main (F := Bits))) ⟨m, fun _ => 0, g⟩ (fun r => (∀ c : Dev Cert.Adaln.nD,
      r.2.mem ((c.tc : Thread Cert.Adaln.nD Cert.Adaln.τ).loc Cert.Adaln.main_arg0) = m ((c.tc : Thread Cert.Adaln.nD Cert.Adaln.τ).loc Cert.Adaln.main_arg0)
      ∧ r.2.mem ((c.tc : Thread Cert.Adaln.nD Cert.Adaln.τ).loc Cert.Adaln.main_arg1) = m ((c.tc : Thread Cert.Adaln.nD Cert.Adaln.τ).loc Cert.Adaln.main_arg1)
      ∧ r.2.mem ((c.tc : Thread Cert.Adaln.nD Cert.Adaln.τ).loc Cert.Adaln.main_arg2) = m ((c.tc : Thread Cert.Adaln.nD Cert.Adaln.τ).loc Cert.Adaln.main_arg2)
      ∧ r.2.mem ((c.tc : Thread Cert.Adaln.nD Cert.Adaln.τ).loc Cert.Adaln.main_arg3) = m ((c.tc : Thread Cert.Adaln.nD Cert.Adaln.τ).loc Cert.Adaln.main_arg3))
      ∧ r.2.sem = fun _ => 0)

def quiescent_AdalnIdeal [hAdalnIdeal : Cert.AdalnIdeal.Facts] : Prop :=
  ∀ (m : (ℓ : Loc Cert.AdalnIdeal.nD Cert.AdalnIdeal.τ Cert.AdalnIdeal.sig) → Buf (Elt Ideal) ℓ) (g : Dev Cert.AdalnIdeal.nD → PrngReg), Pre_AdalnIdeal m →
    θ_run (Cert.AdalnIdeal.defs (F := Ideal)) (onTc (τ := Cert.AdalnIdeal.τ) (Cert.AdalnIdeal.main (F := Ideal))) ⟨m, fun _ => 0, g⟩ (fun r => (∀ c : Dev Cert.AdalnIdeal.nD,
      r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
      ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
      ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2)
      ∧ r.2.mem ((c.tc : Thread Cert.AdalnIdeal.nD Cert.AdalnIdeal.τ).loc Cert.AdalnIdeal.main_arg3) = m ((c.tc : Thread Cert.AdalnIdeal.nD Cert.AdalnIdeal.τ).loc Cert.AdalnIdeal.main_arg3))
      ∧ r.2.sem = fun _ => 0)

def quiescent_AdalnRefIdeal [hAdalnRefIdeal : Cert.AdalnRefIdeal.Facts] : Prop :=
  ∀ (m : (ℓ : Loc Cert.AdalnRefIdeal.nD Cert.AdalnRefIdeal.τ Cert.AdalnRefIdeal.sig) → Buf (Elt Ideal) ℓ) (g : Dev Cert.AdalnRefIdeal.nD → PrngReg), Pre_AdalnRefIdeal m →
    θ_run (Cert.AdalnRefIdeal.defs (F := Ideal)) (onTc (τ := Cert.AdalnRefIdeal.τ) (Cert.AdalnRefIdeal.main (F := Ideal))) ⟨m, fun _ => 0, g⟩ (fun r => (∀ c : Dev Cert.AdalnRefIdeal.nD,
      r.2.mem ((c.tc : Thread Cert.AdalnRefIdeal.nD Cert.AdalnRefIdeal.τ).loc Cert.AdalnRefIdeal.main_arg0) = m ((c.tc : Thread Cert.AdalnRefIdeal.nD Cert.AdalnRefIdeal.τ).loc Cert.AdalnRefIdeal.main_arg0)
      ∧ r.2.mem ((c.tc : Thread Cert.AdalnRefIdeal.nD Cert.AdalnRefIdeal.τ).loc Cert.AdalnRefIdeal.main_arg1) = m ((c.tc : Thread Cert.AdalnRefIdeal.nD Cert.AdalnRefIdeal.τ).loc Cert.AdalnRefIdeal.main_arg1)
      ∧ r.2.mem ((c.tc : Thread Cert.AdalnRefIdeal.nD Cert.AdalnRefIdeal.τ).loc Cert.AdalnRefIdeal.main_arg2) = m ((c.tc : Thread Cert.AdalnRefIdeal.nD Cert.AdalnRefIdeal.τ).loc Cert.AdalnRefIdeal.main_arg2)
      ∧ r.2.mem ((c.tc : Thread Cert.AdalnRefIdeal.nD Cert.AdalnRefIdeal.τ).loc Cert.AdalnRefIdeal.main_arg3) = m ((c.tc : Thread Cert.AdalnRefIdeal.nD Cert.AdalnRefIdeal.τ).loc Cert.AdalnRefIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v59) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_ProjA_ProjAIdeal : Prop :=
  True

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)
      ∧ m' ((c.tc : Thread Cert.ProjARefIdeal.nD Cert.ProjARefIdeal.τ).loc Cert.ProjARefIdeal.main_arg2) = m ((c.tc : Thread Cert.ProjAIdeal.nD Cert.ProjAIdeal.τ).loc Cert.ProjAIdeal.main_arg2)) →
    ∃ (v0 : (c : Dev Cert.ProjAIdeal.nD) → Buf (Elt Ideal) ((c.tc : Thread Cert.ProjAIdeal.nD Cert.ProjAIdeal.τ).loc Cert.ProjAIdeal.main_v16)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v16) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
          ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v22) = v0 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1)
          ∧ r.2.mem ((c.tc : Thread Cert.ProjARefIdeal.nD Cert.ProjARefIdeal.τ).loc Cert.ProjARefIdeal.main_arg2) = m' ((c.tc : Thread Cert.ProjARefIdeal.nD Cert.ProjARefIdeal.τ).loc Cert.ProjARefIdeal.main_arg2))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)) →
    ∃ (v0 : (c : Dev Cert.GatesIdeal.nD) → Buf (Elt Ideal) ((c.tc : Thread Cert.GatesIdeal.nD Cert.GatesIdeal.τ).loc Cert.GatesIdeal.main_v16)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v16) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v23) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)) →
    ∃ (v0 : (c : Dev Cert.PostIdeal.nD) → Buf (Elt Ideal) ((c.tc : Thread Cert.PostIdeal.nD Cert.PostIdeal.τ).loc Cert.PostIdeal.main_v12)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v12) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v59) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9))

def preserves_ProjB_ProjBIdeal : Prop :=
  True

def algebraic_ProjBIdeal_ProjBRefIdeal [hProjBIdeal : Cert.ProjBIdeal.Facts] [hProjBRefIdeal : Cert.ProjBRefIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBRefIdeal.nD Cert.ProjBRefIdeal.τ Cert.ProjBRefIdeal.sig) → Buf (Elt Ideal) ℓ) (g' : Dev Cert.ProjBRefIdeal.nD → PrngReg), Pre_ProjBIdeal m →
    (∀ c : Dev Cert.ProjBIdeal.nD,
      m' ((c.tc : Thread Cert.ProjBRefIdeal.nD Cert.ProjBRefIdeal.τ).loc Cert.ProjBRefIdeal.main_arg0) = m ((c.tc : Thread Cert.ProjBIdeal.nD Cert.ProjBIdeal.τ).loc Cert.ProjBIdeal.main_arg0)
      ∧ m' ((c.tc : Thread Cert.ProjBRefIdeal.nD Cert.ProjBRefIdeal.τ).loc Cert.ProjBRefIdeal.main_arg1) = m ((c.tc : Thread Cert.ProjBIdeal.nD Cert.ProjBIdeal.τ).loc Cert.ProjBIdeal.main_arg1)
      ∧ m' ((c.tc : Thread Cert.ProjBRefIdeal.nD Cert.ProjBRefIdeal.τ).loc Cert.ProjBRefIdeal.main_arg2) = m ((c.tc : Thread Cert.ProjBIdeal.nD Cert.ProjBIdeal.τ).loc Cert.ProjBIdeal.main_arg2)) →
    ∃ (v0 : (c : Dev Cert.ProjBIdeal.nD) → Buf (Elt Ideal) ((c.tc : Thread Cert.ProjBIdeal.nD Cert.ProjBIdeal.τ).loc Cert.ProjBIdeal.main_v35_0)) (v1 : (c : Dev Cert.ProjBIdeal.nD) → Buf (Elt Ideal) ((c.tc : Thread Cert.ProjBIdeal.nD Cert.ProjBIdeal.τ).loc Cert.ProjBIdeal.main_v35_1)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v35_0) = v0 c
          ∧ r.2.mem ((c.tc : Thread Cert.ProjBIdeal.nD Cert.ProjBIdeal.τ).loc Cert.ProjBIdeal.main_v35_1) = v1 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
          ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2))
      ∧ θ_run (Cert.ProjBRefIdeal.defs (F := Ideal)) (onTc (τ := Cert.ProjBRefIdeal.τ) (Cert.ProjBRefIdeal.main (F := Ideal))) ⟨m', fun _ => 0, g'⟩ (fun r => ∀ c : Dev Cert.ProjBRefIdeal.nD,
          r.2.mem ((c.tc : Thread Cert.ProjBRefIdeal.nD Cert.ProjBRefIdeal.τ).loc Cert.ProjBRefIdeal.main_v89) = v0 c
          ∧ r.2.mem ((c.tc : Thread Cert.ProjBRefIdeal.nD Cert.ProjBRefIdeal.τ).loc Cert.ProjBRefIdeal.main_v92) = v1 c
          ∧ r.2.mem ((c.tc : Thread Cert.ProjBRefIdeal.nD Cert.ProjBRefIdeal.τ).loc Cert.ProjBRefIdeal.main_arg0) = m' ((c.tc : Thread Cert.ProjBRefIdeal.nD Cert.ProjBRefIdeal.τ).loc Cert.ProjBRefIdeal.main_arg0)
          ∧ r.2.mem ((c.tc : Thread Cert.ProjBRefIdeal.nD Cert.ProjBRefIdeal.τ).loc Cert.ProjBRefIdeal.main_arg1) = m' ((c.tc : Thread Cert.ProjBRefIdeal.nD Cert.ProjBRefIdeal.τ).loc Cert.ProjBRefIdeal.main_arg1)
          ∧ r.2.mem ((c.tc : Thread Cert.ProjBRefIdeal.nD Cert.ProjBRefIdeal.τ).loc Cert.ProjBRefIdeal.main_arg2) = m' ((c.tc : Thread Cert.ProjBRefIdeal.nD Cert.ProjBRefIdeal.τ).loc Cert.ProjBRefIdeal.main_arg2))

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)
      ∧ m' ((c.tc : Thread Cert.FfnSRefIdeal.nD Cert.FfnSRefIdeal.τ).loc Cert.FfnSRefIdeal.main_arg4) = m ((c.tc : Thread Cert.FfnSIdeal.nD Cert.FfnSIdeal.τ).loc Cert.FfnSIdeal.main_arg4)
      ∧ m' ((c.tc : Thread Cert.FfnSRefIdeal.nD Cert.FfnSRefIdeal.τ).loc Cert.FfnSRefIdeal.main_arg5) = m ((c.tc : Thread Cert.FfnSIdeal.nD Cert.FfnSIdeal.τ).loc Cert.FfnSIdeal.main_arg5)) →
    ∃ (v0 : (c : Dev Cert.FfnSIdeal.nD) → Buf (Elt Ideal) ((c.tc : Thread Cert.FfnSIdeal.nD Cert.FfnSIdeal.τ).loc Cert.FfnSIdeal.main_v5)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v5) = v0 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
          ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v56) = v0 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3)
          ∧ r.2.mem ((c.tc : Thread Cert.FfnSRefIdeal.nD Cert.FfnSRefIdeal.τ).loc Cert.FfnSRefIdeal.main_arg4) = m' ((c.tc : Thread Cert.FfnSRefIdeal.nD Cert.FfnSRefIdeal.τ).loc Cert.FfnSRefIdeal.main_arg4)
          ∧ r.2.mem ((c.tc : Thread Cert.FfnSRefIdeal.nD Cert.FfnSRefIdeal.τ).loc Cert.FfnSRefIdeal.main_arg5) = m' ((c.tc : Thread Cert.FfnSRefIdeal.nD Cert.FfnSRefIdeal.τ).loc Cert.FfnSRefIdeal.main_arg5))

def preserves_ProjAS_ProjASIdeal : Prop :=
  True

def algebraic_ProjASIdeal_ProjASRefIdeal [hProjASIdeal : Cert.ProjASIdeal.Facts] [hProjASRefIdeal : Cert.ProjASRefIdeal.Facts] : Prop :=
  ∀ (m : (ℓ : Loc Cert.ProjASIdeal.nD Cert.ProjASIdeal.τ Cert.ProjASIdeal.sig) → Buf (Elt Ideal) ℓ) (g : Dev Cert.ProjASIdeal.nD → PrngReg)
    (m' : (ℓ : Loc Cert.ProjASRefIdeal.nD Cert.ProjASRefIdeal.τ Cert.ProjASRefIdeal.sig) → Buf (Elt Ideal) ℓ) (g' : Dev Cert.ProjASRefIdeal.nD → PrngReg), Pre_ProjASIdeal m →
    (∀ c : Dev Cert.ProjASIdeal.nD,
      m' ((c.tc : Thread Cert.ProjASRefIdeal.nD Cert.ProjASRefIdeal.τ).loc Cert.ProjASRefIdeal.main_arg0) = m ((c.tc : Thread Cert.ProjASIdeal.nD Cert.ProjASIdeal.τ).loc Cert.ProjASIdeal.main_arg0)
      ∧ m' ((c.tc : Thread Cert.ProjASRefIdeal.nD Cert.ProjASRefIdeal.τ).loc Cert.ProjASRefIdeal.main_arg1) = m ((c.tc : Thread Cert.ProjASIdeal.nD Cert.ProjASIdeal.τ).loc Cert.ProjASIdeal.main_arg1)
      ∧ m' ((c.tc : Thread Cert.ProjASRefIdeal.nD Cert.ProjASRefIdeal.τ).loc Cert.ProjASRefIdeal.main_arg2) = m ((c.tc : Thread Cert.ProjASIdeal.nD Cert.ProjASIdeal.τ).loc Cert.ProjASIdeal.main_arg2)) →
    ∃ (v0 : (c : Dev Cert.ProjASIdeal.nD) → Buf (Elt Ideal) ((c.tc : Thread Cert.ProjASIdeal.nD Cert.ProjASIdeal.τ).loc Cert.ProjASIdeal.main_v16)),
      θ_run (Cert.ProjASIdeal.defs (F := Ideal)) (onTc (τ := Cert.ProjASIdeal.τ) (Cert.ProjASIdeal.main (F := Ideal))) ⟨m, fun _ => 0, g⟩ (fun r => ∀ c : Dev Cert.ProjASIdeal.nD,
          r.2.mem ((c.tc : Thread Cert.ProjASIdeal.nD Cert.ProjASIdeal.τ).loc Cert.ProjASIdeal.main_v16) = v0 c
          ∧ r.2.mem ((c.tc : Thread Cert.ProjASIdeal.nD Cert.ProjASIdeal.τ).loc Cert.ProjASIdeal.main_arg0) = m ((c.tc : Thread Cert.ProjASIdeal.nD Cert.ProjASIdeal.τ).loc Cert.ProjASIdeal.main_arg0)
          ∧ r.2.mem ((c.tc : Thread Cert.ProjASIdeal.nD Cert.ProjASIdeal.τ).loc Cert.ProjASIdeal.main_arg1) = m ((c.tc : Thread Cert.ProjASIdeal.nD Cert.ProjASIdeal.τ).loc Cert.ProjASIdeal.main_arg1)
          ∧ r.2.mem ((c.tc : Thread Cert.ProjASIdeal.nD Cert.ProjASIdeal.τ).loc Cert.ProjASIdeal.main_arg2) = m ((c.tc : Thread Cert.ProjASIdeal.nD Cert.ProjASIdeal.τ).loc Cert.ProjASIdeal.main_arg2))
      ∧ θ_run (Cert.ProjASRefIdeal.defs (F := Ideal)) (onTc (τ := Cert.ProjASRefIdeal.τ) (Cert.ProjASRefIdeal.main (F := Ideal))) ⟨m', fun _ => 0, g'⟩ (fun r => ∀ c : Dev Cert.ProjASRefIdeal.nD,
          r.2.mem ((c.tc : Thread Cert.ProjASRefIdeal.nD Cert.ProjASRefIdeal.τ).loc Cert.ProjASRefIdeal.main_v20) = v0 c
          ∧ r.2.mem ((c.tc : Thread Cert.ProjASRefIdeal.nD Cert.ProjASRefIdeal.τ).loc Cert.ProjASRefIdeal.main_arg0) = m' ((c.tc : Thread Cert.ProjASRefIdeal.nD Cert.ProjASRefIdeal.τ).loc Cert.ProjASRefIdeal.main_arg0)
          ∧ r.2.mem ((c.tc : Thread Cert.ProjASRefIdeal.nD Cert.ProjASRefIdeal.τ).loc Cert.ProjASRefIdeal.main_arg1) = m' ((c.tc : Thread Cert.ProjASRefIdeal.nD Cert.ProjASRefIdeal.τ).loc Cert.ProjASRefIdeal.main_arg1)
          ∧ r.2.mem ((c.tc : Thread Cert.ProjASRefIdeal.nD Cert.ProjASRefIdeal.τ).loc Cert.ProjASRefIdeal.main_arg2) = m' ((c.tc : Thread Cert.ProjASRefIdeal.nD Cert.ProjASRefIdeal.τ).loc Cert.ProjASRefIdeal.main_arg2))

def preserves_ProjBS_ProjBSIdeal : Prop :=
  True

def algebraic_ProjBSIdeal_ProjBSRefIdeal [hProjBSIdeal : Cert.ProjBSIdeal.Facts] [hProjBSRefIdeal : Cert.ProjBSRefIdeal.Facts] : Prop :=
  ∀ (m : (ℓ : Loc Cert.ProjBSIdeal.nD Cert.ProjBSIdeal.τ Cert.ProjBSIdeal.sig) → Buf (Elt Ideal) ℓ) (g : Dev Cert.ProjBSIdeal.nD → PrngReg)
    (m' : (ℓ : Loc Cert.ProjBSRefIdeal.nD Cert.ProjBSRefIdeal.τ Cert.ProjBSRefIdeal.sig) → Buf (Elt Ideal) ℓ) (g' : Dev Cert.ProjBSRefIdeal.nD → PrngReg), Pre_ProjBSIdeal m →
    (∀ c : Dev Cert.ProjBSIdeal.nD,
      m' ((c.tc : Thread Cert.ProjBSRefIdeal.nD Cert.ProjBSRefIdeal.τ).loc Cert.ProjBSRefIdeal.main_arg0) = m ((c.tc : Thread Cert.ProjBSIdeal.nD Cert.ProjBSIdeal.τ).loc Cert.ProjBSIdeal.main_arg0)
      ∧ m' ((c.tc : Thread Cert.ProjBSRefIdeal.nD Cert.ProjBSRefIdeal.τ).loc Cert.ProjBSRefIdeal.main_arg1) = m ((c.tc : Thread Cert.ProjBSIdeal.nD Cert.ProjBSIdeal.τ).loc Cert.ProjBSIdeal.main_arg1)
      ∧ m' ((c.tc : Thread Cert.ProjBSRefIdeal.nD Cert.ProjBSRefIdeal.τ).loc Cert.ProjBSRefIdeal.main_arg2) = m ((c.tc : Thread Cert.ProjBSIdeal.nD Cert.ProjBSIdeal.τ).loc Cert.ProjBSIdeal.main_arg2)) →
    ∃ (v0 : (c : Dev Cert.ProjBSIdeal.nD) → Buf (Elt Ideal) ((c.tc : Thread Cert.ProjBSIdeal.nD Cert.ProjBSIdeal.τ).loc Cert.ProjBSIdeal.main_v35_0)) (v1 : (c : Dev Cert.ProjBSIdeal.nD) → Buf (Elt Ideal) ((c.tc : Thread Cert.ProjBSIdeal.nD Cert.ProjBSIdeal.τ).loc Cert.ProjBSIdeal.main_v35_1)),
      θ_run (Cert.ProjBSIdeal.defs (F := Ideal)) (onTc (τ := Cert.ProjBSIdeal.τ) (Cert.ProjBSIdeal.main (F := Ideal))) ⟨m, fun _ => 0, g⟩ (fun r => ∀ c : Dev Cert.ProjBSIdeal.nD,
          r.2.mem ((c.tc : Thread Cert.ProjBSIdeal.nD Cert.ProjBSIdeal.τ).loc Cert.ProjBSIdeal.main_v35_0) = v0 c
          ∧ r.2.mem ((c.tc : Thread Cert.ProjBSIdeal.nD Cert.ProjBSIdeal.τ).loc Cert.ProjBSIdeal.main_v35_1) = v1 c
          ∧ r.2.mem ((c.tc : Thread Cert.ProjBSIdeal.nD Cert.ProjBSIdeal.τ).loc Cert.ProjBSIdeal.main_arg0) = m ((c.tc : Thread Cert.ProjBSIdeal.nD Cert.ProjBSIdeal.τ).loc Cert.ProjBSIdeal.main_arg0)
          ∧ r.2.mem ((c.tc : Thread Cert.ProjBSIdeal.nD Cert.ProjBSIdeal.τ).loc Cert.ProjBSIdeal.main_arg1) = m ((c.tc : Thread Cert.ProjBSIdeal.nD Cert.ProjBSIdeal.τ).loc Cert.ProjBSIdeal.main_arg1)
          ∧ r.2.mem ((c.tc : Thread Cert.ProjBSIdeal.nD Cert.ProjBSIdeal.τ).loc Cert.ProjBSIdeal.main_arg2) = m ((c.tc : Thread Cert.ProjBSIdeal.nD Cert.ProjBSIdeal.τ).loc Cert.ProjBSIdeal.main_arg2))
      ∧ θ_run (Cert.ProjBSRefIdeal.defs (F := Ideal)) (onTc (τ := Cert.ProjBSRefIdeal.τ) (Cert.ProjBSRefIdeal.main (F := Ideal))) ⟨m', fun _ => 0, g'⟩ (fun r => ∀ c : Dev Cert.ProjBSRefIdeal.nD,
          r.2.mem ((c.tc : Thread Cert.ProjBSRefIdeal.nD Cert.ProjBSRefIdeal.τ).loc Cert.ProjBSRefIdeal.main_v87) = v0 c
          ∧ r.2.mem ((c.tc : Thread Cert.ProjBSRefIdeal.nD Cert.ProjBSRefIdeal.τ).loc Cert.ProjBSRefIdeal.main_v90) = v1 c
          ∧ r.2.mem ((c.tc : Thread Cert.ProjBSRefIdeal.nD Cert.ProjBSRefIdeal.τ).loc Cert.ProjBSRefIdeal.main_arg0) = m' ((c.tc : Thread Cert.ProjBSRefIdeal.nD Cert.ProjBSRefIdeal.τ).loc Cert.ProjBSRefIdeal.main_arg0)
          ∧ r.2.mem ((c.tc : Thread Cert.ProjBSRefIdeal.nD Cert.ProjBSRefIdeal.τ).loc Cert.ProjBSRefIdeal.main_arg1) = m' ((c.tc : Thread Cert.ProjBSRefIdeal.nD Cert.ProjBSRefIdeal.τ).loc Cert.ProjBSRefIdeal.main_arg1)
          ∧ r.2.mem ((c.tc : Thread Cert.ProjBSRefIdeal.nD Cert.ProjBSRefIdeal.τ).loc Cert.ProjBSRefIdeal.main_arg2) = m' ((c.tc : Thread Cert.ProjBSRefIdeal.nD Cert.ProjBSRefIdeal.τ).loc Cert.ProjBSRefIdeal.main_arg2))

def preserves_GatesS_GatesSIdeal : Prop :=
  True

def algebraic_GatesSIdeal_GatesSRefIdeal [hGatesSIdeal : Cert.GatesSIdeal.Facts] [hGatesSRefIdeal : Cert.GatesSRefIdeal.Facts] : Prop :=
  ∀ (m : (ℓ : Loc Cert.GatesSIdeal.nD Cert.GatesSIdeal.τ Cert.GatesSIdeal.sig) → Buf (Elt Ideal) ℓ) (g : Dev Cert.GatesSIdeal.nD → PrngReg)
    (m' : (ℓ : Loc Cert.GatesSRefIdeal.nD Cert.GatesSRefIdeal.τ Cert.GatesSRefIdeal.sig) → Buf (Elt Ideal) ℓ) (g' : Dev Cert.GatesSRefIdeal.nD → PrngReg), Pre_GatesSIdeal m →
    (∀ c : Dev Cert.GatesSIdeal.nD,
      m' ((c.tc : Thread Cert.GatesSRefIdeal.nD Cert.GatesSRefIdeal.τ).loc Cert.GatesSRefIdeal.main_arg0) = m ((c.tc : Thread Cert.GatesSIdeal.nD Cert.GatesSIdeal.τ).loc Cert.GatesSIdeal.main_arg0)
      ∧ m' ((c.tc : Thread Cert.GatesSRefIdeal.nD Cert.GatesSRefIdeal.τ).loc Cert.GatesSRefIdeal.main_arg1) = m ((c.tc : Thread Cert.GatesSIdeal.nD Cert.GatesSIdeal.τ).loc Cert.GatesSIdeal.main_arg1)
      ∧ m' ((c.tc : Thread Cert.GatesSRefIdeal.nD Cert.GatesSRefIdeal.τ).loc Cert.GatesSRefIdeal.main_arg2) = m ((c.tc : Thread Cert.GatesSIdeal.nD Cert.GatesSIdeal.τ).loc Cert.GatesSIdeal.main_arg2)) →
    ∃ (v0 : (c : Dev Cert.GatesSIdeal.nD) → Buf (Elt Ideal) ((c.tc : Thread Cert.GatesSIdeal.nD Cert.GatesSIdeal.τ).loc Cert.GatesSIdeal.main_v16)),
      θ_run (Cert.GatesSIdeal.defs (F := Ideal)) (onTc (τ := Cert.GatesSIdeal.τ) (Cert.GatesSIdeal.main (F := Ideal))) ⟨m, fun _ => 0, g⟩ (fun r => ∀ c : Dev Cert.GatesSIdeal.nD,
          r.2.mem ((c.tc : Thread Cert.GatesSIdeal.nD Cert.GatesSIdeal.τ).loc Cert.GatesSIdeal.main_v16) = v0 c
          ∧ r.2.mem ((c.tc : Thread Cert.GatesSIdeal.nD Cert.GatesSIdeal.τ).loc Cert.GatesSIdeal.main_arg0) = m ((c.tc : Thread Cert.GatesSIdeal.nD Cert.GatesSIdeal.τ).loc Cert.GatesSIdeal.main_arg0)
          ∧ r.2.mem ((c.tc : Thread Cert.GatesSIdeal.nD Cert.GatesSIdeal.τ).loc Cert.GatesSIdeal.main_arg1) = m ((c.tc : Thread Cert.GatesSIdeal.nD Cert.GatesSIdeal.τ).loc Cert.GatesSIdeal.main_arg1)
          ∧ r.2.mem ((c.tc : Thread Cert.GatesSIdeal.nD Cert.GatesSIdeal.τ).loc Cert.GatesSIdeal.main_arg2) = m ((c.tc : Thread Cert.GatesSIdeal.nD Cert.GatesSIdeal.τ).loc Cert.GatesSIdeal.main_arg2))
      ∧ θ_run (Cert.GatesSRefIdeal.defs (F := Ideal)) (onTc (τ := Cert.GatesSRefIdeal.τ) (Cert.GatesSRefIdeal.main (F := Ideal))) ⟨m', fun _ => 0, g'⟩ (fun r => ∀ c : Dev Cert.GatesSRefIdeal.nD,
          r.2.mem ((c.tc : Thread Cert.GatesSRefIdeal.nD Cert.GatesSRefIdeal.τ).loc Cert.GatesSRefIdeal.main_v21) = v0 c
          ∧ r.2.mem ((c.tc : Thread Cert.GatesSRefIdeal.nD Cert.GatesSRefIdeal.τ).loc Cert.GatesSRefIdeal.main_arg0) = m' ((c.tc : Thread Cert.GatesSRefIdeal.nD Cert.GatesSRefIdeal.τ).loc Cert.GatesSRefIdeal.main_arg0)
          ∧ r.2.mem ((c.tc : Thread Cert.GatesSRefIdeal.nD Cert.GatesSRefIdeal.τ).loc Cert.GatesSRefIdeal.main_arg1) = m' ((c.tc : Thread Cert.GatesSRefIdeal.nD Cert.GatesSRefIdeal.τ).loc Cert.GatesSRefIdeal.main_arg1)
          ∧ r.2.mem ((c.tc : Thread Cert.GatesSRefIdeal.nD Cert.GatesSRefIdeal.τ).loc Cert.GatesSRefIdeal.main_arg2) = m' ((c.tc : Thread Cert.GatesSRefIdeal.nD Cert.GatesSRefIdeal.τ).loc Cert.GatesSRefIdeal.main_arg2))

def preserves_PostS_PostSIdeal : Prop :=
  True

def algebraic_PostSIdeal_PostSRefIdeal [hPostSIdeal : Cert.PostSIdeal.Facts] [hPostSRefIdeal : Cert.PostSRefIdeal.Facts] : Prop :=
  ∀ (m : (ℓ : Loc Cert.PostSIdeal.nD Cert.PostSIdeal.τ Cert.PostSIdeal.sig) → Buf (Elt Ideal) ℓ) (g : Dev Cert.PostSIdeal.nD → PrngReg)
    (m' : (ℓ : Loc Cert.PostSRefIdeal.nD Cert.PostSRefIdeal.τ Cert.PostSRefIdeal.sig) → Buf (Elt Ideal) ℓ) (g' : Dev Cert.PostSRefIdeal.nD → PrngReg), Pre_PostSIdeal m →
    (∀ c : Dev Cert.PostSIdeal.nD,
      m' ((c.tc : Thread Cert.PostSRefIdeal.nD Cert.PostSRefIdeal.τ).loc Cert.PostSRefIdeal.main_arg0) = m ((c.tc : Thread Cert.PostSIdeal.nD Cert.PostSIdeal.τ).loc Cert.PostSIdeal.main_arg0)
      ∧ m' ((c.tc : Thread Cert.PostSRefIdeal.nD Cert.PostSRefIdeal.τ).loc Cert.PostSRefIdeal.main_arg1) = m ((c.tc : Thread Cert.PostSIdeal.nD Cert.PostSIdeal.τ).loc Cert.PostSIdeal.main_arg1)
      ∧ m' ((c.tc : Thread Cert.PostSRefIdeal.nD Cert.PostSRefIdeal.τ).loc Cert.PostSRefIdeal.main_arg2) = m ((c.tc : Thread Cert.PostSIdeal.nD Cert.PostSIdeal.τ).loc Cert.PostSIdeal.main_arg2)
      ∧ m' ((c.tc : Thread Cert.PostSRefIdeal.nD Cert.PostSRefIdeal.τ).loc Cert.PostSRefIdeal.main_arg3) = m ((c.tc : Thread Cert.PostSIdeal.nD Cert.PostSIdeal.τ).loc Cert.PostSIdeal.main_arg3)
      ∧ m' ((c.tc : Thread Cert.PostSRefIdeal.nD Cert.PostSRefIdeal.τ).loc Cert.PostSRefIdeal.main_arg4) = m ((c.tc : Thread Cert.PostSIdeal.nD Cert.PostSIdeal.τ).loc Cert.PostSIdeal.main_arg4)
      ∧ m' ((c.tc : Thread Cert.PostSRefIdeal.nD Cert.PostSRefIdeal.τ).loc Cert.PostSRefIdeal.main_arg5) = m ((c.tc : Thread Cert.PostSIdeal.nD Cert.PostSIdeal.τ).loc Cert.PostSIdeal.main_arg5)
      ∧ m' ((c.tc : Thread Cert.PostSRefIdeal.nD Cert.PostSRefIdeal.τ).loc Cert.PostSRefIdeal.main_arg6) = m ((c.tc : Thread Cert.PostSIdeal.nD Cert.PostSIdeal.τ).loc Cert.PostSIdeal.main_arg6)
      ∧ m' ((c.tc : Thread Cert.PostSRefIdeal.nD Cert.PostSRefIdeal.τ).loc Cert.PostSRefIdeal.main_arg7) = m ((c.tc : Thread Cert.PostSIdeal.nD Cert.PostSIdeal.τ).loc Cert.PostSIdeal.main_arg7)
      ∧ m' ((c.tc : Thread Cert.PostSRefIdeal.nD Cert.PostSRefIdeal.τ).loc Cert.PostSRefIdeal.main_arg8) = m ((c.tc : Thread Cert.PostSIdeal.nD Cert.PostSIdeal.τ).loc Cert.PostSIdeal.main_arg8)
      ∧ m' ((c.tc : Thread Cert.PostSRefIdeal.nD Cert.PostSRefIdeal.τ).loc Cert.PostSRefIdeal.main_arg9) = m ((c.tc : Thread Cert.PostSIdeal.nD Cert.PostSIdeal.τ).loc Cert.PostSIdeal.main_arg9)) →
    ∃ (v0 : (c : Dev Cert.PostSIdeal.nD) → Buf (Elt Ideal) ((c.tc : Thread Cert.PostSIdeal.nD Cert.PostSIdeal.τ).loc Cert.PostSIdeal.main_v12)),
      θ_run (Cert.PostSIdeal.defs (F := Ideal)) (onTc (τ := Cert.PostSIdeal.τ) (Cert.PostSIdeal.main (F := Ideal))) ⟨m, fun _ => 0, g⟩ (fun r => ∀ c : Dev Cert.PostSIdeal.nD,
          r.2.mem ((c.tc : Thread Cert.PostSIdeal.nD Cert.PostSIdeal.τ).loc Cert.PostSIdeal.main_v12) = v0 c
          ∧ r.2.mem ((c.tc : Thread Cert.PostSIdeal.nD Cert.PostSIdeal.τ).loc Cert.PostSIdeal.main_arg0) = m ((c.tc : Thread Cert.PostSIdeal.nD Cert.PostSIdeal.τ).loc Cert.PostSIdeal.main_arg0)
          ∧ r.2.mem ((c.tc : Thread Cert.PostSIdeal.nD Cert.PostSIdeal.τ).loc Cert.PostSIdeal.main_arg1) = m ((c.tc : Thread Cert.PostSIdeal.nD Cert.PostSIdeal.τ).loc Cert.PostSIdeal.main_arg1)
          ∧ r.2.mem ((c.tc : Thread Cert.PostSIdeal.nD Cert.PostSIdeal.τ).loc Cert.PostSIdeal.main_arg2) = m ((c.tc : Thread Cert.PostSIdeal.nD Cert.PostSIdeal.τ).loc Cert.PostSIdeal.main_arg2)
          ∧ r.2.mem ((c.tc : Thread Cert.PostSIdeal.nD Cert.PostSIdeal.τ).loc Cert.PostSIdeal.main_arg3) = m ((c.tc : Thread Cert.PostSIdeal.nD Cert.PostSIdeal.τ).loc Cert.PostSIdeal.main_arg3)
          ∧ r.2.mem ((c.tc : Thread Cert.PostSIdeal.nD Cert.PostSIdeal.τ).loc Cert.PostSIdeal.main_arg4) = m ((c.tc : Thread Cert.PostSIdeal.nD Cert.PostSIdeal.τ).loc Cert.PostSIdeal.main_arg4)
          ∧ r.2.mem ((c.tc : Thread Cert.PostSIdeal.nD Cert.PostSIdeal.τ).loc Cert.PostSIdeal.main_arg5) = m ((c.tc : Thread Cert.PostSIdeal.nD Cert.PostSIdeal.τ).loc Cert.PostSIdeal.main_arg5)
          ∧ r.2.mem ((c.tc : Thread Cert.PostSIdeal.nD Cert.PostSIdeal.τ).loc Cert.PostSIdeal.main_arg6) = m ((c.tc : Thread Cert.PostSIdeal.nD Cert.PostSIdeal.τ).loc Cert.PostSIdeal.main_arg6)
          ∧ r.2.mem ((c.tc : Thread Cert.PostSIdeal.nD Cert.PostSIdeal.τ).loc Cert.PostSIdeal.main_arg7) = m ((c.tc : Thread Cert.PostSIdeal.nD Cert.PostSIdeal.τ).loc Cert.PostSIdeal.main_arg7)
          ∧ r.2.mem ((c.tc : Thread Cert.PostSIdeal.nD Cert.PostSIdeal.τ).loc Cert.PostSIdeal.main_arg8) = m ((c.tc : Thread Cert.PostSIdeal.nD Cert.PostSIdeal.τ).loc Cert.PostSIdeal.main_arg8)
          ∧ r.2.mem ((c.tc : Thread Cert.PostSIdeal.nD Cert.PostSIdeal.τ).loc Cert.PostSIdeal.main_arg9) = m ((c.tc : Thread Cert.PostSIdeal.nD Cert.PostSIdeal.τ).loc Cert.PostSIdeal.main_arg9))
      ∧ θ_run (Cert.PostSRefIdeal.defs (F := Ideal)) (onTc (τ := Cert.PostSRefIdeal.τ) (Cert.PostSRefIdeal.main (F := Ideal))) ⟨m', fun _ => 0, g'⟩ (fun r => ∀ c : Dev Cert.PostSRefIdeal.nD,
          r.2.mem ((c.tc : Thread Cert.PostSRefIdeal.nD Cert.PostSRefIdeal.τ).loc Cert.PostSRefIdeal.main_v58) = v0 c
          ∧ r.2.mem ((c.tc : Thread Cert.PostSRefIdeal.nD Cert.PostSRefIdeal.τ).loc Cert.PostSRefIdeal.main_arg0) = m' ((c.tc : Thread Cert.PostSRefIdeal.nD Cert.PostSRefIdeal.τ).loc Cert.PostSRefIdeal.main_arg0)
          ∧ r.2.mem ((c.tc : Thread Cert.PostSRefIdeal.nD Cert.PostSRefIdeal.τ).loc Cert.PostSRefIdeal.main_arg1) = m' ((c.tc : Thread Cert.PostSRefIdeal.nD Cert.PostSRefIdeal.τ).loc Cert.PostSRefIdeal.main_arg1)
          ∧ r.2.mem ((c.tc : Thread Cert.PostSRefIdeal.nD Cert.PostSRefIdeal.τ).loc Cert.PostSRefIdeal.main_arg2) = m' ((c.tc : Thread Cert.PostSRefIdeal.nD Cert.PostSRefIdeal.τ).loc Cert.PostSRefIdeal.main_arg2)
          ∧ r.2.mem ((c.tc : Thread Cert.PostSRefIdeal.nD Cert.PostSRefIdeal.τ).loc Cert.PostSRefIdeal.main_arg3) = m' ((c.tc : Thread Cert.PostSRefIdeal.nD Cert.PostSRefIdeal.τ).loc Cert.PostSRefIdeal.main_arg3)
          ∧ r.2.mem ((c.tc : Thread Cert.PostSRefIdeal.nD Cert.PostSRefIdeal.τ).loc Cert.PostSRefIdeal.main_arg4) = m' ((c.tc : Thread Cert.PostSRefIdeal.nD Cert.PostSRefIdeal.τ).loc Cert.PostSRefIdeal.main_arg4)
          ∧ r.2.mem ((c.tc : Thread Cert.PostSRefIdeal.nD Cert.PostSRefIdeal.τ).loc Cert.PostSRefIdeal.main_arg5) = m' ((c.tc : Thread Cert.PostSRefIdeal.nD Cert.PostSRefIdeal.τ).loc Cert.PostSRefIdeal.main_arg5)
          ∧ r.2.mem ((c.tc : Thread Cert.PostSRefIdeal.nD Cert.PostSRefIdeal.τ).loc Cert.PostSRefIdeal.main_arg6) = m' ((c.tc : Thread Cert.PostSRefIdeal.nD Cert.PostSRefIdeal.τ).loc Cert.PostSRefIdeal.main_arg6)
          ∧ r.2.mem ((c.tc : Thread Cert.PostSRefIdeal.nD Cert.PostSRefIdeal.τ).loc Cert.PostSRefIdeal.main_arg7) = m' ((c.tc : Thread Cert.PostSRefIdeal.nD Cert.PostSRefIdeal.τ).loc Cert.PostSRefIdeal.main_arg7)
          ∧ r.2.mem ((c.tc : Thread Cert.PostSRefIdeal.nD Cert.PostSRefIdeal.τ).loc Cert.PostSRefIdeal.main_arg8) = m' ((c.tc : Thread Cert.PostSRefIdeal.nD Cert.PostSRefIdeal.τ).loc Cert.PostSRefIdeal.main_arg8)
          ∧ r.2.mem ((c.tc : Thread Cert.PostSRefIdeal.nD Cert.PostSRefIdeal.τ).loc Cert.PostSRefIdeal.main_arg9) = m' ((c.tc : Thread Cert.PostSRefIdeal.nD Cert.PostSRefIdeal.τ).loc Cert.PostSRefIdeal.main_arg9))

def preserves_Adaln_AdalnIdeal : Prop :=
  True

def algebraic_AdalnIdeal_AdalnRefIdeal [hAdalnIdeal : Cert.AdalnIdeal.Facts] [hAdalnRefIdeal : Cert.AdalnRefIdeal.Facts] : Prop :=
  ∀ (m : (ℓ : Loc Cert.AdalnIdeal.nD Cert.AdalnIdeal.τ Cert.AdalnIdeal.sig) → Buf (Elt Ideal) ℓ) (g : Dev Cert.AdalnIdeal.nD → PrngReg)
    (m' : (ℓ : Loc Cert.AdalnRefIdeal.nD Cert.AdalnRefIdeal.τ Cert.AdalnRefIdeal.sig) → Buf (Elt Ideal) ℓ) (g' : Dev Cert.AdalnRefIdeal.nD → PrngReg), Pre_AdalnIdeal m →
    (∀ c : Dev Cert.AdalnIdeal.nD,
      m' ((c.tc : Thread Cert.AdalnRefIdeal.nD Cert.AdalnRefIdeal.τ).loc Cert.AdalnRefIdeal.main_arg0) = m ((c.tc : Thread Cert.AdalnIdeal.nD Cert.AdalnIdeal.τ).loc Cert.AdalnIdeal.main_arg0)
      ∧ m' ((c.tc : Thread Cert.AdalnRefIdeal.nD Cert.AdalnRefIdeal.τ).loc Cert.AdalnRefIdeal.main_arg1) = m ((c.tc : Thread Cert.AdalnIdeal.nD Cert.AdalnIdeal.τ).loc Cert.AdalnIdeal.main_arg1)
      ∧ m' ((c.tc : Thread Cert.AdalnRefIdeal.nD Cert.AdalnRefIdeal.τ).loc Cert.AdalnRefIdeal.main_arg2) = m ((c.tc : Thread Cert.AdalnIdeal.nD Cert.AdalnIdeal.τ).loc Cert.AdalnIdeal.main_arg2)
      ∧ m' ((c.tc : Thread Cert.AdalnRefIdeal.nD Cert.AdalnRefIdeal.τ).loc Cert.AdalnRefIdeal.main_arg3) = m ((c.tc : Thread Cert.AdalnIdeal.nD Cert.AdalnIdeal.τ).loc Cert.AdalnIdeal.main_arg3)) →
    ∃ (v0 : (c : Dev Cert.AdalnIdeal.nD) → Buf (Elt Ideal) ((c.tc : Thread Cert.AdalnIdeal.nD Cert.AdalnIdeal.τ).loc Cert.AdalnIdeal.main_v2)),
      θ_run (Cert.AdalnIdeal.defs (F := Ideal)) (onTc (τ := Cert.AdalnIdeal.τ) (Cert.AdalnIdeal.main (F := Ideal))) ⟨m, fun _ => 0, g⟩ (fun r => ∀ c : Dev Cert.AdalnIdeal.nD,
          r.2.mem ((c.tc : Thread Cert.AdalnIdeal.nD Cert.AdalnIdeal.τ).loc Cert.AdalnIdeal.main_v2) = v0 c
          ∧ r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
          ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
          ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2)
          ∧ r.2.mem ((c.tc : Thread Cert.AdalnIdeal.nD Cert.AdalnIdeal.τ).loc Cert.AdalnIdeal.main_arg3) = m ((c.tc : Thread Cert.AdalnIdeal.nD Cert.AdalnIdeal.τ).loc Cert.AdalnIdeal.main_arg3))
      ∧ θ_run (Cert.AdalnRefIdeal.defs (F := Ideal)) (onTc (τ := Cert.AdalnRefIdeal.τ) (Cert.AdalnRefIdeal.main (F := Ideal))) ⟨m', fun _ => 0, g'⟩ (fun r => ∀ c : Dev Cert.AdalnRefIdeal.nD,
          r.2.mem ((c.tc : Thread Cert.AdalnRefIdeal.nD Cert.AdalnRefIdeal.τ).loc Cert.AdalnRefIdeal.main_v42) = v0 c
          ∧ r.2.mem ((c.tc : Thread Cert.AdalnRefIdeal.nD Cert.AdalnRefIdeal.τ).loc Cert.AdalnRefIdeal.main_arg0) = m' ((c.tc : Thread Cert.AdalnRefIdeal.nD Cert.AdalnRefIdeal.τ).loc Cert.AdalnRefIdeal.main_arg0)
          ∧ r.2.mem ((c.tc : Thread Cert.AdalnRefIdeal.nD Cert.AdalnRefIdeal.τ).loc Cert.AdalnRefIdeal.main_arg1) = m' ((c.tc : Thread Cert.AdalnRefIdeal.nD Cert.AdalnRefIdeal.τ).loc Cert.AdalnRefIdeal.main_arg1)
          ∧ r.2.mem ((c.tc : Thread Cert.AdalnRefIdeal.nD Cert.AdalnRefIdeal.τ).loc Cert.AdalnRefIdeal.main_arg2) = m' ((c.tc : Thread Cert.AdalnRefIdeal.nD Cert.AdalnRefIdeal.τ).loc Cert.AdalnRefIdeal.main_arg2)
          ∧ r.2.mem ((c.tc : Thread Cert.AdalnRefIdeal.nD Cert.AdalnRefIdeal.τ).loc Cert.AdalnRefIdeal.main_arg3) = m' ((c.tc : Thread Cert.AdalnRefIdeal.nD Cert.AdalnRefIdeal.τ).loc Cert.AdalnRefIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hProjA : Cert.ProjA.Facts) (hProjAIdeal : Cert.ProjAIdeal.Facts) (hProjARefIdeal : Cert.ProjARefIdeal.Facts) (hGates : Cert.Gates.Facts) (hGatesIdeal : Cert.GatesIdeal.Facts) (hGatesRefIdeal : Cert.GatesRefIdeal.Facts) (hPost : Cert.Post.Facts) (hPostIdeal : Cert.PostIdeal.Facts) (hPostRefIdeal : Cert.PostRefIdeal.Facts) (hProjB : Cert.ProjB.Facts) (hProjBIdeal : Cert.ProjBIdeal.Facts) (hProjBRefIdeal : Cert.ProjBRefIdeal.Facts) (hFfnS : Cert.FfnS.Facts) (hFfnSIdeal : Cert.FfnSIdeal.Facts) (hFfnSRefIdeal : Cert.FfnSRefIdeal.Facts) (hProjAS : Cert.ProjAS.Facts) (hProjASIdeal : Cert.ProjASIdeal.Facts) (hProjASRefIdeal : Cert.ProjASRefIdeal.Facts) (hProjBS : Cert.ProjBS.Facts) (hProjBSIdeal : Cert.ProjBSIdeal.Facts) (hProjBSRefIdeal : Cert.ProjBSRefIdeal.Facts) (hGatesS : Cert.GatesS.Facts) (hGatesSIdeal : Cert.GatesSIdeal.Facts) (hGatesSRefIdeal : Cert.GatesSRefIdeal.Facts) (hPostS : Cert.PostS.Facts) (hPostSIdeal : Cert.PostSIdeal.Facts) (hPostSRefIdeal : Cert.PostSRefIdeal.Facts) (hAdaln : Cert.Adaln.Facts) (hAdalnIdeal : Cert.AdalnIdeal.Facts) (hAdalnRefIdeal : Cert.AdalnRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_ProjA (hProjA := hProjA)
    ∧ quiescent_ProjAIdeal (hProjAIdeal := hProjAIdeal)
    ∧ quiescent_ProjARefIdeal (hProjARefIdeal := hProjARefIdeal)
    ∧ quiescent_Gates (hGates := hGates)
    ∧ quiescent_GatesIdeal (hGatesIdeal := hGatesIdeal)
    ∧ quiescent_GatesRefIdeal (hGatesRefIdeal := hGatesRefIdeal)
    ∧ quiescent_Post (hPost := hPost)
    ∧ quiescent_PostIdeal (hPostIdeal := hPostIdeal)
    ∧ quiescent_PostRefIdeal (hPostRefIdeal := hPostRefIdeal)
    ∧ quiescent_ProjB (hProjB := hProjB)
    ∧ quiescent_ProjBIdeal (hProjBIdeal := hProjBIdeal)
    ∧ quiescent_ProjBRefIdeal (hProjBRefIdeal := hProjBRefIdeal)
    ∧ quiescent_FfnS (hFfnS := hFfnS)
    ∧ quiescent_FfnSIdeal (hFfnSIdeal := hFfnSIdeal)
    ∧ quiescent_FfnSRefIdeal (hFfnSRefIdeal := hFfnSRefIdeal)
    ∧ quiescent_ProjAS (hProjAS := hProjAS)
    ∧ quiescent_ProjASIdeal (hProjASIdeal := hProjASIdeal)
    ∧ quiescent_ProjASRefIdeal (hProjASRefIdeal := hProjASRefIdeal)
    ∧ quiescent_ProjBS (hProjBS := hProjBS)
    ∧ quiescent_ProjBSIdeal (hProjBSIdeal := hProjBSIdeal)
    ∧ quiescent_ProjBSRefIdeal (hProjBSRefIdeal := hProjBSRefIdeal)
    ∧ quiescent_GatesS (hGatesS := hGatesS)
    ∧ quiescent_GatesSIdeal (hGatesSIdeal := hGatesSIdeal)
    ∧ quiescent_GatesSRefIdeal (hGatesSRefIdeal := hGatesSRefIdeal)
    ∧ quiescent_PostS (hPostS := hPostS)
    ∧ quiescent_PostSIdeal (hPostSIdeal := hPostSIdeal)
    ∧ quiescent_PostSRefIdeal (hPostSRefIdeal := hPostSRefIdeal)
    ∧ quiescent_Adaln (hAdaln := hAdaln)
    ∧ quiescent_AdalnIdeal (hAdalnIdeal := hAdalnIdeal)
    ∧ quiescent_AdalnRefIdeal (hAdalnRefIdeal := hAdalnRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal (hFfnIdeal := hFfnIdeal) (hFfnRefIdeal := hFfnRefIdeal)
    ∧ preserves_ProjA_ProjAIdeal
    ∧ algebraic_ProjAIdeal_ProjARefIdeal (hProjAIdeal := hProjAIdeal) (hProjARefIdeal := hProjARefIdeal)
    ∧ preserves_Gates_GatesIdeal
    ∧ algebraic_GatesIdeal_GatesRefIdeal (hGatesIdeal := hGatesIdeal) (hGatesRefIdeal := hGatesRefIdeal)
    ∧ preserves_Post_PostIdeal
    ∧ algebraic_PostIdeal_PostRefIdeal (hPostIdeal := hPostIdeal) (hPostRefIdeal := hPostRefIdeal)
    ∧ preserves_ProjB_ProjBIdeal
    ∧ algebraic_ProjBIdeal_ProjBRefIdeal (hProjBIdeal := hProjBIdeal) (hProjBRefIdeal := hProjBRefIdeal)
    ∧ preserves_FfnS_FfnSIdeal
    ∧ algebraic_FfnSIdeal_FfnSRefIdeal (hFfnSIdeal := hFfnSIdeal) (hFfnSRefIdeal := hFfnSRefIdeal)
    ∧ preserves_ProjAS_ProjASIdeal
    ∧ algebraic_ProjASIdeal_ProjASRefIdeal (hProjASIdeal := hProjASIdeal) (hProjASRefIdeal := hProjASRefIdeal)
    ∧ preserves_ProjBS_ProjBSIdeal
    ∧ algebraic_ProjBSIdeal_ProjBSRefIdeal (hProjBSIdeal := hProjBSIdeal) (hProjBSRefIdeal := hProjBSRefIdeal)
    ∧ preserves_GatesS_GatesSIdeal
    ∧ algebraic_GatesSIdeal_GatesSRefIdeal (hGatesSIdeal := hGatesSIdeal) (hGatesSRefIdeal := hGatesSRefIdeal)
    ∧ preserves_PostS_PostSIdeal
    ∧ algebraic_PostSIdeal_PostSRefIdeal (hPostSIdeal := hPostSIdeal) (hPostSRefIdeal := hPostSRefIdeal)
    ∧ preserves_Adaln_AdalnIdeal
    ∧ algebraic_AdalnIdeal_AdalnRefIdeal (hAdalnIdeal := hAdalnIdeal) (hAdalnRefIdeal := hAdalnRefIdeal)
-- ==== Pre_finite.lean ====
abbrev S8x2048x2x8x64 : Shape := ⟨5, ![8, 2048, 2, 8, 64]⟩
abbrev S8x2048x2x64 : Shape := ⟨4, ![8, 2048, 2, 64]⟩
abbrev S2x8 : Shape := ⟨2, ![2, 8]⟩
abbrev S_ : Shape := ⟨0, ![]⟩

class Facts : Prop where
  bcast_S_S8x2048x2x8x64 : S_.BroadcastsInDim S8x2048x2x8x64 (![] : Fin 0 → Fin S8x2048x2x8x64.rank)
  reducesTo_S8x2048x2x8x64_S_d0_1_2_3_4 : S8x2048x2x8x64.ReducesTo [0, 1, 2, 3, 4] S_
  h_S_ : 0 < S_.numel
  bcast_S_S8x2048x2x64 : S_.BroadcastsInDim S8x2048x2x64 (![] : Fin 0 → Fin S8x2048x2x64.rank)
  reducesTo_S8x2048x2x64_S_d0_1_2_3 : S8x2048x2x64.ReducesTo [0, 1, 2, 3] S_
  bcast_S_S2x8 : S_.BroadcastsInDim S2x8 (![] : Fin 0 → Fin S2x8.rank)
  reducesTo_S2x8_S_d0_1 : S2x8.ReducesTo [0, 1] S_

variable [Facts]

def fn {F : FTy → Type} [FloatOps F] (main_arg0 : FVec F S8x2048x2x8x64 .f32) (main_arg1 : FVec F S8x2048x2x64 .f32) (main_arg2 : FVec F S8x2048x2x64 .f32) (main_arg3 : FVec F S2x8 .f32) : IVec S_ 1 :=
  let main_v0 : FVec F S8x2048x2x8x64 .f32 := Host.absf main_arg0
  let main_cst : FVec F S_ .f32 := constant S_ .f32 0x7F800000#32
  let main_v1 : FVec F S8x2048x2x8x64 .f32 := broadcastInDim S8x2048x2x8x64 ![] bcast_S_S8x2048x2x8x64 main_cst
  let main_v2 : IVec S8x2048x2x8x64 1 := cmpf .olt main_v0 main_v1
  let main_c : IVec S_ 1 := constantI S_ 1 1#1
  let main_v3 : IVec S_ 1 := (fun x v => Host.reduce IntOp.andi x v reducesTo_S8x2048x2x8x64_S_d0_1_2_3_4 h_S_) main_v2 main_c
  let main_v4 : FVec F S8x2048x2x64 .f32 := Host.absf main_arg1
  let main_cst_0 : FVec F S_ .f32 := constant S_ .f32 0x7F800000#32
  let main_v5 : FVec F S8x2048x2x64 .f32 := broadcastInDim S8x2048x2x64 ![] bcast_S_S8x2048x2x64 main_cst_0
  let main_v6 : IVec S8x2048x2x64 1 := cmpf .olt main_v4 main_v5
  let main_c_1 : IVec S_ 1 := constantI S_ 1 1#1
  let main_v7 : IVec S_ 1 := (fun x v => Host.reduce IntOp.andi x v reducesTo_S8x2048x2x64_S_d0_1_2_3 h_S_) main_v6 main_c_1
  let main_v8 : IVec S_ 1 := andi main_v3 main_v7
  let main_v9 : FVec F S2x8 .f32 := Host.absf main_arg3
  let main_cst_2 : FVec F S_ .f32 := constant S_ .f32 0x7F800000#32
  let main_v10 : FVec F S2x8 .f32 := broadcastInDim S2x8 ![] bcast_S_S2x8 main_cst_2
  let main_v11 : IVec S2x8 1 := cmpf .olt main_v9 main_v10
  let main_c_3 : IVec S_ 1 := constantI S_ 1 1#1
  let main_v12 : IVec S_ 1 := (fun x v => Host.reduce IntOp.andi x v reducesTo_S2x8_S_d0_1 h_S_) main_v11 main_c_3
  let main_v13 : IVec S_ 1 := andi main_v8 main_v12
  main_v13
-- ==== Kernel.lean ====
abbrev S8x2048x2x8x64 : Shape := ⟨5, ![8, 2048, 2, 8, 64]⟩
abbrev S8x2048x2x64 : Shape := ⟨4, ![8, 2048, 2, 64]⟩
abbrev S2x8 : Shape := ⟨2, ![2, 8]⟩
abbrev S8x2048x1024 : Shape := ⟨3, ![8, 2048, 1024]⟩
abbrev S_ : Shape := ⟨0, ![]⟩
abbrev S8x2048x128 : Shape := ⟨3, ![8, 2048, 128]⟩
abbrev S8x2048x256 : Shape := ⟨3, ![8, 2048, 256]⟩
abbrev S16 : Shape := ⟨1, ![16]⟩
abbrev S8x256x128 : Shape := ⟨3, ![8, 256, 128]⟩
abbrev S1x1024x1024 : Shape := ⟨3, ![1, 1024, 1024]⟩
abbrev S1x128x256 : Shape := ⟨3, ![1, 128, 256]⟩
abbrev S1x1024x256 : Shape := ⟨3, ![1, 1024, 256]⟩
abbrev S1x256x128 : Shape := ⟨3, ![1, 256, 128]⟩
abbrev S128x128 : Shape := ⟨2, ![128, 128]⟩
abbrev S256x1 : Shape := ⟨2, ![256, 1]⟩
abbrev S1x128x128 : Shape := ⟨3, ![1, 128, 128]⟩
abbrev S1 : Shape := ⟨1, ![1]⟩
abbrev S256x128 : Shape := ⟨2, ![256, 128]⟩
abbrev S256 : Shape := ⟨1, ![256]⟩
abbrev S128x1 : Shape := ⟨2, ![128, 1]⟩
abbrev S128x256 : Shape := ⟨2, ![128, 256]⟩

abbrev nBuf : Space → Nat
  | .hbm => 15
  | .vmem => 10
  | .smem => 1
  | _ => 0

abbrev bufTy : (tb : Table) → Fin (tcTables nBuf tb) → BufTy
  | .hbm, ⟨0, _⟩ => ⟨S8x2048x2x8x64, .f32⟩
  | .hbm, ⟨1, _⟩ => ⟨S8x2048x2x64, .f32⟩
  | .hbm, ⟨2, _⟩ => ⟨S8x2048x2x64, .f32⟩
  | .hbm, ⟨3, _⟩ => ⟨S2x8, .f32⟩
  | .hbm, ⟨4, _⟩ => ⟨S8x2048x1024, .f32⟩
  | .hbm, ⟨5, _⟩ => ⟨S_, .f32⟩
  | .hbm, ⟨6, _⟩ => ⟨S8x2048x1024, .f32⟩
  | .hbm, ⟨7, _⟩ => ⟨S8x2048x1024, .f32⟩
  | .hbm, ⟨8, _⟩ => ⟨S8x2048x1024, .bf16⟩
  | .hbm, ⟨9, _⟩ => ⟨S8x2048x128, .f32⟩
  | .hbm, ⟨10, _⟩ => ⟨S8x2048x128, .f32⟩
  | .hbm, ⟨11, _⟩ => ⟨S8x2048x256, .f32⟩
  | .hbm, ⟨12, _⟩ => ⟨S16, .f32⟩
  | .hbm, ⟨13, _⟩ => ⟨S8x2048x1024, .bf16⟩
  | .hbm, ⟨14, _⟩ => ⟨S8x256x128, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x128x256, .f32⟩
  | .local _ .vmem, ⟨3, _⟩ => ⟨S1x128x256, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x256x128, .f32⟩
  | .local _ .vmem, ⟨9, _⟩ => ⟨S1x256x128, .f32⟩
  | .local _ .smem, ⟨0, _⟩ => ⟨S16, .f32⟩
  | _, _ => ⟨S8x2048x2x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c1_i32_1830 : BitVec 32 := 1#32
  let v5509 : BitVec 1 := Scalar.cmpi .eq arg1 c1_i32_1830
  let v5510 : BitVec 32 := Scalar.extui v5509
  let c0_i32_1831 : BitVec 32 := 0#32
  let v5511 : BitVec 1 := Scalar.cmpi .ne v5510 c0_i32_1831
  v5511

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S8x2048x2x8x64 : Shape := ⟨5, ![8, 2048, 2, 8, 64]⟩
abbrev S8x2048x2x64 : Shape := ⟨4, ![8, 2048, 2, 64]⟩
abbrev S2x8 : Shape := ⟨2, ![2, 8]⟩
abbrev S8x16x128x2x8x64 : Shape := ⟨6, ![8, 16, 128, 2, 8, 64]⟩
abbrev S_ : Shape := ⟨0, ![]⟩
abbrev S8x2176x2x64 : Shape := ⟨4, ![8, 2176, 2, 64]⟩
abbrev S8x17x128x2x64 : Shape := ⟨5, ![8, 17, 128, 2, 64]⟩
abbrev S8x16x128x2x64 : Shape := ⟨5, ![8, 16, 128, 2, 64]⟩
abbrev S8x16x256x2x64 : Shape := ⟨5, ![8, 16, 256, 2, 64]⟩
abbrev S8x16x2x256x128x8 : Shape := ⟨6, ![8, 16, 2, 256, 128, 8]⟩
abbrev S8x16x2x8x128x256 : Shape := ⟨6, ![8, 16, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1 : Shape := ⟨2, ![16, 1]⟩
abbrev S16x256 : Shape := ⟨2, ![16, 256]⟩
abbrev S1x128x256 : Shape := ⟨3, ![1, 128, 256]⟩
abbrev S16x1x256 : Shape := ⟨3, ![16, 1, 256]⟩
abbrev S16x128x256 : Shape := ⟨3, ![16, 128, 256]⟩
abbrev S16x1x1x128x256 : Shape := ⟨5, ![16, 1, 1, 128, 256]⟩
abbrev S2x8x1x1 : Shape := ⟨4, ![2, 8, 1, 1]⟩
abbrev S8x16x2x8x128 : Shape := ⟨5, ![8, 16, 2, 8, 128]⟩
abbrev S8x16x2x8x128x1 : Shape := ⟨6, ![8, 16, 2, 8, 128, 1]⟩
abbrev S1x1x2x8x1x1 : Shape := ⟨6, ![1, 1, 2, 8, 1, 1]⟩
abbrev S8x16x2x64x8x128 : Shape := ⟨6, ![8, 16, 2, 64, 8, 128]⟩
abbrev S8x128x2x64 : Shape := ⟨4, ![8, 128, 2, 64]⟩
abbrev S8x128x1x2x64 : Shape := ⟨5, ![8, 128, 1, 2, 64]⟩
abbrev S8x128x2x2x64 : Shape := ⟨5, ![8, 128, 2, 2, 64]⟩
abbrev S8x2048x1024 : Shape := ⟨3, ![8, 2048, 1024]⟩
abbrev S8x128x256 : Shape := ⟨3, ![8, 128, 256]⟩
abbrev S8x256x128 : Shape := ⟨3, ![8, 256, 128]⟩

abbrev nBuf : Space → Nat
  | .hbm => 100
  | .vmem => 0
  | .smem => 0
  | _ => 0

abbrev bufTy : (tb : Table) → Fin (tcTables nBuf tb) → BufTy
  | .hbm, ⟨0, _⟩ => ⟨S8x2048x2x8x64, .f32⟩
  | .hbm, ⟨1, _⟩ => ⟨S8x2048x2x64, .f32⟩
  | .hbm, ⟨2, _⟩ => ⟨S8x2048x2x64, .f32⟩
  | .hbm, ⟨3, _⟩ => ⟨S2x8, .f32⟩
  | .hbm, ⟨4, _⟩ => ⟨S8x16x128x2x8x64, .f32⟩
  | .hbm, ⟨5, _⟩ => ⟨S_, .i32⟩
  | .hbm, ⟨6, _⟩ => ⟨S_, .f32⟩
  | .hbm, ⟨7, _⟩ => ⟨S8x2176x2x64, .f32⟩
  | .hbm, ⟨8, _⟩ => ⟨S8x17x128x2x64, .f32⟩
  | .hbm, ⟨9, _⟩ => ⟨S8x16x128x2x64, .f32⟩
  | .hbm, ⟨10, _⟩ => ⟨S8x16x128x2x64, .f32⟩
  | .hbm, ⟨11, _⟩ => ⟨S8x16x256x2x64, .f32⟩
  | .hbm, ⟨12, _⟩ => ⟨S_, .i32⟩
  | .hbm, ⟨13, _⟩ => ⟨S_, .f32⟩
  | .hbm, ⟨14, _⟩ => ⟨S8x2176x2x64, .f32⟩
  | .hbm, ⟨15, _⟩ => ⟨S8x17x128x2x64, .f32⟩
  | .hbm, ⟨16, _⟩ => ⟨S8x16x128x2x64, .f32⟩
  | .hbm, ⟨17, _⟩ => ⟨S8x16x128x2x64, .f32⟩
  | .hbm, ⟨18, _⟩ => ⟨S8x16x256x2x64, .f32⟩
  | .hbm, ⟨19, _⟩ => ⟨S8x16x2x256x128x8, .f32⟩
  | .hbm, ⟨20, _⟩ => ⟨S8x16x2x8x128x256, .f32⟩
  | .hbm, ⟨21, _⟩ => ⟨S_, .f32⟩
  | .hbm, ⟨22, _⟩ => ⟨S8x16x2x8x128x256, .f32⟩
  | .hbm, ⟨23, _⟩ => ⟨S8x16x2x8x128x256, .f32⟩
  | .hbm, ⟨24, _⟩ => ⟨S128, .i32⟩
  | .hbm, ⟨25, _⟩ => ⟨S128x1, .i32⟩
  | .hbm, ⟨26, _⟩ => ⟨S_, .i32⟩
  | .hbm, ⟨27, _⟩ => ⟨S128x1, .i32⟩
  | .hbm, ⟨28, _⟩ => ⟨S128x1, .i32⟩
  | .hbm, ⟨29, _⟩ => ⟨S256, .i32⟩
  | .hbm, ⟨30, _⟩ => ⟨S1x256, .i32⟩
  | .hbm, ⟨31, _⟩ => ⟨S128x256, .i32⟩
  | .hbm, ⟨32, _⟩ => ⟨S128x256, .i32⟩
  | .hbm, ⟨33, _⟩ => ⟨S128x256, .i32⟩
  | .hbm, ⟨34, _⟩ => ⟨S16, .i32⟩
  | .hbm, ⟨35, _⟩ => ⟨S16x1, .i32⟩
  | .hbm, ⟨36, _⟩ => ⟨S_, .i32⟩
  | .hbm, ⟨37, _⟩ => ⟨S16x1, .i32⟩
  | .hbm, ⟨38, _⟩ => ⟨S16x1, .i32⟩
  | .hbm, ⟨39, _⟩ => ⟨S_, .i32⟩
  | .hbm, ⟨40, _⟩ => ⟨S16x1, .i32⟩
  | .hbm, ⟨41, _⟩ => ⟨S16x1, .i32⟩
  | .hbm, ⟨42, _⟩ => ⟨S256, .i32⟩
  | .hbm, ⟨43, _⟩ => ⟨S1x256, .i32⟩
  | .hbm, ⟨44, _⟩ => ⟨S16x256, .i32⟩
  | .hbm, ⟨45, _⟩ => ⟨S16x256, .i32⟩
  | .hbm, ⟨46, _⟩ => ⟨S16x256, .i32⟩
  | .hbm, ⟨47, _⟩ => ⟨S_, .i32⟩
  | .hbm, ⟨48, _⟩ => ⟨S128x256, .i32⟩
  | .hbm, ⟨49, _⟩ => ⟨S128x256, .i1⟩
  | .hbm, ⟨50, _⟩ => ⟨S_, .i32⟩
  | .hbm, ⟨51, _⟩ => ⟨S128x256, .i32⟩
  | .hbm, ⟨52, _⟩ => ⟨S128x256, .i1⟩
  | .hbm, ⟨53, _⟩ => ⟨S128x256, .i1⟩
  | .hbm, ⟨54, _⟩ => ⟨S1x128x256, .i1⟩
  | .hbm, ⟨55, _⟩ => ⟨S_, .i32⟩
  | .hbm, ⟨56, _⟩ => ⟨S16x256, .i32⟩
  | .hbm, ⟨57, _⟩ => ⟨S16x256, .i1⟩
  | .hbm, ⟨58, _⟩ => ⟨S16x1x256, .i1⟩
  | .hbm, ⟨59, _⟩ => ⟨S16x128x256, .i1⟩
  | .hbm, ⟨60, _⟩ => ⟨S16x128x256, .i1⟩
  | .hbm, ⟨61, _⟩ => ⟨S16x128x256, .i1⟩
  | .hbm, ⟨62, _⟩ => ⟨S16x1x1x128x256, .i1⟩
  | .hbm, ⟨63, _⟩ => ⟨S2x8x1x1, .f32⟩
  | .hbm, ⟨64, _⟩ => ⟨S_, .f32⟩
  | .hbm, ⟨65, _⟩ => ⟨S_, .f32⟩
  | .hbm, ⟨66, _⟩ => ⟨S8x16x2x8x128x256, .i1⟩
  | .hbm, ⟨67, _⟩ => ⟨S8x16x2x8x128x256, .f32⟩
  | .hbm, ⟨68, _⟩ => ⟨S8x16x2x8x128x256, .f32⟩
  | .hbm, ⟨69, _⟩ => ⟨S_, .f32⟩
  | .hbm, ⟨70, _⟩ => ⟨S8x16x2x8x128, .f32⟩
  | .hbm, ⟨71, _⟩ => ⟨S8x16x2x8x128x1, .f32⟩
  | .hbm, ⟨72, _⟩ => ⟨S1x1x2x8x1x1, .f32⟩
  | .hbm, ⟨73, _⟩ => ⟨S8x16x2x8x128x1, .f32⟩
  | .hbm, ⟨74, _⟩ => ⟨S8x16x2x8x128x1, .f32⟩
  | .hbm, ⟨75, _⟩ => ⟨S8x16x2x8x128x256, .f32⟩
  | .hbm, ⟨76, _⟩ => ⟨S8x16x2x8x128x256, .f32⟩
  | .hbm, ⟨77, _⟩ => ⟨S8x16x2x8x128x256, .f32⟩
  | .hbm, ⟨78, _⟩ => ⟨S_, .f32⟩
  | .hbm, ⟨79, _⟩ => ⟨S8x16x2x8x128, .f32⟩
  | .hbm, ⟨80, _⟩ => ⟨S8x16x2x8x128x1, .f32⟩
  | .hbm, ⟨81, _⟩ => ⟨S1x1x2x8x1x1, .f32⟩
  | .hbm, ⟨82, _⟩ => ⟨S8x16x2x8x128x1, .f32⟩
  | .hbm, ⟨83, _⟩ => ⟨S8x16x2x8x128x1, .f32⟩
  | .hbm, ⟨84, _⟩ => ⟨S8x16x2x8x128x1, .f32⟩
  | .hbm, ⟨85, _⟩ => ⟨S8x16x2x8x128x1, .f32⟩
  | .hbm, ⟨86, _⟩ => ⟨S8x16x2x8x128x256, .f32⟩
  | .hbm, ⟨87, _⟩ => ⟨S8x16x2x8x128x256, .f32⟩
  | .hbm, ⟨88, _⟩ => ⟨S8x16x2x64x8x128, .f32⟩
  | .hbm, ⟨89, _⟩ => ⟨S8x16x128x2x8x64, .f32⟩
  | .hbm, ⟨90, _⟩ => ⟨S8x2048x2x8x64, .f32⟩
  | .hbm, ⟨91, _⟩ => ⟨S8x128x2x64, .f32⟩
  | .hbm, ⟨92, _⟩ => ⟨S8x128x2x64, .f32⟩
  | .hbm, ⟨93, _⟩ => ⟨S8x128x1x2x64, .f32⟩
  | .hbm, ⟨94, _⟩ => ⟨S8x128x1x2x64, .f32⟩
  | .hbm, ⟨95, _⟩ => ⟨S8x128x2x2x64, .f32⟩
  | .hbm, ⟨96, _⟩ => ⟨S8x2048x1024, .f32⟩
  | .hbm, ⟨97, _⟩ => ⟨S8x2048x1024, .bf16⟩
  | .hbm, ⟨98, _⟩ => ⟨S8x128x256, .f32⟩
  | .hbm, ⟨99, _⟩ => ⟨S8x256x128, .f32⟩
  | _, _ => ⟨S8x2048x2x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_2 : Ref sig .tc := ⟨.hbm, 36, rfl⟩
abbrev main_v26 : Ref sig .tc := ⟨.hbm, 37, rfl⟩
abbrev main_v27 : Ref sig .tc := ⟨.hbm, 38, rfl⟩
abbrev main_c_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_4 : Ref sig .tc := ⟨.hbm, 47, rfl⟩
abbrev main_v35 : Ref sig .tc := ⟨.hbm, 48, rfl⟩
abbrev main_v36 : Ref sig .tc := ⟨.hbm, 49, rfl⟩
abbrev main_c_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_7 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_9 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩

abbrev nD : Nat := 1
abbrev τ : Topo := Topo.v7x

variable {F : FTy → Type} [FloatOps F]
-- ==== Ffn.lean ====
abbrev S8x2048x2048 : Shape := ⟨3, ![8, 2048, 2048]⟩
abbrev S8x1x12288 : Shape := ⟨3, ![8, 1, 12288]⟩
abbrev S2x2048x11264 : Shape := ⟨3, ![2, 2048, 11264]⟩
abbrev S2x5632x2048 : Shape := ⟨3, ![2, 5632, 2048]⟩
abbrev S2x2x2048 : Shape := ⟨3, ![2, 2, 2048]⟩
abbrev S16384x2048 : Shape := ⟨2, ![16384, 2048]⟩
abbrev S8x6x1x2048 : Shape := ⟨4, ![8, 6, 1, 2048]⟩
abbrev S6x8x1x2048 : Shape := ⟨4, ![6, 8, 1, 2048]⟩
abbrev S512x2048 : Shape := ⟨2, ![512, 2048]⟩
abbrev S6x1x1x2048 : Shape := ⟨4, ![6, 1, 1, 2048]⟩
abbrev S1x2048x512 : Shape := ⟨3, ![1, 2048, 512]⟩
abbrev S1x512x2048 : Shape := ⟨3, ![1, 512, 2048]⟩
abbrev S1x2x2048 : Shape := ⟨3, ![1, 2, 2048]⟩
abbrev S1x1x1x2048 : Shape := ⟨4, ![1, 1, 1, 2048]⟩
abbrev S1x2048 : Shape := ⟨2, ![1, 2048]⟩
abbrev S2048x512 : Shape := ⟨2, ![2048, 512]⟩
abbrev S512x512 : Shape := ⟨2, ![512, 512]⟩
abbrev S1x1x2048 : Shape := ⟨3, ![1, 1, 2048]⟩
abbrev S512 : Shape := ⟨1, ![512]⟩
abbrev S512x1 : Shape := ⟨2, ![512, 1]⟩

abbrev nBuf : Space → Nat
  | .hbm => 12
  | .vmem => 16
  | .smem => 0
  | _ => 0

abbrev bufTy : (tb : Table) → Fin (tcTables nBuf tb) → BufTy
  | .hbm, ⟨0, _⟩ => ⟨S8x2048x2048, .f32⟩
  | .hbm, ⟨1, _⟩ => ⟨S8x1x12288, .f32⟩
  | .hbm, ⟨2, _⟩ => ⟨S2x2048x11264, .f32⟩
  | .hbm, ⟨3, _⟩ => ⟨S2x5632x2048, .f32⟩
  | .hbm, ⟨4, _⟩ => ⟨S2x2x2048, .f32⟩
  | .hbm, ⟨5, _⟩ => ⟨S2x2x2048, .f32⟩
  | .hbm, ⟨6, _⟩ => ⟨S16384x2048, .f32⟩
  | .hbm, ⟨7, _⟩ => ⟨S8x6x1x2048, .f32⟩
  | .hbm, ⟨8, _⟩ => ⟨S6x8x1x2048, .f32⟩
  | .hbm, ⟨9, _⟩ => ⟨S2x2048x11264, .bf16⟩
  | .hbm, ⟨10, _⟩ => ⟨S2x5632x2048, .bf16⟩
  | .hbm, ⟨11, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S6x1x1x2048, .f32⟩
  | .local _ .vmem, ⟨3, _⟩ => ⟨S6x1x1x2048, .f32⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x512x2048, .bf16⟩
  | .local _ .vmem, ⟨9, _⟩ => ⟨S1x512x2048, .bf16⟩
  | .local _ .vmem, ⟨10, _⟩ => ⟨S1x2x2048, .f32⟩
  | .local _ .vmem, ⟨11, _⟩ => ⟨S1x2x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_17 : BitVec 32 := 0#32
  let v24 : BitVec 1 := Scalar.cmpi .ne v23 c0_i32_17
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  let c0_i32_7 : BitVec 32 := 0#32
  ![c0_i32_4.toNat, v17.toNat, c0_i32_5.toNat, c0_i32_6.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c1_i32 : BitVec 32 := 1#32
  let c0_i32 : BitVec 32 := 0#32
  let c0_i32_0 : BitVec 32 := 0#32
  ![c1_i32.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S6x1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnRefIdeal.lean ====
abbrev S8x2048x2048 : Shape := ⟨3, ![8, 2048, 2048]⟩
abbrev S8x1x12288 : Shape := ⟨3, ![8, 1, 12288]⟩
abbrev S2x2048x11264 : Shape := ⟨3, ![2, 2048, 11264]⟩
abbrev S2x5632x2048 : Shape := ⟨3, ![2, 5632, 2048]⟩
abbrev S2x2x2048 : Shape := ⟨3, ![2, 2, 2048]⟩
abbrev S8x1x2048 : Shape := ⟨3, ![8, 1, 2048]⟩
abbrev S_ : Shape := ⟨0, ![]⟩
abbrev S1x2048x11264 : Shape := ⟨3, ![1, 2048, 11264]⟩
abbrev S2048x11264 : Shape := ⟨2, ![2048, 11264]⟩
abbrev S8x2048x11264 : Shape := ⟨3, ![8, 2048, 11264]⟩
abbrev S8x2048x5632 : Shape := ⟨3, ![8, 2048, 5632]⟩
abbrev S1x5632x2048 : Shape := ⟨3, ![1, 5632, 2048]⟩
abbrev S5632x2048 : Shape := ⟨2, ![5632, 2048]⟩
abbrev S1x2x2048 : Shape := ⟨3, ![1, 2, 2048]⟩
abbrev S2x2048 : Shape := ⟨2, ![2, 2048]⟩
abbrev S1x2048 : Shape := ⟨2, ![1, 2048]⟩
abbrev S2048 : Shape := ⟨1, ![2048]⟩
abbrev S8x2048 : Shape := ⟨2, ![8, 2048]⟩
abbrev S8x2048x1 : Shape := ⟨3, ![8, 2048, 1]⟩
abbrev S1x1x2048 : Shape := ⟨3, ![1, 1, 2048]⟩
abbrev S16384x2048 : Shape := ⟨2, ![16384, 2048]⟩

abbrev nBuf : Space → Nat
  | .hbm => 81
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x1x12288, .f32⟩
  | .hbm, ⟨2, _⟩ => ⟨S2x2048x11264, .f32⟩
  | .hbm, ⟨3, _⟩ => ⟨S2x5632x2048, .f32⟩
  | .hbm, ⟨4, _⟩ => ⟨S2x2x2048, .f32⟩
  | .hbm, ⟨5, _⟩ => ⟨S2x2x2048, .f32⟩
  | .hbm, ⟨6, _⟩ => ⟨S8x1x2048, .f32⟩
  | .hbm, ⟨7, _⟩ => ⟨S8x1x2048, .f32⟩
  | .hbm, ⟨8, _⟩ => ⟨S8x1x2048, .f32⟩
  | .hbm, ⟨9, _⟩ => ⟨S8x1x2048, .f32⟩
  | .hbm, ⟨10, _⟩ => ⟨S8x1x2048, .f32⟩
  | .hbm, ⟨11, _⟩ => ⟨S8x1x2048, .f32⟩
  | .hbm, ⟨12, _⟩ => ⟨S_, .f32⟩
  | .hbm, ⟨13, _⟩ => ⟨S8x1x2048, .f32⟩
  | .hbm, ⟨14, _⟩ => ⟨S8x1x2048, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S1x2048x11264, .f32⟩
  | .hbm, ⟨20, _⟩ => ⟨S2048x11264, .f32⟩
  | .hbm, ⟨21, _⟩ => ⟨S8x2048x11264, .f32⟩
  | .hbm, ⟨22, _⟩ => ⟨S8x2048x5632, .f32⟩
  | .hbm, ⟨23, _⟩ => ⟨S8x2048x5632, .f32⟩
  | .hbm, ⟨24, _⟩ => ⟨S8x2048x5632, .f32⟩
  | .hbm, ⟨25, _⟩ => ⟨S_, .f32⟩
  | .hbm, ⟨26, _⟩ => ⟨S8x2048x5632, .f32⟩
  | .hbm, ⟨27, _⟩ => ⟨S8x2048x5632, .f32⟩
  | .hbm, ⟨28, _⟩ => ⟨S_, .f32⟩
  | .hbm, ⟨29, _⟩ => ⟨S8x2048x5632, .f32⟩
  | .hbm, ⟨30, _⟩ => ⟨S8x2048x5632, .f32⟩
  | .hbm, ⟨31, _⟩ => ⟨S8x2048x5632, .f32⟩
  | .hbm, ⟨32, _⟩ => ⟨S8x2048x5632, .f32⟩
  | .hbm, ⟨33, _⟩ => ⟨S8x2048x5632, .f32⟩
  | .hbm, ⟨34, _⟩ => ⟨S1x5632x2048, .f32⟩
  | .hbm, ⟨35, _⟩ => ⟨S5632x2048, .f32⟩
  | .hbm, ⟨36, _⟩ => ⟨S8x2048x2048, .f32⟩
  | .hbm, ⟨37, _⟩ => ⟨S_, .f32⟩
  | .hbm, ⟨38, _⟩ => ⟨S8x2048x2048, .f32⟩
  | .hbm, ⟨39, _⟩ => ⟨S8x2048x2048, .f32⟩
  | .hbm, ⟨40, _⟩ => ⟨S8x2048x2048, .f32⟩
  | .hbm, ⟨41, _⟩ => ⟨S8x2048x2048, .f32⟩
  | .hbm, ⟨42, _⟩ => ⟨S8x2048x2048, .f32⟩
  | .hbm, ⟨43, _⟩ => ⟨S1x2x2048, .f32⟩
  | .hbm, ⟨44, _⟩ => ⟨S2x2048, .f32⟩
  | .hbm, ⟨45, _⟩ => ⟨S1x2048, .f32⟩
  | .hbm, ⟨46, _⟩ => ⟨S2048, .f32⟩
  | .hbm, ⟨47, _⟩ => ⟨S1x2x2048, .f32⟩
  | .hbm, ⟨48, _⟩ => ⟨S2x2048, .f32⟩
  | .hbm, ⟨49, _⟩ => ⟨S1x2048, .f32⟩
  | .hbm, ⟨50, _⟩ => ⟨S2048, .f32⟩
  | .hbm, ⟨51, _⟩ => ⟨S_, .f32⟩
  | .hbm, ⟨52, _⟩ => ⟨S8x2048, .f32⟩
  | .hbm, ⟨53, _⟩ => ⟨S8x2048x1, .f32⟩
  | .hbm, ⟨54, _⟩ => ⟨S_, .f32⟩
  | .hbm, ⟨55, _⟩ => ⟨S8x2048x1, .f32⟩
  | .hbm, ⟨56, _⟩ => ⟨S8x2048x1, .f32⟩
  | .hbm, ⟨57, _⟩ => ⟨S8x2048x2048, .f32⟩
  | .hbm, ⟨58, _⟩ => ⟨S8x2048x2048, .f32⟩
  | .hbm, ⟨59, _⟩ => ⟨S8x2048x2048, .f32⟩
  | .hbm, ⟨60, _⟩ => ⟨S_, .f32⟩
  | .hbm, ⟨61, _⟩ => ⟨S8x2048, .f32⟩
  | .hbm, ⟨62, _⟩ => ⟨S8x2048x1, .f32⟩
  | .hbm, ⟨63, _⟩ => ⟨S_, .f32⟩
  | .hbm, ⟨64, _⟩ => ⟨S8x2048x1, .f32⟩
  | .hbm, ⟨65, _⟩ => ⟨S8x2048x1, .f32⟩
  | .hbm, ⟨66, _⟩ => ⟨S8x2048x2048, .f32⟩
  | .hbm, ⟨67, _⟩ => ⟨S8x2048x2048, .f32⟩
  | .hbm, ⟨68, _⟩ => ⟨S_, .f32⟩
  | .hbm, ⟨69, _⟩ => ⟨S8x2048x1, .f32⟩
  | .hbm, ⟨70, _⟩ => ⟨S8x2048x1, .f32⟩
  | .hbm, ⟨71, _⟩ => ⟨S8x2048x1, .f32⟩
  | .hbm, ⟨72, _⟩ => ⟨S8x2048x2048, .f32⟩
  | .hbm, ⟨73, _⟩ => ⟨S8x2048x2048, .f32⟩
  | .hbm, ⟨74, _⟩ => ⟨S1x1x2048, .f32⟩
  | .hbm, ⟨75, _⟩ => ⟨S8x2048x2048, .f32⟩
  | .hbm, ⟨76, _⟩ => ⟨S8x2048x2048, .f32⟩
  | .hbm, ⟨77, _⟩ => ⟨S1x1x2048, .f32⟩
  | .hbm, ⟨78, _⟩ => ⟨S8x2048x2048, .f32⟩
  | .hbm, ⟨79, _⟩ => ⟨S8x2048x2048, .f32⟩
  | .hbm, ⟨80, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_1 : Ref sig .tc := ⟨.hbm, 51, rfl⟩
abbrev main_v35 : Ref sig .tc := ⟨.hbm, 52, rfl⟩
abbrev main_v36 : Ref sig .tc := ⟨.hbm, 53, rfl⟩
abbrev main_cst_2 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_3 : Ref sig .tc := ⟨.hbm, 60, rfl⟩
abbrev main_v42 : Ref sig .tc := ⟨.hbm, 61, rfl⟩
abbrev main_v43 : Ref sig .tc := ⟨.hbm, 62, rfl⟩
abbrev main_cst_4 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_5 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]
-- ==== ProjA.lean ====
abbrev S8x2048x2048 : Shape := ⟨3, ![8, 2048, 2048]⟩
abbrev S8x1x12288 : Shape := ⟨3, ![8, 1, 12288]⟩
abbrev S2x2048x9984 : Shape := ⟨3, ![2, 2048, 9984]⟩
abbrev S16384x2048 : Shape := ⟨2, ![16384, 2048]⟩
abbrev S8x6x1x2048 : Shape := ⟨4, ![8, 6, 1, 2048]⟩
abbrev S6x8x1x2048 : Shape := ⟨4, ![6, 8, 1, 2048]⟩
abbrev S_ : Shape := ⟨0, ![]⟩
abbrev S512 : Shape := ⟨1, ![512]⟩
abbrev S1024 : Shape := ⟨1, ![1024]⟩
abbrev S1536 : Shape := ⟨1, ![1536]⟩
abbrev S1x1536 : Shape := ⟨2, ![1, 1536]⟩
abbrev S3x1536 : Shape := ⟨2, ![3, 1536]⟩
abbrev S4608 : Shape := ⟨1, ![4608]⟩
abbrev S4352 : Shape := ⟨1, ![4352]⟩
abbrev S9984 : Shape := ⟨1, ![9984]⟩
abbrev S1x1x9984 : Shape := ⟨3, ![1, 1, 9984]⟩
abbrev S16384x4608 : Shape := ⟨2, ![16384, 4608]⟩
abbrev S1024x2048 : Shape := ⟨2, ![1024, 2048]⟩
abbrev S6x1x1x2048 : Shape := ⟨4, ![6, 1, 1, 2048]⟩
abbrev S1x2048x1536 : Shape := ⟨3, ![1, 2048, 1536]⟩
abbrev S1024x1536 : Shape := ⟨2, ![1024, 1536]⟩
abbrev S1x1x1x2048 : Shape := ⟨4, ![1, 1, 1, 2048]⟩
abbrev S1x2048 : Shape := ⟨2, ![1, 2048]⟩
abbrev S2048x1536 : Shape := ⟨2, ![2048, 1536]⟩

abbrev nBuf : Space → Nat
  | .hbm => 24
  | .vmem => 9
  | .smem => 0
  | _ => 0

abbrev bufTy : (tb : Table) → Fin (tcTables nBuf tb) → BufTy
  | .hbm, ⟨0, _⟩ => ⟨S8x2048x2048, .f32⟩
  | .hbm, ⟨1, _⟩ => ⟨S8x1x12288, .f32⟩
  | .hbm, ⟨2, _⟩ => ⟨S2x2048x9984, .f32⟩
  | .hbm, ⟨3, _⟩ => ⟨S16384x2048, .f32⟩
  | .hbm, ⟨4, _⟩ => ⟨S8x6x1x2048, .f32⟩
  | .hbm, ⟨5, _⟩ => ⟨S6x8x1x2048, .f32⟩
  | .hbm, ⟨6, _⟩ => ⟨S_, .f32⟩
  | .hbm, ⟨7, _⟩ => ⟨S512, .f32⟩
  | .hbm, ⟨8, _⟩ => ⟨S_, .f32⟩
  | .hbm, ⟨9, _⟩ => ⟨S1024, .f32⟩
  | .hbm, ⟨10, _⟩ => ⟨S1536, .f32⟩
  | .hbm, ⟨11, _⟩ => ⟨S1x1536, .f32⟩
  | .hbm, ⟨12, _⟩ => ⟨S3x1536, .f32⟩
  | .hbm, ⟨13, _⟩ => ⟨S4608, .f32⟩
  | .hbm, ⟨14, _⟩ => ⟨S_, .f32⟩
  | .hbm, ⟨15, _⟩ => ⟨S1024, .f32⟩
  | .hbm, ⟨16, _⟩ => ⟨S_, .f32⟩
  | .hbm, ⟨17, _⟩ => ⟨S4352, .f32⟩
  | .hbm, ⟨18, _⟩ => ⟨S9984, .f32⟩
  | .hbm, ⟨19, _⟩ => ⟨S1x1x9984, .f32⟩
  | .hbm, ⟨20, _⟩ => ⟨S2x2048x9984, .f32⟩
  | .hbm, ⟨21, _⟩ => ⟨S2x2048x9984, .f32⟩
  | .hbm, ⟨22, _⟩ => ⟨S2x2048x9984, .bf16⟩
  | .hbm, ⟨23, _⟩ => ⟨S16384x4608, .f32⟩
  | .local _ .vmem, ⟨0, _⟩ => ⟨S1024x2048, .f32⟩
  | .local _ .vmem, ⟨1, _⟩ => ⟨S1024x2048, .f32⟩
  | .local _ .vmem, ⟨2, _⟩ => ⟨S6x1x1x2048, .f32⟩
  | .local _ .vmem, ⟨3, _⟩ => ⟨S6x1x1x2048, .f32⟩
  | .local _ .vmem, ⟨4, _⟩ => ⟨S1x2048x1536, .bf16⟩
  | .local _ .vmem, ⟨5, _⟩ => ⟨S1x2048x1536, .bf16⟩
  | .local _ .vmem, ⟨6, _⟩ => ⟨S1024x1536, .f32⟩
  | .local _ .vmem, ⟨7, _⟩ => ⟨S1024x1536, .f32⟩
  | .local _ .vmem, ⟨8, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  let c0_i32_7 : BitVec 32 := 0#32
  ![c0_i32_4.toNat, v17.toNat, c0_i32_5.toNat, c0_i32_6.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S6x1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjARefIdeal.lean ====
abbrev S8x2048x2048 : Shape := ⟨3, ![8, 2048, 2048]⟩
abbrev S8x1x12288 : Shape := ⟨3, ![8, 1, 12288]⟩
abbrev S2x2048x9984 : Shape := ⟨3, ![2, 2048, 9984]⟩
abbrev S8x1x2048 : Shape := ⟨3, ![8, 1, 2048]⟩
abbrev S_ : Shape := ⟨0, ![]⟩
abbrev S1x2048x9984 : Shape := ⟨3, ![1, 2048, 9984]⟩
abbrev S2048x9984 : Shape := ⟨2, ![2048, 9984]⟩
abbrev S8x2048x9984 : Shape := ⟨3, ![8, 2048, 9984]⟩
abbrev S8x2048x4608 : Shape := ⟨3, ![8, 2048, 4608]⟩
abbrev S8x2048x3x3x8x64 : Shape := ⟨6, ![8, 2048, 3, 3, 8, 64]⟩
abbrev S8x2048x3x1x8x64 : Shape := ⟨6, ![8, 2048, 3, 1, 8, 64]⟩
abbrev S8x2048x3x2x8x64 : Shape := ⟨6, ![8, 2048, 3, 2, 8, 64]⟩
abbrev S16384x4608 : Shape := ⟨2, ![16384, 4608]⟩

abbrev nBuf : Space → Nat
  | .hbm => 28
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x1x12288, .f32⟩
  | .hbm, ⟨2, _⟩ => ⟨S2x2048x9984, .f32⟩
  | .hbm, ⟨3, _⟩ => ⟨S8x1x2048, .f32⟩
  | .hbm, ⟨4, _⟩ => ⟨S8x1x2048, .f32⟩
  | .hbm, ⟨5, _⟩ => ⟨S8x1x2048, .f32⟩
  | .hbm, ⟨6, _⟩ => ⟨S8x1x2048, .f32⟩
  | .hbm, ⟨7, _⟩ => ⟨S8x1x2048, .f32⟩
  | .hbm, ⟨8, _⟩ => ⟨S8x1x2048, .f32⟩
  | .hbm, ⟨9, _⟩ => ⟨S_, .f32⟩
  | .hbm, ⟨10, _⟩ => ⟨S8x1x2048, .f32⟩
  | .hbm, ⟨11, _⟩ => ⟨S8x1x2048, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S1x2048x9984, .f32⟩
  | .hbm, ⟨17, _⟩ => ⟨S2048x9984, .f32⟩
  | .hbm, ⟨18, _⟩ => ⟨S8x2048x9984, .f32⟩
  | .hbm, ⟨19, _⟩ => ⟨S8x2048x4608, .f32⟩
  | .hbm, ⟨20, _⟩ => ⟨S8x2048x3x3x8x64, .f32⟩
  | .hbm, ⟨21, _⟩ => ⟨S8x2048x3x1x8x64, .f32⟩
  | .hbm, ⟨22, _⟩ => ⟨S_, .f32⟩
  | .hbm, ⟨23, _⟩ => ⟨S8x2048x3x1x8x64, .f32⟩
  | .hbm, ⟨24, _⟩ => ⟨S8x2048x3x1x8x64, .f32⟩
  | .hbm, ⟨25, _⟩ => ⟨S8x2048x3x2x8x64, .f32⟩
  | .hbm, ⟨26, _⟩ => ⟨S8x2048x3x3x8x64, .f32⟩
  | .hbm, ⟨27, _⟩ => ⟨S16384x4608, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩

abbrev nD : Nat := 1
abbrev τ : Topo := Topo.v7x

variable {F : FTy → Type} [FloatOps F]
-- ==== Gates.lean ====
abbrev S8x2048x2048 : Shape := ⟨3, ![8, 2048, 2048]⟩
abbrev S8x1x12288 : Shape := ⟨3, ![8, 1, 12288]⟩
abbrev S2x2048x9984 : Shape := ⟨3, ![2, 2048, 9984]⟩
abbrev S16384x2048 : Shape := ⟨2, ![16384, 2048]⟩
abbrev S8x6x1x2048 : Shape := ⟨4, ![8, 6, 1, 2048]⟩
abbrev S6x8x1x2048 : Shape := ⟨4, ![6, 8, 1, 2048]⟩
abbrev S_ : Shape := ⟨0, ![]⟩
abbrev S512 : Shape := ⟨1, ![512]⟩
abbrev S1024 : Shape := ⟨1, ![1024]⟩
abbrev S1536 : Shape := ⟨1, ![1536]⟩
abbrev S1x1536 : Shape := ⟨2, ![1, 1536]⟩
abbrev S3x1536 : Shape := ⟨2, ![3, 1536]⟩
abbrev S4608 : Shape := ⟨1, ![4608]⟩
abbrev S4352 : Shape := ⟨1, ![4352]⟩
abbrev S9984 : Shape := ⟨1, ![9984]⟩
abbrev S1x1x9984 : Shape := ⟨3, ![1, 1, 9984]⟩
abbrev S16384x4096 : Shape := ⟨2, ![16384, 4096]⟩
abbrev S1024x2048 : Shape := ⟨2, ![1024, 2048]⟩
abbrev S6x1x1x2048 : Shape := ⟨4, ![6, 1, 1, 2048]⟩
abbrev S1x2048x2048 : Shape := ⟨3, ![1, 2048, 2048]⟩
abbrev S1x1x1x2048 : Shape := ⟨4, ![1, 1, 1, 2048]⟩
abbrev S1x2048 : Shape := ⟨2, ![1, 2048]⟩
abbrev S2048x2048 : Shape := ⟨2, ![2048, 2048]⟩

abbrev nBuf : Space → Nat
  | .hbm => 24
  | .vmem => 9
  | .smem => 0
  | _ => 0

abbrev bufTy : (tb : Table) → Fin (tcTables nBuf tb) → BufTy
  | .hbm, ⟨0, _⟩ => ⟨S8x2048x2048, .f32⟩
  | .hbm, ⟨1, _⟩ => ⟨S8x1x12288, .f32⟩
  | .hbm, ⟨2, _⟩ => ⟨S2x2048x9984, .f32⟩
  | .hbm, ⟨3, _⟩ => ⟨S16384x2048, .f32⟩
  | .hbm, ⟨4, _⟩ => ⟨S8x6x1x2048, .f32⟩
  | .hbm, ⟨5, _⟩ => ⟨S6x8x1x2048, .f32⟩
  | .hbm, ⟨6, _⟩ => ⟨S_, .f32⟩
  | .hbm, ⟨7, _⟩ => ⟨S512, .f32⟩
  | .hbm, ⟨8, _⟩ => ⟨S_, .f32⟩
  | .hbm, ⟨9, _⟩ => ⟨S1024, .f32⟩
  | .hbm, ⟨10, _⟩ => ⟨S1536, .f32⟩
  | .hbm, ⟨11, _⟩ => ⟨S1x1536, .f32⟩
  | .hbm, ⟨12, _⟩ => ⟨S3x1536, .f32⟩
  | .hbm, ⟨13, _⟩ => ⟨S4608, .f32⟩
  | .hbm, ⟨14, _⟩ => ⟨S_, .f32⟩
  | .hbm, ⟨15, _⟩ => ⟨S1024, .f32⟩
  | .hbm, ⟨16, _⟩ => ⟨S_, .f32⟩
  | .hbm, ⟨17, _⟩ => ⟨S4352, .f32⟩
  | .hbm, ⟨18, _⟩ => ⟨S9984, .f32⟩
  | .hbm, ⟨19, _⟩ => ⟨S1x1x9984, .f32⟩
  | .hbm, ⟨20, _⟩ => ⟨S2x2048x9984, .f32⟩
  | .hbm, ⟨21, _⟩ => ⟨S2x2048x9984, .f32⟩
  | .hbm, ⟨22, _⟩ => ⟨S2x2048x9984, .bf16⟩
  | .hbm, ⟨23, _⟩ => ⟨S16384x4096, .bf16⟩
  | .local _ .vmem, ⟨0, _⟩ => ⟨S1024x2048, .f32⟩
  | .local _ .vmem, ⟨1, _⟩ => ⟨S1024x2048, .f32⟩
  | .local _ .vmem, ⟨2, _⟩ => ⟨S6x1x1x2048, .f32⟩
  | .local _ .vmem, ⟨3, _⟩ => ⟨S6x1x1x2048, .f32⟩
  | .local _ .vmem, ⟨4, _⟩ => ⟨S1x2048x2048, .bf16⟩
  | .local _ .vmem, ⟨5, _⟩ => ⟨S1x2048x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def k0_mult1 (i : grid0.Coords) : BitVec 32 :=
  let c5888_i32 : BitVec 32 := 5888#32
  let arg1 : BitVec 32 := BitVec.ofNat 32 (i 1).val
  let c2048_i32 : BitVec 32 := 2048#32
  let v0 : BitVec 32 := Scalar.muli arg1 c2048_i32
  let v1 : BitVec 32 := Scalar.addi c5888_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  let c0_i32_7 : BitVec 32 := 0#32
  ![c0_i32_4.toNat, v17.toNat, c0_i32_5.toNat, c0_i32_6.toNat]

def cc0_transform_2 (i : grid0.Coords) : Fin 3 → Nat :=
  let arg0 : BitVec 32 := BitVec.ofNat 32 (i 0).val
  let arg1 : BitVec 32 := BitVec.ofNat 32 (i 1).val
  let c2048_i32 : BitVec 32 := 2048#32
  let v0 : BitVec 32 := Scalar.muli arg1 c2048_i32
  let c5888_i32 : BitVec 32 := 5888#32
  let v1 : BitVec 32 := Scalar.addi c5888_i32 v0
  let v2 : BitVec 32 := v1
  let c1_i32 : BitVec 32 := 1#32
  let c0_i32 : BitVec 32 := 0#32
  let c0_i32_0 : BitVec 32 := 0#32
  ![c1_i32.toNat, c0_i32.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S6x1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GatesRefIdeal.lean ====
abbrev S8x2048x2048 : Shape := ⟨3, ![8, 2048, 2048]⟩
abbrev S8x1x12288 : Shape := ⟨3, ![8, 1, 12288]⟩
abbrev S2x2048x9984 : Shape := ⟨3, ![2, 2048, 9984]⟩
abbrev S8x1x2048 : Shape := ⟨3, ![8, 1, 2048]⟩
abbrev S_ : Shape := ⟨0, ![]⟩
abbrev S1x2048x9984 : Shape := ⟨3, ![1, 2048, 9984]⟩
abbrev S2048x9984 : Shape := ⟨2, ![2048, 9984]⟩
abbrev S8x2048x9984 : Shape := ⟨3, ![8, 2048, 9984]⟩
abbrev S8x2048x4096 : Shape := ⟨3, ![8, 2048, 4096]⟩
abbrev S16384x4096 : Shape := ⟨2, ![16384, 4096]⟩

abbrev nBuf : Space → Nat
  | .hbm => 30
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x1x12288, .f32⟩
  | .hbm, ⟨2, _⟩ => ⟨S2x2048x9984, .f32⟩
  | .hbm, ⟨3, _⟩ => ⟨S8x1x2048, .f32⟩
  | .hbm, ⟨4, _⟩ => ⟨S8x1x2048, .f32⟩
  | .hbm, ⟨5, _⟩ => ⟨S8x1x2048, .f32⟩
  | .hbm, ⟨6, _⟩ => ⟨S8x1x2048, .f32⟩
  | .hbm, ⟨7, _⟩ => ⟨S8x1x2048, .f32⟩
  | .hbm, ⟨8, _⟩ => ⟨S8x1x2048, .f32⟩
  | .hbm, ⟨9, _⟩ => ⟨S_, .f32⟩
  | .hbm, ⟨10, _⟩ => ⟨S8x1x2048, .f32⟩
  | .hbm, ⟨11, _⟩ => ⟨S8x1x2048, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S1x2048x9984, .f32⟩
  | .hbm, ⟨17, _⟩ => ⟨S2048x9984, .f32⟩
  | .hbm, ⟨18, _⟩ => ⟨S8x2048x9984, .f32⟩
  | .hbm, ⟨19, _⟩ => ⟨S8x2048x4096, .f32⟩
  | .hbm, ⟨20, _⟩ => ⟨S8x2048x4096, .f32⟩
  | .hbm, ⟨21, _⟩ => ⟨S8x2048x4096, .f32⟩
  | .hbm, ⟨22, _⟩ => ⟨S_, .f32⟩
  | .hbm, ⟨23, _⟩ => ⟨S8x2048x4096, .f32⟩
  | .hbm, ⟨24, _⟩ => ⟨S8x2048x4096, .f32⟩
  | .hbm, ⟨25, _⟩ => ⟨S_, .f32⟩
  | .hbm, ⟨26, _⟩ => ⟨S8x2048x4096, .f32⟩
  | .hbm, ⟨27, _⟩ => ⟨S8x2048x4096, .f32⟩
  | .hbm, ⟨28, _⟩ => ⟨S16384x4096, .f32⟩
  | .hbm, ⟨29, _⟩ => ⟨S16384x4096, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Post.lean ====
abbrev S8x2048x8x64 : Shape := ⟨4, ![8, 2048, 8, 64]⟩
abbrev S8x2048x2x8x64 : Shape := ⟨5, ![8, 2048, 2, 8, 64]⟩
abbrev S8x2048x4096 : Shape := ⟨3, ![8, 2048, 4096]⟩
abbrev S8x2048x2048 : Shape := ⟨3, ![8, 2048, 2048]⟩
abbrev S8x1x12288 : Shape := ⟨3, ![8, 1, 12288]⟩
abbrev S2x512x2048 : Shape := ⟨3, ![2, 512, 2048]⟩
abbrev S2x1024x2048 : Shape := ⟨3, ![2, 1024, 2048]⟩
abbrev S2x2048x2048 : Shape := ⟨3, ![2, 2048, 2048]⟩
abbrev S2x2x2048 : Shape := ⟨3, ![2, 2, 2048]⟩
abbrev S16384x512 : Shape := ⟨2, ![16384, 512]⟩
abbrev S16384x1024 : Shape := ⟨2, ![16384, 1024]⟩
abbrev S16384x4096 : Shape := ⟨2, ![16384, 4096]⟩
abbrev S16384x2048 : Shape := ⟨2, ![16384, 2048]⟩
abbrev S8x6x1x2048 : Shape := ⟨4, ![8, 6, 1, 2048]⟩
abbrev S6x8x1x2048 : Shape := ⟨4, ![6, 8, 1, 2048]⟩
abbrev S256x512 : Shape := ⟨2, ![256, 512]⟩
abbrev S256x1024 : Shape := ⟨2, ![256, 1024]⟩
abbrev S256x4096 : Shape := ⟨2, ![256, 4096]⟩
abbrev S256x2048 : Shape := ⟨2, ![256, 2048]⟩
abbrev S6x1x1x2048 : Shape := ⟨4, ![6, 1, 1, 2048]⟩
abbrev S1x512x2048 : Shape := ⟨3, ![1, 512, 2048]⟩
abbrev S1x1024x2048 : Shape := ⟨3, ![1, 1024, 2048]⟩
abbrev S1x2048x2048 : Shape := ⟨3, ![1, 2048, 2048]⟩
abbrev S1x2x2048 : Shape := ⟨3, ![1, 2, 2048]⟩
abbrev S512x2048 : Shape := ⟨2, ![512, 2048]⟩
abbrev S1024x2048 : Shape := ⟨2, ![1024, 2048]⟩
abbrev S2048x2048 : Shape := ⟨2, ![2048, 2048]⟩
abbrev S1x1x1x2048 : Shape := ⟨4, ![1, 1, 1, 2048]⟩
abbrev S1x2048 : Shape := ⟨2, ![1, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 23
  | .vmem => 17
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x2x8x64, .f32⟩
  | .hbm, ⟨2, _⟩ => ⟨S8x2048x4096, .f32⟩
  | .hbm, ⟨3, _⟩ => ⟨S8x2048x2048, .f32⟩
  | .hbm, ⟨4, _⟩ => ⟨S8x1x12288, .f32⟩
  | .hbm, ⟨5, _⟩ => ⟨S2x512x2048, .f32⟩
  | .hbm, ⟨6, _⟩ => ⟨S2x1024x2048, .f32⟩
  | .hbm, ⟨7, _⟩ => ⟨S2x2048x2048, .f32⟩
  | .hbm, ⟨8, _⟩ => ⟨S2x2x2048, .f32⟩
  | .hbm, ⟨9, _⟩ => ⟨S2x2x2048, .f32⟩
  | .hbm, ⟨10, _⟩ => ⟨S16384x512, .f32⟩
  | .hbm, ⟨11, _⟩ => ⟨S16384x512, .bf16⟩
  | .hbm, ⟨12, _⟩ => ⟨S16384x1024, .f32⟩
  | .hbm, ⟨13, _⟩ => ⟨S16384x1024, .bf16⟩
  | .hbm, ⟨14, _⟩ => ⟨S16384x4096, .f32⟩
  | .hbm, ⟨15, _⟩ => ⟨S16384x4096, .bf16⟩
  | .hbm, ⟨16, _⟩ => ⟨S16384x2048, .f32⟩
  | .hbm, ⟨17, _⟩ => ⟨S8x6x1x2048, .f32⟩
  | .hbm, ⟨18, _⟩ => ⟨S6x8x1x2048, .f32⟩
  | .hbm, ⟨19, _⟩ => ⟨S2x512x2048, .bf16⟩
  | .hbm, ⟨20, _⟩ => ⟨S2x1024x2048, .bf16⟩
  | .hbm, ⟨21, _⟩ => ⟨S2x2048x2048, .bf16⟩
  | .hbm, ⟨22, _⟩ => ⟨S16384x2048, .f32⟩
  | .local _ .vmem, ⟨0, _⟩ => ⟨S256x512, .bf16⟩
  | .local _ .vmem, ⟨1, _⟩ => ⟨S256x512, .bf16⟩
  | .local _ .vmem, ⟨2, _⟩ => ⟨S256x1024, .bf16⟩
  | .local _ .vmem, ⟨3, _⟩ => ⟨S256x1024, .bf16⟩
  | .local _ .vmem, ⟨4, _⟩ => ⟨S256x4096, .bf16⟩
  | .local _ .vmem, ⟨5, _⟩ => ⟨S256x4096, .bf16⟩
  | .local _ .vmem, ⟨6, _⟩ => ⟨S256x2048, .f32⟩
  | .local _ .vmem, ⟨7, _⟩ => ⟨S256x2048, .f32⟩
  | .local _ .vmem, ⟨8, _⟩ => ⟨S6x1x1x2048, .f32⟩
  | .local _ .vmem, ⟨9, _⟩ => ⟨S6x1x1x2048, .f32⟩
  | .local _ .vmem, ⟨10, _⟩ => ⟨S1x512x2048, .bf16⟩
  | .local _ .vmem, ⟨11, _⟩ => ⟨S1x1024x2048, .bf16⟩
  | .local _ .vmem, ⟨12, _⟩ => ⟨S1x2048x2048, .bf16⟩
  | .local _ .vmem, ⟨13, _⟩ => ⟨S1x2x2048, .f32⟩
  | .local _ .vmem, ⟨14, _⟩ => ⟨S1x2x2048, .f32⟩
  | .local _ .vmem, ⟨15, _⟩ => ⟨S256x2048, .f32⟩
  | .local _ .vmem, ⟨16, _⟩ => ⟨S256x2048, .f32⟩
  | _, _ => ⟨S8x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  let c0_i32_7 : BitVec 32 := 0#32
  ![c0_i32_4.toNat, v17.toNat, c0_i32_5.toNat, c0_i32_6.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S6x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== PostRefIdeal.lean ====
abbrev S8x2048x8x64 : Shape := ⟨4, ![8, 2048, 8, 64]⟩
abbrev S8x2048x2x8x64 : Shape := ⟨5, ![8, 2048, 2, 8, 64]⟩
abbrev S8x2048x4096 : Shape := ⟨3, ![8, 2048, 4096]⟩
abbrev S8x2048x2048 : Shape := ⟨3, ![8, 2048, 2048]⟩
abbrev S8x1x12288 : Shape := ⟨3, ![8, 1, 12288]⟩
abbrev S2x512x2048 : Shape := ⟨3, ![2, 512, 2048]⟩
abbrev S2x1024x2048 : Shape := ⟨3, ![2, 1024, 2048]⟩
abbrev S2x2048x2048 : Shape := ⟨3, ![2, 2048, 2048]⟩
abbrev S2x2x2048 : Shape := ⟨3, ![2, 2, 2048]⟩
abbrev S8x1x2048 : Shape := ⟨3, ![8, 1, 2048]⟩
abbrev S8x2048x512 : Shape := ⟨3, ![8, 2048, 512]⟩
abbrev S1x512x2048 : Shape := ⟨3, ![1, 512, 2048]⟩
abbrev S512x2048 : Shape := ⟨2, ![512, 2048]⟩
abbrev S8x2048x1024 : Shape := ⟨3, ![8, 2048, 1024]⟩
abbrev S1x1024x2048 : Shape := ⟨3, ![1, 1024, 2048]⟩
abbrev S1024x2048 : Shape := ⟨2, ![1024, 2048]⟩
abbrev S1x2048x2048 : Shape := ⟨3, ![1, 2048, 2048]⟩
abbrev S2048x2048 : Shape := ⟨2, ![2048, 2048]⟩
abbrev S_ : Shape := ⟨0, ![]⟩
abbrev S1x2x2048 : Shape := ⟨3, ![1, 2, 2048]⟩
abbrev S2x2048 : Shape := ⟨2, ![2, 2048]⟩
abbrev S1x2048 : Shape := ⟨2, ![1, 2048]⟩
abbrev S2048 : Shape := ⟨1, ![2048]⟩
abbrev S8x2048 : Shape := ⟨2, ![8, 2048]⟩
abbrev S8x2048x1 : Shape := ⟨3, ![8, 2048, 1]⟩
abbrev S1x1x2048 : Shape := ⟨3, ![1, 1, 2048]⟩
abbrev S16384x2048 : Shape := ⟨2, ![16384, 2048]⟩

abbrev nBuf : Space → Nat
  | .hbm => 76
  | .vmem => 0
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x2x8x64, .f32⟩
  | .hbm, ⟨2, _⟩ => ⟨S8x2048x4096, .f32⟩
  | .hbm, ⟨3, _⟩ => ⟨S8x2048x2048, .f32⟩
  | .hbm, ⟨4, _⟩ => ⟨S8x1x12288, .f32⟩
  | .hbm, ⟨5, _⟩ => ⟨S2x512x2048, .f32⟩
  | .hbm, ⟨6, _⟩ => ⟨S2x1024x2048, .f32⟩
  | .hbm, ⟨7, _⟩ => ⟨S2x2048x2048, .f32⟩
  | .hbm, ⟨8, _⟩ => ⟨S2x2x2048, .f32⟩
  | .hbm, ⟨9, _⟩ => ⟨S2x2x2048, .f32⟩
  | .hbm, ⟨10, _⟩ => ⟨S8x1x2048, .f32⟩
  | .hbm, ⟨11, _⟩ => ⟨S8x1x2048, .f32⟩
  | .hbm, ⟨12, _⟩ => ⟨S8x1x2048, .f32⟩
  | .hbm, ⟨13, _⟩ => ⟨S8x1x2048, .f32⟩
  | .hbm, ⟨14, _⟩ => ⟨S8x1x2048, .f32⟩
  | .hbm, ⟨15, _⟩ => ⟨S8x1x2048, .f32⟩
  | .hbm, ⟨16, _⟩ => ⟨S8x2048x512, .f32⟩
  | .hbm, ⟨17, _⟩ => ⟨S1x512x2048, .f32⟩
  | .hbm, ⟨18, _⟩ => ⟨S512x2048, .f32⟩
  | .hbm, ⟨19, _⟩ => ⟨S8x2048x2048, .f32⟩
  | .hbm, ⟨20, _⟩ => ⟨S8x2048x1024, .f32⟩
  | .hbm, ⟨21, _⟩ => ⟨S1x1024x2048, .f32⟩
  | .hbm, ⟨22, _⟩ => ⟨S1024x2048, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S1x2048x2048, .f32⟩
  | .hbm, ⟨30, _⟩ => ⟨S2048x2048, .f32⟩
  | .hbm, ⟨31, _⟩ => ⟨S8x2048x2048, .f32⟩
  | .hbm, ⟨32, _⟩ => ⟨S_, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S1x2x2048, .f32⟩
  | .hbm, ⟨39, _⟩ => ⟨S2x2048, .f32⟩
  | .hbm, ⟨40, _⟩ => ⟨S1x2048, .f32⟩
  | .hbm, ⟨41, _⟩ => ⟨S2048, .f32⟩
  | .hbm, ⟨42, _⟩ => ⟨S1x2x2048, .f32⟩
  | .hbm, ⟨43, _⟩ => ⟨S2x2048, .f32⟩
  | .hbm, ⟨44, _⟩ => ⟨S1x2048, .f32⟩
  | .hbm, ⟨45, _⟩ => ⟨S2048, .f32⟩
  | .hbm, ⟨46, _⟩ => ⟨S_, .f32⟩
  | .hbm, ⟨47, _⟩ => ⟨S8x2048, .f32⟩
  | .hbm, ⟨48, _⟩ => ⟨S8x2048x1, .f32⟩
  | .hbm, ⟨49, _⟩ => ⟨S_, .f32⟩
  | .hbm, ⟨50, _⟩ => ⟨S8x2048x1, .f32⟩
  | .hbm, ⟨51, _⟩ => ⟨S8x2048x1, .f32⟩
  | .hbm, ⟨52, _⟩ => ⟨S8x2048x2048, .f32⟩
  | .hbm, ⟨53, _⟩ => ⟨S8x2048x2048, .f32⟩
  | .hbm, ⟨54, _⟩ => ⟨S8x2048x2048, .f32⟩
  | .hbm, ⟨55, _⟩ => ⟨S_, .f32⟩
  | .hbm, ⟨56, _⟩ => ⟨S8x2048, .f32⟩
  | .hbm, ⟨57, _⟩ => ⟨S8x2048x1, .f32⟩
  | .hbm, ⟨58, _⟩ => ⟨S_, .f32⟩
  | .hbm, ⟨59, _⟩ => ⟨S8x2048x1, .f32⟩
  | .hbm, ⟨60, _⟩ => ⟨S8x2048x1, .f32⟩
  | .hbm, ⟨61, _⟩ => ⟨S8x2048x2048, .f32⟩
  | .hbm, ⟨62, _⟩ => ⟨S8x2048x2048, .f32⟩
  | .hbm, ⟨63, _⟩ => ⟨S_, .f32⟩
  | .hbm, ⟨64, _⟩ => ⟨S8x2048x1, .f32⟩
  | .hbm, ⟨65, _⟩ => ⟨S8x2048x1, .f32⟩
  | .hbm, ⟨66, _⟩ => ⟨S8x2048x1, .f32⟩
  | .hbm, ⟨67, _⟩ => ⟨S8x2048x2048, .f32⟩
  | .hbm, ⟨68, _⟩ => ⟨S8x2048x2048, .f32⟩
  | .hbm, ⟨69, _⟩ => ⟨S1x1x2048, .f32⟩
  | .hbm, ⟨70, _⟩ => ⟨S8x2048x2048, .f32⟩
  | .hbm, ⟨71, _⟩ => ⟨S8x2048x2048, .f32⟩
  | .hbm, ⟨72, _⟩ => ⟨S1x1x2048, .f32⟩
  | .hbm, ⟨73, _⟩ => ⟨S8x2048x2048, .f32⟩
  | .hbm, ⟨74, _⟩ => ⟨S8x2048x2048, .f32⟩
  | .hbm, ⟨75, _⟩ => ⟨S16384x2048, .f32⟩
  | _, _ => ⟨S8x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_0 : Ref sig .tc := ⟨.hbm, 46, rfl⟩
abbrev main_v35 : Ref sig .tc := ⟨.hbm, 47, rfl⟩
abbrev main_v36 : Ref sig .tc := ⟨.hbm, 48, rfl⟩
abbrev main_cst_1 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_2 : Ref sig .tc := ⟨.hbm, 55, rfl⟩
abbrev main_v42 : Ref sig .tc := ⟨.hbm, 56, rfl⟩
abbrev main_v43 : Ref sig .tc := ⟨.hbm, 57, rfl⟩
abbrev main_cst_3 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_4 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩

abbrev nD : Nat := 1
abbrev τ : Topo := Topo.v7x

variable {F : FTy → Type} [FloatOps F]
-- ==== ProjB.lean ====
abbrev S8x2048x2048 : Shape := ⟨3, ![8, 2048, 2048]⟩
abbrev S8x1x12288 : Shape := ⟨3, ![8, 1, 12288]⟩
abbrev S2x2048x9984 : Shape := ⟨3, ![2, 2048, 9984]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S16384x2048 : Shape := ⟨2, ![16384, 2048]⟩
abbrev S8x6x1x2048 : Shape := ⟨4, ![8, 6, 1, 2048]⟩
abbrev S6x8x1x2048 : Shape := ⟨4, ![6, 8, 1, 2048]⟩
abbrev S512 : Shape := ⟨1, ![512]⟩
abbrev S1024 : Shape := ⟨1, ![1024]⟩
abbrev S1536 : Shape := ⟨1, ![1536]⟩
abbrev S1x1536 : Shape := ⟨2, ![1, 1536]⟩
abbrev S3x1536 : Shape := ⟨2, ![3, 1536]⟩
abbrev S4608 : Shape := ⟨1, ![4608]⟩
abbrev S4352 : Shape := ⟨1, ![4352]⟩
abbrev S9984 : Shape := ⟨1, ![9984]⟩
abbrev S1x1x9984 : Shape := ⟨3, ![1, 1, 9984]⟩
abbrev S16384x1024 : Shape := ⟨2, ![16384, 1024]⟩
abbrev S16384x256 : Shape := ⟨2, ![16384, 256]⟩
abbrev S1024x2048 : Shape := ⟨2, ![1024, 2048]⟩
abbrev S6x1x1x2048 : Shape := ⟨4, ![6, 1, 1, 2048]⟩
abbrev S1x2048x1280 : Shape := ⟨3, ![1, 2048, 1280]⟩
abbrev S1024x128 : Shape := ⟨2, ![1024, 128]⟩
abbrev S1024x1024 : Shape := ⟨2, ![1024, 1024]⟩
abbrev S1024x256 : Shape := ⟨2, ![1024, 256]⟩
abbrev S1x1x1x2048 : Shape := ⟨4, ![1, 1, 1, 2048]⟩
abbrev S1x2048 : Shape := ⟨2, ![1, 2048]⟩
abbrev S2048x1280 : Shape := ⟨2, ![2048, 1280]⟩
abbrev S1024x1280 : Shape := ⟨2, ![1024, 1280]⟩

abbrev nBuf : Space → Nat
  | .hbm => 46
  | .vmem => 13
  | .smem => 0
  | _ => 0

abbrev bufTy : (tb : Table) → Fin (tcTables nBuf tb) → BufTy
  | .hbm, ⟨0, _⟩ => ⟨S8x2048x2048, .f32⟩
  | .hbm, ⟨1, _⟩ => ⟨S8x1x12288, .f32⟩
  | .hbm, ⟨2, _⟩ => ⟨S2x2048x9984, .f32⟩
  | .hbm, ⟨3, _⟩ => ⟨S2048, .i32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S2048, .f32⟩
  | .hbm, ⟨13, _⟩ => ⟨S2048x1, .f32⟩
  | .hbm, ⟨14, _⟩ => ⟨S1x32, .f32⟩
  | .hbm, ⟨15, _⟩ => ⟨S2048x32, .f32⟩
  | .hbm, ⟨16, _⟩ => ⟨S2048x32, .f32⟩
  | .hbm, ⟨17, _⟩ => ⟨S2048x32, .f32⟩
  | .hbm, ⟨18, _⟩ => ⟨S2048x32, .f32⟩
  | .hbm, ⟨19, _⟩ => ⟨S2048x32, .f32⟩
  | .hbm, ⟨20, _⟩ => ⟨S2048x128, .f32⟩
  | .hbm, ⟨21, _⟩ => ⟨S2048x32, .f32⟩
  | .hbm, ⟨22, _⟩ => ⟨S2048x32, .f32⟩
  | .hbm, ⟨23, _⟩ => ⟨S2048x128, .f32⟩
  | .hbm, ⟨24, _⟩ => ⟨S16384x2048, .f32⟩
  | .hbm, ⟨25, _⟩ => ⟨S8x6x1x2048, .f32⟩
  | .hbm, ⟨26, _⟩ => ⟨S6x8x1x2048, .f32⟩
  | .hbm, ⟨27, _⟩ => ⟨S_, .f32⟩
  | .hbm, ⟨28, _⟩ => ⟨S512, .f32⟩
  | .hbm, ⟨29, _⟩ => ⟨S_, .f32⟩
  | .hbm, ⟨30, _⟩ => ⟨S1024, .f32⟩
  | .hbm, ⟨31, _⟩ => ⟨S1536, .f32⟩
  | .hbm, ⟨32, _⟩ => ⟨S1x1536, .f32⟩
  | .hbm, ⟨33, _⟩ => ⟨S3x1536, .f32⟩
  | .hbm, ⟨34, _⟩ => ⟨S4608, .f32⟩
  | .hbm, ⟨35, _⟩ => ⟨S_, .f32⟩
  | .hbm, ⟨36, _⟩ => ⟨S1024, .f32⟩
  | .hbm, ⟨37, _⟩ => ⟨S_, .f32⟩
  | .hbm, ⟨38, _⟩ => ⟨S4352, .f32⟩
  | .hbm, ⟨39, _⟩ => ⟨S9984, .f32⟩
  | .hbm, ⟨40, _⟩ => ⟨S1x1x9984, .f32⟩
  | .hbm, ⟨41, _⟩ => ⟨S2x2048x9984, .f32⟩
  | .hbm, ⟨42, _⟩ => ⟨S2x2048x9984, .f32⟩
  | .hbm, ⟨43, _⟩ => ⟨S2x2048x9984, .bf16⟩
  | .hbm, ⟨44, _⟩ => ⟨S16384x1024, .bf16⟩
  | .hbm, ⟨45, _⟩ => ⟨S16384x256, .f32⟩
  | .local _ .vmem, ⟨0, _⟩ => ⟨S1024x2048, .f32⟩
  | .local _ .vmem, ⟨1, _⟩ => ⟨S1024x2048, .f32⟩
  | .local _ .vmem, ⟨2, _⟩ => ⟨S6x1x1x2048, .f32⟩
  | .local _ .vmem, ⟨3, _⟩ => ⟨S6x1x1x2048, .f32⟩
  | .local _ .vmem, ⟨4, _⟩ => ⟨S1x2048x1280, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x1024, .bf16⟩
  | .local _ .vmem, ⟨10, _⟩ => ⟨S1024x1024, .bf16⟩
  | .local _ .vmem, ⟨11, _⟩ => ⟨S1024x256, .f32⟩
  | .local _ .vmem, ⟨12, _⟩ => ⟨S1024x256, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35_0 : Ref sig .tc := ⟨.hbm, 44, rfl⟩
abbrev main_v35_1 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  let c0_i32_7 : BitVec 32 := 0#32
  ![c0_i32_4.toNat, v17.toNat, c0_i32_5.toNat, c0_i32_6.toNat]

def cc0_transform_2 (i : grid0.Coords) : Fin 3 → Nat :=
  let arg0 : BitVec 32 := BitVec.ofNat 32 (i 0).val
  let c1_i32 : BitVec 32 := 1#32
  let c0_i32 : BitVec 32 := 0#32
  let c4608_i32 : BitVec 32 := 4608#32
  let c0_i32_0 : BitVec 32 := 0#32
  ![c1_i32.toNat, c0_i32.toNat, c4608_i32.toNat]

def cc0_transform_3 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjBRefIdeal.lean ====
abbrev S8x2048x2048 : Shape := ⟨3, ![8, 2048, 2048]⟩
abbrev S8x1x12288 : Shape := ⟨3, ![8, 1, 12288]⟩
abbrev S2x2048x9984 : Shape := ⟨3, ![2, 2048, 9984]⟩
abbrev S8x1x2048 : Shape := ⟨3, ![8, 1, 2048]⟩
abbrev S_ : Shape := ⟨0, ![]⟩
abbrev S1x2048x9984 : Shape := ⟨3, ![1, 2048, 9984]⟩
abbrev S2048x9984 : Shape := ⟨2, ![2048, 9984]⟩
abbrev S8x2048x9984 : Shape := ⟨3, ![8, 2048, 9984]⟩
abbrev S8x2048x1024 : Shape := ⟨3, ![8, 2048, 1024]⟩
abbrev S8x2048x2x8x64 : Shape := ⟨5, ![8, 2048, 2, 8, 64]⟩
abbrev S8x2048x128 : Shape := ⟨3, ![8, 2048, 128]⟩
abbrev S8x2048x2x64 : Shape := ⟨4, ![8, 2048, 2, 64]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x1x1x32 : Shape := ⟨4, ![2048, 1, 1, 32]⟩
abbrev S8x2048x2x8x32 : Shape := ⟨5, ![8, 2048, 2, 8, 32]⟩
abbrev S1x2048x1x1x32 : Shape := ⟨5, ![1, 2048, 1, 1, 32]⟩
abbrev S2048x1x32 : Shape := ⟨3, ![2048, 1, 32]⟩
abbrev S8x2048x2x32 : Shape := ⟨4, ![8, 2048, 2, 32]⟩
abbrev S1x2048x1x32 : Shape := ⟨4, ![1, 2048, 1, 32]⟩
abbrev S16384x1024 : Shape := ⟨2, ![16384, 1024]⟩
abbrev S16384x128 : Shape := ⟨2, ![16384, 128]⟩
abbrev S16384x256 : Shape := ⟨2, ![16384, 256]⟩

abbrev nBuf : Space → Nat
  | .hbm => 102
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x1x12288, .f32⟩
  | .hbm, ⟨2, _⟩ => ⟨S2x2048x9984, .f32⟩
  | .hbm, ⟨3, _⟩ => ⟨S8x1x2048, .f32⟩
  | .hbm, ⟨4, _⟩ => ⟨S8x1x2048, .f32⟩
  | .hbm, ⟨5, _⟩ => ⟨S8x1x2048, .f32⟩
  | .hbm, ⟨6, _⟩ => ⟨S8x1x2048, .f32⟩
  | .hbm, ⟨7, _⟩ => ⟨S8x1x2048, .f32⟩
  | .hbm, ⟨8, _⟩ => ⟨S8x1x2048, .f32⟩
  | .hbm, ⟨9, _⟩ => ⟨S_, .f32⟩
  | .hbm, ⟨10, _⟩ => ⟨S8x1x2048, .f32⟩
  | .hbm, ⟨11, _⟩ => ⟨S8x1x2048, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S1x2048x9984, .f32⟩
  | .hbm, ⟨17, _⟩ => ⟨S2048x9984, .f32⟩
  | .hbm, ⟨18, _⟩ => ⟨S8x2048x9984, .f32⟩
  | .hbm, ⟨19, _⟩ => ⟨S8x2048x1024, .f32⟩
  | .hbm, ⟨20, _⟩ => ⟨S8x2048x2x8x64, .f32⟩
  | .hbm, ⟨21, _⟩ => ⟨S8x2048x128, .f32⟩
  | .hbm, ⟨22, _⟩ => ⟨S8x2048x2x64, .f32⟩
  | .hbm, ⟨23, _⟩ => ⟨S8x2048x128, .f32⟩
  | .hbm, ⟨24, _⟩ => ⟨S8x2048x2x64, .f32⟩
  | .hbm, ⟨25, _⟩ => ⟨S2048, .i32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S2048, .f32⟩
  | .hbm, ⟨35, _⟩ => ⟨S2048x1, .f32⟩
  | .hbm, ⟨36, _⟩ => ⟨S1x32, .f32⟩
  | .hbm, ⟨37, _⟩ => ⟨S2048x32, .f32⟩
  | .hbm, ⟨38, _⟩ => ⟨S2048x32, .f32⟩
  | .hbm, ⟨39, _⟩ => ⟨S2048x32, .f32⟩
  | .hbm, ⟨40, _⟩ => ⟨S2048x1x1x32, .f32⟩
  | .hbm, ⟨41, _⟩ => ⟨S2048x1x1x32, .f32⟩
  | .hbm, ⟨42, _⟩ => ⟨S2048x1x1x32, .f32⟩
  | .hbm, ⟨43, _⟩ => ⟨S8x2048x2x8x32, .f32⟩
  | .hbm, ⟨44, _⟩ => ⟨S8x2048x2x8x32, .f32⟩
  | .hbm, ⟨45, _⟩ => ⟨S1x2048x1x1x32, .f32⟩
  | .hbm, ⟨46, _⟩ => ⟨S8x2048x2x8x32, .f32⟩
  | .hbm, ⟨47, _⟩ => ⟨S8x2048x2x8x32, .f32⟩
  | .hbm, ⟨48, _⟩ => ⟨S1x2048x1x1x32, .f32⟩
  | .hbm, ⟨49, _⟩ => ⟨S8x2048x2x8x32, .f32⟩
  | .hbm, ⟨50, _⟩ => ⟨S8x2048x2x8x32, .f32⟩
  | .hbm, ⟨51, _⟩ => ⟨S8x2048x2x8x32, .f32⟩
  | .hbm, ⟨52, _⟩ => ⟨S1x2048x1x1x32, .f32⟩
  | .hbm, ⟨53, _⟩ => ⟨S8x2048x2x8x32, .f32⟩
  | .hbm, ⟨54, _⟩ => ⟨S8x2048x2x8x32, .f32⟩
  | .hbm, ⟨55, _⟩ => ⟨S1x2048x1x1x32, .f32⟩
  | .hbm, ⟨56, _⟩ => ⟨S8x2048x2x8x32, .f32⟩
  | .hbm, ⟨57, _⟩ => ⟨S8x2048x2x8x32, .f32⟩
  | .hbm, ⟨58, _⟩ => ⟨S8x2048x2x8x32, .f32⟩
  | .hbm, ⟨59, _⟩ => ⟨S8x2048x2x8x64, .f32⟩
  | .hbm, ⟨60, _⟩ => ⟨S32, .f32⟩
  | .hbm, ⟨61, _⟩ => ⟨S32, .f32⟩
  | .hbm, ⟨62, _⟩ => ⟨S_, .f32⟩
  | .hbm, ⟨63, _⟩ => ⟨S32, .f32⟩
  | .hbm, ⟨64, _⟩ => ⟨S32, .f32⟩
  | .hbm, ⟨65, _⟩ => ⟨S_, .f32⟩
  | .hbm, ⟨66, _⟩ => ⟨S32, .f32⟩
  | .hbm, ⟨67, _⟩ => ⟨S32, .f32⟩
  | .hbm, ⟨68, _⟩ => ⟨S2048, .f32⟩
  | .hbm, ⟨69, _⟩ => ⟨S2048x1, .f32⟩
  | .hbm, ⟨70, _⟩ => ⟨S1x32, .f32⟩
  | .hbm, ⟨71, _⟩ => ⟨S2048x32, .f32⟩
  | .hbm, ⟨72, _⟩ => ⟨S2048x32, .f32⟩
  | .hbm, ⟨73, _⟩ => ⟨S2048x32, .f32⟩
  | .hbm, ⟨74, _⟩ => ⟨S2048x1x32, .f32⟩
  | .hbm, ⟨75, _⟩ => ⟨S2048x1x32, .f32⟩
  | .hbm, ⟨76, _⟩ => ⟨S2048x1x32, .f32⟩
  | .hbm, ⟨77, _⟩ => ⟨S8x2048x2x32, .f32⟩
  | .hbm, ⟨78, _⟩ => ⟨S8x2048x2x32, .f32⟩
  | .hbm, ⟨79, _⟩ => ⟨S1x2048x1x32, .f32⟩
  | .hbm, ⟨80, _⟩ => ⟨S8x2048x2x32, .f32⟩
  | .hbm, ⟨81, _⟩ => ⟨S8x2048x2x32, .f32⟩
  | .hbm, ⟨82, _⟩ => ⟨S1x2048x1x32, .f32⟩
  | .hbm, ⟨83, _⟩ => ⟨S8x2048x2x32, .f32⟩
  | .hbm, ⟨84, _⟩ => ⟨S8x2048x2x32, .f32⟩
  | .hbm, ⟨85, _⟩ => ⟨S8x2048x2x32, .f32⟩
  | .hbm, ⟨86, _⟩ => ⟨S1x2048x1x32, .f32⟩
  | .hbm, ⟨87, _⟩ => ⟨S8x2048x2x32, .f32⟩
  | .hbm, ⟨88, _⟩ => ⟨S8x2048x2x32, .f32⟩
  | .hbm, ⟨89, _⟩ => ⟨S1x2048x1x32, .f32⟩
  | .hbm, ⟨90, _⟩ => ⟨S8x2048x2x32, .f32⟩
  | .hbm, ⟨91, _⟩ => ⟨S8x2048x2x32, .f32⟩
  | .hbm, ⟨92, _⟩ => ⟨S8x2048x2x32, .f32⟩
  | .hbm, ⟨93, _⟩ => ⟨S8x2048x2x64, .f32⟩
  | .hbm, ⟨94, _⟩ => ⟨S_, .f32⟩
  | .hbm, ⟨95, _⟩ => ⟨S8x2048x2x8x64, .f32⟩
  | .hbm, ⟨96, _⟩ => ⟨S8x2048x2x8x64, .f32⟩
  | .hbm, ⟨97, _⟩ => ⟨S16384x1024, .f32⟩
  | .hbm, ⟨98, _⟩ => ⟨S16384x1024, .bf16⟩
  | .hbm, ⟨99, _⟩ => ⟨S16384x128, .f32⟩
  | .hbm, ⟨100, _⟩ => ⟨S16384x128, .f32⟩
  | .hbm, ⟨101, _⟩ => ⟨S16384x256, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_v24 : Ref sig .tc := ⟨.hbm, 29, rfl⟩
abbrev main_v25 : Ref sig .tc := ⟨.hbm, 30, rfl⟩
abbrev main_cst_1 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_cst_2 : Ref sig .tc := ⟨.hbm, 62, rfl⟩
abbrev main_v56 : Ref sig .tc := ⟨.hbm, 63, rfl⟩
abbrev main_v57 : Ref sig .tc := ⟨.hbm, 64, rfl⟩
abbrev main_cst_3 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_cst_4 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩

abbrev nD : Nat := 1
abbrev τ : Topo := Topo.v7x

variable {F : FTy → Type} [FloatOps F]
-- ==== FfnS.lean ====
abbrev S128x1x2048 : Shape := ⟨3, ![128, 1, 2048]⟩
abbrev S128x1x12288 : Shape := ⟨3, ![128, 1, 12288]⟩
abbrev S2x2048x11264 : Shape := ⟨3, ![2, 2048, 11264]⟩
abbrev S2x5632x2048 : Shape := ⟨3, ![2, 5632, 2048]⟩
abbrev S2x2x2048 : Shape := ⟨3, ![2, 2, 2048]⟩
abbrev S128x2048 : Shape := ⟨2, ![128, 2048]⟩
abbrev S1x128x6x2048 : Shape := ⟨4, ![1, 128, 6, 2048]⟩
abbrev S6x1x128x2048 : Shape := ⟨4, ![6, 1, 128, 2048]⟩
abbrev S1x2048x512 : Shape := ⟨3, ![1, 2048, 512]⟩
abbrev S1x512x2048 : Shape := ⟨3, ![1, 512, 2048]⟩
abbrev S1x2x2048 : Shape := ⟨3, ![1, 2, 2048]⟩
abbrev S1x1x128x2048 : Shape := ⟨4, ![1, 1, 128, 2048]⟩
abbrev S2048x512 : Shape := ⟨2, ![2048, 512]⟩
abbrev S128x512 : Shape := ⟨2, ![128, 512]⟩
abbrev S512x2048 : Shape := ⟨2, ![512, 2048]⟩
abbrev S1x1x2048 : Shape := ⟨3, ![1, 1, 2048]⟩
abbrev S1x2048 : Shape := ⟨2, ![1, 2048]⟩
abbrev S128 : Shape := ⟨1, ![128]⟩
abbrev S128x1 : Shape := ⟨2, ![128, 1]⟩

abbrev nBuf : Space → Nat
  | .hbm => 12
  | .vmem => 13
  | .smem => 0
  | _ => 0

abbrev bufTy : (tb : Table) → Fin (tcTables nBuf tb) → BufTy
  | .hbm, ⟨0, _⟩ => ⟨S128x1x2048, .f32⟩
  | .hbm, ⟨1, _⟩ => ⟨S128x1x12288, .f32⟩
  | .hbm, ⟨2, _⟩ => ⟨S2x2048x11264, .f32⟩
  | .hbm, ⟨3, _⟩ => ⟨S2x5632x2048, .f32⟩
  | .hbm, ⟨4, _⟩ => ⟨S2x2x2048, .f32⟩
  | .hbm, ⟨5, _⟩ => ⟨S2x2x2048, .f32⟩
  | .hbm, ⟨6, _⟩ => ⟨S128x2048, .f32⟩
  | .hbm, ⟨7, _⟩ => ⟨S1x128x6x2048, .f32⟩
  | .hbm, ⟨8, _⟩ => ⟨S6x1x128x2048, .f32⟩
  | .hbm, ⟨9, _⟩ => ⟨S2x2048x11264, .bf16⟩
  | .hbm, ⟨10, _⟩ => ⟨S2x5632x2048, .bf16⟩
  | .hbm, ⟨11, _⟩ => ⟨S128x2048, .f32⟩
  | .local _ .vmem, ⟨0, _⟩ => ⟨S128x2048, .f32⟩
  | .local _ .vmem, ⟨1, _⟩ => ⟨S6x1x128x2048, .f32⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S1x2x2048, .f32⟩
  | .local _ .vmem, ⟨9, _⟩ => ⟨S1x2x2048, .f32⟩
  | .local _ .vmem, ⟨10, _⟩ => ⟨S128x2048, .f32⟩
  | .local _ .vmem, ⟨11, _⟩ => ⟨S128x2048, .bf16⟩
  | .local _ .vmem, ⟨12, _⟩ => ⟨S128x2048, .f32⟩
  | _, _ => ⟨S128x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_17 : BitVec 32 := 0#32
  let v24 : BitVec 1 := Scalar.cmpi .ne v23 c0_i32_17
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c128_i32_0 : BitVec 32 := 128#32
  let v1 : BitVec 32 := Scalar.divsi v0 c128_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c128_i32_0 c0_i32_2
  let v8 : BitVec 32 := Scalar.extui v7
  let c0_i32_3 : BitVec 32 := 0#32
  let v9 : BitVec 1 := Scalar.cmpi .slt c128_i32_0 c0_i32_3
  let v10 : BitVec 32 := Scalar.extui v9
  let v11 : BitVec 32 := Scalar.subi v8 v10
  let v12 : BitVec 1 := Scalar.cmpi .ne v6 v11
  let v13 : BitVec 32 := Scalar.remsi v0 c128_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  let c0_i32_8 : BitVec 32 := 0#32
  ![c0_i32_5.toNat, v17.toNat, c0_i32_6.toNat, c0_i32_7.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c1_i32 : BitVec 32 := 1#32
  let c0_i32 : BitVec 32 := 0#32
  let c0_i32_0 : BitVec 32 := 0#32
  ![c1_i32.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S6x1x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== FfnSRefIdeal.lean ====
abbrev S128x1x2048 : Shape := ⟨3, ![128, 1, 2048]⟩
abbrev S128x1x12288 : Shape := ⟨3, ![128, 1, 12288]⟩
abbrev S2x2048x11264 : Shape := ⟨3, ![2, 2048, 11264]⟩
abbrev S2x5632x2048 : Shape := ⟨3, ![2, 5632, 2048]⟩
abbrev S2x2x2048 : Shape := ⟨3, ![2, 2, 2048]⟩
abbrev S_ : Shape := ⟨0, ![]⟩
abbrev S1x2048x11264 : Shape := ⟨3, ![1, 2048, 11264]⟩
abbrev S2048x11264 : Shape := ⟨2, ![2048, 11264]⟩
abbrev S128x1x11264 : Shape := ⟨3, ![128, 1, 11264]⟩
abbrev S128x1x5632 : Shape := ⟨3, ![128, 1, 5632]⟩
abbrev S1x5632x2048 : Shape := ⟨3, ![1, 5632, 2048]⟩
abbrev S5632x2048 : Shape := ⟨2, ![5632, 2048]⟩
abbrev S1x2x2048 : Shape := ⟨3, ![1, 2, 2048]⟩
abbrev S2x2048 : Shape := ⟨2, ![2, 2048]⟩
abbrev S1x2048 : Shape := ⟨2, ![1, 2048]⟩
abbrev S2048 : Shape := ⟨1, ![2048]⟩
abbrev S128x1 : Shape := ⟨2, ![128, 1]⟩
abbrev S128x1x1 : Shape := ⟨3, ![128, 1, 1]⟩
abbrev S1x1x2048 : Shape := ⟨3, ![1, 1, 2048]⟩
abbrev S128x2048 : Shape := ⟨2, ![128, 2048]⟩

abbrev nBuf : Space → Nat
  | .hbm => 78
  | .vmem => 0
  | .smem => 0
  | _ => 0

abbrev bufTy : (tb : Table) → Fin (tcTables nBuf tb) → BufTy
  | .hbm, ⟨0, _⟩ => ⟨S128x1x2048, .f32⟩
  | .hbm, ⟨1, _⟩ => ⟨S128x1x12288, .f32⟩
  | .hbm, ⟨2, _⟩ => ⟨S2x2048x11264, .f32⟩
  | .hbm, ⟨3, _⟩ => ⟨S2x5632x2048, .f32⟩
  | .hbm, ⟨4, _⟩ => ⟨S2x2x2048, .f32⟩
  | .hbm, ⟨5, _⟩ => ⟨S2x2x2048, .f32⟩
  | .hbm, ⟨6, _⟩ => ⟨S128x1x2048, .f32⟩
  | .hbm, ⟨7, _⟩ => ⟨S128x1x2048, .f32⟩
  | .hbm, ⟨8, _⟩ => ⟨S128x1x2048, .f32⟩
  | .hbm, ⟨9, _⟩ => ⟨S128x1x2048, .f32⟩
  | .hbm, ⟨10, _⟩ => ⟨S128x1x2048, .f32⟩
  | .hbm, ⟨11, _⟩ => ⟨S128x1x2048, .f32⟩
  | .hbm, ⟨12, _⟩ => ⟨S_, .f32⟩
  | .hbm, ⟨13, _⟩ => ⟨S128x1x2048, .f32⟩
  | .hbm, ⟨14, _⟩ => ⟨S128x1x2048, .f32⟩
  | .hbm, ⟨15, _⟩ => ⟨S128x1x2048, .f32⟩
  | .hbm, ⟨16, _⟩ => ⟨S128x1x2048, .f32⟩
  | .hbm, ⟨17, _⟩ => ⟨S1x2048x11264, .f32⟩
  | .hbm, ⟨18, _⟩ => ⟨S2048x11264, .f32⟩
  | .hbm, ⟨19, _⟩ => ⟨S128x1x11264, .f32⟩
  | .hbm, ⟨20, _⟩ => ⟨S128x1x5632, .f32⟩
  | .hbm, ⟨21, _⟩ => ⟨S128x1x5632, .f32⟩
  | .hbm, ⟨22, _⟩ => ⟨S128x1x5632, .f32⟩
  | .hbm, ⟨23, _⟩ => ⟨S_, .f32⟩
  | .hbm, ⟨24, _⟩ => ⟨S128x1x5632, .f32⟩
  | .hbm, ⟨25, _⟩ => ⟨S128x1x5632, .f32⟩
  | .hbm, ⟨26, _⟩ => ⟨S_, .f32⟩
  | .hbm, ⟨27, _⟩ => ⟨S128x1x5632, .f32⟩
  | .hbm, ⟨28, _⟩ => ⟨S128x1x5632, .f32⟩
  | .hbm, ⟨29, _⟩ => ⟨S128x1x5632, .f32⟩
  | .hbm, ⟨30, _⟩ => ⟨S128x1x5632, .f32⟩
  | .hbm, ⟨31, _⟩ => ⟨S128x1x5632, .f32⟩
  | .hbm, ⟨32, _⟩ => ⟨S1x5632x2048, .f32⟩
  | .hbm, ⟨33, _⟩ => ⟨S5632x2048, .f32⟩
  | .hbm, ⟨34, _⟩ => ⟨S128x1x2048, .f32⟩
  | .hbm, ⟨35, _⟩ => ⟨S_, .f32⟩
  | .hbm, ⟨36, _⟩ => ⟨S128x1x2048, .f32⟩
  | .hbm, ⟨37, _⟩ => ⟨S128x1x2048, .f32⟩
  | .hbm, ⟨38, _⟩ => ⟨S128x1x2048, .f32⟩
  | .hbm, ⟨39, _⟩ => ⟨S128x1x2048, .f32⟩
  | .hbm, ⟨40, _⟩ => ⟨S1x2x2048, .f32⟩
  | .hbm, ⟨41, _⟩ => ⟨S2x2048, .f32⟩
  | .hbm, ⟨42, _⟩ => ⟨S1x2048, .f32⟩
  | .hbm, ⟨43, _⟩ => ⟨S2048, .f32⟩
  | .hbm, ⟨44, _⟩ => ⟨S1x2x2048, .f32⟩
  | .hbm, ⟨45, _⟩ => ⟨S2x2048, .f32⟩
  | .hbm, ⟨46, _⟩ => ⟨S1x2048, .f32⟩
  | .hbm, ⟨47, _⟩ => ⟨S2048, .f32⟩
  | .hbm, ⟨48, _⟩ => ⟨S_, .f32⟩
  | .hbm, ⟨49, _⟩ => ⟨S128x1, .f32⟩
  | .hbm, ⟨50, _⟩ => ⟨S128x1x1, .f32⟩
  | .hbm, ⟨51, _⟩ => ⟨S_, .f32⟩
  | .hbm, ⟨52, _⟩ => ⟨S128x1x1, .f32⟩
  | .hbm, ⟨53, _⟩ => ⟨S128x1x1, .f32⟩
  | .hbm, ⟨54, _⟩ => ⟨S128x1x2048, .f32⟩
  | .hbm, ⟨55, _⟩ => ⟨S128x1x2048, .f32⟩
  | .hbm, ⟨56, _⟩ => ⟨S128x1x2048, .f32⟩
  | .hbm, ⟨57, _⟩ => ⟨S_, .f32⟩
  | .hbm, ⟨58, _⟩ => ⟨S128x1, .f32⟩
  | .hbm, ⟨59, _⟩ => ⟨S128x1x1, .f32⟩
  | .hbm, ⟨60, _⟩ => ⟨S_, .f32⟩
  | .hbm, ⟨61, _⟩ => ⟨S128x1x1, .f32⟩
  | .hbm, ⟨62, _⟩ => ⟨S128x1x1, .f32⟩
  | .hbm, ⟨63, _⟩ => ⟨S128x1x2048, .f32⟩
  | .hbm, ⟨64, _⟩ => ⟨S128x1x2048, .f32⟩
  | .hbm, ⟨65, _⟩ => ⟨S_, .f32⟩
  | .hbm, ⟨66, _⟩ => ⟨S128x1x1, .f32⟩
  | .hbm, ⟨67, _⟩ => ⟨S128x1x1, .f32⟩
  | .hbm, ⟨68, _⟩ => ⟨S128x1x1, .f32⟩
  | .hbm, ⟨69, _⟩ => ⟨S128x1x2048, .f32⟩
  | .hbm, ⟨70, _⟩ => ⟨S128x1x2048, .f32⟩
  | .hbm, ⟨71, _⟩ => ⟨S1x1x2048, .f32⟩
  | .hbm, ⟨72, _⟩ => ⟨S128x1x2048, .f32⟩
  | .hbm, ⟨73, _⟩ => ⟨S128x1x2048, .f32⟩
  | .hbm, ⟨74, _⟩ => ⟨S1x1x2048, .f32⟩
  | .hbm, ⟨75, _⟩ => ⟨S128x1x2048, .f32⟩
  | .hbm, ⟨76, _⟩ => ⟨S128x1x2048, .f32⟩
  | .hbm, ⟨77, _⟩ => ⟨S128x2048, .f32⟩
  | _, _ => ⟨S128x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_1 : Ref sig .tc := ⟨.hbm, 48, rfl⟩
abbrev main_v32 : Ref sig .tc := ⟨.hbm, 49, rfl⟩
abbrev main_v33 : Ref sig .tc := ⟨.hbm, 50, rfl⟩
abbrev main_cst_2 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_3 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_5 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== ProjAS.lean ====
abbrev S128x1x2048 : Shape := ⟨3, ![128, 1, 2048]⟩
abbrev S128x1x12288 : Shape := ⟨3, ![128, 1, 12288]⟩
abbrev S2x2048x9984 : Shape := ⟨3, ![2, 2048, 9984]⟩
abbrev S128x2048 : Shape := ⟨2, ![128, 2048]⟩
abbrev S1x128x6x2048 : Shape := ⟨4, ![1, 128, 6, 2048]⟩
abbrev S6x1x128x2048 : Shape := ⟨4, ![6, 1, 128, 2048]⟩
abbrev S_ : Shape := ⟨0, ![]⟩
abbrev S512 : Shape := ⟨1, ![512]⟩
abbrev S1024 : Shape := ⟨1, ![1024]⟩
abbrev S1536 : Shape := ⟨1, ![1536]⟩
abbrev S1x1536 : Shape := ⟨2, ![1, 1536]⟩
abbrev S3x1536 : Shape := ⟨2, ![3, 1536]⟩
abbrev S4608 : Shape := ⟨1, ![4608]⟩
abbrev S4352 : Shape := ⟨1, ![4352]⟩
abbrev S9984 : Shape := ⟨1, ![9984]⟩
abbrev S1x1x9984 : Shape := ⟨3, ![1, 1, 9984]⟩
abbrev S128x4608 : Shape := ⟨2, ![128, 4608]⟩
abbrev S1x2048x1536 : Shape := ⟨3, ![1, 2048, 1536]⟩
abbrev S128x1536 : Shape := ⟨2, ![128, 1536]⟩
abbrev S1x1x128x2048 : Shape := ⟨4, ![1, 1, 128, 2048]⟩
abbrev S2048x1536 : Shape := ⟨2, ![2048, 1536]⟩

abbrev nBuf : Space → Nat
  | .hbm => 24
  | .vmem => 7
  | .smem => 0
  | _ => 0

abbrev bufTy : (tb : Table) → Fin (tcTables nBuf tb) → BufTy
  | .hbm, ⟨0, _⟩ => ⟨S128x1x2048, .f32⟩
  | .hbm, ⟨1, _⟩ => ⟨S128x1x12288, .f32⟩
  | .hbm, ⟨2, _⟩ => ⟨S2x2048x9984, .f32⟩
  | .hbm, ⟨3, _⟩ => ⟨S128x2048, .f32⟩
  | .hbm, ⟨4, _⟩ => ⟨S1x128x6x2048, .f32⟩
  | .hbm, ⟨5, _⟩ => ⟨S6x1x128x2048, .f32⟩
  | .hbm, ⟨6, _⟩ => ⟨S_, .f32⟩
  | .hbm, ⟨7, _⟩ => ⟨S512, .f32⟩
  | .hbm, ⟨8, _⟩ => ⟨S_, .f32⟩
  | .hbm, ⟨9, _⟩ => ⟨S1024, .f32⟩
  | .hbm, ⟨10, _⟩ => ⟨S1536, .f32⟩
  | .hbm, ⟨11, _⟩ => ⟨S1x1536, .f32⟩
  | .hbm, ⟨12, _⟩ => ⟨S3x1536, .f32⟩
  | .hbm, ⟨13, _⟩ => ⟨S4608, .f32⟩
  | .hbm, ⟨14, _⟩ => ⟨S_, .f32⟩
  | .hbm, ⟨15, _⟩ => ⟨S1024, .f32⟩
  | .hbm, ⟨16, _⟩ => ⟨S_, .f32⟩
  | .hbm, ⟨17, _⟩ => ⟨S4352, .f32⟩
  | .hbm, ⟨18, _⟩ => ⟨S9984, .f32⟩
  | .hbm, ⟨19, _⟩ => ⟨S1x1x9984, .f32⟩
  | .hbm, ⟨20, _⟩ => ⟨S2x2048x9984, .f32⟩
  | .hbm, ⟨21, _⟩ => ⟨S2x2048x9984, .f32⟩
  | .hbm, ⟨22, _⟩ => ⟨S2x2048x9984, .bf16⟩
  | .hbm, ⟨23, _⟩ => ⟨S128x4608, .f32⟩
  | .local _ .vmem, ⟨0, _⟩ => ⟨S128x2048, .f32⟩
  | .local _ .vmem, ⟨1, _⟩ => ⟨S6x1x128x2048, .f32⟩
  | .local _ .vmem, ⟨2, _⟩ => ⟨S1x2048x1536, .bf16⟩
  | .local _ .vmem, ⟨3, _⟩ => ⟨S1x2048x1536, .bf16⟩
  | .local _ .vmem, ⟨4, _⟩ => ⟨S128x1536, .f32⟩
  | .local _ .vmem, ⟨5, _⟩ => ⟨S128x1536, .f32⟩
  | .local _ .vmem, ⟨6, _⟩ => ⟨S128x2048, .bf16⟩
  | _, _ => ⟨S128x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c128_i32_0 : BitVec 32 := 128#32
  let v1 : BitVec 32 := Scalar.divsi v0 c128_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c128_i32_0 c0_i32_2
  let v8 : BitVec 32 := Scalar.extui v7
  let c0_i32_3 : BitVec 32 := 0#32
  let v9 : BitVec 1 := Scalar.cmpi .slt c128_i32_0 c0_i32_3
  let v10 : BitVec 32 := Scalar.extui v9
  let v11 : BitVec 32 := Scalar.subi v8 v10
  let v12 : BitVec 1 := Scalar.cmpi .ne v6 v11
  let v13 : BitVec 32 := Scalar.remsi v0 c128_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  let c0_i32_8 : BitVec 32 := 0#32
  ![c0_i32_5.toNat, v17.toNat, c0_i32_6.toNat, c0_i32_7.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S6x1x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjASRefIdeal.lean ====
abbrev S128x1x2048 : Shape := ⟨3, ![128, 1, 2048]⟩
abbrev S128x1x12288 : Shape := ⟨3, ![128, 1, 12288]⟩
abbrev S2x2048x9984 : Shape := ⟨3, ![2, 2048, 9984]⟩
abbrev S_ : Shape := ⟨0, ![]⟩
abbrev S1x2048x9984 : Shape := ⟨3, ![1, 2048, 9984]⟩
abbrev S2048x9984 : Shape := ⟨2, ![2048, 9984]⟩
abbrev S128x1x9984 : Shape := ⟨3, ![128, 1, 9984]⟩
abbrev S128x1x4608 : Shape := ⟨3, ![128, 1, 4608]⟩
abbrev S128x1x3x3x8x64 : Shape := ⟨6, ![128, 1, 3, 3, 8, 64]⟩
abbrev S128x1x3x1x8x64 : Shape := ⟨6, ![128, 1, 3, 1, 8, 64]⟩
abbrev S128x1x3x2x8x64 : Shape := ⟨6, ![128, 1, 3, 2, 8, 64]⟩
abbrev S128x4608 : Shape := ⟨2, ![128, 4608]⟩

abbrev nBuf : Space → Nat
  | .hbm => 26
  | .vmem => 0
  | .smem => 0
  | _ => 0

abbrev bufTy : (tb : Table) → Fin (tcTables nBuf tb) → BufTy
  | .hbm, ⟨0, _⟩ => ⟨S128x1x2048, .f32⟩
  | .hbm, ⟨1, _⟩ => ⟨S128x1x12288, .f32⟩
  | .hbm, ⟨2, _⟩ => ⟨S2x2048x9984, .f32⟩
  | .hbm, ⟨3, _⟩ => ⟨S128x1x2048, .f32⟩
  | .hbm, ⟨4, _⟩ => ⟨S128x1x2048, .f32⟩
  | .hbm, ⟨5, _⟩ => ⟨S128x1x2048, .f32⟩
  | .hbm, ⟨6, _⟩ => ⟨S128x1x2048, .f32⟩
  | .hbm, ⟨7, _⟩ => ⟨S128x1x2048, .f32⟩
  | .hbm, ⟨8, _⟩ => ⟨S128x1x2048, .f32⟩
  | .hbm, ⟨9, _⟩ => ⟨S_, .f32⟩
  | .hbm, ⟨10, _⟩ => ⟨S128x1x2048, .f32⟩
  | .hbm, ⟨11, _⟩ => ⟨S128x1x2048, .f32⟩
  | .hbm, ⟨12, _⟩ => ⟨S128x1x2048, .f32⟩
  | .hbm, ⟨13, _⟩ => ⟨S128x1x2048, .f32⟩
  | .hbm, ⟨14, _⟩ => ⟨S1x2048x9984, .f32⟩
  | .hbm, ⟨15, _⟩ => ⟨S2048x9984, .f32⟩
  | .hbm, ⟨16, _⟩ => ⟨S128x1x9984, .f32⟩
  | .hbm, ⟨17, _⟩ => ⟨S128x1x4608, .f32⟩
  | .hbm, ⟨18, _⟩ => ⟨S128x1x3x3x8x64, .f32⟩
  | .hbm, ⟨19, _⟩ => ⟨S128x1x3x1x8x64, .f32⟩
  | .hbm, ⟨20, _⟩ => ⟨S_, .f32⟩
  | .hbm, ⟨21, _⟩ => ⟨S128x1x3x1x8x64, .f32⟩
  | .hbm, ⟨22, _⟩ => ⟨S128x1x3x1x8x64, .f32⟩
  | .hbm, ⟨23, _⟩ => ⟨S128x1x3x2x8x64, .f32⟩
  | .hbm, ⟨24, _⟩ => ⟨S128x1x3x3x8x64, .f32⟩
  | .hbm, ⟨25, _⟩ => ⟨S128x4608, .f32⟩
  | _, _ => ⟨S128x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== ProjBS.lean ====
abbrev S128x1x2048 : Shape := ⟨3, ![128, 1, 2048]⟩
abbrev S128x1x12288 : Shape := ⟨3, ![128, 1, 12288]⟩
abbrev S2x2048x9984 : Shape := ⟨3, ![2, 2048, 9984]⟩
abbrev S_ : Shape := ⟨0, ![]⟩
abbrev S128 : Shape := ⟨1, ![128]⟩
abbrev S32 : Shape := ⟨1, ![32]⟩
abbrev S128x1 : Shape := ⟨2, ![128, 1]⟩
abbrev S1x32 : Shape := ⟨2, ![1, 32]⟩
abbrev S128x32 : Shape := ⟨2, ![128, 32]⟩
abbrev S128x128 : Shape := ⟨2, ![128, 128]⟩
abbrev S128x2048 : Shape := ⟨2, ![128, 2048]⟩
abbrev S1x128x6x2048 : Shape := ⟨4, ![1, 128, 6, 2048]⟩
abbrev S6x1x128x2048 : Shape := ⟨4, ![6, 1, 128, 2048]⟩
abbrev S512 : Shape := ⟨1, ![512]⟩
abbrev S1024 : Shape := ⟨1, ![1024]⟩
abbrev S1536 : Shape := ⟨1, ![1536]⟩
abbrev S1x1536 : Shape := ⟨2, ![1, 1536]⟩
abbrev S3x1536 : Shape := ⟨2, ![3, 1536]⟩
abbrev S4608 : Shape := ⟨1, ![4608]⟩
abbrev S4352 : Shape := ⟨1, ![4352]⟩
abbrev S9984 : Shape := ⟨1, ![9984]⟩
abbrev S1x1x9984 : Shape := ⟨3, ![1, 1, 9984]⟩
abbrev S128x1024 : Shape := ⟨2, ![128, 1024]⟩
abbrev S128x256 : Shape := ⟨2, ![128, 256]⟩
abbrev S1x2048x1280 : Shape := ⟨3, ![1, 2048, 1280]⟩
abbrev S1x1x128x2048 : Shape := ⟨4, ![1, 1, 128, 2048]⟩
abbrev S2048x1280 : Shape := ⟨2, ![2048, 1280]⟩
abbrev S128x1280 : Shape := ⟨2, ![128, 1280]⟩

abbrev nBuf : Space → Nat
  | .hbm => 47
  | .vmem => 7
  | .smem => 0
  | _ => 0

abbrev bufTy : (tb : Table) → Fin (tcTables nBuf tb) → BufTy
  | .hbm, ⟨0, _⟩ => ⟨S128x1x2048, .f32⟩
  | .hbm, ⟨1, _⟩ => ⟨S128x1x12288, .f32⟩
  | .hbm, ⟨2, _⟩ => ⟨S2x2048x9984, .f32⟩
  | .hbm, ⟨3, _⟩ => ⟨S_, .i32⟩
  | .hbm, ⟨4, _⟩ => ⟨S128, .i32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S128, .f32⟩
  | .hbm, ⟨14, _⟩ => ⟨S128x1, .f32⟩
  | .hbm, ⟨15, _⟩ => ⟨S1x32, .f32⟩
  | .hbm, ⟨16, _⟩ => ⟨S128x32, .f32⟩
  | .hbm, ⟨17, _⟩ => ⟨S128x32, .f32⟩
  | .hbm, ⟨18, _⟩ => ⟨S128x32, .f32⟩
  | .hbm, ⟨19, _⟩ => ⟨S128x32, .f32⟩
  | .hbm, ⟨20, _⟩ => ⟨S128x32, .f32⟩
  | .hbm, ⟨21, _⟩ => ⟨S128x128, .f32⟩
  | .hbm, ⟨22, _⟩ => ⟨S128x32, .f32⟩
  | .hbm, ⟨23, _⟩ => ⟨S128x32, .f32⟩
  | .hbm, ⟨24, _⟩ => ⟨S128x128, .f32⟩
  | .hbm, ⟨25, _⟩ => ⟨S128x2048, .f32⟩
  | .hbm, ⟨26, _⟩ => ⟨S1x128x6x2048, .f32⟩
  | .hbm, ⟨27, _⟩ => ⟨S6x1x128x2048, .f32⟩
  | .hbm, ⟨28, _⟩ => ⟨S_, .f32⟩
  | .hbm, ⟨29, _⟩ => ⟨S512, .f32⟩
  | .hbm, ⟨30, _⟩ => ⟨S_, .f32⟩
  | .hbm, ⟨31, _⟩ => ⟨S1024, .f32⟩
  | .hbm, ⟨32, _⟩ => ⟨S1536, .f32⟩
  | .hbm, ⟨33, _⟩ => ⟨S1x1536, .f32⟩
  | .hbm, ⟨34, _⟩ => ⟨S3x1536, .f32⟩
  | .hbm, ⟨35, _⟩ => ⟨S4608, .f32⟩
  | .hbm, ⟨36, _⟩ => ⟨S_, .f32⟩
  | .hbm, ⟨37, _⟩ => ⟨S1024, .f32⟩
  | .hbm, ⟨38, _⟩ => ⟨S_, .f32⟩
  | .hbm, ⟨39, _⟩ => ⟨S4352, .f32⟩
  | .hbm, ⟨40, _⟩ => ⟨S9984, .f32⟩
  | .hbm, ⟨41, _⟩ => ⟨S1x1x9984, .f32⟩
  | .hbm, ⟨42, _⟩ => ⟨S2x2048x9984, .f32⟩
  | .hbm, ⟨43, _⟩ => ⟨S2x2048x9984, .f32⟩
  | .hbm, ⟨44, _⟩ => ⟨S2x2048x9984, .bf16⟩
  | .hbm, ⟨45, _⟩ => ⟨S128x1024, .bf16⟩
  | .hbm, ⟨46, _⟩ => ⟨S128x256, .f32⟩
  | .local _ .vmem, ⟨0, _⟩ => ⟨S128x2048, .f32⟩
  | .local _ .vmem, ⟨1, _⟩ => ⟨S6x1x128x2048, .f32⟩
  | .local _ .vmem, ⟨2, _⟩ => ⟨S1x2048x1280, .bf16⟩
  | .local _ .vmem, ⟨3, _⟩ => ⟨S128x128, .f32⟩
  | .local _ .vmem, ⟨4, _⟩ => ⟨S128x128, .f32⟩
  | .local _ .vmem, ⟨5, _⟩ => ⟨S128x1024, .bf16⟩
  | .local _ .vmem, ⟨6, _⟩ => ⟨S128x256, .f32⟩
  | _, _ => ⟨S128x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35_0 : Ref sig .tc := ⟨.hbm, 45, rfl⟩
abbrev main_v35_1 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c128_i32 : BitVec 32 := 128#32
  let v0 : BitVec 32 := Scalar.muli arg0 c128_i32
  let c128_i32_0 : BitVec 32 := 128#32
  let v1 : BitVec 32 := Scalar.divsi v0 c128_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c128_i32_0 c0_i32_2
  let v8 : BitVec 32 := Scalar.extui v7
  let c0_i32_3 : BitVec 32 := 0#32
  let v9 : BitVec 1 := Scalar.cmpi .slt c128_i32_0 c0_i32_3
  let v10 : BitVec 32 := Scalar.extui v9
  let v11 : BitVec 32 := Scalar.subi v8 v10
  let v12 : BitVec 1 := Scalar.cmpi .ne v6 v11
  let v13 : BitVec 32 := Scalar.remsi v0 c128_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  let c0_i32_8 : BitVec 32 := 0#32
  ![c0_i32_5.toNat, v17.toNat, c0_i32_6.toNat, c0_i32_7.toNat]

def cc0_transform_2 (i : grid0.Coords) : Fin 3 → Nat :=
  let arg0 : BitVec 32 := BitVec.ofNat 32 (i 0).val
  let c1_i32 : BitVec 32 := 1#32
  let c0_i32 : BitVec 32 := 0#32
  let c4608_i32 : BitVec 32 := 4608#32
  let c0_i32_0 : BitVec 32 := 0#32
  ![c1_i32.toNat, c0_i32.toNat, c4608_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x1x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ProjBSRefIdeal.lean ====
abbrev S128x1x2048 : Shape := ⟨3, ![128, 1, 2048]⟩
abbrev S128x1x12288 : Shape := ⟨3, ![128, 1, 12288]⟩
abbrev S2x2048x9984 : Shape := ⟨3, ![2, 2048, 9984]⟩
abbrev S_ : Shape := ⟨0, ![]⟩
abbrev S1x2048x9984 : Shape := ⟨3, ![1, 2048, 9984]⟩
abbrev S2048x9984 : Shape := ⟨2, ![2048, 9984]⟩
abbrev S128x1x9984 : Shape := ⟨3, ![128, 1, 9984]⟩
abbrev S128x1x1024 : Shape := ⟨3, ![128, 1, 1024]⟩
abbrev S128x1x2x8x64 : Shape := ⟨5, ![128, 1, 2, 8, 64]⟩
abbrev S128x1x128 : Shape := ⟨3, ![128, 1, 128]⟩
abbrev S128x1x2x64 : Shape := ⟨4, ![128, 1, 2, 64]⟩
abbrev S1 : Shape := ⟨1, ![1]⟩
abbrev S32 : Shape := ⟨1, ![32]⟩
abbrev S1x1 : Shape := ⟨2, ![1, 1]⟩
abbrev S1x32 : Shape := ⟨2, ![1, 32]⟩
abbrev S1x1x1x32 : Shape := ⟨4, ![1, 1, 1, 32]⟩
abbrev S128x1x2x8x32 : Shape := ⟨5, ![128, 1, 2, 8, 32]⟩
abbrev S1x1x1x1x32 : Shape := ⟨5, ![1, 1, 1, 1, 32]⟩
abbrev S1x1x32 : Shape := ⟨3, ![1, 1, 32]⟩
abbrev S128x1x2x32 : Shape := ⟨4, ![128, 1, 2, 32]⟩
abbrev S128x1024 : Shape := ⟨2, ![128, 1024]⟩
abbrev S128x128 : Shape := ⟨2, ![128, 128]⟩
abbrev S128x256 : Shape := ⟨2, ![128, 256]⟩

abbrev nBuf : Space → Nat
  | .hbm => 101
  | .vmem => 0
  | .smem => 0
  | _ => 0

abbrev bufTy : (tb : Table) → Fin (tcTables nBuf tb) → BufTy
  | .hbm, ⟨0, _⟩ => ⟨S128x1x2048, .f32⟩
  | .hbm, ⟨1, _⟩ => ⟨S128x1x12288, .f32⟩
  | .hbm, ⟨2, _⟩ => ⟨S2x2048x9984, .f32⟩
  | .hbm, ⟨3, _⟩ => ⟨S128x1x2048, .f32⟩
  | .hbm, ⟨4, _⟩ => ⟨S128x1x2048, .f32⟩
  | .hbm, ⟨5, _⟩ => ⟨S128x1x2048, .f32⟩
  | .hbm, ⟨6, _⟩ => ⟨S128x1x2048, .f32⟩
  | .hbm, ⟨7, _⟩ => ⟨S128x1x2048, .f32⟩
  | .hbm, ⟨8, _⟩ => ⟨S128x1x2048, .f32⟩
  | .hbm, ⟨9, _⟩ => ⟨S_, .f32⟩
  | .hbm, ⟨10, _⟩ => ⟨S128x1x2048, .f32⟩
  | .hbm, ⟨11, _⟩ => ⟨S128x1x2048, .f32⟩
  | .hbm, ⟨12, _⟩ => ⟨S128x1x2048, .f32⟩
  | .hbm, ⟨13, _⟩ => ⟨S128x1x2048, .f32⟩
  | .hbm, ⟨14, _⟩ => ⟨S1x2048x9984, .f32⟩
  | .hbm, ⟨15, _⟩ => ⟨S2048x9984, .f32⟩
  | .hbm, ⟨16, _⟩ => ⟨S128x1x9984, .f32⟩
  | .hbm, ⟨17, _⟩ => ⟨S128x1x1024, .f32⟩
  | .hbm, ⟨18, _⟩ => ⟨S128x1x2x8x64, .f32⟩
  | .hbm, ⟨19, _⟩ => ⟨S128x1x128, .f32⟩
  | .hbm, ⟨20, _⟩ => ⟨S128x1x2x64, .f32⟩
  | .hbm, ⟨21, _⟩ => ⟨S128x1x128, .f32⟩
  | .hbm, ⟨22, _⟩ => ⟨S128x1x2x64, .f32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S1, .i32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S1, .f32⟩
  | .hbm, ⟨36, _⟩ => ⟨S1x1, .f32⟩
  | .hbm, ⟨37, _⟩ => ⟨S1x32, .f32⟩
  | .hbm, ⟨38, _⟩ => ⟨S1x32, .f32⟩
  | .hbm, ⟨39, _⟩ => ⟨S1x32, .f32⟩
  | .hbm, ⟨40, _⟩ => ⟨S1x1x1x32, .f32⟩
  | .hbm, ⟨41, _⟩ => ⟨S1x1x1x32, .f32⟩
  | .hbm, ⟨42, _⟩ => ⟨S1x1x1x32, .f32⟩
  | .hbm, ⟨43, _⟩ => ⟨S128x1x2x8x32, .f32⟩
  | .hbm, ⟨44, _⟩ => ⟨S128x1x2x8x32, .f32⟩
  | .hbm, ⟨45, _⟩ => ⟨S1x1x1x1x32, .f32⟩
  | .hbm, ⟨46, _⟩ => ⟨S128x1x2x8x32, .f32⟩
  | .hbm, ⟨47, _⟩ => ⟨S128x1x2x8x32, .f32⟩
  | .hbm, ⟨48, _⟩ => ⟨S1x1x1x1x32, .f32⟩
  | .hbm, ⟨49, _⟩ => ⟨S128x1x2x8x32, .f32⟩
  | .hbm, ⟨50, _⟩ => ⟨S128x1x2x8x32, .f32⟩
  | .hbm, ⟨51, _⟩ => ⟨S128x1x2x8x32, .f32⟩
  | .hbm, ⟨52, _⟩ => ⟨S1x1x1x1x32, .f32⟩
  | .hbm, ⟨53, _⟩ => ⟨S128x1x2x8x32, .f32⟩
  | .hbm, ⟨54, _⟩ => ⟨S128x1x2x8x32, .f32⟩
  | .hbm, ⟨55, _⟩ => ⟨S1x1x1x1x32, .f32⟩
  | .hbm, ⟨56, _⟩ => ⟨S128x1x2x8x32, .f32⟩
  | .hbm, ⟨57, _⟩ => ⟨S128x1x2x8x32, .f32⟩
  | .hbm, ⟨58, _⟩ => ⟨S128x1x2x8x32, .f32⟩
  | .hbm, ⟨59, _⟩ => ⟨S128x1x2x8x64, .f32⟩
  | .hbm, ⟨60, _⟩ => ⟨S32, .f32⟩
  | .hbm, ⟨61, _⟩ => ⟨S32, .f32⟩
  | .hbm, ⟨62, _⟩ => ⟨S_, .f32⟩
  | .hbm, ⟨63, _⟩ => ⟨S32, .f32⟩
  | .hbm, ⟨64, _⟩ => ⟨S32, .f32⟩
  | .hbm, ⟨65, _⟩ => ⟨S_, .f32⟩
  | .hbm, ⟨66, _⟩ => ⟨S32, .f32⟩
  | .hbm, ⟨67, _⟩ => ⟨S32, .f32⟩
  | .hbm, ⟨68, _⟩ => ⟨S1, .f32⟩
  | .hbm, ⟨69, _⟩ => ⟨S1x1, .f32⟩
  | .hbm, ⟨70, _⟩ => ⟨S1x32, .f32⟩
  | .hbm, ⟨71, _⟩ => ⟨S1x32, .f32⟩
  | .hbm, ⟨72, _⟩ => ⟨S1x32, .f32⟩
  | .hbm, ⟨73, _⟩ => ⟨S1x1x32, .f32⟩
  | .hbm, ⟨74, _⟩ => ⟨S1x1x32, .f32⟩
  | .hbm, ⟨75, _⟩ => ⟨S1x1x32, .f32⟩
  | .hbm, ⟨76, _⟩ => ⟨S128x1x2x32, .f32⟩
  | .hbm, ⟨77, _⟩ => ⟨S128x1x2x32, .f32⟩
  | .hbm, ⟨78, _⟩ => ⟨S1x1x1x32, .f32⟩
  | .hbm, ⟨79, _⟩ => ⟨S128x1x2x32, .f32⟩
  | .hbm, ⟨80, _⟩ => ⟨S128x1x2x32, .f32⟩
  | .hbm, ⟨81, _⟩ => ⟨S1x1x1x32, .f32⟩
  | .hbm, ⟨82, _⟩ => ⟨S128x1x2x32, .f32⟩
  | .hbm, ⟨83, _⟩ => ⟨S128x1x2x32, .f32⟩
  | .hbm, ⟨84, _⟩ => ⟨S128x1x2x32, .f32⟩
  | .hbm, ⟨85, _⟩ => ⟨S1x1x1x32, .f32⟩
  | .hbm, ⟨86, _⟩ => ⟨S128x1x2x32, .f32⟩
  | .hbm, ⟨87, _⟩ => ⟨S128x1x2x32, .f32⟩
  | .hbm, ⟨88, _⟩ => ⟨S1x1x1x32, .f32⟩
  | .hbm, ⟨89, _⟩ => ⟨S128x1x2x32, .f32⟩
  | .hbm, ⟨90, _⟩ => ⟨S128x1x2x32, .f32⟩
  | .hbm, ⟨91, _⟩ => ⟨S128x1x2x32, .f32⟩
  | .hbm, ⟨92, _⟩ => ⟨S128x1x2x64, .f32⟩
  | .hbm, ⟨93, _⟩ => ⟨S_, .f32⟩
  | .hbm, ⟨94, _⟩ => ⟨S128x1x2x8x64, .f32⟩
  | .hbm, ⟨95, _⟩ => ⟨S128x1x2x8x64, .f32⟩
  | .hbm, ⟨96, _⟩ => ⟨S128x1024, .f32⟩
  | .hbm, ⟨97, _⟩ => ⟨S128x1024, .bf16⟩
  | .hbm, ⟨98, _⟩ => ⟨S128x128, .f32⟩
  | .hbm, ⟨99, _⟩ => ⟨S128x128, .f32⟩
  | .hbm, ⟨100, _⟩ => ⟨S128x256, .f32⟩
  | _, _ => ⟨S128x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_c : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_v24 : Ref sig .tc := ⟨.hbm, 30, rfl⟩
abbrev main_v25 : Ref sig .tc := ⟨.hbm, 31, rfl⟩
abbrev main_cst_1 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_cst_2 : Ref sig .tc := ⟨.hbm, 62, rfl⟩
abbrev main_v55 : Ref sig .tc := ⟨.hbm, 63, rfl⟩
abbrev main_v56 : Ref sig .tc := ⟨.hbm, 64, rfl⟩
abbrev main_cst_3 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_cst_4 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩

abbrev nD : Nat := 1
abbrev τ : Topo := Topo.v7x

variable {F : FTy → Type} [FloatOps F]
-- ==== GatesS.lean ====
abbrev S128x1x2048 : Shape := ⟨3, ![128, 1, 2048]⟩
abbrev S128x1x12288 : Shape := ⟨3, ![128, 1, 12288]⟩
abbrev S2x2048x9984 : Shape := ⟨3, ![2, 2048, 9984]⟩
abbrev S128x2048 : Shape := ⟨2, ![128, 2048]⟩
abbrev S1x128x6x2048 : Shape := ⟨4, ![1, 128, 6, 2048]⟩
abbrev S6x1x128x2048 : Shape := ⟨4, ![6, 1, 128, 2048]⟩
abbrev S_ : Shape := ⟨0, ![]⟩
abbrev S512 : Shape := ⟨1, ![512]⟩
abbrev S1024 : Shape := ⟨1, ![1024]⟩
abbrev S1536 : Shape := ⟨1, ![1536]⟩
abbrev S1x1536 : Shape := ⟨2, ![1, 1536]⟩
abbrev S3x1536 : Shape := ⟨2, ![3, 1536]⟩
abbrev S4608 : Shape := ⟨1, ![4608]⟩
abbrev S4352 : Shape := ⟨1, ![4352]⟩
abbrev S9984 : Shape := ⟨1, ![9984]⟩
abbrev S1x1x9984 : Shape := ⟨3, ![1, 1, 9984]⟩
abbrev S128x4096 : Shape := ⟨2, ![128, 4096]⟩
abbrev S1x2048x2048 : Shape := ⟨3, ![1, 2048, 2048]⟩
abbrev S1x1x128x2048 : Shape := ⟨4, ![1, 1, 128, 2048]⟩
abbrev S2048x2048 : Shape := ⟨2, ![2048, 2048]⟩

abbrev nBuf : Space → Nat
  | .hbm => 24
  | .vmem => 7
  | .smem => 0
  | _ => 0

abbrev bufTy : (tb : Table) → Fin (tcTables nBuf tb) → BufTy
  | .hbm, ⟨0, _⟩ => ⟨S128x1x2048, .f32⟩
  | .hbm, ⟨1, _⟩ => ⟨S128x1x12288, .f32⟩
  | .hbm, ⟨2, _⟩ => ⟨S2x2048x9984, .f32⟩
  | .hbm, ⟨3, _⟩ => ⟨S128x2048, .f32⟩
  | .hbm, ⟨4, _⟩ => ⟨S1x128x6x2048, .f32⟩
  | .hbm, ⟨5, _⟩ => ⟨S6x1x128x2048, .f32⟩
  | .hbm, ⟨6, _⟩ => ⟨S_, .f32⟩
  | .hbm, ⟨7, _⟩ => ⟨S512, .f32⟩
  | .hbm, ⟨8, _⟩ => ⟨S_, .f32⟩
  | .hbm, ⟨9, _⟩ => ⟨S1024, .f32⟩
  | .hbm, ⟨10, _⟩ => ⟨S1536, .f32⟩
  | .hbm, ⟨11, _⟩ => ⟨S1x1536, .f32⟩
  | .hbm, ⟨12, _⟩ => ⟨S3x1536, .f32⟩
  | .hbm, ⟨13, _⟩ => ⟨S4608, .f32⟩
  | .hbm, ⟨14, _⟩ => ⟨S_, .f32⟩
  | .hbm, ⟨15, _⟩ => ⟨S1024, .f32⟩
  | .hbm, ⟨16, _⟩ => ⟨S_, .f32⟩
  | .hbm, ⟨17, _⟩ => ⟨S4352, .f32⟩
  | .hbm, ⟨18, _⟩ => ⟨S9984, .f32⟩
  | .hbm, ⟨19, _⟩ => ⟨S1x1x9984, .f32⟩
  | .hbm, ⟨20, _⟩ => ⟨S2x2048x9984, .f32⟩
  | .hbm, ⟨21, _⟩ => ⟨S2x2048x9984, .f32⟩
  | .hbm, ⟨22, _⟩ => ⟨S2x2048x9984, .bf16⟩
  | .hbm, ⟨23, _⟩ => ⟨S128x4096, .bf16⟩
  | .local _ .vmem, ⟨0, _⟩ => ⟨S128x2048, .f32⟩
  | .local _ .vmem, ⟨1, _⟩ => ⟨S6x1x128x2048, .f32⟩
  | .local _ .vmem, ⟨2, _⟩ => ⟨S1x2048x2048, .bf16⟩
  | .local _ .vmem, ⟨3, _⟩ => ⟨S1x2048x2048, .bf16⟩
  | .local _ .vmem, ⟨4, _⟩ => ⟨S128x2048, .bf16⟩
  | .local _ .vmem, ⟨5, _⟩ => ⟨S128x2048, .bf16⟩
  | .local _ .vmem, ⟨6, _⟩ => ⟨S128x2048, .bf16⟩
  | _, _ => ⟨S128x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 2], ![false, false]⟩

def k0_mult1 (i : grid0.Coords) : BitVec 32 :=
  let c5888_i32 : BitVec 32 := 5888#32
  let arg1 : BitVec 32 := BitVec.ofNat 32 (i 1).val
  let c2048_i32 : BitVec 32 := 2048#32
  let v0 : BitVec 32 := Scalar.muli arg1 c2048_i32
  let v1 : BitVec 32 := Scalar.addi c5888_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c128_i32_0 : BitVec 32 := 128#32
  let v1 : BitVec 32 := Scalar.divsi v0 c128_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c128_i32_0 c0_i32_2
  let v8 : BitVec 32 := Scalar.extui v7
  let c0_i32_3 : BitVec 32 := 0#32
  let v9 : BitVec 1 := Scalar.cmpi .slt c128_i32_0 c0_i32_3
  let v10 : BitVec 32 := Scalar.extui v9
  let v11 : BitVec 32 := Scalar.subi v8 v10
  let v12 : BitVec 1 := Scalar.cmpi .ne v6 v11
  let v13 : BitVec 32 := Scalar.remsi v0 c128_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  let c0_i32_8 : BitVec 32 := 0#32
  ![c0_i32_5.toNat, v17.toNat, c0_i32_6.toNat, c0_i32_7.toNat]

def cc0_transform_2 (i : grid0.Coords) : Fin 3 → Nat :=
  let arg0 : BitVec 32 := BitVec.ofNat 32 (i 0).val
  let arg1 : BitVec 32 := BitVec.ofNat 32 (i 1).val
  let c2048_i32 : BitVec 32 := 2048#32
  let v0 : BitVec 32 := Scalar.muli arg1 c2048_i32
  let c5888_i32 : BitVec 32 := 5888#32
  let v1 : BitVec 32 := Scalar.addi c5888_i32 v0
  let v2 : BitVec 32 := v1
  let c1_i32 : BitVec 32 := 1#32
  let c0_i32 : BitVec 32 := 0#32
  let c0_i32_0 : BitVec 32 := 0#32
  ![c1_i32.toNat, c0_i32.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S6x1x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GatesSRefIdeal.lean ====
abbrev S128x1x2048 : Shape := ⟨3, ![128, 1, 2048]⟩
abbrev S128x1x12288 : Shape := ⟨3, ![128, 1, 12288]⟩
abbrev S2x2048x9984 : Shape := ⟨3, ![2, 2048, 9984]⟩
abbrev S_ : Shape := ⟨0, ![]⟩
abbrev S1x2048x9984 : Shape := ⟨3, ![1, 2048, 9984]⟩
abbrev S2048x9984 : Shape := ⟨2, ![2048, 9984]⟩
abbrev S128x1x9984 : Shape := ⟨3, ![128, 1, 9984]⟩
abbrev S128x1x4096 : Shape := ⟨3, ![128, 1, 4096]⟩
abbrev S128x4096 : Shape := ⟨2, ![128, 4096]⟩

abbrev nBuf : Space → Nat
  | .hbm => 28
  | .vmem => 0
  | .smem => 0
  | _ => 0

abbrev bufTy : (tb : Table) → Fin (tcTables nBuf tb) → BufTy
  | .hbm, ⟨0, _⟩ => ⟨S128x1x2048, .f32⟩
  | .hbm, ⟨1, _⟩ => ⟨S128x1x12288, .f32⟩
  | .hbm, ⟨2, _⟩ => ⟨S2x2048x9984, .f32⟩
  | .hbm, ⟨3, _⟩ => ⟨S128x1x2048, .f32⟩
  | .hbm, ⟨4, _⟩ => ⟨S128x1x2048, .f32⟩
  | .hbm, ⟨5, _⟩ => ⟨S128x1x2048, .f32⟩
  | .hbm, ⟨6, _⟩ => ⟨S128x1x2048, .f32⟩
  | .hbm, ⟨7, _⟩ => ⟨S128x1x2048, .f32⟩
  | .hbm, ⟨8, _⟩ => ⟨S128x1x2048, .f32⟩
  | .hbm, ⟨9, _⟩ => ⟨S_, .f32⟩
  | .hbm, ⟨10, _⟩ => ⟨S128x1x2048, .f32⟩
  | .hbm, ⟨11, _⟩ => ⟨S128x1x2048, .f32⟩
  | .hbm, ⟨12, _⟩ => ⟨S128x1x2048, .f32⟩
  | .hbm, ⟨13, _⟩ => ⟨S128x1x2048, .f32⟩
  | .hbm, ⟨14, _⟩ => ⟨S1x2048x9984, .f32⟩
  | .hbm, ⟨15, _⟩ => ⟨S2048x9984, .f32⟩
  | .hbm, ⟨16, _⟩ => ⟨S128x1x9984, .f32⟩
  | .hbm, ⟨17, _⟩ => ⟨S128x1x4096, .f32⟩
  | .hbm, ⟨18, _⟩ => ⟨S128x1x4096, .f32⟩
  | .hbm, ⟨19, _⟩ => ⟨S128x1x4096, .f32⟩
  | .hbm, ⟨20, _⟩ => ⟨S_, .f32⟩
  | .hbm, ⟨21, _⟩ => ⟨S128x1x4096, .f32⟩
  | .hbm, ⟨22, _⟩ => ⟨S128x1x4096, .f32⟩
  | .hbm, ⟨23, _⟩ => ⟨S_, .f32⟩
  | .hbm, ⟨24, _⟩ => ⟨S128x1x4096, .f32⟩
  | .hbm, ⟨25, _⟩ => ⟨S128x1x4096, .f32⟩
  | .hbm, ⟨26, _⟩ => ⟨S128x4096, .f32⟩
  | .hbm, ⟨27, _⟩ => ⟨S128x4096, .bf16⟩
  | _, _ => ⟨S128x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== PostS.lean ====
abbrev S128x1x8x64 : Shape := ⟨4, ![128, 1, 8, 64]⟩
abbrev S128x1x2x8x64 : Shape := ⟨5, ![128, 1, 2, 8, 64]⟩
abbrev S128x1x4096 : Shape := ⟨3, ![128, 1, 4096]⟩
abbrev S128x1x2048 : Shape := ⟨3, ![128, 1, 2048]⟩
abbrev S128x1x12288 : Shape := ⟨3, ![128, 1, 12288]⟩
abbrev S2x512x2048 : Shape := ⟨3, ![2, 512, 2048]⟩
abbrev S2x1024x2048 : Shape := ⟨3, ![2, 1024, 2048]⟩
abbrev S2x2048x2048 : Shape := ⟨3, ![2, 2048, 2048]⟩
abbrev S2x2x2048 : Shape := ⟨3, ![2, 2, 2048]⟩
abbrev S128x512 : Shape := ⟨2, ![128, 512]⟩
abbrev S128x1024 : Shape := ⟨2, ![128, 1024]⟩
abbrev S128x4096 : Shape := ⟨2, ![128, 4096]⟩
abbrev S128x2048 : Shape := ⟨2, ![128, 2048]⟩
abbrev S1x128x6x2048 : Shape := ⟨4, ![1, 128, 6, 2048]⟩
abbrev S6x1x128x2048 : Shape := ⟨4, ![6, 1, 128, 2048]⟩
abbrev S1x512x2048 : Shape := ⟨3, ![1, 512, 2048]⟩
abbrev S1x1024x2048 : Shape := ⟨3, ![1, 1024, 2048]⟩
abbrev S1x2048x2048 : Shape := ⟨3, ![1, 2048, 2048]⟩
abbrev S1x2x2048 : Shape := ⟨3, ![1, 2, 2048]⟩
abbrev S512x2048 : Shape := ⟨2, ![512, 2048]⟩
abbrev S1024x2048 : Shape := ⟨2, ![1024, 2048]⟩
abbrev S2048x2048 : Shape := ⟨2, ![2048, 2048]⟩
abbrev S1x1x128x2048 : Shape := ⟨4, ![1, 1, 128, 2048]⟩
abbrev S1x1x2048 : Shape := ⟨3, ![1, 1, 2048]⟩
abbrev S1x2048 : Shape := ⟨2, ![1, 2048]⟩
abbrev S128 : Shape := ⟨1, ![128]⟩
abbrev S128x1 : Shape := ⟨2, ![128, 1]⟩

abbrev nBuf : Space → Nat
  | .hbm => 23
  | .vmem => 11
  | .smem => 0
  | _ => 0

abbrev bufTy : (tb : Table) → Fin (tcTables nBuf tb) → BufTy
  | .hbm, ⟨0, _⟩ => ⟨S128x1x8x64, .f32⟩
  | .hbm, ⟨1, _⟩ => ⟨S128x1x2x8x64, .f32⟩
  | .hbm, ⟨2, _⟩ => ⟨S128x1x4096, .f32⟩
  | .hbm, ⟨3, _⟩ => ⟨S128x1x2048, .f32⟩
  | .hbm, ⟨4, _⟩ => ⟨S128x1x12288, .f32⟩
  | .hbm, ⟨5, _⟩ => ⟨S2x512x2048, .f32⟩
  | .hbm, ⟨6, _⟩ => ⟨S2x1024x2048, .f32⟩
  | .hbm, ⟨7, _⟩ => ⟨S2x2048x2048, .f32⟩
  | .hbm, ⟨8, _⟩ => ⟨S2x2x2048, .f32⟩
  | .hbm, ⟨9, _⟩ => ⟨S2x2x2048, .f32⟩
  | .hbm, ⟨10, _⟩ => ⟨S128x512, .f32⟩
  | .hbm, ⟨11, _⟩ => ⟨S128x512, .bf16⟩
  | .hbm, ⟨12, _⟩ => ⟨S128x1024, .f32⟩
  | .hbm, ⟨13, _⟩ => ⟨S128x1024, .bf16⟩
  | .hbm, ⟨14, _⟩ => ⟨S128x4096, .f32⟩
  | .hbm, ⟨15, _⟩ => ⟨S128x4096, .bf16⟩
  | .hbm, ⟨16, _⟩ => ⟨S128x2048, .f32⟩
  | .hbm, ⟨17, _⟩ => ⟨S1x128x6x2048, .f32⟩
  | .hbm, ⟨18, _⟩ => ⟨S6x1x128x2048, .f32⟩
  | .hbm, ⟨19, _⟩ => ⟨S2x512x2048, .bf16⟩
  | .hbm, ⟨20, _⟩ => ⟨S2x1024x2048, .bf16⟩
  | .hbm, ⟨21, _⟩ => ⟨S2x2048x2048, .bf16⟩
  | .hbm, ⟨22, _⟩ => ⟨S128x2048, .f32⟩
  | .local _ .vmem, ⟨0, _⟩ => ⟨S128x512, .bf16⟩
  | .local _ .vmem, ⟨1, _⟩ => ⟨S128x1024, .bf16⟩
  | .local _ .vmem, ⟨2, _⟩ => ⟨S128x4096, .bf16⟩
  | .local _ .vmem, ⟨3, _⟩ => ⟨S128x2048, .f32⟩
  | .local _ .vmem, ⟨4, _⟩ => ⟨S6x1x128x2048, .f32⟩
  | .local _ .vmem, ⟨5, _⟩ => ⟨S1x512x2048, .bf16⟩
  | .local _ .vmem, ⟨6, _⟩ => ⟨S1x1024x2048, .bf16⟩
  | .local _ .vmem, ⟨7, _⟩ => ⟨S1x2048x2048, .bf16⟩
  | .local _ .vmem, ⟨8, _⟩ => ⟨S1x2x2048, .f32⟩
  | .local _ .vmem, ⟨9, _⟩ => ⟨S1x2x2048, .f32⟩
  | .local _ .vmem, ⟨10, _⟩ => ⟨S128x2048, .f32⟩
  | _, _ => ⟨S128x1x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c128_i32 : BitVec 32 := 128#32
  let v0 : BitVec 32 := Scalar.muli arg0 c128_i32
  let c128_i32_0 : BitVec 32 := 128#32
  let v1 : BitVec 32 := Scalar.divsi v0 c128_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c128_i32_0 c0_i32_2
  let v8 : BitVec 32 := Scalar.extui v7
  let c0_i32_3 : BitVec 32 := 0#32
  let v9 : BitVec 1 := Scalar.cmpi .slt c128_i32_0 c0_i32_3
  let v10 : BitVec 32 := Scalar.extui v9
  let v11 : BitVec 32 := Scalar.subi v8 v10
  let v12 : BitVec 1 := Scalar.cmpi .ne v6 v11
  let v13 : BitVec 32 := Scalar.remsi v0 c128_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  let c0_i32_8 : BitVec 32 := 0#32
  ![c0_i32_5.toNat, v17.toNat, c0_i32_6.toNat, c0_i32_7.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x1x128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== PostSRefIdeal.lean ====
abbrev S128x1x8x64 : Shape := ⟨4, ![128, 1, 8, 64]⟩
abbrev S128x1x2x8x64 : Shape := ⟨5, ![128, 1, 2, 8, 64]⟩
abbrev S128x1x4096 : Shape := ⟨3, ![128, 1, 4096]⟩
abbrev S128x1x2048 : Shape := ⟨3, ![128, 1, 2048]⟩
abbrev S128x1x12288 : Shape := ⟨3, ![128, 1, 12288]⟩
abbrev S2x512x2048 : Shape := ⟨3, ![2, 512, 2048]⟩
abbrev S2x1024x2048 : Shape := ⟨3, ![2, 1024, 2048]⟩
abbrev S2x2048x2048 : Shape := ⟨3, ![2, 2048, 2048]⟩
abbrev S2x2x2048 : Shape := ⟨3, ![2, 2, 2048]⟩
abbrev S128x1x512 : Shape := ⟨3, ![128, 1, 512]⟩
abbrev S1x512x2048 : Shape := ⟨3, ![1, 512, 2048]⟩
abbrev S512x2048 : Shape := ⟨2, ![512, 2048]⟩
abbrev S128x1x1024 : Shape := ⟨3, ![128, 1, 1024]⟩
abbrev S1x1024x2048 : Shape := ⟨3, ![1, 1024, 2048]⟩
abbrev S1024x2048 : Shape := ⟨2, ![1024, 2048]⟩
abbrev S1x2048x2048 : Shape := ⟨3, ![1, 2048, 2048]⟩
abbrev S2048x2048 : Shape := ⟨2, ![2048, 2048]⟩
abbrev S_ : Shape := ⟨0, ![]⟩
abbrev S1x2x2048 : Shape := ⟨3, ![1, 2, 2048]⟩
abbrev S2x2048 : Shape := ⟨2, ![2, 2048]⟩
abbrev S1x2048 : Shape := ⟨2, ![1, 2048]⟩
abbrev S2048 : Shape := ⟨1, ![2048]⟩
abbrev S128x1 : Shape := ⟨2, ![128, 1]⟩
abbrev S128x1x1 : Shape := ⟨3, ![128, 1, 1]⟩
abbrev S1x1x2048 : Shape := ⟨3, ![1, 1, 2048]⟩
abbrev S128x2048 : Shape := ⟨2, ![128, 2048]⟩

abbrev nBuf : Space → Nat
  | .hbm => 75
  | .vmem => 0
  | .smem => 0
  | _ => 0

abbrev bufTy : (tb : Table) → Fin (tcTables nBuf tb) → BufTy
  | .hbm, ⟨0, _⟩ => ⟨S128x1x8x64, .f32⟩
  | .hbm, ⟨1, _⟩ => ⟨S128x1x2x8x64, .f32⟩
  | .hbm, ⟨2, _⟩ => ⟨S128x1x4096, .f32⟩
  | .hbm, ⟨3, _⟩ => ⟨S128x1x2048, .f32⟩
  | .hbm, ⟨4, _⟩ => ⟨S128x1x12288, .f32⟩
  | .hbm, ⟨5, _⟩ => ⟨S2x512x2048, .f32⟩
  | .hbm, ⟨6, _⟩ => ⟨S2x1024x2048, .f32⟩
  | .hbm, ⟨7, _⟩ => ⟨S2x2048x2048, .f32⟩
  | .hbm, ⟨8, _⟩ => ⟨S2x2x2048, .f32⟩
  | .hbm, ⟨9, _⟩ => ⟨S2x2x2048, .f32⟩
  | .hbm, ⟨10, _⟩ => ⟨S128x1x2048, .f32⟩
  | .hbm, ⟨11, _⟩ => ⟨S128x1x2048, .f32⟩
  | .hbm, ⟨12, _⟩ => ⟨S128x1x2048, .f32⟩
  | .hbm, ⟨13, _⟩ => ⟨S128x1x2048, .f32⟩
  | .hbm, ⟨14, _⟩ => ⟨S128x1x2048, .f32⟩
  | .hbm, ⟨15, _⟩ => ⟨S128x1x2048, .f32⟩
  | .hbm, ⟨16, _⟩ => ⟨S128x1x512, .f32⟩
  | .hbm, ⟨17, _⟩ => ⟨S1x512x2048, .f32⟩
  | .hbm, ⟨18, _⟩ => ⟨S512x2048, .f32⟩
  | .hbm, ⟨19, _⟩ => ⟨S128x1x2048, .f32⟩
  | .hbm, ⟨20, _⟩ => ⟨S128x1x1024, .f32⟩
  | .hbm, ⟨21, _⟩ => ⟨S1x1024x2048, .f32⟩
  | .hbm, ⟨22, _⟩ => ⟨S1024x2048, .f32⟩
  | .hbm, ⟨23, _⟩ => ⟨S128x1x2048, .f32⟩
  | .hbm, ⟨24, _⟩ => ⟨S128x1x2048, .f32⟩
  | .hbm, ⟨25, _⟩ => ⟨S128x1x2048, .f32⟩
  | .hbm, ⟨26, _⟩ => ⟨S128x1x2048, .f32⟩
  | .hbm, ⟨27, _⟩ => ⟨S128x1x2048, .f32⟩
  | .hbm, ⟨28, _⟩ => ⟨S128x1x2048, .f32⟩
  | .hbm, ⟨29, _⟩ => ⟨S1x2048x2048, .f32⟩
  | .hbm, ⟨30, _⟩ => ⟨S2048x2048, .f32⟩
  | .hbm, ⟨31, _⟩ => ⟨S128x1x2048, .f32⟩
  | .hbm, ⟨32, _⟩ => ⟨S_, .f32⟩
  | .hbm, ⟨33, _⟩ => ⟨S128x1x2048, .f32⟩
  | .hbm, ⟨34, _⟩ => ⟨S128x1x2048, .f32⟩
  | .hbm, ⟨35, _⟩ => ⟨S128x1x2048, .f32⟩
  | .hbm, ⟨36, _⟩ => ⟨S128x1x2048, .f32⟩
  | .hbm, ⟨37, _⟩ => ⟨S1x2x2048, .f32⟩
  | .hbm, ⟨38, _⟩ => ⟨S2x2048, .f32⟩
  | .hbm, ⟨39, _⟩ => ⟨S1x2048, .f32⟩
  | .hbm, ⟨40, _⟩ => ⟨S2048, .f32⟩
  | .hbm, ⟨41, _⟩ => ⟨S1x2x2048, .f32⟩
  | .hbm, ⟨42, _⟩ => ⟨S2x2048, .f32⟩
  | .hbm, ⟨43, _⟩ => ⟨S1x2048, .f32⟩
  | .hbm, ⟨44, _⟩ => ⟨S2048, .f32⟩
  | .hbm, ⟨45, _⟩ => ⟨S_, .f32⟩
  | .hbm, ⟨46, _⟩ => ⟨S128x1, .f32⟩
  | .hbm, ⟨47, _⟩ => ⟨S128x1x1, .f32⟩
  | .hbm, ⟨48, _⟩ => ⟨S_, .f32⟩
  | .hbm, ⟨49, _⟩ => ⟨S128x1x1, .f32⟩
  | .hbm, ⟨50, _⟩ => ⟨S128x1x1, .f32⟩
  | .hbm, ⟨51, _⟩ => ⟨S128x1x2048, .f32⟩
  | .hbm, ⟨52, _⟩ => ⟨S128x1x2048, .f32⟩
  | .hbm, ⟨53, _⟩ => ⟨S128x1x2048, .f32⟩
  | .hbm, ⟨54, _⟩ => ⟨S_, .f32⟩
  | .hbm, ⟨55, _⟩ => ⟨S128x1, .f32⟩
  | .hbm, ⟨56, _⟩ => ⟨S128x1x1, .f32⟩
  | .hbm, ⟨57, _⟩ => ⟨S_, .f32⟩
  | .hbm, ⟨58, _⟩ => ⟨S128x1x1, .f32⟩
  | .hbm, ⟨59, _⟩ => ⟨S128x1x1, .f32⟩
  | .hbm, ⟨60, _⟩ => ⟨S128x1x2048, .f32⟩
  | .hbm, ⟨61, _⟩ => ⟨S128x1x2048, .f32⟩
  | .hbm, ⟨62, _⟩ => ⟨S_, .f32⟩
  | .hbm, ⟨63, _⟩ => ⟨S128x1x1, .f32⟩
  | .hbm, ⟨64, _⟩ => ⟨S128x1x1, .f32⟩
  | .hbm, ⟨65, _⟩ => ⟨S128x1x1, .f32⟩
  | .hbm, ⟨66, _⟩ => ⟨S128x1x2048, .f32⟩
  | .hbm, ⟨67, _⟩ => ⟨S128x1x2048, .f32⟩
  | .hbm, ⟨68, _⟩ => ⟨S1x1x2048, .f32⟩
  | .hbm, ⟨69, _⟩ => ⟨S128x1x2048, .f32⟩
  | .hbm, ⟨70, _⟩ => ⟨S128x1x2048, .f32⟩
  | .hbm, ⟨71, _⟩ => ⟨S1x1x2048, .f32⟩
  | .hbm, ⟨72, _⟩ => ⟨S128x1x2048, .f32⟩
  | .hbm, ⟨73, _⟩ => ⟨S128x1x2048, .f32⟩
  | .hbm, ⟨74, _⟩ => ⟨S128x2048, .f32⟩
  | _, _ => ⟨S128x1x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_0 : Ref sig .tc := ⟨.hbm, 45, rfl⟩
abbrev main_v34 : Ref sig .tc := ⟨.hbm, 46, rfl⟩
abbrev main_v35 : Ref sig .tc := ⟨.hbm, 47, rfl⟩
abbrev main_cst_1 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_2 : Ref sig .tc := ⟨.hbm, 54, rfl⟩
abbrev main_v41 : Ref sig .tc := ⟨.hbm, 55, rfl⟩
abbrev main_v42 : Ref sig .tc := ⟨.hbm, 56, rfl⟩
abbrev main_cst_3 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_4 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩

abbrev nD : Nat := 1
abbrev τ : Topo := Topo.v7x

variable {F : FTy → Type} [FloatOps F]
-- ==== Adaln.lean ====
abbrev S8x2048 : Shape := ⟨2, ![8, 2048]⟩
abbrev S128x2048 : Shape := ⟨2, ![128, 2048]⟩
abbrev S2x2048x12288 : Shape := ⟨3, ![2, 2048, 12288]⟩
abbrev S2x12288 : Shape := ⟨2, ![2, 12288]⟩
abbrev S136x2048 : Shape := ⟨2, ![136, 2048]⟩
abbrev S2x1x12288 : Shape := ⟨3, ![2, 1, 12288]⟩
abbrev S2x136x12288 : Shape := ⟨3, ![2, 136, 12288]⟩
abbrev S1x2048x1024 : Shape := ⟨3, ![1, 2048, 1024]⟩
abbrev S1x1x1024 : Shape := ⟨3, ![1, 1, 1024]⟩
abbrev S1x136x1024 : Shape := ⟨3, ![1, 136, 1024]⟩
abbrev S2048x1024 : Shape := ⟨2, ![2048, 1024]⟩
abbrev S136x1024 : Shape := ⟨2, ![136, 1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S128x2048, .f32⟩
  | .hbm, ⟨2, _⟩ => ⟨S2x2048x12288, .f32⟩
  | .hbm, ⟨3, _⟩ => ⟨S2x12288, .f32⟩
  | .hbm, ⟨4, _⟩ => ⟨S136x2048, .f32⟩
  | .hbm, ⟨5, _⟩ => ⟨S2x1x12288, .f32⟩
  | .hbm, ⟨6, _⟩ => ⟨S2x136x12288, .f32⟩
  | .local _ .vmem, ⟨0, _⟩ => ⟨S136x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x136x1024, .f32⟩
  | .local _ .vmem, ⟨6, _⟩ => ⟨S1x136x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S136x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x136x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdalnRefIdeal.lean ====
abbrev S8x2048 : Shape := ⟨2, ![8, 2048]⟩
abbrev S128x2048 : Shape := ⟨2, ![128, 2048]⟩
abbrev S2x2048x12288 : Shape := ⟨3, ![2, 2048, 12288]⟩
abbrev S2x12288 : Shape := ⟨2, ![2, 12288]⟩
abbrev S_ : Shape := ⟨0, ![]⟩
abbrev S1x2048x12288 : Shape := ⟨3, ![1, 2048, 12288]⟩
abbrev S2048x12288 : Shape := ⟨2, ![2048, 12288]⟩
abbrev S8x12288 : Shape := ⟨2, ![8, 12288]⟩
abbrev S1x12288 : Shape := ⟨2, ![1, 12288]⟩
abbrev S12288 : Shape := ⟨1, ![12288]⟩
abbrev S1x8x12288 : Shape := ⟨3, ![1, 8, 12288]⟩
abbrev S2x8x12288 : Shape := ⟨3, ![2, 8, 12288]⟩
abbrev S128x12288 : Shape := ⟨2, ![128, 12288]⟩
abbrev S1x128x12288 : Shape := ⟨3, ![1, 128, 12288]⟩
abbrev S2x128x12288 : Shape := ⟨3, ![2, 128, 12288]⟩
abbrev S2x136x12288 : Shape := ⟨3, ![2, 136, 12288]⟩

abbrev nBuf : Space → Nat
  | .hbm => 79
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S128x2048, .f32⟩
  | .hbm, ⟨2, _⟩ => ⟨S2x2048x12288, .f32⟩
  | .hbm, ⟨3, _⟩ => ⟨S2x12288, .f32⟩
  | .hbm, ⟨4, _⟩ => ⟨S8x2048, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S1x2048x12288, .f32⟩
  | .hbm, ⟨14, _⟩ => ⟨S2048x12288, .f32⟩
  | .hbm, ⟨15, _⟩ => ⟨S8x12288, .f32⟩
  | .hbm, ⟨16, _⟩ => ⟨S1x12288, .f32⟩
  | .hbm, ⟨17, _⟩ => ⟨S12288, .f32⟩
  | .hbm, ⟨18, _⟩ => ⟨S1x12288, .f32⟩
  | .hbm, ⟨19, _⟩ => ⟨S8x12288, .f32⟩
  | .hbm, ⟨20, _⟩ => ⟨S8x12288, .f32⟩
  | .hbm, ⟨21, _⟩ => ⟨S8x2048, .f32⟩
  | .hbm, ⟨22, _⟩ => ⟨S8x2048, .f32⟩
  | .hbm, ⟨23, _⟩ => ⟨S_, .f32⟩
  | .hbm, ⟨24, _⟩ => ⟨S8x2048, .f32⟩
  | .hbm, ⟨25, _⟩ => ⟨S8x2048, .f32⟩
  | .hbm, ⟨26, _⟩ => ⟨S_, .f32⟩
  | .hbm, ⟨27, _⟩ => ⟨S8x2048, .f32⟩
  | .hbm, ⟨28, _⟩ => ⟨S8x2048, .f32⟩
  | .hbm, ⟨29, _⟩ => ⟨S8x2048, .f32⟩
  | .hbm, ⟨30, _⟩ => ⟨S1x2048x12288, .f32⟩
  | .hbm, ⟨31, _⟩ => ⟨S2048x12288, .f32⟩
  | .hbm, ⟨32, _⟩ => ⟨S8x12288, .f32⟩
  | .hbm, ⟨33, _⟩ => ⟨S1x12288, .f32⟩
  | .hbm, ⟨34, _⟩ => ⟨S12288, .f32⟩
  | .hbm, ⟨35, _⟩ => ⟨S1x12288, .f32⟩
  | .hbm, ⟨36, _⟩ => ⟨S8x12288, .f32⟩
  | .hbm, ⟨37, _⟩ => ⟨S8x12288, .f32⟩
  | .hbm, ⟨38, _⟩ => ⟨S1x8x12288, .f32⟩
  | .hbm, ⟨39, _⟩ => ⟨S1x8x12288, .f32⟩
  | .hbm, ⟨40, _⟩ => ⟨S2x8x12288, .f32⟩
  | .hbm, ⟨41, _⟩ => ⟨S128x2048, .f32⟩
  | .hbm, ⟨42, _⟩ => ⟨S128x2048, .f32⟩
  | .hbm, ⟨43, _⟩ => ⟨S_, .f32⟩
  | .hbm, ⟨44, _⟩ => ⟨S128x2048, .f32⟩
  | .hbm, ⟨45, _⟩ => ⟨S128x2048, .f32⟩
  | .hbm, ⟨46, _⟩ => ⟨S_, .f32⟩
  | .hbm, ⟨47, _⟩ => ⟨S128x2048, .f32⟩
  | .hbm, ⟨48, _⟩ => ⟨S128x2048, .f32⟩
  | .hbm, ⟨49, _⟩ => ⟨S128x2048, .f32⟩
  | .hbm, ⟨50, _⟩ => ⟨S1x2048x12288, .f32⟩
  | .hbm, ⟨51, _⟩ => ⟨S2048x12288, .f32⟩
  | .hbm, ⟨52, _⟩ => ⟨S128x12288, .f32⟩
  | .hbm, ⟨53, _⟩ => ⟨S1x12288, .f32⟩
  | .hbm, ⟨54, _⟩ => ⟨S12288, .f32⟩
  | .hbm, ⟨55, _⟩ => ⟨S1x12288, .f32⟩
  | .hbm, ⟨56, _⟩ => ⟨S128x12288, .f32⟩
  | .hbm, ⟨57, _⟩ => ⟨S128x12288, .f32⟩
  | .hbm, ⟨58, _⟩ => ⟨S128x2048, .f32⟩
  | .hbm, ⟨59, _⟩ => ⟨S128x2048, .f32⟩
  | .hbm, ⟨60, _⟩ => ⟨S_, .f32⟩
  | .hbm, ⟨61, _⟩ => ⟨S128x2048, .f32⟩
  | .hbm, ⟨62, _⟩ => ⟨S128x2048, .f32⟩
  | .hbm, ⟨63, _⟩ => ⟨S_, .f32⟩
  | .hbm, ⟨64, _⟩ => ⟨S128x2048, .f32⟩
  | .hbm, ⟨65, _⟩ => ⟨S128x2048, .f32⟩
  | .hbm, ⟨66, _⟩ => ⟨S128x2048, .f32⟩
  | .hbm, ⟨67, _⟩ => ⟨S1x2048x12288, .f32⟩
  | .hbm, ⟨68, _⟩ => ⟨S2048x12288, .f32⟩
  | .hbm, ⟨69, _⟩ => ⟨S128x12288, .f32⟩
  | .hbm, ⟨70, _⟩ => ⟨S1x12288, .f32⟩
  | .hbm, ⟨71, _⟩ => ⟨S12288, .f32⟩
  | .hbm, ⟨72, _⟩ => ⟨S1x12288, .f32⟩
  | .hbm, ⟨73, _⟩ => ⟨S128x12288, .f32⟩
  | .hbm, ⟨74, _⟩ => ⟨S128x12288, .f32⟩
  | .hbm, ⟨75, _⟩ => ⟨S1x128x12288, .f32⟩
  | .hbm, ⟨76, _⟩ => ⟨S1x128x12288, .f32⟩
  | .hbm, ⟨77, _⟩ => ⟨S2x128x12288, .f32⟩
  | .hbm, ⟨78, _⟩ => ⟨S2x136x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_call2_v0 : Ref sig .tc := ⟨.hbm, 41, rfl⟩
abbrev main_call2_v1 : Ref sig .tc := ⟨.hbm, 42, rfl⟩
abbrev main_call2_cst : Ref sig .tc := ⟨.hbm, 43, rfl⟩
abbrev main_call2_v2 : Ref sig .tc := ⟨.hbm, 44, rfl⟩
abbrev main_call2_v3 : Ref sig .tc := ⟨.hbm, 45, rfl⟩
abbrev main_call2_cst_0 : Ref sig .tc := ⟨.hbm, 46, rfl⟩
abbrev main_call2_v4 : Ref sig .tc := ⟨.hbm, 47, rfl⟩
abbrev main_call2_v5 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_call3_v0 : Ref sig .tc := ⟨.hbm, 58, rfl⟩
abbrev main_call3_v1 : Ref sig .tc := ⟨.hbm, 59, rfl⟩
abbrev main_call3_cst : Ref sig .tc := ⟨.hbm, 60, rfl⟩
abbrev main_call3_v2 : Ref sig .tc := ⟨.hbm, 61, rfl⟩
abbrev main_call3_v3 : Ref sig .tc := ⟨.hbm, 62, rfl⟩
abbrev main_call3_cst_0 : Ref sig .tc := ⟨.hbm, 63, rfl⟩
abbrev main_call3_v4 : Ref sig .tc := ⟨.hbm, 64, rfl⟩
abbrev main_call3_v5 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩

abbrev nD : Nat := 1
abbrev τ : Topo := Topo.v7x

variable {F : FTy → Type} [FloatOps F]
-- ==== Proof.Band.Tile.lean ====
module

public import proofs.«01_k».proof.Proof.Gen.KernelIdeal.Value
public import Idealize.ShloMosaic.Lib.Pipeline.ValueKit
public import Idealize.ShloMosaic.Lib.Pointwise

/-! # One tile of the sliding-window attention

The body stores sixty-four tiles, one for every block of 128 rows and every pair of heads. All are one function of the
key and value heads, the two sinks and the query block: it is stated here once. -/

@[expose] public section

set_option maxRecDepth 16384

noncomputable section

namespace Cert.KernelIdeal.Hand

open Cert.KernelIdeal Cert.KernelIdeal.Gen Idealize.ShloMosaic Idealize.ShloMosaic.TcCoe Idealize.SL.Sem

/-- The scores of the stacked queries against one block of keys, those outside `mask` at the mask's value. -/
def scores (mask : IVec S256x128 1) (q : FVec Ideal S256x128 .bf16) (k : FVec Ideal S128x128 .bf16) :
    FVec Ideal S256x128 .f32 :=
  select mask (matmul dot_S256x128_S128x128_S256x128_1_1_0_0_n_n none q k (constant S256x128 .f32 0x00000000#32))
    (broadcast S256x128 (Named.named κ "mask" 0xF149F2CA#32))

/-- The row of the block a stacked row stands for. -/
def rows : IVec S256x128 32 := k0_pay78 128#32 k0_pay77 0#32

/-- The lane of a stacked score: the key's row in its block. -/
def lanes : IVec S256x128 32 := iota .tc S256x128 32 [1] iota_S256x128_d1_w32

/-- The scores against the block of the queries. -/
def scoresCur (q : FVec Ideal S256x128 .bf16) (k : FVec Ideal S128x128 .bf16) : FVec Ideal S256x128 .f32 :=
  scores (cmpi .sle lanes rows) q k

/-- The scores against the block before, which the first block of a batch does not have. -/
def scoresPrev (has : BitVec 1) (q : FVec Ideal S256x128 .bf16) (k : FVec Ideal S128x128 .bf16) :
    FVec Ideal S256x128 .f32 :=
  Scalar.select has (scores (cmpi .sge lanes rows) q k) (broadcast S256x128 (Named.named κ "mask" 0xF149F2CA#32))

/-- The largest score of a row, the sink included. -/
def rowMax (sp sc : FVec Ideal S256x128 .f32) (sink : FVec Ideal S256x1 .f32) : FVec Ideal S256x1 .f32 :=
  maximumf (shapeCast S256x1 (multiReduction .maximumf [1] S256 (maximumf sp sc) 0xFF800000#32
    reduces_S256x128_S256 (.inl rfl) rfl) shapeCasts_S256_S256x1) sink

/-- The unnormalised weights of a block of scores. -/
def weights (s : FVec Ideal S256x128 .f32) (mx : FVec Ideal S256x1 .f32) : FVec Ideal S256x128 .f32 :=
  exp (subf s (broadcastTo S256x128 mx broadcasts_S256x1_S256x128))

/-- The weighted sum of the values of both blocks. -/
def numer (pp pc : FVec Ideal S256x128 .f32) (vp vc : FVec Ideal S128x128 .bf16) : FVec Ideal S256x128 .f32 :=
  addf (matmul dot_S256x128_S128x128_S256x128_1_0_0_1_n_n none (truncf .bf16 pc bitsLt_bf16_f32) vc
      (constant S256x128 .f32 0x00000000#32))
    (matmul dot_S256x128_S128x128_S256x128_1_0_0_1_n_n none (truncf .bf16 pp bitsLt_bf16_f32) vp
      (constant S256x128 .f32 0x00000000#32))

/-- The sum of the weights and of the sink's. -/
def denom (pp pc : FVec Ideal S256x128 .f32) (mx sink : FVec Ideal S256x1 .f32) : FVec Ideal S256x1 .f32 :=
  addf (shapeCast S256x1 (multiReduction .add [1] S256 (addf pp pc) 0x00000000#32 reduces_S256x128_S256 (.inl rfl) rfl)
    shapeCasts_S256_S256x1) (exp (subf sink mx))

/-- The stored tile: the quotient, the two stacked heads laid side by side again. -/
def merge (num : FVec Ideal S256x128 .f32) (den : FVec Ideal S256x1 .f32) : FVec Ideal S1x128x128 .bf16 :=
  k0_pay88 num den k0_pay86 (extractStridedSlice S128x128 ![0, 0] num slices_S256x128_o0_0_S128x128)

/-- A tile from its stacked queries, its keys and values and the stacked sink. -/
def tileOf (has : BitVec 1) (q : FVec Ideal S256x128 .bf16) (kp vp kc vc : FVec Ideal S128x128 .bf16)
    (sink : FVec Ideal S256x1 .f32) : FVec Ideal S1x128x128 .bf16 :=
  let sp := scoresPrev has q kp
  let sc := scoresCur q kc
  let mx := rowMax sp sc sink
  merge (numer (weights sp mx) (weights sc mx) vp vc) (denom (weights sp mx) (weights sc mx) mx sink)

/-- A tile of the first key head's pairs, from the loaded blocks. -/
def tileLo (has : BitVec 1) (kp vp kc vc : Vec Ideal S1x128x128 .f32) (s0 s1 : Elt Ideal .f32)
    (q : Vec Ideal S1x128x128 .bf16) : FVec Ideal S1x128x128 .bf16 :=
  tileOf has (k0_pay76 q) (k0_pay5 kp) (k0_pay5 vp) (k0_pay5 kc) (k0_pay5 vc) (k0_pay75 k0_pay2 s0 s1)

/-- A tile of the second key head's pairs. -/
def tileHi (has : BitVec 1) (kp vp kc vc : Vec Ideal S1x128x128 .f32) (s0 s1 : Elt Ideal .f32)
    (q : Vec Ideal S1x128x128 .bf16) : FVec Ideal S1x128x128 .bf16 :=
  tileOf has (k0_pay76 q) (k0_pay6 kp) (k0_pay6 vp) (k0_pay6 kc) (k0_pay6 vc) (k0_pay75 k0_pay2 s0 s1)

end Cert.KernelIdeal.Hand

end
-- ==== Proof.Band.Pieces.lean ====
module

public import proofs.«01_k».proof.Proof.Band.Tile

/-! # The stores of the sliding-window attention as one family -/

@[expose] public section

set_option maxRecDepth 16384

noncomputable section

namespace Cert.KernelIdeal.Hand

open Cert.KernelIdeal Cert.KernelIdeal.Gen Idealize.ShloMosaic Idealize.ShloMosaic.TcCoe Idealize.SL.Sem

theorem inb_tile (k : Fin 64) (a : Fin 3) :
    (![0, 128 * (7 - k.val / 8), 128 * (7 - k.val % 8)] : Fin 3 → ℕ) a + S1x128x128.size a ≤ S1x1024x1024.size a := by
  fin_cases a
  · show 0 + 1 ≤ 1; omega
  · show 128 * (7 - k.val / 8) + 128 ≤ 1024; omega
  · show 128 * (7 - k.val % 8) + 128 ≤ 1024; omega

theorem inb_cur (k : Fin 64) (l : Fin 2) (a : Fin 3) :
    (![0, 128 * (7 - k.val / 8), 128 * l.val] : Fin 3 → ℕ) a + S1x128x128.size a ≤ S1x1024x256.size a := by
  fin_cases a
  · show 0 + 1 ≤ 1; omega
  · show 128 * (7 - k.val / 8) + 128 ≤ 1024; omega
  · show 128 * l.val + 128 ≤ 256; omega

theorem inb_last (k : Fin 64) (l : Fin 2) (a : Fin 3) :
    (![0, 128 * (6 - k.val / 8), 128 * l.val] : Fin 3 → ℕ) a + S1x128x128.size a ≤ S1x1024x256.size a := by
  fin_cases a
  · show 0 + 1 ≤ 1; omega
  · show 128 * (6 - k.val / 8) + 128 ≤ 1024; omega
  · show 128 * l.val + 128 ≤ 256; omega

theorem inb_prev (l : Fin 2) (a : Fin 3) :
    (![0, 0, 128 * l.val] : Fin 3 → ℕ) a + S1x128x128.size a ≤ S1x128x256.size a := by
  fin_cases a
  · show 0 + 1 ≤ 1; omega
  · show 0 + 128 ≤ 128; omega
  · show 128 * l.val + 128 ≤ 256; omega

theorem inb_sink (k : Fin 64) (l : Fin 2) (a : Fin 1) :
    (![2 * (7 - k.val % 8) + l.val] : Fin 1 → ℕ) a + S1.size a ≤ S16.size a := by
  fin_cases a
  show 2 * (7 - k.val % 8) + l.val + 1 ≤ 16; omega

variable (b0 : Vec Ideal S16 .f32) (b1 : Vec Ideal S1x1024x1024 .bf16) (b2 : Vec Ideal S1x128x256 .f32)
  (b3 : Vec Ideal S1x1024x256 .f32)

/-- The keys (`l = 0`) or values (`l = 1`) of the block before the tile's rows. -/
def loadPrev (k : Fin 64) (l : Fin 2) : Vec Ideal S1x128x128 .f32 :=
  if k.val / 8 = 7 then View.ld b2 (Rect.unit ![0, 0, 128 * l.val] S1x128x128.size (inb_prev l))
  else View.ld b3 (Rect.unit ![0, 128 * (6 - k.val / 8), 128 * l.val] S1x128x128.size (inb_last k l))

/-- The keys or values of the tile's own rows. -/
def loadCur (k : Fin 64) (l : Fin 2) : Vec Ideal S1x128x128 .f32 :=
  View.ld b3 (Rect.unit ![0, 128 * (7 - k.val / 8), 128 * l.val] S1x128x128.size (inb_cur k l))

/-- The sink of one of the tile's two heads. -/
def loadSink (k : Fin 64) (l : Fin 2) : Elt Ideal .f32 :=
  View.ld b0 (Rect.unit ![2 * (7 - k.val % 8) + l.val] S1.size (inb_sink k l)) (Shape.Idx.first (by show 0 < S1.numel; decide))

/-- The tile stored last but `k`. -/
def tile (j : BitVec 32) (k : Fin 64) : FVec Ideal S1x128x128 .bf16 :=
  if k.val % 8 < 4 then
    tileHi (if k.val / 8 = 7 then Scalar.cmpi .sgt j 0#32 else 1#1) (loadPrev b2 b3 k 0) (loadPrev b2 b3 k 1)
      (loadCur b3 k 0) (loadCur b3 k 1) (loadSink b0 k 0) (loadSink b0 k 1)
      (View.ld b1 (Rect.unit ![0, 128 * (7 - k.val / 8), 128 * (7 - k.val % 8)] S1x128x128.size (inb_tile k)))
  else
    tileLo (if k.val / 8 = 7 then Scalar.cmpi .sgt j 0#32 else 1#1) (loadPrev b2 b3 k 0) (loadPrev b2 b3 k 1)
      (loadCur b3 k 0) (loadCur b3 k 1) (loadSink b0 k 0) (loadSink b0 k 1)
      (View.ld b1 (Rect.unit ![0, 128 * (7 - k.val / 8), 128 * (7 - k.val % 8)] S1x128x128.size (inb_tile k)))

/-- The stores, the last first. -/
def pieces (j : BitVec 32) : List (View.Piece (Elt Ideal) S1x1024x1024 .bf16) :=
  List.ofFn fun k : Fin 64 =>
    ⟨Rect.unit ![0, 128 * (7 - k.val / 8), 128 * (7 - k.val % 8)] S1x128x128.size (inb_tile k), tile b0 b1 b2 b3 j k⟩

end Cert.KernelIdeal.Hand

end
-- ==== Proof.Spec.lean ====
module

public import Idealize.ShloMosaic.PureOps.Ideal.Laws
public import Idealize.ShloMosaic.Lib.Pointwise

/-! # The layer's formulas

What each call of the layer computes, over the extended reals: one row of activations `x`, the row's modulation vector `md`
(six chunks of 2048: shift, scale and gate of the attention half, then of the feed-forward half), and the weights of the
layer. Every kernel and every reference is shown to compute these. -/

@[expose] public section

noncomputable section

namespace Layer

open Idealize.ShloMosaic

/-- The residual coefficient, as the float word both sides write it. -/
def resid : EReal := Ideal.ofBits FTy.f32 1068827891#32

/-- The number of lanes, the divisor of the means. -/
def lanes : EReal := Ideal.ofBits FTy.f32 1157627904#32

/-- The number added to the variance. -/
def eps : EReal := Ideal.ofBits FTy.f32 925353388#32

/-- The chunk of the modulation vector at lane `2048 * j + l`. -/
def chunk (md : Fin 12288 → EReal) (j : Fin 6) (l : Fin 2048) : EReal := md ⟨j.val * 2048 + l.val, by omega⟩

/-- One row modulated: scaled by one plus chunk `a` and shifted by chunk `b`. -/
def modulated (x : Fin 2048 → EReal) (md : Fin 12288 → EReal) (a b : Fin 6) (k : Fin 2048) : EReal :=
  x k * (1 + chunk md a k) + chunk md b k

/-- The mean of a row. -/
def mean (z : Fin 2048 → EReal) : EReal := Ideal.div (∑ k, z k) lanes

/-- The layer norm of a row, scaled by `g` and shifted by `b`. -/
def norm (z g b : Fin 2048 → EReal) (l : Fin 2048) : EReal :=
  (z l - mean z) * Ideal.rsqrt (Ideal.div (∑ k, (z k - mean z) * (z k - mean z)) lanes + eps) * g l + b l

/-- The residual step before the norm: the row, weighted, plus the gated output of the half. -/
def residual (x : Fin 2048 → EReal) (md : Fin 12288 → EReal) (a : Fin 6) (y : Fin 2048 → EReal) (l : Fin 2048) : EReal :=
  resid * x l + chunk md a l * y l

/-- One hidden unit of the feed-forward half: the gate column `f` and the up column `5632 + f`, multiplied through SiLU. -/
def hidden (u : Fin 2048 → EReal) (wgu : Fin 2048 → Fin 11264 → EReal) (f : Fin 5632) : EReal :=
  (∑ k, u k * wgu k ⟨f.val, by omega⟩) * Ideal.logistic (∑ k, u k * wgu k ⟨f.val, by omega⟩)
    * ∑ k, u k * wgu k ⟨5632 + f.val, by omega⟩

/-- The feed-forward half of the layer on one row, with its residual step and norm. -/
def ffn (x : Fin 2048 → EReal) (md : Fin 12288 → EReal) (wgu : Fin 2048 → Fin 11264 → EReal)
    (wd : Fin 5632 → Fin 2048 → EReal) (g b : Fin 2048 → EReal) : Fin 2048 → EReal :=
  norm (residual x md 5 fun l => ∑ f, hidden (modulated x md 4 3) wgu f * wd f l) g b

/-- The factor of the attention scores, as the float word both sides write it: 1/8. -/
def eighth : EReal := Ideal.ofBits FTy.f32 1040187392#32

theorem eighth_eq : eighth = ((1 / 8 : ℝ) : EReal) := by
  unfold eighth
  simp [Ideal.ofBits, Ideal.ieee, -EReal.coe_mul]
  norm_num

/-- A nonnegative real factor of every term is a factor of the sum. -/
theorem sum_mul_real {n : ℕ} (r : ℝ) (hr : 0 ≤ r) (f : Fin n → EReal) : ∑ k, f k * (r : EReal) = (∑ k, f k) * (r : EReal) := by
  induction n with
  | zero => simp
  | succ n ih =>
    rw [Fin.sum_univ_succ, Fin.sum_univ_succ, ih,
      EReal.right_distrib_of_nonneg_of_ne_top (EReal.coe_nonneg.mpr hr) (EReal.coe_ne_top r)]

/-- The factor the host puts on column `f` of the input weights: 1/8 on the columns of the queries, 1 on the others. -/
def colScale (f : Fin 9984) : EReal :=
  if f.val < 4608 then (if f.val % 1536 < 512 then eighth else 1) else if f.val - 4608 < 1024 then eighth else 1

/-- Column `f` of a row's input projection. -/
def proj (u : Fin 2048 → EReal) (w : Fin 2048 → Fin 9984 → EReal) (f : Fin 9984) : EReal := ∑ k, u k * w k f

/-- Scaling a column of the weights scales the projection. -/
theorem proj_scaled (u : Fin 2048 → EReal) (w : Fin 2048 → Fin 9984 → EReal) (f : Fin 9984) :
    ∑ k, u k * (w k f * colScale f) = proj u w f * colScale f := by
  have h : ∀ r : ℝ, 0 ≤ r → ∑ k, u k * (w k f * (r : EReal)) = proj u w f * (r : EReal) := fun r hr => by
    rw [proj, ← sum_mul_real r hr]
    exact Finset.sum_congr rfl fun k _ => (mul_assoc _ _ _).symm
  have h1 := h (1 / 8) (by norm_num)
  have h2 := h 1 (by norm_num)
  rw [← eighth_eq] at h1
  rw [EReal.coe_one] at h2
  unfold colScale
  split_ifs <;> assumption

/-- A merge gate. -/
def gate (u : Fin 2048 → EReal) (w : Fin 2048 → Fin 9984 → EReal) (l : Fin 4096) : EReal :=
  Ideal.logistic (proj u w ⟨5888 + l.val, by omega⟩)

/-- The queries, keys and values of the three dilated head groups, the queries scaled. -/
def groups (u : Fin 2048 → EReal) (w : Fin 2048 → Fin 9984 → EReal) (l : Fin 4608) : EReal :=
  proj u w ⟨l.val, by omega⟩ * colScale ⟨l.val, by omega⟩

/-- One row of the two mixers, projected and merged by the gates. -/
def merged (a : Fin 512 → EReal) (b : Fin 1024 → EReal) (g : Fin 4096 → EReal) (wpa : Fin 512 → Fin 2048 → EReal)
    (wpb : Fin 1024 → Fin 2048 → EReal) (l : Fin 2048) : EReal :=
  g ⟨l.val, by omega⟩ * (∑ k, a k * wpa k l) + g ⟨2048 + l.val, by omega⟩ * ∑ k, b k * wpb k l

/-- The end of the attention half on one row: the merge, its output projection, the residual step and the norm. -/
def post (a : Fin 512 → EReal) (b : Fin 1024 → EReal) (g : Fin 4096 → EReal) (x : Fin 2048 → EReal) (md : Fin 12288 → EReal)
    (wpa : Fin 512 → Fin 2048 → EReal) (wpb : Fin 1024 → Fin 2048 → EReal) (wo : Fin 2048 → Fin 2048 → EReal)
    (lg lb : Fin 2048 → EReal) : Fin 2048 → EReal :=
  norm (residual x md 2 fun l => ∑ k, merged a b g wpa wpb k * wo k l) lg lb

/-- The modulation vector of one row of conditions: SiLU, a product with the layer's weights, and a bias. -/
def modulation (u : Fin 2048 → EReal) (w : Fin 2048 → Fin 12288 → EReal) (b : Fin 12288 → EReal) (f : Fin 12288) : EReal :=
  (∑ k, u k * Ideal.logistic (u k) * w k f) + b f

end Layer

end
-- ==== Proof.Band.Spec.lean ====
module

public import proofs.«01_k».proof.Proof.Spec

/-! # The sliding-window attention's formulas

One query row of one head against the 128 keys of the block before its own (`sp`, their scores; `vp`, one lane of their
values) and the 128 keys of its own block (`sc`, `vc`), with a sink. A score outside the window is `⊥`. -/

@[expose] public section

noncomputable section

namespace Layer

open Idealize.ShloMosaic

/-- The largest score, the sink included. -/
def top (sp sc : Fin 128 → EReal) (sink : EReal) : EReal :=
  max (Finset.univ.fold max ⊥ fun j => max (sp j) (sc j)) sink

/-- The sum of the weights, the sink's included. -/
def mass (sp sc : Fin 128 → EReal) (sink : EReal) : EReal :=
  (∑ j, (Ideal.exp (sp j - top sp sc sink) + Ideal.exp (sc j - top sp sc sink))) + Ideal.exp (sink - top sp sc sink)

/-- One lane of the attention's output: the weighted sum of the values over the sum of the weights. -/
def attend (sp sc vp vc : Fin 128 → EReal) (sink : EReal) : EReal :=
  Ideal.div ((∑ j, Ideal.exp (sc j - top sp sc sink) * vc j) + ∑ j, Ideal.exp (sp j - top sp sc sink) * vp j)
    (mass sp sc sink)

/-- Lane `d` of the attention's output for row `i` of block `n`, one head: scaled queries `q`, keys `k` and values `v` of
the batch's 2048 rows. Row `i` sees its own block's keys up to itself and the block before's from `i` on. -/
def band (q k v : Fin 2048 → Fin 64 → EReal) (sink : EReal) (n : Fin 16) (i : Fin 128) (d : Fin 64) : EReal :=
  attend
    (fun j => if 0 < n.val ∧ i.val ≤ j.val then
      ∑ x : Fin 64, q ⟨128 * n.val + i.val, by omega⟩ x * k ⟨128 * (n.val - 1) + j.val, by omega⟩ x else ⊥)
    (fun j => if j.val ≤ i.val then
      ∑ x : Fin 64, q ⟨128 * n.val + i.val, by omega⟩ x * k ⟨128 * n.val + j.val, by omega⟩ x else ⊥)
    (fun j => v ⟨128 * (n.val - 1) + j.val, by omega⟩ d) (fun j => v ⟨128 * n.val + j.val, by omega⟩ d) sink

end Layer

end
-- ==== Proof.Band.TileAt.lean ====
module

public import proofs.«01_k».proof.Proof.Band.Tile
public import proofs.«01_k».proof.Proof.Band.Spec

/-! # A tile of the sliding-window attention, read at an index -/

@[expose] public section

set_option maxRecDepth 16384

noncomputable section

namespace Cert.KernelIdeal.Hand

open Cert.KernelIdeal Cert.KernelIdeal.Gen Idealize.ShloMosaic Idealize.ShloMosaic.TcCoe Idealize.SL.Sem

/-- The mask's value, −∞. -/
theorem mask_eq : (Named.named (F := Ideal) (φ := .f32) κ "mask" 0xF149F2CA#32) = ⊥ :=
  IdealRules.named_const.ideal_named_scalar _ _ _ _ rfl

/-- A select by a decided bit. -/
theorem select_bit {α : Type} (p : Prop) [Decidable p] (x y : α) : Scalar.select (if p then 1#1 else 0#1) x y = if p then x else y := by
  split_ifs <;> rfl

theorem lane_bit (l : Fin 128) : IntOp.cmpi .slt (BitVec.ofNat 32 l.val) 64#32 = if l.val < 64 then 1#1 else 0#1 :=
  (by decide +kernel : ∀ l : Fin 128, IntOp.cmpi .slt (BitVec.ofNat 32 l.val) 64#32 = if l.val < 64 then 1#1 else 0#1) l

theorem half_bit (s : Fin 256) : IntOp.cmpi .slt (BitVec.ofNat 32 s.val) 128#32 = if s.val < 128 then 1#1 else 0#1 :=
  (by decide +kernel : ∀ s : Fin 256, IntOp.cmpi .slt (BitVec.ofNat 32 s.val) 128#32 = if s.val < 128 then 1#1 else 0#1) s

theorem le_bit (j i : Fin 128) : IntOp.cmpi .sle (BitVec.ofNat 32 j.val) (BitVec.ofNat 32 i.val) = if j.val ≤ i.val then 1#1 else 0#1 :=
  (by decide +kernel : ∀ j i : Fin 128, IntOp.cmpi .sle (BitVec.ofNat 32 j.val) (BitVec.ofNat 32 i.val) = if j.val ≤ i.val then 1#1 else 0#1) j i

theorem ge_bit (j i : Fin 128) : IntOp.cmpi .sge (BitVec.ofNat 32 j.val) (BitVec.ofNat 32 i.val) = if i.val ≤ j.val then 1#1 else 0#1 :=
  (by decide +kernel : ∀ j i : Fin 128, IntOp.cmpi .sge (BitVec.ofNat 32 j.val) (BitVec.ofNat 32 i.val) = if i.val ≤ j.val then 1#1 else 0#1) j i

theorem rows_at (s : Fin 256) (j : Fin 128) : rows (ix2 s j) = BitVec.ofNat 32 (s.val % 128) := by
  pointwise [rows, k0_pay78, k0_pay77]
  revert s
  decide +kernel

theorem scoresCur_at (q : FVec Ideal S256x128 .bf16) (k : FVec Ideal S128x128 .bf16) (s : Fin 256) (j : Fin 128) :
    scoresCur q k (ix2 s j) = if j.val ≤ s.val % 128 then ∑ d : Fin 128, (q (ix2 s d) : EReal) * k (ix2 j d) else (⊥ : EReal) := by
  pointwise [scoresCur, scores, lanes]
  rw [rows_at, mask_eq, le_bit j ⟨s.val % 128, by omega⟩, select_bit]

theorem scoresPrev_at (has : BitVec 1) (q : FVec Ideal S256x128 .bf16) (k : FVec Ideal S128x128 .bf16) (s : Fin 256) (j : Fin 128) :
    scoresPrev has q k (ix2 s j)
      = if has = 1#1 ∧ s.val % 128 ≤ j.val then ∑ d : Fin 128, (q (ix2 s d) : EReal) * k (ix2 j d) else (⊥ : EReal) := by
  pointwise [scoresPrev, scores, lanes]
  rw [rows_at, mask_eq, ge_bit j ⟨s.val % 128, by omega⟩, select_bit]
  rcases BitVec.eq_zero_or_eq_one has with rfl | rfl
  · exact (if_neg fun h => absurd h.1 (by decide)).symm
  · show (if s.val % 128 ≤ j.val then _ else _) = _
    simp only [true_and]

theorem stack_at (q : Vec Ideal S1x128x128 .bf16) (s : Fin 256) (d : Fin 128) :
    k0_pay76 q (ix2 s d) = if s.val / 128 = d.val / 64 then q (ix3 0 ⟨s.val % 128, by omega⟩ d) else (0 : EReal) := by
  pointwise [k0_pay76]
  simp only [lane_bit, select_bit]
  have hs := s.isLt
  by_cases h1 : s.val < 128
  · rw [dif_pos h1]
    have e : (⟨s.val, h1⟩ : Fin 128) = ⟨s.val % 128, by omega⟩ := Fin.ext (by show s.val = s.val % 128; omega)
    rw [e]
    exact if_congr (by omega) rfl rfl
  · rw [dif_neg h1]
    have e : (⟨s.val - 128, by omega⟩ : Fin 128) = ⟨s.val % 128, by omega⟩ := Fin.ext (by show s.val - 128 = s.val % 128; omega)
    rw [e]
    by_cases h2 : d.val < 64
    · rw [if_pos h2, if_neg (by omega)]
    · rw [if_neg h2, if_pos (by omega)]

theorem lo_at (x : Vec Ideal S1x128x128 .f32) (j d : Fin 128) :
    k0_pay5 x (ix2 j d) = x (ix3 0 j ⟨d.val % 64, by omega⟩) := by
  pointwise [k0_pay5, k0_pay4, k0_pay3, k0_pay1]
  rw [lane_bit, select_bit]
  by_cases h : d.val < 64
  · rw [if_pos h]
    exact congrArg x (congrArg (ix3 0 j) (Fin.ext (by show d.val = d.val % 64; omega)))
  · rw [if_neg h]
    exact congrArg x (congrArg (ix3 0 j) (Fin.ext (by show (d.val + 128 - 64) % 128 = d.val % 64; omega)))

theorem hi_at (x : Vec Ideal S1x128x128 .f32) (j d : Fin 128) :
    k0_pay6 x (ix2 j d) = x (ix3 0 j ⟨64 + d.val % 64, by omega⟩) := by
  pointwise [k0_pay6, k0_pay4, k0_pay3, k0_pay1]
  rw [lane_bit, select_bit]
  by_cases h : d.val < 64
  · rw [if_pos h]
    exact congrArg x (congrArg (ix3 0 j) (Fin.ext (by show (d.val + 128 - 64) % 128 = 64 + d.val % 64; omega)))
  · rw [if_neg h]
    exact congrArg x (congrArg (ix3 0 j) (Fin.ext (by show d.val = 64 + d.val % 64; omega)))

theorem sink_at (s0 s1 : Elt Ideal .f32) (s : Fin 256) :
    k0_pay75 (F := Ideal) k0_pay2 s0 s1 (ix2 s 0) = if s.val < 128 then s0 else s1 := by
  pointwise [k0_pay75, k0_pay2]
  rw [half_bit, select_bit]

theorem neg_top : Ideal.ofBits FTy.f32 4286578688#32 = ⊥ := by
  simp [Ideal.ofBits, Ideal.ieee]

theorem rowMax_at (sp sc : FVec Ideal S256x128 .f32) (sink : FVec Ideal S256x1 .f32) (s : Fin 256) :
    rowMax sp sc sink (ix2 s 0) = Layer.top (fun j => sp (ix2 s j)) (fun j => sc (ix2 s j)) (sink (ix2 s 0)) := by
  pointwise [rowMax, Layer.top]
  rw [neg_top]

theorem weights_at (sc : FVec Ideal S256x128 .f32) (mx : FVec Ideal S256x1 .f32) (s : Fin 256) (j : Fin 128) :
    weights sc mx (ix2 s j) = Ideal.exp ((sc (ix2 s j) : EReal) - mx (ix2 s 0)) := by
  pointwise [weights]

theorem numer_at (pp pc : FVec Ideal S256x128 .f32) (vp vc : FVec Ideal S128x128 .bf16) (s : Fin 256) (d : Fin 128) :
    numer pp pc vp vc (ix2 s d) = (∑ j : Fin 128, (pc (ix2 s j) : EReal) * vc (ix2 j d)) + ∑ j : Fin 128, (pp (ix2 s j) : EReal) * vp (ix2 j d) := by
  pointwise [numer]

theorem denom_at (pp pc : FVec Ideal S256x128 .f32) (mx sink : FVec Ideal S256x1 .f32) (s : Fin 256) :
    denom pp pc mx sink (ix2 s 0) = (∑ j : Fin 128, ((pp (ix2 s j) : EReal) + pc (ix2 s j))) + Ideal.exp ((sink (ix2 s 0) : EReal) - mx (ix2 s 0)) := by
  pointwise [denom]

theorem merge_at (num : FVec Ideal S256x128 .f32) (den : FVec Ideal S256x1 .f32) (i l : Fin 128) :
    merge num den (ix3 0 i l) = Ideal.div (num (ix2 ⟨128 * (l.val / 64) + i.val, by omega⟩ l)) (den (ix2 ⟨128 * (l.val / 64) + i.val, by omega⟩ 0)) := by
  pointwise [merge, k0_pay88, k0_pay86]
  rw [lane_bit, select_bit, select_bit]
  by_cases h : l.val < 64
  · have e : (⟨i.val, by omega⟩ : Fin 256) = ⟨128 * (l.val / 64) + i.val, by omega⟩ := Fin.ext (by show i.val = 128 * (l.val / 64) + i.val; omega)
    rw [if_pos h, if_pos h, e]
  · have e : (⟨128 + i.val, by omega⟩ : Fin 256) = ⟨128 * (l.val / 64) + i.val, by omega⟩ := Fin.ext (by show 128 + i.val = 128 * (l.val / 64) + i.val; omega)
    rw [if_neg h, if_neg h, e]

/-- A tile at row `i` and lane `l`, from its stacked queries. -/
theorem tileOf_at (has : BitVec 1) (q : FVec Ideal S256x128 .bf16) (kp vp kc vc : FVec Ideal S128x128 .bf16)
    (sink : FVec Ideal S256x1 .f32) (i l : Fin 128) (s : Fin 256) (hs : s = ⟨128 * (l.val / 64) + i.val, by omega⟩) :
    tileOf has q kp vp kc vc sink (ix3 0 i l) =
      Layer.attend (fun j => scoresPrev has q kp (ix2 s j)) (fun j => scoresCur q kc (ix2 s j)) (fun j => vp (ix2 j l))
        (fun j => vc (ix2 j l)) (sink (ix2 s 0)) := by
  unfold tileOf
  rw [merge_at, ← hs, numer_at, denom_at]
  simp only [weights_at, rowMax_at]
  rfl

/-- The product of a stacked query row and a key row: the lanes of the pair's other head are zero. -/
theorem dot_half (f g : Fin 128 → EReal) (e : Fin 2) :
    ∑ d : Fin 128, (if e.val = d.val / 64 then f d else 0) * g d
      = ∑ d : Fin 64, f ⟨64 * e.val + d.val, by omega⟩ * g ⟨64 * e.val + d.val, by omega⟩ := by
  rw [Fin.sum_univ_two_halves 64 64 rfl]
  have e1 : e = 0 ∨ e = 1 := by omega
  rcases e1 with rfl | rfl
  · rw [add_comm, Finset.sum_eq_zero, zero_add]
    · refine Finset.sum_congr rfl fun d _ => ?_
      rw [if_pos (by show 0 = d.val / 64; omega)]
      have h : ∀ h' : d.val < 128, (⟨d.val, h'⟩ : Fin 128) = ⟨64 * (0 : Fin 2).val + d.val, by omega⟩ := fun _ => Fin.ext (by show d.val = 64 * 0 + d.val; omega)
      rw [h]
    · intro d _
      rw [if_neg (by show ¬ (0 = (64 + d.val) / 64); omega), zero_mul]
  · rw [Finset.sum_eq_zero, zero_add]
    · refine Finset.sum_congr rfl fun d _ => ?_
      rw [if_pos (by show 1 = (64 + d.val) / 64; omega)]
      rfl
    · intro d _
      rw [if_neg (by show ¬ (1 = d.val / 64); omega), zero_mul]

/-- The score of a query row (head half `e` of the pair) against key `j` of key head `hk`. -/
def score (q : Vec Ideal S1x128x128 .bf16) (k : Vec Ideal S1x128x128 .f32) (hk e : Fin 2) (i j : Fin 128) : EReal :=
  ∑ d : Fin 64, (q (ix3 0 i ⟨64 * e.val + d.val, by omega⟩) : EReal) * k (ix3 0 j ⟨64 * hk.val + d.val, by omega⟩)

/-- What a tile holds at row `i` and lane `64 * e + d`, its keys and values at head `hk`. -/
def tileVal (has : BitVec 1) (kp vp kc vc : Vec Ideal S1x128x128 .f32) (s0 s1 : Elt Ideal .f32)
    (q : Vec Ideal S1x128x128 .bf16) (hk e : Fin 2) (d : Fin 64) (i : Fin 128) : EReal :=
  Layer.attend (fun j => if has = 1#1 ∧ i.val ≤ j.val then score q kp hk e i j else ⊥)
    (fun j => if j.val ≤ i.val then score q kc hk e i j else ⊥)
    (fun j => vp (ix3 0 j ⟨64 * hk.val + d.val, by omega⟩)) (fun j => vc (ix3 0 j ⟨64 * hk.val + d.val, by omega⟩))
    (if e.val = 0 then s0 else s1)

theorem tileLo_at (has : BitVec 1) (kp vp kc vc : Vec Ideal S1x128x128 .f32) (s0 s1 : Elt Ideal .f32)
    (q : Vec Ideal S1x128x128 .bf16) (i : Fin 128) (e : Fin 2) (d : Fin 64) :
    tileLo has kp vp kc vc s0 s1 q (ix3 0 i ⟨64 * e.val + d.val, by omega⟩) = tileVal has kp vp kc vc s0 s1 q 0 e d i := by
  unfold tileLo tileVal
  rw [tileOf_at has _ _ _ _ _ _ i ⟨64 * e.val + d.val, by omega⟩ ⟨128 * e.val + i.val, by omega⟩
    (Fin.ext (by show 128 * e.val + i.val = 128 * ((64 * e.val + d.val) / 64) + i.val; omega))]
  have h1 : (128 * e.val + i.val) % 128 = i.val := by omega
  have h2 : (128 * e.val + i.val) / 128 = e.val := by omega
  have h3 : (128 * e.val + i.val < 128) = (e.val = 0) := propext (by omega)
  have h4 : (64 * e.val + d.val) % 64 = 64 * (0 : Fin 2).val + d.val := by show _ = 64 * 0 + d.val; omega
  have h5 : ∀ x : Fin 64, (64 * e.val + x.val) % 64 = 64 * (0 : Fin 2).val + x.val := fun x => by show _ = 64 * 0 + x.val; omega
  simp only [scoresPrev_at, scoresCur_at, stack_at, lo_at, sink_at, h1, h2, h3, h4]
  have hd : ∀ (k : Vec Ideal S1x128x128 .f32) (j : Fin 128),
      ∑ x : Fin 128, (if e.val = x.val / 64 then (q (ix3 0 i x) : EReal) else 0) * (k (ix3 0 j ⟨x.val % 64, by omega⟩) : EReal)
        = score q k 0 e i j := fun k j => by
    rw [dot_half (fun x => q (ix3 0 i x)) (fun x => k (ix3 0 j ⟨x.val % 64, by omega⟩)) e]
    simp only [h5]
    rfl
  simp only [hd]

theorem tileHi_at (has : BitVec 1) (kp vp kc vc : Vec Ideal S1x128x128 .f32) (s0 s1 : Elt Ideal .f32)
    (q : Vec Ideal S1x128x128 .bf16) (i : Fin 128) (e : Fin 2) (d : Fin 64) :
    tileHi has kp vp kc vc s0 s1 q (ix3 0 i ⟨64 * e.val + d.val, by omega⟩) = tileVal has kp vp kc vc s0 s1 q 1 e d i := by
  unfold tileHi tileVal
  rw [tileOf_at has _ _ _ _ _ _ i ⟨64 * e.val + d.val, by omega⟩ ⟨128 * e.val + i.val, by omega⟩
    (Fin.ext (by show 128 * e.val + i.val = 128 * ((64 * e.val + d.val) / 64) + i.val; omega))]
  have h1 : (128 * e.val + i.val) % 128 = i.val := by omega
  have h2 : (128 * e.val + i.val) / 128 = e.val := by omega
  have h3 : (128 * e.val + i.val < 128) = (e.val = 0) := propext (by omega)
  have h4 : 64 + (64 * e.val + d.val) % 64 = 64 * (1 : Fin 2).val + d.val := by show _ = 64 * 1 + d.val; omega
  have h5 : ∀ x : Fin 64, 64 + (64 * e.val + x.val) % 64 = 64 * (1 : Fin 2).val + x.val := fun x => by show _ = 64 * 1 + x.val; omega
  simp only [scoresPrev_at, scoresCur_at, stack_at, hi_at, sink_at, h1, h2, h3, h4]
  have hd : ∀ (k : Vec Ideal S1x128x128 .f32) (j : Fin 128),
      ∑ x : Fin 128, (if e.val = x.val / 64 then (q (ix3 0 i x) : EReal) else 0) * (k (ix3 0 j ⟨64 + x.val % 64, by omega⟩) : EReal)
        = score q k 1 e i j := fun k j => by
    rw [dot_half (fun x => q (ix3 0 i x)) (fun x => k (ix3 0 j ⟨64 + x.val % 64, by omega⟩)) e]
    simp only [h5]
    rfl
  simp only [hd]

end Cert.KernelIdeal.Hand

end
-- ==== Proof.Scale.lean ====
module

public import proofs.«01_k».proof.Proof.Gen.GatesIdeal.Value
public import proofs.«01_k».proof.Proof.Spec
public import Idealize.ShloMosaic.Lib.Pointwise
public import Idealize.ShloMosaic.Lib.StableHlo.RunClose

/-! # The column factors of the input weights

The host multiplies the query columns of the input weights by 1/8 and the others by 1, through a vector of 9984 factors built
by filling, concatenating and repeating. Here that vector is read at an index. -/

@[expose] public section

set_option maxRecDepth 16384

noncomputable section

namespace Cert.GatesIdeal.Hand

open Cert.GatesIdeal Cert.GatesIdeal.Gen Idealize.ShloMosaic Idealize.ShloMosaic.TcCoe Idealize.SL.Sem Idealize.ShloMosaic.StableHlo

/-- One group's share of the column factors: 1/8 for its queries, 1 for its keys and values. -/
def groupScale : S1536.Idx → EReal :=
  concatenate S1536 0 [⟨S512, broadcastInDim S512 ![] bcast_S_S512 (constant (F := Ideal) S_ .f32 0x3E000000#32)⟩,
    ⟨S1024, broadcastInDim S1024 ![] bcast_S_S1024 (constant (F := Ideal) S_ .f32 0x3F800000#32)⟩] concatenates_S512_S1024_S1536_d0

/-- The column factors, as the host lines make them. -/
def scale : S9984.Idx → EReal :=
  concatenate S9984 0 [⟨S4608, shapeCast S4608 (broadcastInDim S3x1536 ![0, 1] bcast_S1x1536_S3x1536_0_1
      (shapeCast S1x1536 groupScale shapeCasts_S1536_S1x1536)) shapeCasts_S3x1536_S4608⟩,
    ⟨S1024, broadcastInDim S1024 ![] bcast_S_S1024 (constant (F := Ideal) S_ .f32 0x3E000000#32)⟩,
    ⟨S4352, broadcastInDim S4352 ![] bcast_S_S4352 (constant (F := Ideal) S_ .f32 0x3F800000#32)⟩] concatenates_S4608_S1024_S4352_S9984_d0

theorem scale_at (f : Fin 9984) : scale (ix1 f) = Layer.colScale f := by
  unfold scale groupScale Layer.colScale Layer.eighth
  pointwise
  split_ifs <;> rfl

end Cert.GatesIdeal.Hand
-- ==== Proof.Band.Kernel.lean ====
module

public import proofs.«01_k».proof.Proof.Band.Pieces
public import proofs.«01_k».proof.Proof.Band.TileAt
public import proofs.«01_k».proof.Proof.Scale
public import Idealize.ShloMosaic.Lib.Pipeline.ValueKit.Held
public import Idealize.ShloMosaic.Lib.Pipeline.ReadBack
public import Idealize.ShloMosaic.Lib.StableHlo.RunClose

/-! # The value of the sliding-window attention's kernel -/

@[expose] public section

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (c : Dev nD)

/-- Lane `d` of the query of head `h` at row `s` of batch `b`. -/
def qh (b : Fin 8) (s : Fin 2048) (h : Fin 16) (d : Fin 64) : EReal :=
  (m ((c.tc : Thread nD τ).loc main_arg0) : S8x2048x2x8x64.Idx → EReal) (ix5 b s ⟨h.val / 8, by omega⟩ ⟨h.val % 8, by omega⟩ d)
/-- Lane `d` of the key of key head `g` at row `s`. -/
def kh (b : Fin 8) (s : Fin 2048) (g : Fin 2) (d : Fin 64) : EReal :=
  (m ((c.tc : Thread nD τ).loc main_arg1) : S8x2048x2x64.Idx → EReal) (ix4 b s g d)
/-- Lane `d` of the value of key head `g` at row `s`. -/
def vh (b : Fin 8) (s : Fin 2048) (g : Fin 2) (d : Fin 64) : EReal :=
  (m ((c.tc : Thread nD τ).loc main_arg2) : S8x2048x2x64.Idx → EReal) (ix4 b s g d)
/-- The sink of head `h`. -/
def sk (h : Fin 16) : EReal :=
  (m ((c.tc : Thread nD τ).loc main_arg3) : S2x8.Idx → EReal) (ix2 ⟨h.val / 8, by omega⟩ ⟨h.val % 8, by omega⟩)

/-! ## The blocks a point reads -/

theorem idx (t : Fin cfg0.N) : win0_0.index t = ![0] ∧ win0_1.index t = ![t.val / 2, t.val % 2, 0] ∧ win0_2.index t = ![t.val / 2, 7 * (t.val % 2), 0]
    ∧ win0_3.index t = ![t.val / 2, t.val % 2, 0] ∧ win0_4.index t = ![t.val / 2, t.val % 2, 0] ∧ win0_5.index t = ![t.val / 2, 0, 0] :=
  (by decide +kernel : ∀ t : Fin cfg0.N, win0_0.index t = ![0] ∧ win0_1.index t = ![t.val / 2, t.val % 2, 0] ∧ win0_2.index t = ![t.val / 2, 7 * (t.val % 2), 0]
    ∧ win0_3.index t = ![t.val / 2, t.val % 2, 0] ∧ win0_4.index t = ![t.val / 2, t.val % 2, 0] ∧ win0_5.index t = ![t.val / 2, 0, 0]) t

theorem batch_lt (t : Fin cfg0.N) : t.val / 2 < 8 := by
  have := lt_of_lt_of_eq t.isLt (N_0 : cfg0.N = 16); omega

/-- The batch of point `t`. -/
def batch (t : Fin cfg0.N) : Fin 8 := ⟨t.val / 2, batch_lt t⟩
/-- The row of the batch that row `r` of point `t`'s block is. -/
def row (t : Fin cfg0.N) (r : Fin 1024) : Fin 2048 := ⟨1024 * (t.val % 2) + r.val, by omega⟩
/-- The row of the batch that row `r` of the block before is. -/
def prow (t : Fin cfg0.N) (r : Fin 128) : Fin 2048 := ⟨896 * (t.val % 2) + r.val, by omega⟩

/-- The scaled queries the kernel is given. -/
theorem host_q (b : Fin 8) (s : Fin 2048) (l : Fin 1024) :
    (V m c main_v3 : S8x2048x1024.Idx → EReal) (ix3 b s l) = qh m c b s ⟨l.val / 64, by omega⟩ ⟨l.val % 64, by omega⟩ * Layer.eighth := by
  have e : (⟨l.val / 64 / 8, by omega⟩ : Fin 2) = ⟨l.val / 512, by omega⟩ := Fin.ext (by show l.val / 64 / 8 = l.val / 512; omega)
  unfold qh Layer.eighth
  rw [e]
  entry_read
  pointwise

/-- The keys and values the kernel is given, side by side. -/
theorem host_kv (b : Fin 8) (s : Fin 2048) (l : Fin 256) :
    (V m c main_v6 : S8x2048x256.Idx → EReal) (ix3 b s l)
      = if h : l.val < 128 then kh m c b s ⟨l.val / 64, by omega⟩ ⟨l.val % 64, by omega⟩
        else vh m c b s ⟨(l.val - 128) / 64, by omega⟩ ⟨(l.val - 128) % 64, by omega⟩ := by
  unfold kh vh
  entry_read
  pointwise

theorem host_k (b : Fin 8) (s : Fin 2048) (g : Fin 2) (d : Fin 64) (l : Fin 256) (hl : l.val = 64 * g.val + d.val) :
    (V m c main_v6 : S8x2048x256.Idx → EReal) (ix3 b s l) = kh m c b s g d := by
  rw [host_kv, dif_pos (by omega)]
  congr 1 <;> apply Fin.ext <;> simp only [] <;> omega

theorem host_v (b : Fin 8) (s : Fin 2048) (g : Fin 2) (d : Fin 64) (l : Fin 256) (hl : l.val = 128 + 64 * g.val + d.val) :
    (V m c main_v6 : S8x2048x256.Idx → EReal) (ix3 b s l) = vh m c b s g d := by
  rw [host_kv, dif_neg (by omega)]
  congr 1 <;> apply Fin.ext <;> simp only [] <;> omega

theorem rd_q (t : Fin cfg0.N) (r : Fin 1024) (h : Fin 16) (d : Fin 64) (l : Fin 1024) (hl : l.val = 64 * h.val + d.val) :
    (iblk m c 1 t : S1x1024x1024.Idx → EReal) (ix3 0 r l) = qh m c (batch t) (row t r) h d * Layer.eighth := by
  have e1 : (⟨l.val / 64, by omega⟩ : Fin 16) = h := Fin.ext (by show l.val / 64 = h.val; omega)
  have e2 : (⟨l.val % 64, by omega⟩ : Fin 64) = d := Fin.ext (by show l.val % 64 = d.val; omega)
  have := host_q m c (batch t) (row t r) l
  rw [e1, e2] at this
  rw [← this]
  unfold batch row
  blk_point [iblk, idx t]

theorem rd_sink (t : Fin cfg0.N) (h : Fin 16) : (iblk m c 0 t : S16.Idx → EReal) (ix1 h) = sk m c h := by
  unfold sk
  blk_point [iblk, V, idx t]

theorem rd_kv (t : Fin cfg0.N) (r : Fin 1024) (l : Fin 256) :
    (iblk m c 3 t : S1x1024x256.Idx → EReal) (ix3 0 r l) = (V m c main_v6 : S8x2048x256.Idx → EReal) (ix3 (batch t) (row t r) l) := by
  unfold batch row
  blk_point [iblk, idx t]

theorem rd_pkv (t : Fin cfg0.N) (r : Fin 128) (l : Fin 256) :
    (iblk m c 2 t : S1x128x256.Idx → EReal) (ix3 0 r l) = (V m c main_v6 : S8x2048x256.Idx → EReal) (ix3 (batch t) (prow t r) l) := by
  unfold batch prow
  blk_point [iblk, idx t]

/-! ## A point's tiles -/

/-- The block of the batch that tile `k` of point `t` belongs to. -/
def blockOf (t : Fin cfg0.N) (k : Fin 64) : Fin 16 := ⟨8 * (t.val % 2) + (7 - k.val / 8), by omega⟩

/-- The attention's output: row `s` of batch `b`, head `h`, lane `d`. -/
def result (b : Fin 8) (s : Fin 2048) (h : Fin 16) (d : Fin 64) : EReal :=
  Layer.band (fun s x => qh m c b s h x * Layer.eighth) (fun s x => kh m c b s ⟨h.val / 8, by omega⟩ x)
    (fun s x => vh m c b s ⟨h.val / 8, by omega⟩ x) (sk m c h) ⟨s.val / 128, by omega⟩ ⟨s.val % 128, by omega⟩ d

theorem ld_q (t : Fin cfg0.N) (k : Fin 64) (i : Fin 128) (e : Fin 2) (x : Fin 64) :
    (View.ld (iblk m c 1 t) (Rect.unit ![0, 128 * (7 - k.val / 8), 128 * (7 - k.val % 8)] S1x128x128.size (inb_tile k)) (ix3 0 i ⟨64 * e.val + x.val, by omega⟩) : EReal)
      = qh m c (batch t) ⟨128 * (blockOf t k).val + i.val, by omega⟩ ⟨2 * (7 - k.val % 8) + e.val, by omega⟩ x * Layer.eighth := by
  rw [View.ld_unit_apply_of (iblk m c 1 t) _ _ _ _ (ix3 0 ⟨128 * (7 - k.val / 8) + i.val, by omega⟩ ⟨128 * (7 - k.val % 8) + (64 * e.val + x.val), by omega⟩)
    (by intro a; fin_cases a <;> rfl)]
  rw [rd_q m c t _ ⟨2 * (7 - k.val % 8) + e.val, by omega⟩ x _ (by show 128 * (7 - k.val % 8) + (64 * e.val + x.val) = 64 * (2 * (7 - k.val % 8) + e.val) + x.val; omega)]
  congr 2
  exact Fin.ext (by show 1024 * (t.val % 2) + (128 * (7 - k.val / 8) + i.val) = 128 * (8 * (t.val % 2) + (7 - k.val / 8)) + i.val; omega)

theorem cur_at (t : Fin cfg0.N) (k : Fin 64) (l : Fin 2) (j : Fin 128) (x : Fin 128) :
    (loadCur (iblk m c 3 t) k l (ix3 0 j x) : EReal)
      = (V m c main_v6 : S8x2048x256.Idx → EReal) (ix3 (batch t) ⟨128 * (blockOf t k).val + j.val, by omega⟩ ⟨128 * l.val + x.val, by omega⟩) := by
  unfold loadCur
  rw [View.ld_unit_apply_of (iblk m c 3 t) _ _ _ _ (ix3 0 ⟨128 * (7 - k.val / 8) + j.val, by omega⟩ ⟨128 * l.val + x.val, by omega⟩)
    (by intro a; fin_cases a <;> rfl)]
  rw [rd_kv]
  congr 2
  exact Fin.ext (by show 1024 * (t.val % 2) + (128 * (7 - k.val / 8) + j.val) = 128 * (8 * (t.val % 2) + (7 - k.val / 8)) + j.val; omega)

theorem prev_at (t : Fin cfg0.N) (k : Fin 64) (l : Fin 2) (j : Fin 128) (x : Fin 128) :
    (loadPrev (iblk m c 2 t) (iblk m c 3 t) k l (ix3 0 j x) : EReal)
      = (V m c main_v6 : S8x2048x256.Idx → EReal) (ix3 (batch t) ⟨128 * ((blockOf t k).val - 1) + j.val, by omega⟩ ⟨128 * l.val + x.val, by omega⟩) := by
  unfold loadPrev
  split
  · rename_i h
    rw [View.ld_unit_apply_of (iblk m c 2 t) _ _ _ _ (ix3 0 j ⟨128 * l.val + x.val, by omega⟩)
      (by intro a; fin_cases a; · rfl
          · exact (Nat.zero_add _).symm
          · rfl)]
    rw [rd_pkv]
    congr 2
    exact Fin.ext (by show 896 * (t.val % 2) + j.val = 128 * ((8 * (t.val % 2) + (7 - k.val / 8)) - 1) + j.val; omega)
  · rename_i h
    rw [View.ld_unit_apply_of (iblk m c 3 t) _ _ _ _ (ix3 0 ⟨128 * (6 - k.val / 8) + j.val, by omega⟩ ⟨128 * l.val + x.val, by omega⟩)
      (by intro a; fin_cases a <;> rfl)]
    rw [rd_kv]
    congr 2
    exact Fin.ext (by show 1024 * (t.val % 2) + (128 * (6 - k.val / 8) + j.val) = 128 * ((8 * (t.val % 2) + (7 - k.val / 8)) - 1) + j.val; omega)

theorem sink_ld (t : Fin cfg0.N) (k : Fin 64) (l : Fin 2) :
    (loadSink (iblk m c 0 t) k l : EReal) = sk m c ⟨2 * (7 - k.val % 8) + l.val, by omega⟩ := by
  unfold loadSink
  rw [View.ld_unit_apply_of (iblk m c 0 t) _ _ _ _ (ix1 ⟨2 * (7 - k.val % 8) + l.val, by omega⟩)
    (by intro a; fin_cases a; rfl)]
  exact rd_sink m c t _

/-- Whether the tile's rows have a block before them. -/
def hasPrev (t : Fin cfg0.N) (k : Fin 64) : BitVec 1 :=
  if k.val / 8 = 7 then Scalar.cmpi .sgt (BitVec.ofNat 32 (grid0.coords t 1).val) 0#32 else 1#1

theorem second (t : Fin cfg0.N) :
    Scalar.cmpi .sgt (BitVec.ofNat 32 (grid0.coords t 1).val) 0#32 = if t.val % 2 = 1 then 1#1 else 0#1 :=
  (by decide +kernel : ∀ t : Fin cfg0.N, Scalar.cmpi .sgt (BitVec.ofNat 32 (grid0.coords t 1).val) 0#32 = if t.val % 2 = 1 then 1#1 else 0#1) t

theorem hasPrev_iff (t : Fin cfg0.N) (k : Fin 64) : hasPrev t k = 1#1 ↔ 0 < (blockOf t k).val := by
  unfold hasPrev blockOf
  rw [second]
  show _ ↔ 0 < 8 * (t.val % 2) + (7 - k.val / 8)
  split
  · split
    · exact iff_of_true rfl (by omega)
    · exact iff_of_false (by decide) (by omega)
  · exact iff_of_true rfl (by omega)

/-- The two heads of a tile belong to one key head. -/
theorem tileVal_eq (t : Fin cfg0.N) (k : Fin 64) (i : Fin 128) (g e : Fin 2) (d : Fin 64) (hg : (2 * (7 - k.val % 8) + e.val) / 8 = g.val) :
    tileVal (hasPrev t k) (loadPrev (iblk m c 2 t) (iblk m c 3 t) k 0) (loadPrev (iblk m c 2 t) (iblk m c 3 t) k 1)
      (loadCur (iblk m c 3 t) k 0) (loadCur (iblk m c 3 t) k 1) (loadSink (iblk m c 0 t) k 0) (loadSink (iblk m c 0 t) k 1)
      (View.ld (iblk m c 1 t) (Rect.unit ![0, 128 * (7 - k.val / 8), 128 * (7 - k.val % 8)] S1x128x128.size (inb_tile k))) g e d i
      = Layer.band (fun s x => qh m c (batch t) s ⟨2 * (7 - k.val % 8) + e.val, by omega⟩ x * Layer.eighth) (fun s x => kh m c (batch t) s g x)
          (fun s x => vh m c (batch t) s g x) (sk m c ⟨2 * (7 - k.val % 8) + e.val, by omega⟩) (blockOf t k) i d := by
  have hq := ld_q m c t k i e
  generalize View.ld (iblk m c 1 t) (Rect.unit ![0, 128 * (7 - k.val / 8), 128 * (7 - k.val % 8)] S1x128x128.size (inb_tile k)) = Q at hq ⊢
  unfold tileVal Layer.band score
  have hs : (if e.val = 0 then (loadSink (iblk m c 0 t) k 0 : EReal) else loadSink (iblk m c 0 t) k 1)
      = sk m c ⟨2 * (7 - k.val % 8) + e.val, by omega⟩ := by
    rw [sink_ld, sink_ld]
    match e with
    | ⟨0, _⟩ => rfl
    | ⟨1, _⟩ => rfl
  have kk : ∀ (s : Fin 2048) (x : Fin 64), (V m c main_v6 : S8x2048x256.Idx → EReal) (ix3 (batch t) s ⟨128 * (0 : Fin 2).val + (64 * g.val + x.val), by omega⟩)
      = kh m c (batch t) s g x := fun s x => host_k m c _ _ _ _ _ (by show 128 * 0 + (64 * g.val + x.val) = _; omega)
  have vv : ∀ (s : Fin 2048) (x : Fin 64), (V m c main_v6 : S8x2048x256.Idx → EReal) (ix3 (batch t) s ⟨128 * (1 : Fin 2).val + (64 * g.val + x.val), by omega⟩)
      = vh m c (batch t) s g x := fun s x => host_v m c _ _ _ _ _ (by show 128 * 1 + (64 * g.val + x.val) = _; omega)
  simp only [hs, hq, cur_at, prev_at, kk, vv, hasPrev_iff]

theorem tile_at (t : Fin cfg0.N) (k : Fin 64) (i : Fin 128) (e : Fin 2) (d : Fin 64) :
    (tile (iblk m c 0 t) (iblk m c 1 t) (iblk m c 2 t) (iblk m c 3 t) (BitVec.ofNat 32 (grid0.coords t 1).val) k (ix3 0 i ⟨64 * e.val + d.val, by omega⟩) : EReal)
      = Layer.band (fun s x => qh m c (batch t) s ⟨2 * (7 - k.val % 8) + e.val, by omega⟩ x * Layer.eighth)
          (fun s x => kh m c (batch t) s ⟨(2 * (7 - k.val % 8) + e.val) / 8, by omega⟩ x)
          (fun s x => vh m c (batch t) s ⟨(2 * (7 - k.val % 8) + e.val) / 8, by omega⟩ x) (sk m c ⟨2 * (7 - k.val % 8) + e.val, by omega⟩) (blockOf t k) i d := by
  unfold tile
  split
  · rename_i h
    rw [tileHi_at]
    have hg : (2 * (7 - k.val % 8) + e.val) / 8 = (1 : Fin 2).val := by show _ = 1; omega
    rw [show (⟨(2 * (7 - k.val % 8) + e.val) / 8, by omega⟩ : Fin 2) = 1 from Fin.ext hg]
    exact tileVal_eq m c t k i 1 e d hg
  · rename_i h
    rw [tileLo_at]
    have hg : (2 * (7 - k.val % 8) + e.val) / 8 = (0 : Fin 2).val := by show _ = 0; omega
    rw [show (⟨(2 * (7 - k.val % 8) + e.val) / 8, by omega⟩ : Fin 2) = 0 from Fin.ext hg]
    exact tileVal_eq m c t k i 0 e d hg

/-! ## What a point stores -/

theorem pieces_A (c : Dev nD) (i : grid0.Coords) (arg2 : Memref sig .tc .smem S16 .f32) (harg2 : arg2.IsWhole)
    (arg3 : Memref sig .tc .vmem S1x1024x1024 .bf16) (harg3 : arg3.IsWhole) (arg4 : Memref sig .tc .vmem S1x128x256 .f32) (harg4 : arg4.IsWhole)
    (arg5 : Memref sig .tc .vmem S1x1024x256 .f32) (harg5 : arg5.IsWhole) (arg6 : Memref sig .tc .vmem S1x1024x1024 .bf16) (harg6 : arg6.IsWhole)
    (arg7 : Memref sig .tc .vmem S1x256x128 .f32) (harg7 : arg7.IsWhole) (hc0 : ¬cond0_0 i)
    (x0 : Vec Ideal S16 .f32) (x1 : Vec Ideal S1x1024x1024 .bf16) (x2 : Vec Ideal S1x128x256 .f32) (x3 : Vec Ideal S1x1024x256 .f32) :
    (kernelRun0_A (F := Ideal) c i arg2 harg2 arg3 harg3 arg4 harg4 arg5 harg5 arg6 harg6 arg7 harg7 hc0 x0 x1 x2 x3).1 =
      pieces (arg2.view.read (Elt Ideal) (harg2.unread x0)) (arg3.view.read (Elt Ideal) (harg3.unread x1))
        (arg4.view.read (Elt Ideal) (harg4.unread x2)) (arg5.view.read (Elt Ideal) (harg5.unread x3))
        (BitVec.ofNat 32 (i 1).val) := by
  sl_kernel_rfl

theorem pieces_B (c : Dev nD) (i : grid0.Coords) (arg2 : Memref sig .tc .smem S16 .f32) (harg2 : arg2.IsWhole)
    (arg3 : Memref sig .tc .vmem S1x1024x1024 .bf16) (harg3 : arg3.IsWhole) (arg4 : Memref sig .tc .vmem S1x128x256 .f32) (harg4 : arg4.IsWhole)
    (arg5 : Memref sig .tc .vmem S1x1024x256 .f32) (harg5 : arg5.IsWhole) (arg6 : Memref sig .tc .vmem S1x1024x1024 .bf16) (harg6 : arg6.IsWhole)
    (arg7 : Memref sig .tc .vmem S1x256x128 .f32) (harg7 : arg7.IsWhole) (hc0 : cond0_0 i)
    (x0 : Vec Ideal S16 .f32) (x1 : Vec Ideal S1x1024x1024 .bf16) (x2 : Vec Ideal S1x128x256 .f32) (x3 : Vec Ideal S1x1024x256 .f32) :
    (kernelRun0_B (F := Ideal) c i arg2 harg2 arg3 harg3 arg4 harg4 arg5 harg5 arg6 harg6 arg7 harg7 hc0 x0 x1 x2 x3).1 =
      pieces (arg2.view.read (Elt Ideal) (harg2.unread x0)) (arg3.view.read (Elt Ideal) (harg3.unread x1))
        (arg4.view.read (Elt Ideal) (harg4.unread x2)) (arg5.view.read (Elt Ideal) (harg5.unread x3))
        (BitVec.ofNat 32 (i 1).val) := by
  sl_kernel_rfl

theorem out_A (c : Dev nD) (i : grid0.Coords) (arg2 : Memref sig .tc .smem S16 .f32) (harg2 : arg2.IsWhole)
    (arg3 : Memref sig .tc .vmem S1x1024x1024 .bf16) (harg3 : arg3.IsWhole) (arg4 : Memref sig .tc .vmem S1x128x256 .f32) (harg4 : arg4.IsWhole)
    (arg5 : Memref sig .tc .vmem S1x1024x256 .f32) (harg5 : arg5.IsWhole) (arg6 : Memref sig .tc .vmem S1x1024x1024 .bf16) (harg6 : arg6.IsWhole)
    (arg7 : Memref sig .tc .vmem S1x256x128 .f32) (harg7 : arg7.IsWhole) (hc0 : ¬cond0_0 i)
    (x0 : Vec Ideal S16 .f32) (x1 : Vec Ideal S1x1024x1024 .bf16) (x2 : Vec Ideal S1x128x256 .f32) (x3 : Vec Ideal S1x1024x256 .f32) :
    out0_A_4 (F := Ideal) c i arg2 harg2 arg3 harg3 arg4 harg4 arg5 harg5 arg6 harg6 arg7 harg7 hc0 x0 x1 x2 x3 = View.canon (pieces x0 x1 x2 x3 (BitVec.ofNat 32 (i 1).val)) := by
  unfold out0_A_4
  rw [View.read_writes_eq_canon _ _ _ (cover0_A_4 (F := Ideal) c i arg2 harg2 arg3 harg3 arg4 harg4 arg5 harg5 arg6 harg6 arg7 harg7 hc0 x0 x1 x2 x3), pieces_A]
  rw [harg2.read_unread, harg3.read_unread, harg4.read_unread, harg5.read_unread]

theorem out_B (c : Dev nD) (i : grid0.Coords) (arg2 : Memref sig .tc .smem S16 .f32) (harg2 : arg2.IsWhole)
    (arg3 : Memref sig .tc .vmem S1x1024x1024 .bf16) (harg3 : arg3.IsWhole) (arg4 : Memref sig .tc .vmem S1x128x256 .f32) (harg4 : arg4.IsWhole)
    (arg5 : Memref sig .tc .vmem S1x1024x256 .f32) (harg5 : arg5.IsWhole) (arg6 : Memref sig .tc .vmem S1x1024x1024 .bf16) (harg6 : arg6.IsWhole)
    (arg7 : Memref sig .tc .vmem S1x256x128 .f32) (harg7 : arg7.IsWhole) (hc0 : cond0_0 i)
    (x0 : Vec Ideal S16 .f32) (x1 : Vec Ideal S1x1024x1024 .bf16) (x2 : Vec Ideal S1x128x256 .f32) (x3 : Vec Ideal S1x1024x256 .f32) :
    out0_B_4 (F := Ideal) c i arg2 harg2 arg3 harg3 arg4 harg4 arg5 harg5 arg6 harg6 arg7 harg7 hc0 x0 x1 x2 x3 = View.canon (pieces x0 x1 x2 x3 (BitVec.ofNat 32 (i 1).val)) := by
  unfold out0_B_4
  rw [View.read_writes_eq_canon _ _ _ (cover0_B_4 (F := Ideal) c i arg2 harg2 arg3 harg3 arg4 harg4 arg5 harg5 arg6 harg6 arg7 harg7 hc0 x0 x1 x2 x3), pieces_B]
  rw [harg2.read_unread, harg3.read_unread, harg4.read_unread, harg5.read_unread]

theorem outs_eq (t : Fin cfg0.N) : (outsAt0 m c t.val t.isLt).1
    = View.canon (pieces (iblk m c 0 t) (iblk m c 1 t) (iblk m c 2 t) (iblk m c 3 t) (BitVec.ofNat 32 (grid0.coords t 1).val)) := by
  by_cases h : t.val % 2 = 1
  · rw [outsAt0_B m c t h]
    dsimp only
    rw [out_B]
  · rw [outsAt0_A m c t h]
    dsimp only
    rw [out_A]

theorem out_at (t : Fin cfg0.N) (y : S1x1024x1024.Idx) : ((outsAt0 m c t.val t.isLt).1 y : EReal)
    = result m c (batch t) (row t (y 1)) ⟨(y 2).val / 64, by have := (y 2).isLt; change _ < 1024 at this; omega⟩ ⟨(y 2).val % 64, by omega⟩ := by
  rw [outs_eq]
  unfold pieces
  have h1 := (y 1).isLt
  change _ < 1024 at h1
  have h2 := (y 2).isLt
  change _ < 1024 at h2
  have h0 := (y 0).isLt
  change _ < 1 at h0
  refine View.canon_ofFn_unit_eq_of_forall (S := S1x1024x1024) (fun k : Fin 64 => ![0, 128 * (7 - k.val / 8), 128 * (7 - k.val % 8)]) S1x128x128.size inb_tile _ y _ ?_ ?_
  · refine ⟨⟨8 * (7 - (y 1).val / 128) + (7 - (y 2).val / 128), by omega⟩, fun a => ?_⟩
    fin_cases a
    · show 0 ≤ (y 0).val ∧ (y 0).val < 0 + 1; omega
    · show 128 * (7 - (8 * (7 - (y 1).val / 128) + (7 - (y 2).val / 128)) / 8) ≤ (y 1).val ∧ (y 1).val < 128 * (7 - (8 * (7 - (y 1).val / 128) + (7 - (y 2).val / 128)) / 8) + 128; omega
    · show 128 * (7 - (8 * (7 - (y 1).val / 128) + (7 - (y 2).val / 128)) % 8) ≤ (y 2).val ∧ (y 2).val < 128 * (7 - (8 * (7 - (y 1).val / 128) + (7 - (y 2).val / 128)) % 8) + 128; omega
  · intro k x hx
    have e1 : (y 1).val = 128 * (7 - k.val / 8) + (x 1).val := hx 1
    have e2 : (y 2).val = 128 * (7 - k.val % 8) + (x 2).val := hx 2
    have x0 : (x 0).val < 1 := (x 0).isLt
    have x1 : (x 1).val < 128 := (x 1).isLt
    have x2 : (x 2).val < 128 := (x 2).isLt
    have hxe : x = ix3 0 ⟨(x 1).val, x1⟩ ⟨64 * (⟨(x 2).val / 64, by omega⟩ : Fin 2).val + (⟨(x 2).val % 64, by omega⟩ : Fin 64).val, by
        show 64 * ((x 2).val / 64) + (x 2).val % 64 < 128; omega⟩ := by
      funext a
      apply Fin.ext
      match a with
      | ⟨0, _⟩ => show (x 0).val = 0; omega
      | ⟨1, _⟩ => rfl
      | ⟨2, _⟩ => show (x 2).val = 64 * ((x 2).val / 64) + (x 2).val % 64; omega
    rw [hxe, tile_at]
    unfold result
    have a1 : (⟨2 * (7 - k.val % 8) + (x 2).val / 64, by omega⟩ : Fin 16) = ⟨(y 2).val / 64, by omega⟩ := Fin.ext (by show _ + (x 2).val / 64 = (y 2).val / 64; omega)
    have a2 : (⟨(2 * (7 - k.val % 8) + (x 2).val / 64) / 8, by omega⟩ : Fin 2) = ⟨(y 2).val / 64 / 8, by omega⟩ :=
      Fin.ext (by show (_ + (x 2).val / 64) / 8 = (y 2).val / 64 / 8; omega)
    have a3 : (⟨(x 2).val % 64, by omega⟩ : Fin 64) = ⟨(y 2).val % 64, by omega⟩ := Fin.ext (by show (x 2).val % 64 = (y 2).val % 64; omega)
    have a4 : blockOf t k = ⟨(row t (y 1)).val / 128, by omega⟩ := Fin.ext (by show 8 * (t.val % 2) + (7 - k.val / 8) = (1024 * (t.val % 2) + (y 1).val) / 128; omega)
    have a5 : (⟨(x 1).val, x1⟩ : Fin 128) = ⟨(row t (y 1)).val % 128, by omega⟩ := Fin.ext (by show (x 1).val = (1024 * (t.val % 2) + (y 1).val) % 128; omega)
    rw [← a4, ← a5]
    simp only [a1, a2, a3]

/-- The attention's output array. -/
theorem array4 (i : S8x2048x1024.Idx) : ((dats m 0 c).arrAt 4 cfg0.N : S8x2048x1024.Idx → EReal) i
    = result m c (i 0) (i 1) ⟨(i 2).val / 64, by have := (i 2).isLt; change _ < 1024 at this; omega⟩ ⟨(i 2).val % 64, by omega⟩ := by
  refine congrFun (g := fun i : S8x2048x1024.Idx => result m c (i 0) (i 1) ⟨(i 2).val / 64, by have := (i 2).isLt; change _ < 1024 at this; omega⟩ ⟨(i 2).val % 64, by omega⟩) ?_ i
  refine (dats m 0 c).arrAt_eq_of_covers 4 _ (by decide +kernel) fun t hf y => ?_
  refine ((congrFun (after0_4 m c t) y).trans (out_at m c t y)).trans ?_
  have y0 : (y 0).val < 1 := (y 0).isLt
  have e0 : batch t = ((cfg0.win 4).blk t).view.emb y 0 := Fin.ext (by
    show t.val / 2 = win0_4.index t 0 * 1 + 1 * (y 0).val
    rw [(idx t).2.2.2.2.1]; show t.val / 2 = t.val / 2 * 1 + 1 * (y 0).val; omega)
  have e1 : row t (y 1) = ((cfg0.win 4).blk t).view.emb y 1 := Fin.ext (by
    show 1024 * (t.val % 2) + (y 1).val = win0_4.index t 1 * 1024 + 1 * (y 1).val
    rw [(idx t).2.2.2.2.1]; show _ = t.val % 2 * 1024 + 1 * (y 1).val; omega)
  have e2 : (y 2).val = (((cfg0.win 4).blk t).view.emb y 2).val := by
    show (y 2).val = win0_4.index t 2 * 1024 + 1 * (y 2).val
    rw [(idx t).2.2.2.2.1]; show (y 2).val = 0 * 1024 + 1 * (y 2).val; omega
  simp only [e0, e1, e2]

end Cert.KernelIdeal.Hand

end
-- ==== Proof.Band.Cache.lean ====
module

public import proofs.«01_k».proof.Proof.Band.Kernel

/-! # The sliding-window attention: the cache rows it writes -/

@[expose] public section

noncomputable section

namespace Cert.KernelIdeal.Hand

open Idealize.ShloMosaic Idealize.ShloMosaic.TcCoe Cert.KernelIdeal Cert.KernelIdeal.Gen

variable (m : (ℓ : Loc nD τ sig) → Buf (Elt Ideal) ℓ) (c : Dev nD)

theorem cache_at (t : Fin cfg0.N) (h : t.val % 2 = 1) (y : S1x256x128.Idx) : ((outsAt0 m c t.val t.isLt).2 y : EReal)
    = V m c main_v6 (ix3 (batch t) ⟨1920 + (y 2).val, by have := (y 2).isLt; change _ < 128 at this; omega⟩ (y 1)) := by
  rw [outsAt0_B m c t h]
  frame_out
  idx_vars y
  pointwise [k0_pay751]
  refine (rd_kv m c t _ _).trans ?_
  have e : row t ⟨896 + y2.val, by omega⟩ = ⟨1920 + y2.val, by omega⟩ := Fin.ext (by
    show 1024 * (t.val % 2) + (896 + y2.val) = 1920 + y2.val; omega)
  rw [e]

/-- The array of the cache's rows: the keys and values of each batch's last 128 rows, transposed. -/
theorem array5 (i : S8x256x128.Idx) : ((dats m 0 c).arrAt 5 cfg0.N : S8x256x128.Idx → EReal) i
    = V m c main_v6 (ix3 (i 0) ⟨1920 + (i 2).val, by have := (i 2).isLt; change _ < 128 at this; omega⟩ (i 1)) := by
  refine congrFun (g := fun i : S8x256x128.Idx => (V m c main_v6 : S8x2048x256.Idx → EReal) (ix3 (i 0) ⟨1920 + (i 2).val, by have := (i 2).isLt; change _ < 128 at this; omega⟩ (i 1))) ?_ i
  refine (dats m 0 c).arrAt_eq_of_covers 5 _ (by decide +kernel) fun t hf y => ?_
  refine ((congrFun (after0_5 m c t) y).trans (cache_at m c t ((flush0_5 t).mp hf) y)).trans ?_
  have y0 : (y 0).val < 1 := (y 0).isLt
  have e0 : batch t = ((cfg0.win 5).blk t).view.emb y 0 := Fin.ext (by
    show t.val / 2 = win0_5.index t 0 * 1 + 1 * (y 0).val
    rw [(idx t).2.2.2.2.2]; show t.val / 2 = t.val / 2 * 1 + 1 * (y 0).val; omega)
  have e1 : y 1 = ((cfg0.win 5).blk t).view.emb y 1 := Fin.ext (by
    show (y 1).val = win0_5.index t 1 * 256 + 1 * (y 1).val
    rw [(idx t).2.2.2.2.2]; show _ = 0 * 256 + 1 * (y 1).val; omega)
  have e2 : (y 2).val = (((cfg0.win 5).blk t).view.emb y 2).val := by
    show (y 2).val = win0_5.index t 2 * 128 + 1 * (y 2).val
    rw [(idx t).2.2.2.2.2]; show (y 2).val = 0 * 128 + 1 * (y 2).val; omega
  simp only [e0, ← e1, e2]

end Cert.KernelIdeal.Hand

end
-- ==== Proof.Band.RefSpec.lean ====
module

public import proofs.«01_k».proof.Proof.Band.Spec

/-! # The reference's formulas of the sliding-window attention

One query row of one head against the 256 keys of the two blocks it may see, the rows before the first being zero. -/

@[expose] public section

noncomputable section

namespace Layer

open Idealize.ShloMosaic

/-- The rows with 128 rows of zeros before them. -/
def padded (k : Fin 2048 → Fin 64 → EReal) (p : Fin 2176) (x : Fin 64) : EReal :=
  if h : p.val < 128 then 0 else k ⟨p.val - 128, by omega⟩ x

/-- The scores of row `i` of block `n` against the 256 keys, `⊥` outside the window. -/
def scoresRef (q k : Fin 2048 → Fin 64 → EReal) (n : Fin 16) (i : Fin 128) (j : Fin 256) : EReal :=
  if (j.val ≤ 128 + i.val ∧ i.val ≤ j.val) ∧ (0 < n.val ∨ 128 ≤ j.val) then
    (∑ x : Fin 64, padded k ⟨128 * n.val + j.val, by omega⟩ x * q ⟨128 * n.val + i.val, by omega⟩ x) * eighth
  else ⊥

/-- The largest of 256 scores, the sink included. -/
def topRef (s : Fin 256 → EReal) (sink : EReal) : EReal := max (Finset.univ.fold max ⊥ s) sink

/-- The sum of the weights. -/
def massRef (s : Fin 256 → EReal) (sink : EReal) : EReal :=
  (∑ j, Ideal.exp (s j - topRef s sink)) + Ideal.exp (sink - topRef s sink)

/-- Lane `d` of the output: the values weighted by the weights over their sum. -/
def bandRef (q k v : Fin 2048 → Fin 64 → EReal) (sink : EReal) (n : Fin 16) (i : Fin 128) (d : Fin 64) : EReal :=
  ∑ j : Fin 256, padded v ⟨128 * n.val + j.val, by omega⟩ d
    * Ideal.div (Ideal.exp (scoresRef q k n i j - topRef (scoresRef q k n i) sink)) (massRef (scoresRef q k n i) sink)

end Layer

end
-- ==== Proof.Band.RefScores.lean ====
module

public import proofs.«01_k».proof.Proof.Gen.ReferenceIdeal.Read
public import proofs.«01_k».proof.Proof.Band.RefSpec
public import Idealize.ShloMosaic.Lib.Pointwise

/-! # The keys, the scores and the masks of the sliding-window attention's reference -/

@[expose] public section

set_option maxRecDepth 16384

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable (x0 : S8x2048x2x8x64.Idx → EReal) (x1 x2 : S8x2048x2x64.Idx → EReal) (x3 : S2x8.Idx → EReal)

/-- The query rows of head `h` of key head `g`. -/
abbrev qr (b : Fin 8) (g : Fin 2) (h : Fin 8) (s : Fin 2048) (d : Fin 64) : EReal := x0 (ix5 b s g h d)
/-- The rows of key head `g` of the keys or of the values. -/
abbrev kr (b : Fin 8) (g : Fin 2) (s : Fin 2048) (d : Fin 64) : EReal := x1 (ix4 b s g d)

theorem pad_at (b : Fin 8) (p : Fin 2176) (g : Fin 2) (d : Fin 64) :
    val_main_v1 (F := Ideal) x1 (ix4 b p g d) = Layer.padded (kr x1 b g) p d := by
  have z : (val_main_call0_v0 (F := Ideal) (Shape.Idx.first h_S_) : EReal) = 0 := by
    rw [val_main_call0_v0_apply, val_main_c_apply]
    show (((0#32 : BitVec 32).toInt : ℝ) : EReal) = 0
    simp
  unfold Layer.padded
  pointwise [val_main_v1]
  rw [z]
  by_cases hp : p.val < 128
  · rw [dif_pos hp, dif_neg (by omega)]
  · rw [dif_neg hp, dif_pos (by omega)]

theorem keys_at (b : Fin 8) (n : Fin 16) (j : Fin 256) (g : Fin 2) (d : Fin 64) :
    val_main_v5 (F := Ideal) x1 (ix5 b n j g d) = Layer.padded (kr x1 b g) ⟨128 * n.val + j.val, by omega⟩ d := by
  have h := pad_at x1 b
  generalize hv : val_main_v1 (F := Ideal) x1 = v at h
  unfold val_main_v5 val_main_v4 val_main_v3 val_main_v2
  rw [hv]
  pointwise
  simp only [h]
  split
  · congr 1
    exact Fin.ext (by show n.val * 128 + j.val = 128 * n.val + j.val; omega)
  · congr 1
    exact Fin.ext (by show (1 + n.val) * 128 + (j.val - 128) = 128 * n.val + j.val; omega)

theorem dot_at (b : Fin 8) (n : Fin 16) (g : Fin 2) (h : Fin 8) (i : Fin 128) (j : Fin 256) :
    val_main_v14 (F := Ideal) x0 x1 (ix6 b n g h i j)
      = (∑ x : Fin 64, Layer.padded (kr x1 b g) ⟨128 * n.val + j.val, by omega⟩ x * qr x0 b g h ⟨128 * n.val + i.val, by omega⟩ x) * Layer.eighth := by
  have hk := keys_at x1 b
  generalize hv : val_main_v5 (F := Ideal) x1 = v at hk
  unfold val_main_v14 val_main_v13 val_main_v12 val_main_v11 val_main_v0 val_main_cst Layer.eighth
  rw [hv]
  pointwise
  simp only [hk, Nat.mul_comm n.val 128]

theorem dist_bits (i : Fin 128) (j : Fin 256) :
    IntOp.andi (IntOp.cmpi .sge (IntOp.subi (IntOp.addi (128#32) (BitVec.ofNat 32 i.val)) (BitVec.ofNat 32 j.val)) 0#32)
      (IntOp.cmpi .sle (IntOp.subi (IntOp.addi (128#32) (BitVec.ofNat 32 i.val)) (BitVec.ofNat 32 j.val)) 128#32)
      = if j.val ≤ 128 + i.val ∧ i.val ≤ j.val then 1#1 else 0#1 :=
  (by decide +kernel : ∀ (i : Fin 128) (j : Fin 256),
    IntOp.andi (IntOp.cmpi .sge (IntOp.subi (IntOp.addi (128#32) (BitVec.ofNat 32 i.val)) (BitVec.ofNat 32 j.val)) 0#32)
      (IntOp.cmpi .sle (IntOp.subi (IntOp.addi (128#32) (BitVec.ofNat 32 i.val)) (BitVec.ofNat 32 j.val)) 128#32)
      = if j.val ≤ 128 + i.val ∧ i.val ≤ j.val then 1#1 else 0#1) i j

theorem kpos_bits (n : Fin 16) (j : Fin 256) :
    IntOp.cmpi .sge (IntOp.addi (IntOp.muli (IntOp.subi (BitVec.ofNat 32 n.val) 1#32) 128#32) (BitVec.ofNat 32 j.val)) 0#32
      = if 0 < n.val ∨ 128 ≤ j.val then 1#1 else 0#1 :=
  (by decide +kernel : ∀ (n : Fin 16) (j : Fin 256),
    IntOp.cmpi .sge (IntOp.addi (IntOp.muli (IntOp.subi (BitVec.ofNat 32 n.val) 1#32) 128#32) (BitVec.ofNat 32 j.val)) 0#32
      = if 0 < n.val ∨ 128 ≤ j.val then 1#1 else 0#1) n j

theorem dist_at (i : Fin 128) (j : Fin 256) : val_main_v39 (F := Ideal) (ix2 i j)
    = if j.val ≤ 128 + i.val ∧ i.val ≤ j.val then 1#1 else 0#1 := by
  pointwise [val_main_v39, val_main_v38, val_main_v37, val_main_c_5, val_main_v36, val_main_v35, val_main_c_4, val_main_v23, val_main_v22, val_main_v21,
    val_main_v20, val_main_v19, val_main_v18, val_main_v17, val_main_v16, val_main_v15, val_main_c_1]
  exact dist_bits i j

theorem kpos_at (n : Fin 16) (j : Fin 256) : val_main_v42 (F := Ideal) (ix2 n j)
    = if 0 < n.val ∨ 128 ≤ j.val then 1#1 else 0#1 := by
  pointwise [val_main_v42, val_main_v41, val_main_c_6, val_main_v34, val_main_v33, val_main_v32, val_main_v31, val_main_v30, val_main_v29, val_main_v28,
    val_main_v27, val_main_v26, val_main_v25, val_main_v24, val_main_c_2, val_main_c_3]
  exact kpos_bits n j

theorem and_bits (p q : Prop) [Decidable p] [Decidable q] :
    IntOp.andi (if p then 1#1 else 0#1) (if q then 1#1 else 0#1) = if p ∧ q then 1#1 else 0#1 := by
  by_cases hp : p <;> by_cases hq : q <;> simp only [hp, hq, if_true, if_false, and_self, and_true, and_false, true_and, false_and] <;> rfl

theorem mask_at (n : Fin 16) (i : Fin 128) (j : Fin 256) : val_main_v47 (F := Ideal) (ix5 n 0 0 i j)
    = if (j.val ≤ 128 + i.val ∧ i.val ≤ j.val) ∧ (0 < n.val ∨ 128 ≤ j.val) then 1#1 else 0#1 := by
  have h1 := dist_at
  have h2 := kpos_at
  generalize hv : val_main_v39 (F := Ideal) = v at h1
  generalize hw : val_main_v42 (F := Ideal) = w at h2
  unfold val_main_v47 val_main_v46 val_main_v45 val_main_v44 val_main_v43 val_main_v40
  rw [hv, hw]
  pointwise
  rw [h1, h2, and_bits]

end Cert.ReferenceIdeal.Hand

end
-- ==== Proof.Band.RefFold.lean ====
module

public import proofs.«01_k».proof.Proof.Gen.ReferenceIdeal.Read
public import proofs.«01_k».proof.Proof.Band.RefScores
public import Idealize.ShloMosaic.Lib.Pointwise

/-! # What the reference of the sliding-window attention returns -/

@[expose] public section

set_option maxRecDepth 16384

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable (x0 : S8x2048x2x8x64.Idx → EReal) (x1 x2 : S8x2048x2x64.Idx → EReal) (x3 : S2x8.Idx → EReal)

theorem neg_inf : Ideal.ofBits FTy.f32 4286578688#32 = ⊥ := by
  simp [Ideal.ofBits, Ideal.ieee]

/-- The query rows, the keys and the values of one row of the output. -/
abbrev scores (b : Fin 8) (n : Fin 16) (g : Fin 2) (h : Fin 8) (i : Fin 128) : Fin 256 → EReal :=
  Layer.scoresRef (qr x0 b g h) (kr x1 b g) n i

theorem scores_at (b : Fin 8) (n : Fin 16) (g : Fin 2) (h : Fin 8) (i : Fin 128) (j : Fin 256) :
    val_main_v49 (F := Ideal) x0 x1 (ix6 b n g h i j) = scores x0 x1 b n g h i j := by
  have h1 := mask_at
  have h2 := dot_at x0 x1
  generalize hv : val_main_v47 (F := Ideal) = v at h1
  generalize hw : val_main_v14 (F := Ideal) x0 x1 = w at h2
  unfold val_main_v49 val_main_call2_v2 val_main_call2_v1 val_main_call2_v0 val_main_cst_7
  rw [hv, hw]
  pointwise
  rw [h1, h2]
  unfold scores Layer.scoresRef
  by_cases hc : (j.val ≤ 128 + i.val ∧ i.val ≤ j.val) ∧ (0 < n.val ∨ 128 ≤ j.val)
  · rw [if_pos hc, if_pos hc]; rfl
  · rw [if_neg hc, if_neg hc]; exact neg_inf

theorem fold_at (b : Fin 8) (n : Fin 16) (g : Fin 2) (h : Fin 8) (i : Fin 128) :
    val_main_v50 (F := Ideal) x0 x1 (ix5 b n g h i) = Finset.univ.fold max ⊥ (scores x0 x1 b n g h i) := by
  have h1 := scores_at x0 x1 b n g h i
  generalize hv : val_main_v49 (F := Ideal) x0 x1 = v at h1
  unfold val_main_v50
  rw [hv, Host.reduce_eq_fold_single (FloatOps.maximumf (F := Ideal) (φ := .f32)) v _ reducesTo_S8x16x2x8x128x256_S8x16x2x8x128_d5 (by decide)]
  have e0 : (val_main_cst_8 (F := Ideal) (Shape.Idx.first h_S_) : EReal) = ⊥ := neg_inf
  rw [e0]
  refine congrArg (fun f => Finset.univ.fold max ⊥ f) (funext fun k => ?_)
  refine Eq.trans ?_ (h1 k)
  exact congrArg v (funext fun a => Fin.ext (by match a with | ⟨0, _⟩ => rfl | ⟨1, _⟩ => rfl | ⟨2, _⟩ => rfl | ⟨3, _⟩ => rfl | ⟨4, _⟩ => rfl | ⟨5, _⟩ => rfl))

end Cert.ReferenceIdeal.Hand

end
-- ==== Proof.Band.RefTop.lean ====
module

public import proofs.«01_k».proof.Proof.Gen.ReferenceIdeal.Read
public import proofs.«01_k».proof.Proof.Band.RefFold
public import Idealize.ShloMosaic.Lib.Pointwise

/-! # What the reference of the sliding-window attention returns -/

@[expose] public section

set_option maxRecDepth 16384

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable (x0 : S8x2048x2x8x64.Idx → EReal) (x1 x2 : S8x2048x2x64.Idx → EReal) (x3 : S2x8.Idx → EReal)

theorem sink_at (b : Fin 8) (n : Fin 16) (g : Fin 2) (h : Fin 8) (i : Fin 128) :
    val_main_v53 (F := Ideal) x3 (ix6 b n g h i 0) = x3 (ix2 g h) := by
  rw [val_main_v53_apply, val_main_v52_apply, val_main_v48_apply]
  exact congrArg x3 (funext fun a => Fin.ext (by match a with | ⟨0, _⟩ => rfl | ⟨1, _⟩ => rfl))

theorem best_at (b : Fin 8) (n : Fin 16) (g : Fin 2) (h : Fin 8) (i : Fin 128) :
    val_main_v51 (F := Ideal) x0 x1 (ix6 b n g h i 0) = val_main_v50 (F := Ideal) x0 x1 (ix5 b n g h i) := by
  rw [val_main_v51_apply]
  exact congrArg (val_main_v50 (F := Ideal) x0 x1) (funext fun a => Fin.ext (by match a with | ⟨0, _⟩ => rfl | ⟨1, _⟩ => rfl | ⟨2, _⟩ => rfl | ⟨3, _⟩ => rfl | ⟨4, _⟩ => rfl))

theorem top_at (b : Fin 8) (n : Fin 16) (g : Fin 2) (h : Fin 8) (i : Fin 128) :
    val_main_v54 (F := Ideal) x0 x1 x3 (ix6 b n g h i 0) = Layer.topRef (scores x0 x1 b n g h i) (x3 (ix2 g h)) := by
  unfold Layer.topRef
  rw [val_main_v54_apply, best_at, fold_at, sink_at]
  rfl

end Cert.ReferenceIdeal.Hand

end
-- ==== Proof.Band.Reference.lean ====
module

public import proofs.«01_k».proof.Proof.Gen.ReferenceIdeal.Read
public import proofs.«01_k».proof.Proof.Band.RefTop
public import Idealize.ShloMosaic.Lib.Pointwise

/-! # What the reference of the sliding-window attention returns -/

@[expose] public section

set_option maxRecDepth 16384

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable (x0 : S8x2048x2x8x64.Idx → EReal) (x1 x2 : S8x2048x2x64.Idx → EReal) (x3 : S2x8.Idx → EReal)

theorem weight_at (b : Fin 8) (n : Fin 16) (g : Fin 2) (h : Fin 8) (i : Fin 128) (j : Fin 256) :
    val_main_v57 (F := Ideal) x0 x1 x3 (ix6 b n g h i j)
      = Ideal.exp (scores x0 x1 b n g h i j - Layer.topRef (scores x0 x1 b n g h i) (x3 (ix2 g h))) := by
  have h1 := scores_at x0 x1 b n g h i j
  have h2 := top_at x0 x1 x3 b n g h i
  generalize hv : val_main_v49 (F := Ideal) x0 x1 = v at h1
  generalize hw : val_main_v54 (F := Ideal) x0 x1 x3 = w at h2
  unfold val_main_v57 val_main_v56 val_main_v55
  rw [hv, hw]
  pointwise
  rw [h1, h2]

theorem sum_at (b : Fin 8) (n : Fin 16) (g : Fin 2) (h : Fin 8) (i : Fin 128) :
    val_main_v58 (F := Ideal) x0 x1 x3 (ix5 b n g h i)
      = ∑ j, Ideal.exp (scores x0 x1 b n g h i j - Layer.topRef (scores x0 x1 b n g h i) (x3 (ix2 g h))) := by
  rw [val_main_v58_apply]
  have e0 : (val_main_cst_9 (F := Ideal) (Shape.Idx.first h_S_) : EReal) = 0 := Ideal.ofBits_zero_f32
  rw [e0, zero_add]
  refine Finset.sum_congr rfl fun k _ => ?_
  rw [← weight_at]
  exact congrArg (val_main_v57 (F := Ideal) x0 x1 x3) (funext fun a => Fin.ext (by match a with | ⟨0, _⟩ => rfl | ⟨1, _⟩ => rfl | ⟨2, _⟩ => rfl | ⟨3, _⟩ => rfl | ⟨4, _⟩ => rfl | ⟨5, _⟩ => rfl))

theorem mass_at (b : Fin 8) (n : Fin 16) (g : Fin 2) (h : Fin 8) (i : Fin 128) :
    val_main_v64 (F := Ideal) x0 x1 x3 (ix6 b n g h i 0) = Layer.massRef (scores x0 x1 b n g h i) (x3 (ix2 g h)) := by
  have h1 := sum_at x0 x1 x3 b n g h i
  have h2 := top_at x0 x1 x3 b n g h i
  generalize hv : val_main_v58 (F := Ideal) x0 x1 x3 = v at h1
  generalize hw : val_main_v54 (F := Ideal) x0 x1 x3 = w at h2
  unfold val_main_v64 val_main_v63 val_main_v62 val_main_v61 val_main_v60 val_main_v59 val_main_v48 Layer.massRef
  rw [hv, hw]
  pointwise
  rw [h1, h2]

theorem share_at (b : Fin 8) (n : Fin 16) (g : Fin 2) (h : Fin 8) (i : Fin 128) (j : Fin 256) :
    val_main_v66 (F := Ideal) x0 x1 x3 (ix6 b n g h i j)
      = Ideal.div (Ideal.exp (scores x0 x1 b n g h i j - Layer.topRef (scores x0 x1 b n g h i) (x3 (ix2 g h))))
          (Layer.massRef (scores x0 x1 b n g h i) (x3 (ix2 g h))) := by
  have h1 := weight_at x0 x1 x3 b n g h i j
  have h2 := mass_at x0 x1 x3 b n g h i
  generalize hv : val_main_v57 (F := Ideal) x0 x1 x3 = v at h1
  generalize hw : val_main_v64 (F := Ideal) x0 x1 x3 = w at h2
  unfold val_main_v66 val_main_v65
  rw [hv, hw]
  pointwise
  rw [h1, h2]

theorem out_at (b : Fin 8) (n : Fin 16) (g : Fin 2) (d : Fin 64) (h : Fin 8) (i : Fin 128) :
    val_main_v67 (F := Ideal) x0 x1 x2 x3 (ix6 b n g d h i)
      = Layer.bandRef (qr x0 b g h) (kr x1 b g) (kr x2 b g) (x3 (ix2 g h)) n i d := by
  rw [val_main_v67_apply]
  unfold Layer.bandRef
  refine Finset.sum_congr rfl fun k _ => ?_
  have e1 : lidx_main_v67 (ix6 b n g d h i) k = ix5 b n k g d :=
    funext fun a => Fin.ext (by match a with | ⟨0, _⟩ => rfl | ⟨1, _⟩ => rfl | ⟨2, _⟩ => rfl | ⟨3, _⟩ => rfl | ⟨4, _⟩ => rfl)
  have e2 : ridx_main_v67 (ix6 b n g d h i) k = ix6 b n g h i k :=
    funext fun a => Fin.ext (by match a with | ⟨0, _⟩ => rfl | ⟨1, _⟩ => rfl | ⟨2, _⟩ => rfl | ⟨3, _⟩ => rfl | ⟨4, _⟩ => rfl | ⟨5, _⟩ => rfl)
  rw [e1, e2, share_at]
  exact congrArg (· * _) (keys_at x2 b n k g d)

theorem result_at (b : Fin 8) (s : Fin 2048) (l : Fin 1024) :
    val_main_v76 (F := Ideal) x0 x1 x2 x3 (ix3 b s l)
      = Layer.bandRef (qr x0 b ⟨l.val / 512, by omega⟩ ⟨l.val / 64 % 8, by omega⟩) (kr x1 b ⟨l.val / 512, by omega⟩) (kr x2 b ⟨l.val / 512, by omega⟩)
          (x3 (ix2 ⟨l.val / 512, by omega⟩ ⟨l.val / 64 % 8, by omega⟩)) ⟨s.val / 128, by omega⟩ ⟨s.val % 128, by omega⟩ ⟨l.val % 64, by omega⟩ := by
  have h1 := out_at x0 x1 x2 x3 b
  generalize hv : val_main_v67 (F := Ideal) x0 x1 x2 x3 = v at h1
  unfold val_main_v76 val_main_v75 val_main_v69 val_main_v68
  rw [hv]
  pointwise
  rw [h1]

theorem cache_at (b : Fin 8) (l : Fin 256) (j : Fin 128) : val_main_v78 (F := Ideal) x1 x2 (ix3 b l j)
    = if h : l.val < 128 then kr x1 b ⟨l.val / 64, by omega⟩ ⟨1920 + j.val, by omega⟩ ⟨l.val % 64, by omega⟩
      else kr x2 b ⟨(l.val - 128) / 64, by omega⟩ ⟨1920 + j.val, by omega⟩ ⟨(l.val - 128) % 64, by omega⟩ := by
  pointwise [val_main_v78, val_main_v77, val_main_v74, val_main_v73, val_main_v72, val_main_v71, val_main_v70]
  by_cases hl : l.val < 128
  · have h3 : l.val / 128 < 1 := by omega
    simp only [dif_pos h3, dif_pos hl]
    have e : (⟨l.val / 64 % 2, by omega⟩ : Fin 2) = ⟨l.val / 64, by omega⟩ := Fin.ext (by show l.val / 64 % 2 = l.val / 64; omega)
    rw [e]
  · have h3 : ¬l.val / 128 < 1 := by omega
    simp only [dif_neg h3, dif_neg hl]
    have e : (⟨l.val / 64 % 2, by omega⟩ : Fin 2) = ⟨(l.val - 128) / 64, by omega⟩ := Fin.ext (by show l.val / 64 % 2 = (l.val - 128) / 64; omega)
    have e2 : (⟨l.val % 64, by omega⟩ : Fin 64) = ⟨(l.val - 128) % 64, by omega⟩ := Fin.ext (by show l.val % 64 = (l.val - 128) % 64; omega)
    rw [e, e2]

end Cert.ReferenceIdeal.Hand

end
-- ==== Proof.Band.Bridge.lean ====
module

public import proofs.«01_k».proof.Proof.Band.RefSpec

/-! # The kernel's and the reference's formulas agree on finite queries, keys and sinks -/

@[expose] public section

noncomputable section

namespace Layer

open Idealize.ShloMosaic

/-- A number that is neither infinity. -/
def Finite (x : EReal) : Prop := x ≠ ⊥ ∧ x ≠ ⊤

theorem Finite.mul {x y : EReal} (hx : Finite x) (hy : Finite y) : Finite (x * y) := by
  obtain ⟨x, rfl⟩ : ∃ r : ℝ, (r : EReal) = x := ⟨x.toReal, EReal.coe_toReal hx.2 hx.1⟩
  obtain ⟨y, rfl⟩ : ∃ r : ℝ, (r : EReal) = y := ⟨y.toReal, EReal.coe_toReal hy.2 hy.1⟩
  rw [← EReal.coe_mul]
  exact ⟨EReal.coe_ne_bot _, EReal.coe_ne_top _⟩

theorem Finite.add {x y : EReal} (hx : Finite x) (hy : Finite y) : Finite (x + y) := by
  obtain ⟨x, rfl⟩ : ∃ r : ℝ, (r : EReal) = x := ⟨x.toReal, EReal.coe_toReal hx.2 hx.1⟩
  obtain ⟨y, rfl⟩ : ∃ r : ℝ, (r : EReal) = y := ⟨y.toReal, EReal.coe_toReal hy.2 hy.1⟩
  rw [← EReal.coe_add]
  exact ⟨EReal.coe_ne_bot _, EReal.coe_ne_top _⟩

theorem finite_coe (r : ℝ) : Finite (r : EReal) := ⟨EReal.coe_ne_bot _, EReal.coe_ne_top _⟩

theorem Finite.sum {ι : Type} (s : Finset ι) {f : ι → EReal} (h : ∀ i, Finite (f i)) : Finite (∑ i ∈ s, f i) :=
  Finset.sum_induction f Finite (fun _ _ => Finite.add) (finite_coe 0) fun i _ => h i

/-- The scaling may be done before or after the sum. -/
theorem score_eq (q k : Fin 64 → EReal) : (∑ x, k x * q x) * eighth = ∑ x, (q x * eighth) * k x := by
  rw [eighth_eq, ← sum_mul_real (1 / 8) (by norm_num)]
  refine Finset.sum_congr rfl fun x _ => ?_
  rw [mul_comm (k x) (q x), mul_assoc, mul_assoc, mul_comm (k x)]

/-- The largest of 256 scores is the largest over the two halves. -/
theorem topRef_eq (s : Fin 256 → EReal) (sink : EReal) :
    topRef s sink = top (fun j => s ⟨j.val, by omega⟩) (fun j => s ⟨128 + j.val, by omega⟩) sink := by
  unfold topRef top
  congr 1
  refine le_antisymm ?_ ?_
  · refine Finset.fold_max_le _ |>.mpr ⟨bot_le, fun j _ => ?_⟩
    by_cases hj : j.val < 128
    · exact (le_max_left _ _).trans (Finset.le_fold_max _ |>.mpr (Or.inr ⟨⟨j.val, hj⟩, Finset.mem_univ _, le_rfl⟩))
    · have e : (⟨128 + (⟨j.val - 128, by omega⟩ : Fin 128).val, by show 128 + (j.val - 128) < 256; omega⟩ : Fin 256) = j :=
        Fin.ext (by show 128 + (j.val - 128) = j.val; omega)
      refine Finset.le_fold_max _ |>.mpr (Or.inr ⟨⟨j.val - 128, by omega⟩, Finset.mem_univ _, ?_⟩)
      refine le_trans (le_of_eq ?_) (le_max_right _ _)
      exact congrArg s e.symm
  · refine Finset.fold_max_le _ |>.mpr ⟨bot_le, fun j _ => max_le ?_ ?_⟩
    · exact Finset.le_fold_max _ |>.mpr (Or.inr ⟨_, Finset.mem_univ _, le_rfl⟩)
    · exact Finset.le_fold_max _ |>.mpr (Or.inr ⟨_, Finset.mem_univ _, le_rfl⟩)

/-- The largest score is finite: the sink is, and every score is finite or `⊥`. -/
theorem top_finite (sp sc : Fin 128 → EReal) (sink : EReal) (hp : ∀ j, sp j ≠ ⊤) (hc : ∀ j, sc j ≠ ⊤) (hs : Finite sink) :
    Finite (top sp sc sink) := by
  unfold top
  refine ⟨fun h => hs.1 (le_bot_iff.mp (h ▸ le_max_right _ _)), ?_⟩
  have : Finset.univ.fold max ⊥ (fun j => max (sp j) (sc j)) < ⊤ :=
    (Finset.fold_max_lt ⊤).mpr ⟨bot_lt_top, fun j _ => max_lt (lt_top_iff_ne_top.mpr (hp j)) (lt_top_iff_ne_top.mpr (hc j))⟩
  exact (max_lt this (lt_top_iff_ne_top.mpr hs.2)).ne

theorem exp_finite {x : EReal} (hx : x ≠ ⊤) : Finite (Ideal.exp x) ∧ 0 ≤ Ideal.exp x := by
  rcases eq_or_ne x ⊥ with rfl | hb
  · rw [Ideal.exp_bot]
    exact ⟨finite_coe 0, le_rfl⟩
  · obtain ⟨r, rfl⟩ : ∃ r : ℝ, (r : EReal) = x := ⟨x.toReal, EReal.coe_toReal hx hb⟩
    rw [Ideal.exp_coe]
    exact ⟨finite_coe _, EReal.coe_nonneg.mpr (Real.exp_pos r).le⟩

theorem exp_pos {x : EReal} (hx : Finite x) : 0 < Ideal.exp x := by
  obtain ⟨r, rfl⟩ : ∃ r : ℝ, (r : EReal) = x := ⟨x.toReal, EReal.coe_toReal hx.2 hx.1⟩
  rw [Ideal.exp_coe]
  exact EReal.coe_pos.mpr (Real.exp_pos r)

theorem sub_ne_top {x m : EReal} (hx : x ≠ ⊤) (hm : Finite m) : x - m ≠ ⊤ := by
  obtain ⟨r, rfl⟩ : ∃ r : ℝ, (r : EReal) = m := ⟨m.toReal, EReal.coe_toReal hm.2 hm.1⟩
  rcases eq_or_ne x ⊥ with rfl | hb
  · rw [EReal.bot_sub]
    exact bot_ne_top
  · obtain ⟨y, rfl⟩ : ∃ r : ℝ, (r : EReal) = x := ⟨x.toReal, EReal.coe_toReal hx hb⟩
    rw [← EReal.coe_sub]
    exact EReal.coe_ne_top _

theorem Finite.sub {x y : EReal} (hx : Finite x) (hy : Finite y) : Finite (x - y) := by
  obtain ⟨x, rfl⟩ : ∃ r : ℝ, (r : EReal) = x := ⟨x.toReal, EReal.coe_toReal hx.2 hx.1⟩
  obtain ⟨y, rfl⟩ : ∃ r : ℝ, (r : EReal) = y := ⟨y.toReal, EReal.coe_toReal hy.2 hy.1⟩
  rw [← EReal.coe_sub]
  exact finite_coe _

/-- The sum of the weights is a positive real. -/
theorem mass_real (sp sc : Fin 128 → EReal) (sink : EReal) (hp : ∀ j, sp j ≠ ⊤) (hc : ∀ j, sc j ≠ ⊤) (hs : Finite sink) :
    ∃ r : ℝ, 0 < r ∧ mass sp sc sink = (r : EReal) := by
  have hm := top_finite sp sc sink hp hc hs
  have h1 : Finite (mass sp sc sink) := (Finite.sum _ fun j =>
    (exp_finite (sub_ne_top (hp j) hm)).1.add (exp_finite (sub_ne_top (hc j) hm)).1).add (exp_finite (hs.sub hm).2).1
  have h2 : 0 < mass sp sc sink := lt_of_lt_of_le (exp_pos (hs.sub hm)) (le_add_of_nonneg_left
    (Finset.sum_nonneg fun j _ => add_nonneg (exp_finite (sub_ne_top (hp j) hm)).2 (exp_finite (sub_ne_top (hc j) hm)).2))
  refine ⟨(mass sp sc sink).toReal, EReal.toReal_pos h2 h1.2, (EReal.coe_toReal h1.2 h1.1).symm⟩

theorem massRef_eq (s : Fin 256 → EReal) (sink : EReal) :
    massRef s sink = mass (fun j => s ⟨j.val, by omega⟩) (fun j => s ⟨128 + j.val, by omega⟩) sink := by
  unfold massRef mass
  rw [topRef_eq, Fin.sum_univ_two_halves 128 128 rfl, Finset.sum_add_distrib]

/-- Dividing each weight and dividing the weighted sum are the same, for a positive real divisor. -/
theorem shares_eq (r : ℝ) (hr : 0 < r) (p v p' v' : Fin 128 → EReal) :
    (∑ j, v j * Ideal.div (p j) r) + ∑ j, v' j * Ideal.div (p' j) r = Ideal.div ((∑ j, p' j * v' j) + ∑ j, p j * v j) r := by
  have hd : ∀ x : EReal, Ideal.div x r = x * ((r⁻¹ : ℝ) : EReal) := fun x => by
    unfold Ideal.div
    rw [if_neg (by exact_mod_cast hr.ne'), EReal.coe_inv]
  have hr0 : 0 ≤ r⁻¹ := (inv_pos.mpr hr).le
  have hs : ∀ p v : Fin 128 → EReal, ∑ j, v j * (p j * ((r⁻¹ : ℝ) : EReal)) = (∑ j, p j * v j) * ((r⁻¹ : ℝ) : EReal) := fun p v => by
    rw [← sum_mul_real _ hr0]
    refine Finset.sum_congr rfl fun j _ => ?_
    rw [← mul_assoc, mul_comm (v j)]
  simp only [hd, hs]
  rw [EReal.right_distrib_of_nonneg_of_ne_top (EReal.coe_nonneg.mpr hr0) (EReal.coe_ne_top _), add_comm]

theorem padded_next (k : Fin 2048 → Fin 64 → EReal) (p : Fin 2176) (s : Fin 2048) (x : Fin 64) (h : p.val = 128 + s.val) :
    padded k p x = k s x := by
  unfold padded
  rw [dif_neg (by omega)]
  congr 1
  exact Fin.ext (by show p.val - 128 = s.val; omega)

/-- The kernel's formula and the reference's agree where queries, keys and the sink are finite. -/
theorem band_eq (q k v : Fin 2048 → Fin 64 → EReal) (sink : EReal) (n : Fin 16) (i : Fin 128) (d : Fin 64)
    (hq : ∀ s x, Finite (q s x)) (hk : ∀ s x, Finite (k s x)) (hs : Finite sink) :
    bandRef q k v sink n i d = band (fun s x => q s x * eighth) k v sink n i d := by
  have h8 : Finite eighth := by rw [eighth_eq]; exact finite_coe _
  have hdot : ∀ a b, Finite (∑ x : Fin 64, q a x * eighth * k b x) := fun a b => Finite.sum _ fun x => ((hq a x).mul h8).mul (hk b x)
  have hp : (fun j : Fin 128 => scoresRef q k n i ⟨j.val, by omega⟩) = fun j => if 0 < n.val ∧ i.val ≤ j.val then
      ∑ x : Fin 64, q ⟨128 * n.val + i.val, by omega⟩ x * eighth * k ⟨128 * (n.val - 1) + j.val, by omega⟩ x else ⊥ := by
    funext j
    unfold scoresRef
    by_cases hc : 0 < n.val ∧ i.val ≤ j.val
    · rw [if_pos hc, if_pos ⟨⟨by show j.val ≤ _; omega, hc.2⟩, Or.inl hc.1⟩, ← score_eq]
      congr 1
      refine Finset.sum_congr rfl fun x _ => ?_
      rw [padded_next k _ ⟨128 * (n.val - 1) + j.val, by omega⟩ x (by show 128 * n.val + j.val = 128 + (128 * (n.val - 1) + j.val); omega)]
    · rw [if_neg hc, if_neg (fun h => hc ⟨h.2.resolve_right (by show ¬128 ≤ j.val; omega), h.1.2⟩)]
  have hcur : (fun j : Fin 128 => scoresRef q k n i ⟨128 + j.val, by omega⟩) = fun j => if j.val ≤ i.val then
      ∑ x : Fin 64, q ⟨128 * n.val + i.val, by omega⟩ x * eighth * k ⟨128 * n.val + j.val, by omega⟩ x else ⊥ := by
    funext j
    unfold scoresRef
    by_cases hc : j.val ≤ i.val
    · rw [if_pos hc, if_pos ⟨⟨by show 128 + j.val ≤ _; omega, by show _ ≤ 128 + j.val; omega⟩, Or.inr (by show 128 ≤ 128 + j.val; omega)⟩, ← score_eq]
      congr 1
      refine Finset.sum_congr rfl fun x _ => ?_
      rw [padded_next k _ ⟨128 * n.val + j.val, by omega⟩ x (by show 128 * n.val + (128 + j.val) = 128 + (128 * n.val + j.val); omega)]
    · rw [if_neg hc, if_neg (fun h => hc (by have : 128 + j.val ≤ 128 + i.val := h.1.1; omega))]
  unfold bandRef band attend
  rw [topRef_eq, massRef_eq, Fin.sum_univ_two_halves 128 128 rfl]
  have hp' := fun j => congrFun hp j
  have hc' := fun j => congrFun hcur j
  rw [hp, hcur]
  simp only [hp', hc']
  set sp : Fin 128 → EReal := fun j => if 0 < n.val ∧ i.val ≤ j.val then
      ∑ x : Fin 64, q ⟨128 * n.val + i.val, by omega⟩ x * eighth * k ⟨128 * (n.val - 1) + j.val, by omega⟩ x else ⊥ with hsp
  set sc : Fin 128 → EReal := fun j => if j.val ≤ i.val then
      ∑ x : Fin 64, q ⟨128 * n.val + i.val, by omega⟩ x * eighth * k ⟨128 * n.val + j.val, by omega⟩ x else ⊥ with hsc
  have tp : ∀ j, sp j ≠ ⊤ := fun j => by
    rw [hsp]; dsimp only
    split
    · exact (hdot _ _).2
    · exact bot_ne_top
  have tc : ∀ j, sc j ≠ ⊤ := fun j => by
    rw [hsc]; dsimp only
    split
    · exact (hdot _ _).2
    · exact bot_ne_top
  obtain ⟨r, hr, hmass⟩ := mass_real sp sc sink tp tc hs
  rw [hmass]
  generalize hT : top sp sc sink = T
  refine (shares_eq r hr (fun j => Ideal.exp (sp j - T)) (fun j => padded v ⟨128 * n.val + j.val, by omega⟩ d)
    (fun j => Ideal.exp (sc j - T)) (fun j => padded v ⟨128 * n.val + (128 + j.val), by omega⟩ d)).trans ?_
  refine congrArg (Ideal.div · (r : EReal)) (congrArg₂ (· + ·) ?_ ?_)
  · refine Finset.sum_congr rfl fun j _ => ?_
    exact congrArg (Ideal.exp (sc j - T) * ·) (padded_next v _ ⟨128 * n.val + j.val, by omega⟩ d
      (by show 128 * n.val + (128 + j.val) = 128 + (128 * n.val + j.val); omega))
  · refine Finset.sum_congr rfl fun j _ => ?_
    by_cases hn : 0 < n.val
    · exact congrArg (Ideal.exp (sp j - T) * ·) (padded_next v _ ⟨128 * (n.val - 1) + j.val, by omega⟩ d
        (by show 128 * n.val + j.val = 128 + (128 * (n.val - 1) + j.val); omega))
    · have hb : sp j = ⊥ := by rw [hsp]; exact if_neg fun h => hn h.1
      show Ideal.exp (sp j - T) * _ = Ideal.exp (sp j - T) * _
      rw [hb, EReal.bot_sub, Ideal.exp_bot, zero_mul, zero_mul]

end Layer

end
-- ==== Proof.Band.Finite.lean ====
module

public import proofs.«01_k».proof.Defs
public import proofs.«01_k».proof.Proof.Band.Bridge
public import Idealize.ShloMosaic.Lib.ReduceAll
public import Idealize.ShloMosaic.Lib.Decide
public import Idealize.ShloMosaic.Lib.Pointwise

/-! # What the precondition says: queries, keys and sinks are finite -/

@[expose] public section

noncomputable section

namespace Cert.Pre_finite

open Idealize.ShloMosaic

instance facts : Cert.Pre_finite.Facts where
  bcast_S_S8x2048x2x8x64 := by decide
  reducesTo_S8x2048x2x8x64_S_d0_1_2_3_4 := by decide
  h_S_ := by decide
  bcast_S_S8x2048x2x64 := by decide
  reducesTo_S8x2048x2x64_S_d0_1_2_3 := by decide
  bcast_S_S2x8 := by decide
  reducesTo_S2x8_S_d0_1 := by decide

instance : Subsingleton S_.Idx := ⟨fun _ _ => funext fun a => a.elim0⟩

theorem inf_word : Ideal.ofBits .f32 0x7F800000#32 = (⊤ : EReal) := by
  simp [Ideal.ofBits, Ideal.ieee]

theorem and_left {x y : BitVec 1} (h : IntOp.andi x y = 1#1) : x = 1#1 ∧ y = 1#1 := by
  revert x y; decide

/-- A value whose magnitude is below +∞ is finite. -/
theorem finite_of {x : EReal} (h : FloatOps.cmpf (F := Ideal) (φ := .f32) .olt (FloatOps.hostAbsf (F := Ideal) (φ := .f32) x) (FloatOps.ofBits (F := Ideal) .f32 0x7F800000#32) = 1#1) :
    Layer.Finite x := by
  have h1 : max x (-x) < Ideal.ofBits .f32 0x7F800000#32 := (Ideal.cmp_olt_eq_one _ _).mp (show Ideal.cmp .olt (max x (-x)) (Ideal.ofBits .f32 0x7F800000#32) = 1#1 from h)
  rw [inf_word] at h1
  refine ⟨fun hx => ?_, fun hx => ?_⟩ <;> rw [hx] at h1 <;> simp at h1

theorem of_fn (q : FVec Ideal S8x2048x2x8x64 .f32) (k v : FVec Ideal S8x2048x2x64 .f32) (s : FVec Ideal S2x8 .f32)
    (h : fn (F := Ideal) q k v s = fun _ => 1#1) :
    (∀ i, Layer.Finite (q i)) ∧ (∀ i, Layer.Finite (k i)) ∧ (∀ i, Layer.Finite (s i)) := by
  have h0 := congrFun h (fun a => a.elim0)
  dsimp only [fn] at h0
  obtain ⟨h1, hs⟩ := and_left h0
  obtain ⟨hq, hk⟩ := and_left h1
  refine ⟨fun i => finite_of ?_, fun i => finite_of ?_, fun i => finite_of ?_⟩
  · exact Host.reduce_andi_all _ _ _ _ _ hq i
  · exact Host.reduce_andi_all _ _ _ _ _ hk i
  · exact Host.reduce_andi_all _ _ _ _ _ hs i

end Cert.Pre_finite

end
-- ==== Proof.Band.lean ====
module

public import proofs.«01_k».proof.Defs
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Band.Cache
public import proofs.«01_k».proof.Proof.Band.Reference
public import proofs.«01_k».proof.Proof.Band.Finite

/-! # The sliding-window attention: the claims -/

@[expose] public section

noncomputable section

namespace Cert.Proof.Band

open Idealize.ShloMosaic Idealize.ShloMosaic.TcCoe Idealize.SL.Sem

theorem frame_p : Cert.quiescent_Kernel := fun m g _ => Cert.Kernel.Gen.frame m g

theorem frame_pi : Cert.quiescent_KernelIdeal := fun m g _ => Cert.KernelIdeal.Gen.frame m g

theorem frame_ri : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run m g)

/-- The mask's finite word stands for −∞. -/
theorem preserves : Cert.preserves_Kernel_KernelIdeal :=
  IdealRules.named_const.statement Cert.KernelIdeal.κ "mask" .f32 0xF149F2CA#32 ⊥ rfl

theorem frame_pi_finite : Cert.quiescent_KernelIdeal_pre_finite := fun m g _ => Cert.KernelIdeal.Gen.frame m g

theorem frame_ri_finite : Cert.quiescent_ReferenceIdeal_pre_finite := fun m g _ => frame_ri m g trivial

/-- The attention both programs end with. -/
def value (m : (ℓ : Loc Cert.KernelIdeal.nD Cert.KernelIdeal.τ Cert.KernelIdeal.sig) → Buf (Elt Ideal) ℓ) (c : Dev Cert.KernelIdeal.nD) :
    Cert.KernelIdeal.S8x2048x1024.Idx → EReal := fun i =>
  Cert.KernelIdeal.Hand.result m c (i 0) (i 1) ⟨(i 2).val / 64, by have := (i 2).isLt; change _ < 1024 at this; omega⟩ ⟨(i 2).val % 64, by omega⟩

/-- The cache's rows both programs end with: the keys and values of each batch's last 128 rows, transposed. -/
def cache (m : (ℓ : Loc Cert.KernelIdeal.nD Cert.KernelIdeal.τ Cert.KernelIdeal.sig) → Buf (Elt Ideal) ℓ) (c : Dev Cert.KernelIdeal.nD) :
    Cert.KernelIdeal.S8x256x128.Idx → EReal := fun i =>
  Cert.KernelIdeal.Gen.V m c Cert.KernelIdeal.main_v6 (ix3 (i 0) ⟨1920 + (i 2).val, by have := (i 2).isLt; change _ < 128 at this; omega⟩ (i 1))

theorem algebraic : Cert.algebraic_KernelIdeal_ReferenceIdeal_pre_finite := by
  intro m g m' g' hpre hagree
  refine ⟨fun c => value m c, fun c => cache m c, ?_, ?_⟩
  · refine (θ_run Cert.KernelIdeal.defs _ _).mono (fun r h c => ?_) (Cert.KernelIdeal.Value.run_blocks m g)
    refine ⟨(h c).1.trans ?_, (h c).2.1.trans ?_, (h c).2.2⟩
    · exact funext (Cert.KernelIdeal.Hand.array4 m c)
    · exact funext (Cert.KernelIdeal.Hand.array5 m c)
  · refine (θ_run Cert.ReferenceIdeal.defs _ _).mono (fun r h c => ?_) (Cert.ReferenceIdeal.Value.run m' g')
    obtain ⟨hq, hk, hs⟩ := Cert.Pre_finite.of_fn _ _ _ _ (hpre c)
    refine ⟨(h c).1.trans ?_, (h c).2.1.trans ?_, (h c).2.2⟩
    · rw [Cert.ReferenceIdeal.Read.val_main_v76_eq, (hagree c).1, (hagree c).2.1, (hagree c).2.2.1, (hagree c).2.2.2]
      funext i
      idx_vars i
      refine (Cert.ReferenceIdeal.Hand.result_at _ _ _ _ _ _ _).trans ?_
      refine (Layer.band_eq _ _ _ _ _ _ _ (fun s x => hq _) (fun s x => hk _) (hs _)).trans ?_
      unfold value Cert.KernelIdeal.Hand.result Cert.KernelIdeal.Hand.qh Cert.KernelIdeal.Hand.kh Cert.KernelIdeal.Hand.vh Cert.KernelIdeal.Hand.sk
        Cert.ReferenceIdeal.Hand.kr
      have e : (⟨i2.val / 512, by omega⟩ : Fin 2) = ⟨i2.val / 64 / 8, by omega⟩ := Fin.ext (by show i2.val / 512 = i2.val / 64 / 8; omega)
      rw [e]
      rfl
    · rw [Cert.ReferenceIdeal.Read.val_main_v78_eq, (hagree c).2.1, (hagree c).2.2.1]
      funext i
      idx_vars i
      refine (Cert.ReferenceIdeal.Hand.cache_at _ _ _ _ _).trans ?_
      exact (Cert.KernelIdeal.Hand.host_kv m c _ _ _).symm

end Cert.Proof.Band

end
-- ==== Proof.Ffn.Kernel.lean ====
module

public import proofs.«01_k».proof.Proof.Gen.FfnIdeal.Value
public import proofs.«01_k».proof.Proof.Spec
public import Idealize.ShloMosaic.Lib.Pipeline.ValueKit
public import Idealize.ShloMosaic.Lib.Pipeline.ValueKit.Held
public import Idealize.ShloMosaic.Lib.Pipeline.ReadBack
public import Idealize.ShloMosaic.Lib.Pointwise

/-! # What the feed-forward kernel leaves in its output

The grid is 32 row tiles by 11 blocks of 512 hidden units. The first point of a row tile stores the modulated rows, every
point adds its block's share of the down projection to the accumulator, and the last applies the residual step and the norm. -/

@[expose] public section

set_option maxRecDepth 16384

noncomputable section

namespace Cert.FfnIdeal.Hand

open Cert.FfnIdeal Cert.FfnIdeal.Gen Idealize.ShloMosaic Idealize.ShloMosaic.TcCoe Idealize.SL.Sem Idealize.ShloMosaic.StableHlo

variable (m : (ℓ : Loc nD τ sig) → Buf (Elt Ideal) ℓ) (c : Dev nD)

/-- Row `R` of the activations. -/
def xr (R : Fin 16384) (k : Fin 2048) : EReal :=
  (m ((c.tc : Thread nD τ).loc main_arg0) : S8x2048x2048.Idx → EReal) (ix3 ⟨R.val / 2048, by omega⟩ ⟨R.val % 2048, by omega⟩ k)
/-- The modulation vector of row `R`. -/
def md (R : Fin 16384) (k : Fin 12288) : EReal :=
  (m ((c.tc : Thread nD τ).loc main_arg1) : S8x1x12288.Idx → EReal) (ix3 ⟨R.val / 2048, by omega⟩ 0 k)
/-- The gate and up weights of the last layer. -/
def wgu (k : Fin 2048) (f : Fin 11264) : EReal :=
  (m ((c.tc : Thread nD τ).loc main_arg2) : S2x2048x11264.Idx → EReal) (ix3 1 k f)
/-- The down weights of the last layer. -/
def wd (f : Fin 5632) (l : Fin 2048) : EReal :=
  (m ((c.tc : Thread nD τ).loc main_arg3) : S2x5632x2048.Idx → EReal) (ix3 1 f l)
/-- The norm's scale. -/
def lg (l : Fin 2048) : EReal := (m ((c.tc : Thread nD τ).loc main_arg4) : S2x2x2048.Idx → EReal) (ix3 1 1 l)
/-- The norm's shift. -/
def lb (l : Fin 2048) : EReal := (m ((c.tc : Thread nD τ).loc main_arg5) : S2x2x2048.Idx → EReal) (ix3 1 1 l)

/-! ## The blocks a point reads -/

theorem idx (t : Fin cfg0.N) : win0_0.index t = ![t.val / 11, 0] ∧ win0_1.index t = ![0, t.val / 44, 0, 0]
    ∧ win0_2.index t = ![1, 0, t.val % 11] ∧ win0_3.index t = ![1, 0, t.val % 11 + 11] ∧ win0_4.index t = ![1, t.val % 11, 0]
    ∧ win0_5.index t = ![1, 0, 0] ∧ win0_6.index t = ![1, 0, 0] ∧ win0_7.index t = ![t.val / 11, 0] :=
  (by decide +kernel : ∀ t : Fin cfg0.N, win0_0.index t = ![t.val / 11, 0] ∧ win0_1.index t = ![0, t.val / 44, 0, 0]
    ∧ win0_2.index t = ![1, 0, t.val % 11] ∧ win0_3.index t = ![1, 0, t.val % 11 + 11] ∧ win0_4.index t = ![1, t.val % 11, 0]
    ∧ win0_5.index t = ![1, 0, 0] ∧ win0_6.index t = ![1, 0, 0] ∧ win0_7.index t = ![t.val / 11, 0]) t

theorem row_lt (t : Fin cfg0.N) (r : Fin 512) : t.val / 11 * 512 + r.val < 16384 := by
  have := lt_of_lt_of_eq t.isLt (N_0 : cfg0.N = 352); omega

/-- The array row that row `r` of point `t`'s tile is. -/
def row (t : Fin cfg0.N) (r : Fin 512) : Fin 16384 := ⟨t.val / 11 * 512 + r.val, row_lt t r⟩

theorem rd_x (t : Fin cfg0.N) (r : Fin 512) (l : Fin 2048) :
    (iblk m c 0 t : S512x2048.Idx → EReal) (ix2 r l) = xr m c (row t r) l := by
  unfold xr row
  blk_point [iblk, V, idx t]

theorem rd_m (t : Fin cfg0.N) (r : Fin 512) (j : Fin 6) (l : Fin 2048) :
    (iblk m c 1 t : S6x1x1x2048.Idx → EReal) (ix4 j 0 0 l) = Layer.chunk (md m c (row t r)) j l := by
  unfold md row Layer.chunk
  blk_point [iblk, V, idx t]

theorem rd_wg (t : Fin cfg0.N) (k : Fin 2048) (f : Fin 512) :
    (iblk m c 2 t : S1x2048x512.Idx → EReal) (ix3 0 k f) = wgu m c k ⟨t.val % 11 * 512 + f.val, by omega⟩ := by
  unfold wgu
  blk_point [iblk, V, idx t]

theorem rd_wu (t : Fin cfg0.N) (k : Fin 2048) (f : Fin 512) :
    (iblk m c 3 t : S1x2048x512.Idx → EReal) (ix3 0 k f) = wgu m c k ⟨5632 + (t.val % 11 * 512 + f.val), by omega⟩ := by
  unfold wgu
  blk_point [iblk, V, idx t]

theorem rd_wd (t : Fin cfg0.N) (f : Fin 512) (l : Fin 2048) :
    (iblk m c 4 t : S1x512x2048.Idx → EReal) (ix3 0 f l) = wd m c ⟨t.val % 11 * 512 + f.val, by omega⟩ l := by
  unfold wd
  blk_point [iblk, V, idx t]

theorem rd_g (t : Fin cfg0.N) (l : Fin 2048) : (iblk m c 5 t : S1x2x2048.Idx → EReal) (ix3 0 1 l) = lg m c l := by
  unfold lg
  blk_point [iblk, V, idx t]

theorem rd_b (t : Fin cfg0.N) (l : Fin 2048) : (iblk m c 6 t : S1x2x2048.Idx → EReal) (ix3 0 1 l) = lb m c l := by
  unfold lb
  blk_point [iblk, V, idx t]

/-! ## What a point stores -/

/-- The modulated row. -/
def ur (R : Fin 16384) : Fin 2048 → EReal := Layer.modulated (xr m c R) (md m c R) 4 3

theorem pay1_at (t : Fin cfg0.N) (j : S512x2048.Idx) :
    k0_pay1 (iblk m c 0 t)
      (View.ld (iblk m c 1 t) (Rect.unit ![4, 0, 0, 0] ![1, 1, 1, 2048] inb_S6x1x1x2048_S1x1x1x2048_4_0_0_0))
      (View.ld (iblk m c 1 t) (Rect.unit ![3, 0, 0, 0] ![1, 1, 1, 2048] inb_S6x1x1x2048_S1x1x1x2048_3_0_0_0)) j
      = ur m c (row t (j 0)) (j 1) := by
  idx_vars j
  pointwise [k0_pay1]
  rw [rd_x m c t, rd_m m c t j0, rd_m m c t j0]
  rfl

/-- A point's share of the down projection. -/
def share (R : Fin 16384) (q : Fin 11) (l : Fin 2048) : EReal :=
  ∑ f : Fin 512, Layer.hidden (ur m c R) (wgu m c) ⟨q.val * 512 + f.val, by omega⟩ * wd m c ⟨q.val * 512 + f.val, by omega⟩ l

theorem pay3_at (t : Fin cfg0.N) (u : Vec Ideal S512x2048 .bf16) (acc : Vec Ideal S512x2048 .f32)
    (hu : ∀ r k, u (ix2 r k) = ur m c (row t r) k) (j : S512x2048.Idx) :
    k0_pay3 u (iblk m c 2 t) (iblk m c 3 t) acc (iblk m c 4 t) j
      = acc j + share m c (row t (j 0)) ⟨t.val % 11, by omega⟩ (j 1) := by
  idx_vars j
  pointwise [k0_pay3]
  simp only [hu, share, Layer.hidden]
  simp only [rd_wg m c t, rd_wu m c t, rd_wd m c t]

theorem pay4_at (t : Fin cfg0.N) (acc : Vec Ideal S512x2048 .f32) (j : S512x2048.Idx) :
    k0_pay4 (iblk m c 0 t)
      (View.ld (iblk m c 1 t) (Rect.unit ![5, 0, 0, 0] ![1, 1, 1, 2048] inb_S6x1x1x2048_S1x1x1x2048_5_0_0_0))
      acc
      (View.ld (iblk m c 5 t) (Rect.unit ![0, 1, 0] ![1, 1, 2048] inb_S1x2x2048_S1x1x2048_0_1_0))
      (View.ld (iblk m c 6 t) (Rect.unit ![0, 1, 0] ![1, 1, 2048] inb_S1x2x2048_S1x1x2048_0_1_0)) j
      = Layer.norm (Layer.residual (xr m c (row t (j 0))) (md m c (row t (j 0))) 5 fun l => acc (ix2 (j 0) l)) (lg m c) (lb m c) (j 1) := by
  idx_vars j
  pointwise [k0_pay4]
  simp only [rd_x m c t, rd_m m c t j0, rd_g m c t, rd_b m c t]
  rfl

/-! ## The scratch through a row tile -/

theorem u_first (t : Fin cfg0.N) (h0 : t.val % 11 = 0) (j : S512x2048.Idx) :
    (outsAt0 m c t.val t.isLt).2.1 j = ur m c (row t (j 0)) (j 1) := by
  rw [outsAt0_A m c t h0 (by omega)]
  frame_out
  exact pay1_at m c t j

theorem u_next (t : Fin cfg0.N) (h0 : ¬t.val % 11 = 0) (j : S512x2048.Idx) :
    (outsAt0 m c t.val t.isLt).2.1 j = (outsAt0 m c (t.val - 1) (Nat.lt_of_le_of_lt (Nat.sub_le _ _) t.isLt)).2.1 j := by
  by_cases h1 : t.val % 11 = 10
  · rw [outsAt0_C m c t h0 h1]; rfl
  · rw [outsAt0_B m c t h0 h1]; rfl

/-- At every point the first scratch holds the modulated rows of the point's tile. -/
theorem u_at (t : Fin cfg0.N) (j : S512x2048.Idx) :
    (outsAt0 m c t.val t.isLt).2.1 j = ur m c (row t (j 0)) (j 1) := by
  refine (Pipeline.eq_of_write_hold_apply (fun n h => (outsAt0 m c n h).2.1) 11
    (fun t j => ur m c (row t (j 0)) (j 1)) (u_first m c) (u_next m c) t j).trans ?_
  congr 1
  apply Fin.ext
  show 11 * (t.val / 11) / 11 * 512 + (j 0).val = t.val / 11 * 512 + (j 0).val
  omega

/-- The tile of the point before, within a row tile. -/
theorem u_prev (t : Fin cfg0.N) (h0 : ¬t.val % 11 = 0) (r : Fin 512) (k : Fin 2048) :
    (outsAt0 m c (t.val - 1) (Nat.lt_of_le_of_lt (Nat.sub_le _ _) t.isLt)).2.1 (ix2 r k) = ur m c (row t r) k :=
  (u_next m c t h0 (ix2 r k)).symm.trans (u_at m c t (ix2 r k))

theorem acc_first (t : Fin cfg0.N) (h0 : t.val % 11 = 0) (j : S512x2048.Idx) :
    (outsAt0 m c t.val t.isLt).2.2 j = 0 + share m c (row t (j 0)) ⟨t.val % 11, by omega⟩ (j 1) := by
  rw [outsAt0_A m c t h0 (by omega)]
  frame_out
  refine (pay3_at m c t _ _ (fun r k => pay1_at m c t (ix2 r k)) j).trans ?_
  congr 1
  idx_vars j
  pointwise [k0_pay2]

theorem acc_next (t : Fin cfg0.N) (h0 : ¬t.val % 11 = 0) (j : S512x2048.Idx) :
    (outsAt0 m c t.val t.isLt).2.2 j = (outsAt0 m c (t.val - 1) (Nat.lt_of_le_of_lt (Nat.sub_le _ _) t.isLt)).2.2 j
      + share m c (row t (j 0)) ⟨t.val % 11, by omega⟩ (j 1) := by
  by_cases h1 : t.val % 11 = 10
  · rw [outsAt0_C m c t h0 h1]
    frame_out
    simp only [read_unread_whole]
    exact pay3_at m c t _ _ (u_prev m c t h0) j
  · rw [outsAt0_B m c t h0 h1]
    frame_out
    simp only [read_unread_whole]
    exact pay3_at m c t _ _ (u_prev m c t h0) j

/-- The down projection of a row. -/
def down (R : Fin 16384) (l : Fin 2048) : EReal := ∑ f, Layer.hidden (ur m c R) (wgu m c) f * wd m c f l

/-- At the last point of a row tile the accumulator holds the whole down projection. -/
theorem acc_last (t : Fin cfg0.N) (h1 : t.val % 11 = 10) (j : S512x2048.Idx) :
    (outsAt0 m c t.val t.isLt).2.2 j = down m c (row t (j 0)) (j 1) := by
  refine (Pipeline.eq_sum_fin_of_reset_step_apply_of_flush (fun n h => (outsAt0 m c n h).2.2) 11 (fun _ => 0)
    (fun t j => share m c (row t (j 0)) ⟨t.val % 11, by omega⟩ (j 1)) (acc_first m c) (acc_next m c) t h1 j).trans ?_
  rw [zero_add]
  unfold down
  rw [← Fin.sum_mul_add_fin 11 512 (fun f => Layer.hidden (ur m c (row t (j 0))) (wgu m c) f * wd m c f (j 1))]
  refine Finset.sum_congr rfl fun s _ => ?_
  have e1 : row ⟨11 * (t.val / 11) + s.val, Pipeline.run_point_lt_of_flush t h1 s⟩ (j 0) = row t (j 0) :=
    Fin.ext (by show (11 * (t.val / 11) + s.val) / 11 * 512 + (j 0).val = t.val / 11 * 512 + (j 0).val; omega)
  have e2 : (⟨(11 * (t.val / 11) + s.val) % 11, by omega⟩ : Fin 11) = s := Fin.ext (by show (11 * (t.val / 11) + s.val) % 11 = s.val; omega)
  show share m c (row ⟨11 * (t.val / 11) + s.val, _⟩ (j 0)) ⟨(11 * (t.val / 11) + s.val) % 11, _⟩ (j 1) = _
  rw [e1, e2]
  rfl

/-- The feed-forward half of row `R`. -/
def result (R : Fin 16384) : Fin 2048 → EReal :=
  Layer.ffn (xr m c R) (md m c R) (wgu m c) (wd m c) (lg m c) (lb m c)

theorem out_last (t : Fin cfg0.N) (h1 : t.val % 11 = 10) (j : S512x2048.Idx) :
    (outsAt0 m c t.val t.isLt).1 j = result m c (row t (j 0)) (j 1) := by
  have hacc : ∀ l, (outsAt0 m c t.val t.isLt).2.2 (ix2 (j 0) l) = down m c (row t (j 0)) l :=
    fun l => acc_last m c t h1 (ix2 (j 0) l)
  rw [outsAt0_C m c t (by omega) h1] at hacc ⊢
  frame_out
  revert hacc
  frame_out
  intro hacc
  refine (pay4_at m c t _ j).trans ?_
  unfold result Layer.ffn
  congr 2
  exact funext hacc

/-- THE ARRAY: every entry is the feed-forward half of its row. -/
theorem array (i : S16384x2048.Idx) : (dats m 0 c).arrAt 7 cfg0.N i = result m c (i 0) (i 1) := by
  refine congrFun (g := fun i : S16384x2048.Idx => result m c (i 0) (i 1)) ?_ i
  refine (dats m 0 c).arrAt_eq_of_covers 7 _ (by decide +kernel) fun t hf y => ?_
  have h1 := (flush0_7 t).mp hf
  rw [after0_7]
  refine (out_last m c t h1 y).trans ?_
  have e0 : ((cfg0.win 7).blk t).view.emb y 0 = row t (y 0) := Fin.ext (by
    show win0_7.index t 0 * 512 + 1 * (y 0).val = t.val / 11 * 512 + (y 0).val
    rw [(idx t).2.2.2.2.2.2.2]; show t.val / 11 * 512 + 1 * (y 0).val = _; omega)
  have e1 : ((cfg0.win 7).blk t).view.emb y 1 = y 1 := Fin.ext (by
    show win0_7.index t 1 * 2048 + 1 * (y 1).val = (y 1).val
    rw [(idx t).2.2.2.2.2.2.2]; show 0 * 2048 + 1 * (y 1).val = _; omega)
  rw [e0, e1]

end Cert.FfnIdeal.Hand
-- ==== Proof.Ffn.Reference.lean ====
module

public import proofs.«01_k».proof.Proof.Gen.FfnRefIdeal.Read
public import proofs.«01_k».proof.Proof.Spec
public import Idealize.ShloMosaic.Lib.Pointwise

/-! # What the feed-forward reference returns -/

@[expose] public section

set_option maxRecDepth 16384

noncomputable section

namespace Cert.FfnRefIdeal.Hand

open Cert.FfnRefIdeal Cert.FfnRefIdeal.Gen Cert.FfnRefIdeal.Read Idealize.ShloMosaic Idealize.ShloMosaic.TcCoe Idealize.SL.Sem Idealize.ShloMosaic.StableHlo

variable (x0 : S8x2048x2048.Idx → EReal) (x1 : S8x1x12288.Idx → EReal) (x2 : S2x2048x11264.Idx → EReal)
  (x3 : S2x5632x2048.Idx → EReal) (x4 x5 : S2x2x2048.Idx → EReal)

/-- Row `s` of batch `b` of the activations. -/
abbrev xr (b : Fin 8) (s k : Fin 2048) : EReal := x0 (ix3 b s k)
/-- The modulation vector of batch `b`. -/
abbrev md (b : Fin 8) (k : Fin 12288) : EReal := x1 (ix3 b 0 k)
/-- The gate and up weights of the last layer. -/
abbrev wgu (k : Fin 2048) (f : Fin 11264) : EReal := x2 (ix3 1 k f)
/-- The down weights of the last layer. -/
abbrev wd (f : Fin 5632) (l : Fin 2048) : EReal := x3 (ix3 1 f l)

theorem u_at (b : Fin 8) (s : Fin 2048) (k : Fin 2048) :
    val_main_v11 (F := Ideal) x0 x1 (ix3 b s k) = Layer.modulated (xr x0 b s) (md x1 b) 4 3 k := by
  unfold Layer.modulated Layer.chunk
  pointwise [val_main_v11, val_main_v10, val_main_v9, val_main_v8, val_main_v7, val_main_v6, val_main_v4, val_main_v3, val_main_cst]

theorem gu_at (b : Fin 8) (s : Fin 2048) (f : Fin 11264) :
    val_main_v14 (F := Ideal) x0 x1 x2 (ix3 b s f) = ∑ k, Layer.modulated (xr x0 b s) (md x1 b) 4 3 k * wgu x2 k f := by
  have h := u_at x0 x1 b s
  pointwise [val_main_v14, val_main_v13, val_main_v12]
  simp only [h]

theorem hidden_at (b : Fin 8) (s : Fin 2048) (f : Fin 5632) :
    val_main_v18 (F := Ideal) x0 x1 x2 (ix3 b s f) = Layer.hidden (Layer.modulated (xr x0 b s) (md x1 b) 4 3) (wgu x2) f := by
  have h := gu_at x0 x1 x2 b s
  unfold Layer.hidden
  pointwise [val_main_v18, val_main_v17, val_main_v16, val_main_v15, val_main_call0_v0, val_main_call0_v1, val_main_call0_v2, val_main_call0_v3, val_main_call0_v4, val_main_call0_v5, val_main_call0_cst, val_main_call0_cst_0]
  simp only [h]
  rfl

theorem z_at (b : Fin 8) (s : Fin 2048) (l : Fin 2048) :
    val_main_v26 (F := Ideal) x0 x1 x2 x3 (ix3 b s l) = Layer.residual (xr x0 b s) (md x1 b) 5
      (fun l => ∑ f, Layer.hidden (Layer.modulated (xr x0 b s) (md x1 b) 4 3) (wgu x2) f * wd x3 f l) l := by
  have h := hidden_at x0 x1 x2 b s
  unfold Layer.residual Layer.chunk Layer.resid
  pointwise [val_main_v26, val_main_v25, val_main_v24, val_main_v23, val_main_v22, val_main_v21, val_main_v20, val_main_v19, val_main_v5, val_main_cst_0]
  simp only [h]

theorem out_at (b : Fin 8) (s : Fin 2048) (l : Fin 2048) :
    val_main_v58 (F := Ideal) x0 x1 x2 x3 x4 x5 (ix3 b s l) = Layer.ffn (xr x0 b s) (md x1 b) (wgu x2) (wd x3)
      (fun l => x4 (ix3 1 1 l)) (fun l => x5 (ix3 1 1 l)) l := by
  have h := z_at x0 x1 x2 x3 b s
  unfold Layer.ffn Layer.norm Layer.mean Layer.lanes Layer.eps
  generalize Layer.residual (xr x0 b s) (md x1 b) 5
      (fun l => ∑ f, Layer.hidden (Layer.modulated (xr x0 b s) (md x1 b) 4 3) (wgu x2) f * wd x3 f l) = z at h ⊢
  generalize hv : val_main_v26 (F := Ideal) x0 x1 x2 x3 = v at h
  unfold val_main_v58 val_main_v55 val_main_v52 val_main_v51 val_main_v50 val_main_v49 val_main_v47 val_main_v46 val_main_v45 val_main_v43
    val_main_v42 val_main_v41 val_main_v40 val_main_v39 val_main_v38 val_main_v36 val_main_v35
  rw [hv]
  pointwise [val_main_v57, val_main_v56, val_main_v54, val_main_v53,
    val_main_v48, val_main_cst_5, val_main_v44, val_main_cst_4, val_main_cst_3,
    val_main_v37, val_main_cst_2, val_main_cst_1,
    val_main_v34, val_main_v33, val_main_v32, val_main_v31, val_main_v30, val_main_v29, val_main_v28, val_main_v27]
  simp only [h]

/-- THE RESULT: every entry is the feed-forward half of its row. -/
theorem result_at (R : Fin 16384) (l : Fin 2048) :
    val_main_v59 (F := Ideal) x0 x1 x2 x3 x4 x5 (ix2 R l)
      = Layer.ffn (xr x0 ⟨R.val / 2048, by omega⟩ ⟨R.val % 2048, by omega⟩) (md x1 ⟨R.val / 2048, by omega⟩) (wgu x2) (wd x3)
        (fun l => x4 (ix3 1 1 l)) (fun l => x5 (ix3 1 1 l)) l := by
  rw [← out_at x0 x1 x2 x3 x4 x5]
  pointwise [val_main_v59]

end Cert.FfnRefIdeal.Hand
-- ==== Proof.Ffn.lean ====
module

public import proofs.«01_k».proof.Defs
public import proofs.«01_k».proof.Proof.Gen.Ffn.Frame
public import proofs.«01_k».proof.Proof.Gen.FfnIdeal
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Ffn.Kernel
public import proofs.«01_k».proof.Proof.Ffn.Reference

/-! # The feed-forward half: the claims -/

@[expose] public section

noncomputable section

namespace Cert.Proof.Ffn

open Idealize.ShloMosaic Idealize.ShloMosaic.TcCoe Idealize.SL.Sem

theorem frame_p : Cert.quiescent_Ffn := fun m g _ => Cert.Ffn.Gen.frame m g

theorem frame_pi : Cert.quiescent_FfnIdeal := fun m g _ => Cert.FfnIdeal.Gen.frame m g

theorem frame_ri : Cert.quiescent_FfnRefIdeal := fun m g _ =>
  (θ_run Cert.FfnRefIdeal.defs _ _).mono (fun r h => ⟨fun c => (h c).2, sem_eq_zero_of_no_sems (by decide) r.2⟩)
    (Cert.FfnRefIdeal.Value.run m g)

/-- The value both programs end with: every entry is the feed-forward half of its row. -/
def value (m : (ℓ : Loc Cert.FfnIdeal.nD Cert.FfnIdeal.τ Cert.FfnIdeal.sig) → Buf (Elt Ideal) ℓ) (c : Dev Cert.FfnIdeal.nD) :
    Cert.FfnIdeal.S16384x2048.Idx → EReal := fun i => Cert.FfnIdeal.Hand.result m c (i 0) (i 1)

theorem algebraic : Cert.algebraic_FfnIdeal_FfnRefIdeal := by
  intro m g m' g' _ hagree
  refine ⟨fun c => value m c, ?_, ?_⟩
  · refine (θ_run Cert.FfnIdeal.defs _ _).mono (fun r h c => ?_) (Cert.FfnIdeal.Value.run m g)
    refine ⟨(h c).1.trans ?_, (h c).2⟩
    rw [← Cert.FfnIdeal.Value.final7]
    exact funext (Cert.FfnIdeal.Hand.array m c)
  · refine (θ_run Cert.FfnRefIdeal.defs _ _).mono (fun r h c => ?_) (Cert.FfnRefIdeal.Value.run m' g')
    refine ⟨(h c).1.trans ?_, (h c).2⟩
    rw [Cert.FfnRefIdeal.Read.val_main_v59_eq, (hagree c).1, (hagree c).2.1, (hagree c).2.2.1, (hagree c).2.2.2.1,
      (hagree c).2.2.2.2.1, (hagree c).2.2.2.2.2]
    funext i
    idx_vars i
    exact Cert.FfnRefIdeal.Hand.result_at _ _ _ _ _ _ _ _

end Cert.Proof.Ffn

end
-- ==== Proof.ProjA.Kernel.lean ====
module

public import proofs.«01_k».proof.Proof.Gen.ProjAIdeal.Value
public import proofs.«01_k».proof.Proof.Scale
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.StableHlo.RunClose

/-! # What the kernel of the dilated mixer's projection leaves in its output

The grid is 16 row tiles by the three dilated head groups. The first point of a row tile stores the modulated rows, and every
point multiplies them by its group's 1536 columns. -/

@[expose] public section

set_option maxRecDepth 16384

noncomputable section

namespace Cert.ProjAIdeal.Hand

open Cert.ProjAIdeal Cert.ProjAIdeal.Gen Idealize.ShloMosaic Idealize.ShloMosaic.TcCoe Idealize.SL.Sem Idealize.ShloMosaic.StableHlo

variable (m : (ℓ : Loc nD τ sig) → Buf (Elt Ideal) ℓ) (c : Dev nD)

/-- Row `R` of the activations. -/
def xr (R : Fin 16384) (k : Fin 2048) : EReal :=
  (m ((c.tc : Thread nD τ).loc main_arg0) : S8x2048x2048.Idx → EReal) (ix3 ⟨R.val / 2048, by omega⟩ ⟨R.val % 2048, by omega⟩ k)
/-- The modulation vector of row `R`. -/
def md (R : Fin 16384) (k : Fin 12288) : EReal :=
  (m ((c.tc : Thread nD τ).loc main_arg1) : S8x1x12288.Idx → EReal) (ix3 ⟨R.val / 2048, by omega⟩ 0 k)
/-- The input weights of the last layer. -/
def w (k : Fin 2048) (f : Fin 9984) : EReal :=
  (m ((c.tc : Thread nD τ).loc main_arg2) : S2x2048x9984.Idx → EReal) (ix3 1 k f)

/-! ## The blocks a point reads -/

theorem idx (t : Fin cfg0.N) : win0_0.index t = ![t.val / 3, 0] ∧ win0_1.index t = ![0, t.val / 6, 0, 0]
    ∧ win0_2.index t = ![1, 0, t.val % 3] ∧ win0_3.index t = ![t.val / 3, t.val % 3] :=
  (by decide +kernel : ∀ t : Fin cfg0.N, win0_0.index t = ![t.val / 3, 0] ∧ win0_1.index t = ![0, t.val / 6, 0, 0]
    ∧ win0_2.index t = ![1, 0, t.val % 3] ∧ win0_3.index t = ![t.val / 3, t.val % 3]) t

theorem row_lt (t : Fin cfg0.N) (r : Fin 1024) : t.val / 3 * 1024 + r.val < 16384 := by
  have := lt_of_lt_of_eq t.isLt (N_0 : cfg0.N = 48); omega

/-- The array row that row `r` of point `t`'s tile is. -/
def row (t : Fin cfg0.N) (r : Fin 1024) : Fin 16384 := ⟨t.val / 3 * 1024 + r.val, row_lt t r⟩

theorem rd_x (t : Fin cfg0.N) (r : Fin 1024) (l : Fin 2048) :
    (iblk m c 0 t : S1024x2048.Idx → EReal) (ix2 r l) = xr m c (row t r) l := by
  unfold xr row
  blk_point [iblk, V, idx t]

theorem rd_m (t : Fin cfg0.N) (r : Fin 1024) (j : Fin 6) (l : Fin 2048) :
    (iblk m c 1 t : S6x1x1x2048.Idx → EReal) (ix4 j 0 0 l) = Layer.chunk (md m c (row t r)) j l := by
  unfold md row Layer.chunk
  blk_point [iblk, V, idx t]

/-- The weights the kernel is given: every column times its factor. -/
theorem host :
    (V m c main_v15 : S2x2048x9984.Idx → EReal) = truncf (F := Ideal) .bf16 (mulf (F := Ideal) (φ := .f32) (m ((c.tc : Thread nD τ).loc main_arg2))
      (broadcastInDim S2x2048x9984 ![0, 1, 2] bcast_S1x1x9984_S2x2048x9984_0_1_2 (broadcastInDim S1x1x9984 ![2] bcast_S9984_S1x1x9984_2 Cert.GatesIdeal.Hand.scale))) bitsLt_bf16_f32 := by
  unfold_abbrev_sides
  unfold Cert.GatesIdeal.Hand.scale Cert.GatesIdeal.Hand.groupScale
  after_results_entrywise (rounds := 1) []

theorem host_at (k : Fin 2048) (f : Fin 9984) :
    (V m c main_v15 : S2x2048x9984.Idx → EReal) (ix3 1 k f) = w m c k f * Layer.colScale f := by
  rw [host, ← Cert.GatesIdeal.Hand.scale_at]
  unfold w
  pointwise

theorem rd_w (t : Fin cfg0.N) (k : Fin 2048) (f : Fin 1536) :
    (X0_2 m c t : S1x2048x1536.Idx → EReal) (ix3 0 k f)
      = w m c k ⟨t.val % 3 * 1536 + f.val, by omega⟩ * Layer.colScale ⟨t.val % 3 * 1536 + f.val, by omega⟩ := by
  rw [← host_at]
  unfold X0_2 Pipeline.Window.fill
  rw [dif_pos (moved0_2 t _)]
  refine congrArg (V m c main_v15 : S2x2048x9984.Idx → EReal) ?_
  funext a
  apply Fin.ext
  match a with
  | ⟨0, _⟩ =>
    show win0_2.index t 0 * 1 + 1 * 0 = 1
    rw [(idx t).2.2.1]; rfl
  | ⟨1, _⟩ =>
    show win0_2.index t 1 * 2048 + 1 * k.val = k.val
    rw [(idx t).2.2.1]; show 0 * 2048 + 1 * k.val = _; omega
  | ⟨2, _⟩ =>
    show win0_2.index t 2 * 1536 + 1 * f.val = t.val % 3 * 1536 + f.val
    rw [(idx t).2.2.1]; show t.val % 3 * 1536 + 1 * f.val = t.val % 3 * 1536 + f.val; omega

/-! ## What a point stores -/

/-- The modulated row. -/
def ur (R : Fin 16384) : Fin 2048 → EReal := Layer.modulated (xr m c R) (md m c R) 1 0

theorem pay1_at (t : Fin cfg0.N) (j : S1024x2048.Idx) :
    k0_pay1 (iblk m c 0 t)
      (View.ld (iblk m c 1 t) (Rect.unit ![1, 0, 0, 0] ![1, 1, 1, 2048] inb_S6x1x1x2048_S1x1x1x2048_1_0_0_0))
      (View.ld (iblk m c 1 t) (Rect.unit ![0, 0, 0, 0] ![1, 1, 1, 2048] inb_S6x1x1x2048_S1x1x1x2048_0_0_0_0)) j
      = ur m c (row t (j 0)) (j 1) := by
  idx_vars j
  pointwise [k0_pay1]
  rw [rd_x m c t, rd_m m c t j0, rd_m m c t j0]
  rfl

theorem pay2_at (t : Fin cfg0.N) (u : Vec Ideal S1024x2048 .bf16) (hu : ∀ r k, u (ix2 r k) = ur m c (row t r) k) (j : S1024x1536.Idx) :
    k0_pay2 u (X0_2 m c t) j
      = Layer.groups (ur m c (row t (j 0))) (w m c) ⟨t.val % 3 * 1536 + (j 1).val, by have := (j 1).isLt; change _ < 1536 at this; omega⟩ := by
  idx_vars j
  pointwise [k0_pay2]
  simp only [hu, rd_w m c t]
  exact Layer.proj_scaled _ _ _

/-! ## The scratch through a row tile -/

theorem u_first (t : Fin cfg0.N) (h0 : t.val % 3 = 0) (j : S1024x2048.Idx) :
    (outsAt0 m c t.val t.isLt).2 j = ur m c (row t (j 0)) (j 1) := by
  rw [outsAt0_A m c t h0]
  frame_out
  exact pay1_at m c t j

theorem u_next (t : Fin cfg0.N) (h0 : ¬t.val % 3 = 0) (j : S1024x2048.Idx) :
    (outsAt0 m c t.val t.isLt).2 j = (outsAt0 m c (t.val - 1) (Nat.lt_of_le_of_lt (Nat.sub_le _ _) t.isLt)).2 j := by
  rw [outsAt0_B m c t h0]; rfl

/-- At every point the scratch holds the modulated rows of the point's tile. -/
theorem u_at (t : Fin cfg0.N) (j : S1024x2048.Idx) :
    (outsAt0 m c t.val t.isLt).2 j = ur m c (row t (j 0)) (j 1) := by
  refine (Pipeline.eq_of_write_hold_apply (fun n h => (outsAt0 m c n h).2) 3
    (fun t j => ur m c (row t (j 0)) (j 1)) (u_first m c) (u_next m c) t j).trans ?_
  congr 1
  apply Fin.ext
  show 3 * (t.val / 3) / 3 * 1024 + (j 0).val = t.val / 3 * 1024 + (j 0).val
  omega

theorem u_prev (t : Fin cfg0.N) (h0 : ¬t.val % 3 = 0) (r : Fin 1024) (k : Fin 2048) :
    (outsAt0 m c (t.val - 1) (Nat.lt_of_le_of_lt (Nat.sub_le _ _) t.isLt)).2 (ix2 r k) = ur m c (row t r) k :=
  (u_next m c t h0 (ix2 r k)).symm.trans (u_at m c t (ix2 r k))

/-- The dilated head groups of row `R`. -/
def result (R : Fin 16384) : Fin 4608 → EReal := Layer.groups (ur m c R) (w m c)

theorem out_at (t : Fin cfg0.N) (j : S1024x1536.Idx) :
    (outsAt0 m c t.val t.isLt).1 j
      = result m c (row t (j 0)) ⟨t.val % 3 * 1536 + (j 1).val, by have := (j 1).isLt; change _ < 1536 at this; omega⟩ := by
  by_cases h0 : t.val % 3 = 0
  · rw [outsAt0_A m c t h0]
    frame_out
    exact pay2_at m c t _ (fun r k => pay1_at m c t (ix2 r k)) j
  · rw [outsAt0_B m c t h0]
    frame_out
    simp only [read_unread_whole]
    exact pay2_at m c t _ (u_prev m c t h0) j

/-- THE ARRAY: every entry is its row's projection. -/
theorem array (i : S16384x4608.Idx) : (dats m 0 c).arrAt 3 cfg0.N i = result m c (i 0) (i 1) := by
  refine congrFun (g := fun i : S16384x4608.Idx => result m c (i 0) (i 1)) ?_ i
  refine (dats m 0 c).arrAt_eq_of_covers 3 _ (by decide +kernel) fun t hf y => ?_
  rw [after0_3]
  refine (out_at m c t y).trans ?_
  have e0 : ((cfg0.win 3).blk t).view.emb y 0 = row t (y 0) := Fin.ext (by
    show win0_3.index t 0 * 1024 + 1 * (y 0).val = t.val / 3 * 1024 + (y 0).val
    rw [(idx t).2.2.2]; show t.val / 3 * 1024 + 1 * (y 0).val = _; omega)
  have e1 : (((cfg0.win 3).blk t).view.emb y 1).val = t.val % 3 * 1536 + (y 1).val := by
    show win0_3.index t 1 * 1536 + 1 * (y 1).val = t.val % 3 * 1536 + (y 1).val
    rw [(idx t).2.2.2]; show t.val % 3 * 1536 + 1 * (y 1).val = _; omega
  rw [e0]
  exact congrArg _ (Fin.ext e1.symm)

end Cert.ProjAIdeal.Hand
-- ==== Proof.ProjA.Reference.lean ====
module

public import proofs.«01_k».proof.Proof.Gen.ProjARefIdeal.Read
public import proofs.«01_k».proof.Proof.Spec
public import Idealize.ShloMosaic.Lib.Pointwise

/-! # What the reference of the dilated mixer's projection returns -/

@[expose] public section

set_option maxRecDepth 16384

noncomputable section

namespace Cert.ProjARefIdeal.Hand

open Cert.ProjARefIdeal Cert.ProjARefIdeal.Gen Cert.ProjARefIdeal.Read Idealize.ShloMosaic Idealize.ShloMosaic.TcCoe Idealize.SL.Sem Idealize.ShloMosaic.StableHlo

variable (x0 : S8x2048x2048.Idx → EReal) (x1 : S8x1x12288.Idx → EReal) (x2 : S2x2048x9984.Idx → EReal)

/-- Row `s` of batch `b` of the activations. -/
abbrev xr (b : Fin 8) (s k : Fin 2048) : EReal := x0 (ix3 b s k)
/-- The modulation vector of batch `b`. -/
abbrev md (b : Fin 8) (k : Fin 12288) : EReal := x1 (ix3 b 0 k)
/-- The input weights of the last layer. -/
abbrev w (k : Fin 2048) (f : Fin 9984) : EReal := x2 (ix3 1 k f)

theorem u_at (b : Fin 8) (s : Fin 2048) (k : Fin 2048) :
    val_main_v11 (F := Ideal) x0 x1 (ix3 b s k) = Layer.modulated (xr x0 b s) (md x1 b) 1 0 k := by
  unfold Layer.modulated Layer.chunk
  pointwise [val_main_v11, val_main_v10, val_main_v9, val_main_v8, val_main_v7, val_main_v6, val_main_v1, val_main_v0, val_main_cst]

theorem proj_at (b : Fin 8) (s : Fin 2048) (f : Fin 9984) :
    val_main_v14 (F := Ideal) x0 x1 x2 (ix3 b s f) = Layer.proj (Layer.modulated (xr x0 b s) (md x1 b) 1 0) (w x2) f := by
  have h := u_at x0 x1 b s
  unfold Layer.proj
  pointwise [val_main_v14, val_main_v13, val_main_v12]
  simp only [h]

/-- A column outside the queries, rebuilt from its group, its part, its head and its lane. -/
theorem column_eq (l : ℕ) (hl : ¬l % 1536 < 512) :
    l / 1536 * 1536 + (1 + (l / 512 % 3 - 1)) * 512 + l / 64 % 8 * 64 + l % 64 = l := by
  have h1 : l / 1536 = l / 512 / 3 := by omega
  have h2 : l / 64 / 8 = l / 512 := by omega
  have h3 : 1 + (l / 512 % 3 - 1) = l / 512 % 3 := by omega
  rw [h3, h1]
  omega

/-- A column is one of the queries when its part is the first of three. -/
theorem part_iff (l : ℕ) : l / 512 % 3 < 1 ↔ l % 1536 < 512 := by omega

/-- The two ways to scale the queries of a row alone. -/
theorem pick (P : Fin 9984 → EReal) (e : EReal) (l : Fin 4608) :
    (if h : l.val / 512 % 3 < 1 then P ⟨l.val, by omega⟩ * e
      else P ⟨l.val / 1536 * 1536 + (1 + (l.val / 512 % 3 - 1)) * 512 + l.val / 64 % 8 * 64 + l.val % 64, by
        rw [column_eq l.val (mt (part_iff l.val).mpr h)]; omega⟩)
      = P ⟨l.val, by omega⟩ * if l.val % 1536 < 512 then e else 1 := by
  by_cases hl : l.val % 1536 < 512
  · rw [dif_pos ((part_iff l.val).mpr hl), if_pos hl]
  · rw [dif_neg (mt (part_iff l.val).mp hl), if_neg hl, mul_one]
    exact congrArg _ (Fin.ext (column_eq l.val hl))

theorem stage_at (R : Fin 16384) (l : Fin 4608) :
    val_main_v22 (F := Ideal) x0 x1 x2 (ix2 R l)
      = if h : l.val / 512 % 3 < 1 then val_main_v14 (F := Ideal) x0 x1 x2 (ix3 ⟨R.val / 2048, by omega⟩ ⟨R.val % 2048, by omega⟩ ⟨l.val, by omega⟩) * Layer.eighth
        else val_main_v14 (F := Ideal) x0 x1 x2 (ix3 ⟨R.val / 2048, by omega⟩ ⟨R.val % 2048, by omega⟩ ⟨l.val / 1536 * 1536 + (1 + (l.val / 512 % 3 - 1)) * 512 + l.val / 64 % 8 * 64 + l.val % 64, by
        rw [column_eq l.val (mt (part_iff l.val).mpr h)]; omega⟩) := by
  unfold val_main_v22 val_main_v21 val_main_v20 val_main_v19 val_main_v17 val_main_v16 val_main_v15
  generalize val_main_v14 (F := Ideal) x0 x1 x2 = v
  unfold Layer.eighth
  pointwise [val_main_v18, val_main_cst_0]

/-- THE RESULT: every entry is its row's projection, the query columns scaled. -/
theorem result_at (R : Fin 16384) (l : Fin 4608) :
    val_main_v22 (F := Ideal) x0 x1 x2 (ix2 R l)
      = Layer.groups (Layer.modulated (xr x0 ⟨R.val / 2048, by omega⟩ ⟨R.val % 2048, by omega⟩) (md x1 ⟨R.val / 2048, by omega⟩) 1 0) (w x2) l := by
  rw [stage_at]
  simp only [proj_at]
  generalize Layer.modulated (xr x0 ⟨R.val / 2048, by omega⟩ ⟨R.val % 2048, by omega⟩) (md x1 ⟨R.val / 2048, by omega⟩) 1 0 = u
  unfold Layer.groups Layer.colScale
  rw [if_pos l.isLt]
  exact pick (Layer.proj u (w x2)) _ l

end Cert.ProjARefIdeal.Hand
-- ==== Proof.ProjA.lean ====
module

public import proofs.«01_k».proof.Defs
public import proofs.«01_k».proof.Proof.Gen.ProjA.Frame
public import proofs.«01_k».proof.Proof.Gen.ProjAIdeal
public import proofs.«01_k».proof.Proof.Gen.ProjAIdeal.Value
public import proofs.«01_k».proof.Proof.Gen.ProjARefIdeal
public import proofs.«01_k».proof.Proof.Gen.ProjARefIdeal.Run
public import proofs.«01_k».proof.Proof.Gen.ProjARefIdeal.Read
public import proofs.«01_k».proof.Proof.ProjA.Kernel
public import proofs.«01_k».proof.Proof.ProjA.Reference

/-! # The dilated mixer's projection: the claims -/

@[expose] public section

noncomputable section

namespace Cert.Proof.ProjA

open Idealize.ShloMosaic Idealize.ShloMosaic.TcCoe Idealize.SL.Sem

theorem frame_p : Cert.quiescent_ProjA := fun m g _ => Cert.ProjA.Gen.frame m g

theorem frame_pi : Cert.quiescent_ProjAIdeal := fun m g _ => Cert.ProjAIdeal.Gen.frame m g

theorem frame_ri : Cert.quiescent_ProjARefIdeal := fun m g _ =>
  (θ_run Cert.ProjARefIdeal.defs _ _).mono (fun r h => ⟨fun c => (h c).2, sem_eq_zero_of_no_sems (by decide) r.2⟩)
    (Cert.ProjARefIdeal.Value.run m g)

/-- The value both programs end with: every entry is its row's projection. -/
def value (m : (ℓ : Loc Cert.ProjAIdeal.nD Cert.ProjAIdeal.τ Cert.ProjAIdeal.sig) → Buf (Elt Ideal) ℓ) (c : Dev Cert.ProjAIdeal.nD) :
    Cert.ProjAIdeal.S16384x4608.Idx → EReal := fun i => Cert.ProjAIdeal.Hand.result m c (i 0) (i 1)

theorem algebraic : Cert.algebraic_ProjAIdeal_ProjARefIdeal := by
  intro m g m' g' _ hagree
  refine ⟨fun c => value m c, ?_, ?_⟩
  · refine (θ_run Cert.ProjAIdeal.defs _ _).mono (fun r h c => ?_) (Cert.ProjAIdeal.Value.run m g)
    refine ⟨(h c).1.trans ?_, (h c).2⟩
    rw [← Cert.ProjAIdeal.Value.final3]
    exact funext (Cert.ProjAIdeal.Hand.array m c)
  · refine (θ_run Cert.ProjARefIdeal.defs _ _).mono (fun r h c => ?_) (Cert.ProjARefIdeal.Value.run m' g')
    refine ⟨(h c).1.trans ?_, (h c).2⟩
    rw [Cert.ProjARefIdeal.Read.val_main_v22_eq, (hagree c).1, (hagree c).2.1, (hagree c).2.2]
    funext i
    idx_vars i
    exact Cert.ProjARefIdeal.Hand.result_at _ _ _ _ _

end Cert.Proof.ProjA

end
-- ==== Proof.Gates.Kernel.lean ====
module

public import proofs.«01_k».proof.Proof.Gen.GatesIdeal.Value
public import proofs.«01_k».proof.Proof.Scale
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.StableHlo.RunClose

/-! # What the gates kernel leaves in its output

The grid is 16 row tiles by two halves of the gate columns. The first point of a row tile stores the modulated rows, and both
points multiply them by their half of the columns and put the products through the sigmoid. -/

@[expose] public section

set_option maxRecDepth 16384

noncomputable section

namespace Cert.GatesIdeal.Hand

open Cert.GatesIdeal Cert.GatesIdeal.Gen Idealize.ShloMosaic Idealize.ShloMosaic.TcCoe Idealize.SL.Sem Idealize.ShloMosaic.StableHlo

variable (m : (ℓ : Loc nD τ sig) → Buf (Elt Ideal) ℓ) (c : Dev nD)

/-- Row `R` of the activations. -/
def xr (R : Fin 16384) (k : Fin 2048) : EReal :=
  (m ((c.tc : Thread nD τ).loc main_arg0) : S8x2048x2048.Idx → EReal) (ix3 ⟨R.val / 2048, by omega⟩ ⟨R.val % 2048, by omega⟩ k)
/-- The modulation vector of row `R`. -/
def md (R : Fin 16384) (k : Fin 12288) : EReal :=
  (m ((c.tc : Thread nD τ).loc main_arg1) : S8x1x12288.Idx → EReal) (ix3 ⟨R.val / 2048, by omega⟩ 0 k)
/-- The input weights of the last layer. -/
def w (k : Fin 2048) (f : Fin 9984) : EReal :=
  (m ((c.tc : Thread nD τ).loc main_arg2) : S2x2048x9984.Idx → EReal) (ix3 1 k f)

/-! ## The blocks a point reads -/

theorem idx (t : Fin cfg0.N) : win0_0.index t = ![t.val / 2, 0] ∧ win0_1.index t = ![0, t.val / 4, 0, 0]
    ∧ win0_2.index t = ![1, 0, 5888 + t.val % 2 * 2048] ∧ win0_3.index t = ![t.val / 2, t.val % 2] :=
  (by decide +kernel : ∀ t : Fin cfg0.N, win0_0.index t = ![t.val / 2, 0] ∧ win0_1.index t = ![0, t.val / 4, 0, 0]
    ∧ win0_2.index t = ![1, 0, 5888 + t.val % 2 * 2048] ∧ win0_3.index t = ![t.val / 2, t.val % 2]) t

theorem row_lt (t : Fin cfg0.N) (r : Fin 1024) : t.val / 2 * 1024 + r.val < 16384 := by
  have := lt_of_lt_of_eq t.isLt (N_0 : cfg0.N = 32); omega

/-- The array row that row `r` of point `t`'s tile is. -/
def row (t : Fin cfg0.N) (r : Fin 1024) : Fin 16384 := ⟨t.val / 2 * 1024 + r.val, row_lt t r⟩

theorem rd_x (t : Fin cfg0.N) (r : Fin 1024) (l : Fin 2048) :
    (iblk m c 0 t : S1024x2048.Idx → EReal) (ix2 r l) = xr m c (row t r) l := by
  unfold xr row
  blk_point [iblk, V, idx t]

theorem rd_m (t : Fin cfg0.N) (r : Fin 1024) (j : Fin 6) (l : Fin 2048) :
    (iblk m c 1 t : S6x1x1x2048.Idx → EReal) (ix4 j 0 0 l) = Layer.chunk (md m c (row t r)) j l := by
  unfold md row Layer.chunk
  blk_point [iblk, V, idx t]

/-- The weights the kernel is given: every column times its factor. -/
theorem host :
    (V m c main_v15 : S2x2048x9984.Idx → EReal) = truncf (F := Ideal) .bf16 (mulf (F := Ideal) (φ := .f32) (m ((c.tc : Thread nD τ).loc main_arg2))
      (broadcastInDim S2x2048x9984 ![0, 1, 2] bcast_S1x1x9984_S2x2048x9984_0_1_2 (broadcastInDim S1x1x9984 ![2] bcast_S9984_S1x1x9984_2 scale))) bitsLt_bf16_f32 := by
  unfold_abbrev_sides
  unfold scale groupScale
  after_results_entrywise (rounds := 1) []

theorem host_at (k : Fin 2048) (f : Fin 9984) :
    (V m c main_v15 : S2x2048x9984.Idx → EReal) (ix3 1 k f) = w m c k f * Layer.colScale f := by
  rw [host, ← scale_at]
  unfold w
  pointwise

theorem rd_host (t : Fin cfg0.N) (k : Fin 2048) (f : Fin 2048) :
    (iblk m c 2 t : S1x2048x2048.Idx → EReal) (ix3 0 k f) = (V m c main_v15 : S2x2048x9984.Idx → EReal) (ix3 1 k ⟨5888 + (t.val % 2 * 2048 + f.val), by omega⟩) := by
  blk_ext [iblk, idx t]
  · show win0_2.index t 0 + 1 * 0 = 1
    rw [(idx t).2.2.1]; rfl
  · show win0_2.index t 1 + 1 * k.val = k.val
    rw [(idx t).2.2.1]; show 0 + 1 * k.val = _; omega
  · show win0_2.index t 2 + 1 * f.val = _
    rw [(idx t).2.2.1]; show 5888 + t.val % 2 * 2048 + 1 * f.val = _; omega

theorem rd_w (t : Fin cfg0.N) (k : Fin 2048) (f : Fin 2048) :
    (iblk m c 2 t : S1x2048x2048.Idx → EReal) (ix3 0 k f)
      = w m c k ⟨5888 + (t.val % 2 * 2048 + f.val), by omega⟩ * Layer.colScale ⟨5888 + (t.val % 2 * 2048 + f.val), by omega⟩ := by
  rw [rd_host, host_at]

/-! ## What a point stores -/

/-- The modulated row. -/
def ur (R : Fin 16384) : Fin 2048 → EReal := Layer.modulated (xr m c R) (md m c R) 1 0

theorem pay1_at (t : Fin cfg0.N) (j : S1024x2048.Idx) :
    k0_pay1 (iblk m c 0 t)
      (View.ld (iblk m c 1 t) (Rect.unit ![1, 0, 0, 0] ![1, 1, 1, 2048] inb_S6x1x1x2048_S1x1x1x2048_1_0_0_0))
      (View.ld (iblk m c 1 t) (Rect.unit ![0, 0, 0, 0] ![1, 1, 1, 2048] inb_S6x1x1x2048_S1x1x1x2048_0_0_0_0)) j
      = ur m c (row t (j 0)) (j 1) := by
  idx_vars j
  pointwise [k0_pay1]
  rw [rd_x m c t, rd_m m c t j0, rd_m m c t j0]
  rfl

theorem gate_scale (f : Fin 9984) (h : 5888 ≤ f.val) : Layer.colScale f = 1 := by
  unfold Layer.colScale
  rw [if_neg (by omega), if_neg (by omega)]

theorem pay2_at (t : Fin cfg0.N) (u : Vec Ideal S1024x2048 .bf16) (hu : ∀ r k, u (ix2 r k) = ur m c (row t r) k) (j : S1024x2048.Idx) :
    k0_pay2 u (iblk m c 2 t) j
      = Layer.gate (ur m c (row t (j 0))) (w m c) ⟨t.val % 2 * 2048 + (j 1).val, by have := (j 1).isLt; change _ < 2048 at this; omega⟩ := by
  idx_vars j
  pointwise [k0_pay2]
  simp only [hu, rd_w m c t]
  rw [Layer.proj_scaled, gate_scale _ (by show 5888 ≤ 5888 + _; omega), mul_one]
  rfl

/-! ## The scratch through a row tile -/

theorem u_first (t : Fin cfg0.N) (h0 : t.val % 2 = 0) (j : S1024x2048.Idx) :
    (outsAt0 m c t.val t.isLt).2 j = ur m c (row t (j 0)) (j 1) := by
  rw [outsAt0_A m c t h0]
  frame_out
  exact pay1_at m c t j

theorem u_next (t : Fin cfg0.N) (h0 : ¬t.val % 2 = 0) (j : S1024x2048.Idx) :
    (outsAt0 m c t.val t.isLt).2 j = (outsAt0 m c (t.val - 1) (Nat.lt_of_le_of_lt (Nat.sub_le _ _) t.isLt)).2 j := by
  rw [outsAt0_B m c t h0]; rfl

/-- At every point the scratch holds the modulated rows of the point's tile. -/
theorem u_at (t : Fin cfg0.N) (j : S1024x2048.Idx) :
    (outsAt0 m c t.val t.isLt).2 j = ur m c (row t (j 0)) (j 1) := by
  refine (Pipeline.eq_of_write_hold_apply (fun n h => (outsAt0 m c n h).2) 2
    (fun t j => ur m c (row t (j 0)) (j 1)) (u_first m c) (u_next m c) t j).trans ?_
  congr 1
  apply Fin.ext
  show 2 * (t.val / 2) / 2 * 1024 + (j 0).val = t.val / 2 * 1024 + (j 0).val
  omega

theorem u_prev (t : Fin cfg0.N) (h0 : ¬t.val % 2 = 0) (r : Fin 1024) (k : Fin 2048) :
    (outsAt0 m c (t.val - 1) (Nat.lt_of_le_of_lt (Nat.sub_le _ _) t.isLt)).2 (ix2 r k) = ur m c (row t r) k :=
  (u_next m c t h0 (ix2 r k)).symm.trans (u_at m c t (ix2 r k))

/-- The gates of row `R`. -/
def result (R : Fin 16384) : Fin 4096 → EReal := Layer.gate (ur m c R) (w m c)

theorem out_at (t : Fin cfg0.N) (j : S1024x2048.Idx) :
    (outsAt0 m c t.val t.isLt).1 j
      = result m c (row t (j 0)) ⟨t.val % 2 * 2048 + (j 1).val, by have := (j 1).isLt; change _ < 2048 at this; omega⟩ := by
  by_cases h0 : t.val % 2 = 0
  · rw [outsAt0_A m c t h0]
    frame_out
    exact pay2_at m c t _ (fun r k => pay1_at m c t (ix2 r k)) j
  · rw [outsAt0_B m c t h0]
    frame_out
    simp only [read_unread_whole]
    exact pay2_at m c t _ (u_prev m c t h0) j

/-- THE ARRAY: every entry is a gate of its row. -/
theorem array (i : S16384x4096.Idx) : (dats m 0 c).arrAt 3 cfg0.N i = result m c (i 0) (i 1) := by
  refine congrFun (g := fun i : S16384x4096.Idx => result m c (i 0) (i 1)) ?_ i
  refine (dats m 0 c).arrAt_eq_of_covers 3 _ (by decide +kernel) fun t hf y => ?_
  rw [after0_3]
  refine (out_at m c t y).trans ?_
  have e0 : ((cfg0.win 3).blk t).view.emb y 0 = row t (y 0) := Fin.ext (by
    show win0_3.index t 0 * 1024 + 1 * (y 0).val = t.val / 2 * 1024 + (y 0).val
    rw [(idx t).2.2.2]; show t.val / 2 * 1024 + 1 * (y 0).val = _; omega)
  have e1 : (((cfg0.win 3).blk t).view.emb y 1).val = t.val % 2 * 2048 + (y 1).val := by
    show win0_3.index t 1 * 2048 + 1 * (y 1).val = t.val % 2 * 2048 + (y 1).val
    rw [(idx t).2.2.2]; show t.val % 2 * 2048 + 1 * (y 1).val = _; omega
  rw [e0]
  exact congrArg _ (Fin.ext e1.symm)

end Cert.GatesIdeal.Hand
-- ==== Proof.Gates.Reference.lean ====
module

public import proofs.«01_k».proof.Proof.Gen.GatesRefIdeal.Read
public import proofs.«01_k».proof.Proof.Spec
public import Idealize.ShloMosaic.Lib.Pointwise

/-! # What the gates reference returns -/

@[expose] public section

set_option maxRecDepth 16384

noncomputable section

namespace Cert.GatesRefIdeal.Hand

open Cert.GatesRefIdeal Cert.GatesRefIdeal.Gen Cert.GatesRefIdeal.Read Idealize.ShloMosaic Idealize.ShloMosaic.TcCoe Idealize.SL.Sem Idealize.ShloMosaic.StableHlo

variable (x0 : S8x2048x2048.Idx → EReal) (x1 : S8x1x12288.Idx → EReal) (x2 : S2x2048x9984.Idx → EReal)

/-- Row `s` of batch `b` of the activations. -/
abbrev xr (b : Fin 8) (s k : Fin 2048) : EReal := x0 (ix3 b s k)
/-- The modulation vector of batch `b`. -/
abbrev md (b : Fin 8) (k : Fin 12288) : EReal := x1 (ix3 b 0 k)
/-- The input weights of the last layer. -/
abbrev w (k : Fin 2048) (f : Fin 9984) : EReal := x2 (ix3 1 k f)

theorem u_at (b : Fin 8) (s : Fin 2048) (k : Fin 2048) :
    val_main_v11 (F := Ideal) x0 x1 (ix3 b s k) = Layer.modulated (xr x0 b s) (md x1 b) 1 0 k := by
  unfold Layer.modulated Layer.chunk
  pointwise [val_main_v11, val_main_v10, val_main_v9, val_main_v8, val_main_v7, val_main_v6, val_main_v1, val_main_v0, val_main_cst]

theorem proj_at (b : Fin 8) (s : Fin 2048) (f : Fin 9984) :
    val_main_v14 (F := Ideal) x0 x1 x2 (ix3 b s f) = Layer.proj (Layer.modulated (xr x0 b s) (md x1 b) 1 0) (w x2) f := by
  have h := u_at x0 x1 b s
  unfold Layer.proj
  pointwise [val_main_v14, val_main_v13, val_main_v12]
  simp only [h]

/-- THE RESULT: every entry is a gate of its row. -/
theorem result_at (R : Fin 16384) (l : Fin 4096) :
    val_main_v23 (F := Ideal) x0 x1 x2 (ix2 R l)
      = Layer.gate (Layer.modulated (xr x0 ⟨R.val / 2048, by omega⟩ ⟨R.val % 2048, by omega⟩) (md x1 ⟨R.val / 2048, by omega⟩) 1 0) (w x2) l := by
  have h := proj_at x0 x1 x2
  generalize hv : val_main_v14 (F := Ideal) x0 x1 x2 = v at h
  unfold val_main_v23 val_main_v22 val_main_v21 val_main_v19 val_main_v17 val_main_v16 val_main_v15
  rw [hv]
  unfold Layer.gate
  pointwise [val_main_v20, val_main_v18, val_main_cst_1, val_main_cst_0]
  simp only [h]
  rfl

end Cert.GatesRefIdeal.Hand
-- ==== Proof.Gates.lean ====
module

public import proofs.«01_k».proof.Defs
public import proofs.«01_k».proof.Proof.Gen.Gates.Frame
public import proofs.«01_k».proof.Proof.Gen.GatesIdeal
public import proofs.«01_k».proof.Proof.Gen.GatesIdeal.Value
public import proofs.«01_k».proof.Proof.Gen.GatesRefIdeal
public import proofs.«01_k».proof.Proof.Gen.GatesRefIdeal.Run
public import proofs.«01_k».proof.Proof.Gen.GatesRefIdeal.Read
public import proofs.«01_k».proof.Proof.Gates.Kernel
public import proofs.«01_k».proof.Proof.Gates.Reference

/-! # The merge gates: the claims -/

@[expose] public section

noncomputable section

namespace Cert.Proof.Gates

open Idealize.ShloMosaic Idealize.ShloMosaic.TcCoe Idealize.SL.Sem

theorem frame_p : Cert.quiescent_Gates := fun m g _ => Cert.Gates.Gen.frame m g

theorem frame_pi : Cert.quiescent_GatesIdeal := fun m g _ => Cert.GatesIdeal.Gen.frame m g

theorem frame_ri : Cert.quiescent_GatesRefIdeal := fun m g _ =>
  (θ_run Cert.GatesRefIdeal.defs _ _).mono (fun r h => ⟨fun c => (h c).2, sem_eq_zero_of_no_sems (by decide) r.2⟩)
    (Cert.GatesRefIdeal.Value.run m g)

/-- The value both programs end with: every entry is a gate of its row. -/
def value (m : (ℓ : Loc Cert.GatesIdeal.nD Cert.GatesIdeal.τ Cert.GatesIdeal.sig) → Buf (Elt Ideal) ℓ) (c : Dev Cert.GatesIdeal.nD) :
    Cert.GatesIdeal.S16384x4096.Idx → EReal := fun i => Cert.GatesIdeal.Hand.result m c (i 0) (i 1)

theorem algebraic : Cert.algebraic_GatesIdeal_GatesRefIdeal := by
  intro m g m' g' _ hagree
  refine ⟨fun c => value m c, ?_, ?_⟩
  · refine (θ_run Cert.GatesIdeal.defs _ _).mono (fun r h c => ?_) (Cert.GatesIdeal.Value.run m g)
    refine ⟨(h c).1.trans ?_, (h c).2⟩
    rw [← Cert.GatesIdeal.Value.final3]
    exact funext (Cert.GatesIdeal.Hand.array m c)
  · refine (θ_run Cert.GatesRefIdeal.defs _ _).mono (fun r h c => ?_) (Cert.GatesRefIdeal.Value.run m' g')
    refine ⟨(h c).1.trans ?_, (h c).2⟩
    rw [Cert.GatesRefIdeal.Read.val_main_v23_eq, (hagree c).1, (hagree c).2.1, (hagree c).2.2]
    funext i
    idx_vars i
    exact Cert.GatesRefIdeal.Hand.result_at _ _ _ _ _

end Cert.Proof.Gates

end
-- ==== Proof.Post.Kernel.lean ====
module

public import proofs.«01_k».proof.Proof.Gen.PostIdeal.Value
public import proofs.«01_k».proof.Proof.Spec
public import Idealize.ShloMosaic.Lib.Pipeline.ValueKit
public import Idealize.ShloMosaic.Lib.Pipeline.ValueKit.Held
public import Idealize.ShloMosaic.Lib.Pipeline.ReadBack
public import Idealize.ShloMosaic.Lib.Pointwise

/-! # What the kernel that ends the attention half leaves in its output

The grid is 64 row tiles, each computed at one point. -/

@[expose] public section

set_option maxRecDepth 16384

noncomputable section

namespace Cert.PostIdeal.Hand

open Cert.PostIdeal Cert.PostIdeal.Gen Idealize.ShloMosaic Idealize.ShloMosaic.TcCoe Idealize.SL.Sem Idealize.ShloMosaic.StableHlo

variable (m : (ℓ : Loc nD τ sig) → Buf (Elt Ideal) ℓ) (c : Dev nD)

/-- Row `R` of the dilated mixer: head `k / 64`, lane `k % 64`. -/
def ar (R : Fin 16384) (k : Fin 512) : EReal :=
  (m ((c.tc : Thread nD τ).loc main_arg0) : S8x2048x8x64.Idx → EReal) (ix4 ⟨R.val / 2048, by omega⟩ ⟨R.val % 2048, by omega⟩ ⟨k.val / 64, by omega⟩ ⟨k.val % 64, by omega⟩)
/-- Row `R` of the sliding-window mixer. -/
def br (R : Fin 16384) (k : Fin 1024) : EReal :=
  (m ((c.tc : Thread nD τ).loc main_arg1) : S8x2048x2x8x64.Idx → EReal) (ix5 ⟨R.val / 2048, by omega⟩ ⟨R.val % 2048, by omega⟩ ⟨k.val / 512, by omega⟩ ⟨k.val / 64 % 8, by omega⟩ ⟨k.val % 64, by omega⟩)
/-- Row `R` of the gates. -/
def gr (R : Fin 16384) (k : Fin 4096) : EReal :=
  (m ((c.tc : Thread nD τ).loc main_arg2) : S8x2048x4096.Idx → EReal) (ix3 ⟨R.val / 2048, by omega⟩ ⟨R.val % 2048, by omega⟩ k)
/-- Row `R` of the activations. -/
def xr (R : Fin 16384) (k : Fin 2048) : EReal :=
  (m ((c.tc : Thread nD τ).loc main_arg3) : S8x2048x2048.Idx → EReal) (ix3 ⟨R.val / 2048, by omega⟩ ⟨R.val % 2048, by omega⟩ k)
/-- The modulation vector of row `R`. -/
def md (R : Fin 16384) (k : Fin 12288) : EReal :=
  (m ((c.tc : Thread nD τ).loc main_arg4) : S8x1x12288.Idx → EReal) (ix3 ⟨R.val / 2048, by omega⟩ 0 k)
/-- The dilated mixer's output weights of the last layer. -/
def wpa (k : Fin 512) (l : Fin 2048) : EReal :=
  (m ((c.tc : Thread nD τ).loc main_arg5) : S2x512x2048.Idx → EReal) (ix3 1 k l)
/-- The sliding-window mixer's output weights of the last layer. -/
def wpb (k : Fin 1024) (l : Fin 2048) : EReal :=
  (m ((c.tc : Thread nD τ).loc main_arg6) : S2x1024x2048.Idx → EReal) (ix3 1 k l)
/-- The merged output weights of the last layer. -/
def wo (k : Fin 2048) (l : Fin 2048) : EReal :=
  (m ((c.tc : Thread nD τ).loc main_arg7) : S2x2048x2048.Idx → EReal) (ix3 1 k l)
/-- The norm's scale. -/
def lg (l : Fin 2048) : EReal :=
  (m ((c.tc : Thread nD τ).loc main_arg8) : S2x2x2048.Idx → EReal) (ix3 1 0 l)
/-- The norm's shift. -/
def lb (l : Fin 2048) : EReal :=
  (m ((c.tc : Thread nD τ).loc main_arg9) : S2x2x2048.Idx → EReal) (ix3 1 0 l)

/-! ## The blocks a point reads -/

theorem idx (t : Fin cfg0.N) : win0_0.index t = ![t.val, 0] ∧ win0_1.index t = ![t.val, 0] ∧ win0_2.index t = ![t.val, 0] ∧ win0_3.index t = ![t.val, 0]
    ∧ win0_4.index t = ![0, t.val / 8, 0, 0] ∧ win0_5.index t = ![1, 0, 0] ∧ win0_6.index t = ![1, 0, 0] ∧ win0_7.index t = ![1, 0, 0]
    ∧ win0_8.index t = ![1, 0, 0] ∧ win0_9.index t = ![1, 0, 0] ∧ win0_10.index t = ![t.val, 0] :=
  (by decide +kernel : ∀ t : Fin cfg0.N, win0_0.index t = ![t.val, 0] ∧ win0_1.index t = ![t.val, 0] ∧ win0_2.index t = ![t.val, 0] ∧ win0_3.index t = ![t.val, 0]
    ∧ win0_4.index t = ![0, t.val / 8, 0, 0] ∧ win0_5.index t = ![1, 0, 0] ∧ win0_6.index t = ![1, 0, 0] ∧ win0_7.index t = ![1, 0, 0]
    ∧ win0_8.index t = ![1, 0, 0] ∧ win0_9.index t = ![1, 0, 0] ∧ win0_10.index t = ![t.val, 0]) t

theorem row_lt (t : Fin cfg0.N) (r : Fin 256) : t.val * 256 + r.val < 16384 := by
  have := lt_of_lt_of_eq t.isLt (N_0 : cfg0.N = 64); omega

/-- The array row that row `r` of point `t`'s tile is. -/
def row (t : Fin cfg0.N) (r : Fin 256) : Fin 16384 := ⟨t.val * 256 + r.val, row_lt t r⟩

theorem rd_a (t : Fin cfg0.N) (r : Fin 256) (l : Fin 512) :
    (iblk m c 0 t : S256x512.Idx → EReal) (ix2 r l) = ar m c (row t r) l := by
  unfold ar row
  blk_point [iblk, V, idx t]

theorem rd_o (t : Fin cfg0.N) (r : Fin 256) (l : Fin 1024) :
    (iblk m c 1 t : S256x1024.Idx → EReal) (ix2 r l) = br m c (row t r) l := by
  unfold br row
  blk_point [iblk, V, idx t]

theorem rd_gate (t : Fin cfg0.N) (r : Fin 256) (l : Fin 4096) :
    (iblk m c 2 t : S256x4096.Idx → EReal) (ix2 r l) = gr m c (row t r) l := by
  unfold gr row
  blk_point [iblk, V, idx t]

theorem rd_x (t : Fin cfg0.N) (r : Fin 256) (l : Fin 2048) :
    (iblk m c 3 t : S256x2048.Idx → EReal) (ix2 r l) = xr m c (row t r) l := by
  unfold xr row
  blk_point [iblk, V, idx t]

theorem rd_m (t : Fin cfg0.N) (r : Fin 256) (j : Fin 6) (l : Fin 2048) :
    (iblk m c 4 t : S6x1x1x2048.Idx → EReal) (ix4 j 0 0 l) = Layer.chunk (md m c (row t r)) j l := by
  unfold md row Layer.chunk
  blk_point [iblk, V, idx t]

theorem rd_wpa (t : Fin cfg0.N) (k : Fin 512) (l : Fin 2048) :
    (iblk m c 5 t : S1x512x2048.Idx → EReal) (ix3 0 k l) = wpa m c k l := by
  unfold wpa
  blk_point [iblk, V, idx t]

theorem rd_wpb (t : Fin cfg0.N) (k : Fin 1024) (l : Fin 2048) :
    (iblk m c 6 t : S1x1024x2048.Idx → EReal) (ix3 0 k l) = wpb m c k l := by
  unfold wpb
  blk_point [iblk, V, idx t]

theorem rd_wo (t : Fin cfg0.N) (k : Fin 2048) (l : Fin 2048) :
    (iblk m c 7 t : S1x2048x2048.Idx → EReal) (ix3 0 k l) = wo m c k l := by
  unfold wo
  blk_point [iblk, V, idx t]

theorem rd_g (t : Fin cfg0.N) (l : Fin 2048) : (iblk m c 8 t : S1x2x2048.Idx → EReal) (ix3 0 0 l) = lg m c l := by
  unfold lg
  blk_point [iblk, V, idx t]

theorem rd_b (t : Fin cfg0.N) (l : Fin 2048) : (iblk m c 9 t : S1x2x2048.Idx → EReal) (ix3 0 0 l) = lb m c l := by
  unfold lb
  blk_point [iblk, V, idx t]

/-! ## What a point stores -/

/-- The attention half's end on row `R`. -/
def result (R : Fin 16384) : Fin 2048 → EReal :=
  Layer.post (ar m c R) (br m c R) (gr m c R) (xr m c R) (md m c R) (wpa m c) (wpb m c) (wo m c) (lg m c) (lb m c)

theorem pay2_at (t : Fin cfg0.N) (j : S256x2048.Idx) :
    k0_pay2 (F := Ideal) (View.ld (iblk m c 0 t) r0_0) (View.ld (iblk m c 5 t) r0_1) (View.ld (iblk m c 1 t) r0_2) (View.ld (iblk m c 6 t) r0_3)
      (View.ld (iblk m c 2 t) r0_4) (View.ld (iblk m c 2 t) r0_5) (View.ld (iblk m c 7 t) r0_6) (View.ld (iblk m c 3 t) r0_7)
      (View.ld (iblk m c 4 t) r0_8) j
      = Layer.residual (xr m c (row t (j 0))) (md m c (row t (j 0))) 2
          (fun l => ∑ k, Layer.merged (ar m c (row t (j 0))) (br m c (row t (j 0))) (gr m c (row t (j 0))) (wpa m c) (wpb m c) k * wo m c k l) (j 1) := by
  idx_vars j
  pointwise [k0_pay2]
  simp only [rd_a m c t, rd_o m c t, rd_gate m c t, rd_x m c t, rd_m m c t j0, rd_wpa m c t, rd_wpb m c t, rd_wo m c t]
  rfl

theorem pay1_at (t : Fin cfg0.N) (z : FVec Ideal S256x2048 .f32) (j : S256x2048.Idx) :
    k0_pay1 (F := Ideal) z (View.ld (iblk m c 8 t) r0_9) (View.ld (iblk m c 9 t) r0_9) j
      = Layer.norm (fun l => z (ix2 (j 0) l)) (lg m c) (lb m c) (j 1) := by
  idx_vars j
  pointwise [k0_pay1]
  simp only [rd_g m c t, rd_b m c t]
  rfl

theorem out_at (t : Fin cfg0.N) (j : S256x2048.Idx) :
    out0_10 (F := Ideal) (iblk m c 0 t) (iblk m c 1 t) (iblk m c 2 t) (iblk m c 3 t) (iblk m c 4 t) (iblk m c 5 t) (iblk m c 6 t) (iblk m c 7 t)
      (iblk m c 8 t) (iblk m c 9 t) j = result m c (row t (j 0)) (j 1) := by
  unfold out0_10
  rw [View.canon_unit_zero (by funext a; match a with | ⟨0, _⟩ => rfl | ⟨1, _⟩ => rfl : (![0, 0] : Fin 2 → ℕ) = fun _ => 0)]
  refine (pay1_at m c t _ j).trans ?_
  unfold result Layer.post
  congr 1
  exact funext fun l => pay2_at m c t (ix2 (j 0) l)

/-- THE ARRAY: every entry is the attention half's end on its row. -/
theorem array (i : S16384x2048.Idx) : (dats m 0 c).arrAt 10 cfg0.N i = result m c (i 0) (i 1) := by
  refine congrFun (g := fun i : S16384x2048.Idx => result m c (i 0) (i 1)) ?_ i
  refine (dats m 0 c).arrAt_eq_of_covers 10 _ (by decide +kernel) fun t hf y => ?_
  refine ((congrFun (after0_10 m c t) y).trans (out_at m c t y)).trans ?_
  have e0 : ((cfg0.win 10).blk t).view.emb y 0 = row t (y 0) := Fin.ext (by
    show win0_10.index t 0 * 256 + 1 * (y 0).val = t.val * 256 + (y 0).val
    rw [(idx t).2.2.2.2.2.2.2.2.2.2]; show t.val * 256 + 1 * (y 0).val = _; omega)
  have e1 : ((cfg0.win 10).blk t).view.emb y 1 = y 1 := Fin.ext (by
    show win0_10.index t 1 * 2048 + 1 * (y 1).val = (y 1).val
    rw [(idx t).2.2.2.2.2.2.2.2.2.2]; show 0 * 2048 + 1 * (y 1).val = _; omega)
  rw [e0, e1]

end Cert.PostIdeal.Hand
-- ==== Proof.Post.Reference.lean ====
module

public import proofs.«01_k».proof.Proof.Gen.PostRefIdeal.Read
public import proofs.«01_k».proof.Proof.Spec
public import Idealize.ShloMosaic.Lib.Pointwise

/-! # What the reference of the attention half's end returns -/

@[expose] public section

set_option maxRecDepth 16384

noncomputable section

namespace Cert.PostRefIdeal.Hand

open Cert.PostRefIdeal Cert.PostRefIdeal.Gen Cert.PostRefIdeal.Read Idealize.ShloMosaic Idealize.ShloMosaic.TcCoe Idealize.SL.Sem Idealize.ShloMosaic.StableHlo

variable (x0 : S8x2048x8x64.Idx → EReal) (x1 : S8x2048x2x8x64.Idx → EReal) (x2 : S8x2048x4096.Idx → EReal)
  (x3 : S8x2048x2048.Idx → EReal) (x4 : S8x1x12288.Idx → EReal) (x5 : S2x512x2048.Idx → EReal) (x6 : S2x1024x2048.Idx → EReal)
  (x7 : S2x2048x2048.Idx → EReal) (x8 x9 : S2x2x2048.Idx → EReal)

/-- Row `s` of batch `b` of the dilated mixer. -/
abbrev ar (b : Fin 8) (s : Fin 2048) (k : Fin 512) : EReal := x0 (ix4 b s ⟨k.val / 64, by omega⟩ ⟨k.val % 64, by omega⟩)
/-- Row `s` of batch `b` of the sliding-window mixer. -/
abbrev br (b : Fin 8) (s : Fin 2048) (k : Fin 1024) : EReal :=
  x1 (ix5 b s ⟨k.val / 512, by omega⟩ ⟨k.val / 64 % 8, by omega⟩ ⟨k.val % 64, by omega⟩)
/-- Row `s` of batch `b` of the gates. -/
abbrev gr (b : Fin 8) (s : Fin 2048) (k : Fin 4096) : EReal := x2 (ix3 b s k)
/-- Row `s` of batch `b` of the activations. -/
abbrev xr (b : Fin 8) (s k : Fin 2048) : EReal := x3 (ix3 b s k)
/-- The modulation vector of batch `b`. -/
abbrev md (b : Fin 8) (k : Fin 12288) : EReal := x4 (ix3 b 0 k)
/-- The dilated mixer's output weights of the last layer. -/
abbrev wpa (k : Fin 512) (l : Fin 2048) : EReal := x5 (ix3 1 k l)
/-- The sliding-window mixer's output weights of the last layer. -/
abbrev wpb (k : Fin 1024) (l : Fin 2048) : EReal := x6 (ix3 1 k l)
/-- The merged output weights of the last layer. -/
abbrev wo (k l : Fin 2048) : EReal := x7 (ix3 1 k l)

theorem ya_at (b : Fin 8) (s l : Fin 2048) :
    val_main_v9 (F := Ideal) x0 x5 (ix3 b s l) = ∑ k, ar x0 b s k * wpa x5 k l := by
  pointwise [val_main_v9, val_main_v8, val_main_v7, val_main_v6]

theorem yb_at (b : Fin 8) (s l : Fin 2048) :
    val_main_v13 (F := Ideal) x1 x6 (ix3 b s l) = ∑ k, br x1 b s k * wpb x6 k l := by
  pointwise [val_main_v13, val_main_v12, val_main_v11, val_main_v10]

theorem merged_at (b : Fin 8) (s l : Fin 2048) :
    val_main_v18 (F := Ideal) x0 x1 x2 x5 x6 (ix3 b s l) = Layer.merged (ar x0 b s) (br x1 b s) (gr x2 b s) (wpa x5) (wpb x6) l := by
  have h1 := ya_at x0 x5 b s
  have h2 := yb_at x1 x6 b s
  unfold Layer.merged
  pointwise [val_main_v18, val_main_v17, val_main_v16, val_main_v15, val_main_v14]
  simp only [h1, h2]

theorem z_at (b : Fin 8) (s l : Fin 2048) :
    val_main_v26 (F := Ideal) x0 x1 x2 x3 x4 x5 x6 x7 (ix3 b s l) = Layer.residual (xr x3 b s) (md x4 b) 2
      (fun l => ∑ k, Layer.merged (ar x0 b s) (br x1 b s) (gr x2 b s) (wpa x5) (wpb x6) k * wo x7 k l) l := by
  have h := merged_at x0 x1 x2 x5 x6 b s
  unfold Layer.residual Layer.chunk Layer.resid
  pointwise [val_main_v26, val_main_v25, val_main_v24, val_main_v23, val_main_v22, val_main_v21, val_main_v20, val_main_v19, val_main_v2, val_main_cst]
  simp only [h]

theorem out_at (b : Fin 8) (s : Fin 2048) (l : Fin 2048) :
    val_main_v58 (F := Ideal) x0 x1 x2 x3 x4 x5 x6 x7 x8 x9 (ix3 b s l) = Layer.post (ar x0 b s) (br x1 b s) (gr x2 b s) (xr x3 b s) (md x4 b) (wpa x5) (wpb x6)
      (wo x7) (fun l => x8 (ix3 1 0 l)) (fun l => x9 (ix3 1 0 l)) l := by
  have h := z_at x0 x1 x2 x3 x4 x5 x6 x7 b s
  unfold Layer.post Layer.norm Layer.mean Layer.lanes Layer.eps
  generalize Layer.residual (xr x3 b s) (md x4 b) 2
      (fun l => ∑ k, Layer.merged (ar x0 b s) (br x1 b s) (gr x2 b s) (wpa x5) (wpb x6) k * wo x7 k l) = z at h ⊢
  generalize hv : val_main_v26 (F := Ideal) x0 x1 x2 x3 x4 x5 x6 x7 = v at h
  unfold val_main_v58 val_main_v55 val_main_v52 val_main_v51 val_main_v50 val_main_v49 val_main_v47 val_main_v46 val_main_v45 val_main_v43
    val_main_v42 val_main_v41 val_main_v40 val_main_v39 val_main_v38 val_main_v36 val_main_v35
  rw [hv]
  pointwise [val_main_v57, val_main_v56, val_main_v54, val_main_v53,
    val_main_v48, val_main_cst_4, val_main_v44, val_main_cst_3, val_main_cst_2,
    val_main_v37, val_main_cst_1, val_main_cst_0,
    val_main_v34, val_main_v33, val_main_v32, val_main_v31, val_main_v30, val_main_v29, val_main_v28, val_main_v27]
  simp only [h]

/-- THE RESULT: every entry is the attention half's end on its row. -/
theorem result_at (R : Fin 16384) (l : Fin 2048) :
    val_main_v59 (F := Ideal) x0 x1 x2 x3 x4 x5 x6 x7 x8 x9 (ix2 R l)
      = Layer.post (ar x0 ⟨R.val / 2048, by omega⟩ ⟨R.val % 2048, by omega⟩) (br x1 ⟨R.val / 2048, by omega⟩ ⟨R.val % 2048, by omega⟩)
        (gr x2 ⟨R.val / 2048, by omega⟩ ⟨R.val % 2048, by omega⟩) (xr x3 ⟨R.val / 2048, by omega⟩ ⟨R.val % 2048, by omega⟩)
        (md x4 ⟨R.val / 2048, by omega⟩) (wpa x5) (wpb x6) (wo x7) (fun l => x8 (ix3 1 0 l)) (fun l => x9 (ix3 1 0 l)) l := by
  rw [← out_at x0 x1 x2 x3 x4 x5 x6 x7 x8 x9]
  pointwise [val_main_v59]

end Cert.PostRefIdeal.Hand
-- ==== Proof.Post.lean ====
module

public import proofs.«01_k».proof.Defs
public import proofs.«01_k».proof.Proof.Gen.Post.Frame
public import proofs.«01_k».proof.Proof.Gen.PostIdeal
public import proofs.«01_k».proof.Proof.Gen.PostIdeal.Value
public import proofs.«01_k».proof.Proof.Gen.PostRefIdeal
public import proofs.«01_k».proof.Proof.Gen.PostRefIdeal.Run
public import proofs.«01_k».proof.Proof.Gen.PostRefIdeal.Read
public import proofs.«01_k».proof.Proof.Post.Kernel
public import proofs.«01_k».proof.Proof.Post.Reference

/-! # The end of the attention half: the claims -/

@[expose] public section

noncomputable section

namespace Cert.Proof.Post

open Idealize.ShloMosaic Idealize.ShloMosaic.TcCoe Idealize.SL.Sem

theorem frame_p : Cert.quiescent_Post := fun m g _ => Cert.Post.Gen.frame m g

theorem frame_pi : Cert.quiescent_PostIdeal := fun m g _ => Cert.PostIdeal.Gen.frame m g

theorem frame_ri : Cert.quiescent_PostRefIdeal := fun m g _ =>
  (θ_run Cert.PostRefIdeal.defs _ _).mono (fun r h => ⟨fun c => (h c).2, sem_eq_zero_of_no_sems (by decide) r.2⟩)
    (Cert.PostRefIdeal.Value.run m g)

/-- The value both programs end with: every entry is the attention half's end on its row. -/
def value (m : (ℓ : Loc Cert.PostIdeal.nD Cert.PostIdeal.τ Cert.PostIdeal.sig) → Buf (Elt Ideal) ℓ) (c : Dev Cert.PostIdeal.nD) :
    Cert.PostIdeal.S16384x2048.Idx → EReal := fun i => Cert.PostIdeal.Hand.result m c (i 0) (i 1)

theorem algebraic : Cert.algebraic_PostIdeal_PostRefIdeal := by
  intro m g m' g' _ hagree
  refine ⟨fun c => value m c, ?_, ?_⟩
  · refine (θ_run Cert.PostIdeal.defs _ _).mono (fun r h c => ?_) (Cert.PostIdeal.Value.run_blocks m g)
    refine ⟨(h c).1.trans ?_, (h c).2⟩
    exact funext (Cert.PostIdeal.Hand.array m c)
  · refine (θ_run Cert.PostRefIdeal.defs _ _).mono (fun r h c => ?_) (Cert.PostRefIdeal.Value.run m' g')
    refine ⟨(h c).1.trans ?_, (h c).2⟩
    rw [Cert.PostRefIdeal.Read.val_main_v59_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2.1, (hagree c).2.2.2.2.2.2.2.2.2]
    funext i
    idx_vars i
    exact Cert.PostRefIdeal.Hand.result_at _ _ _ _ _ _ _ _ _ _ _ _

end Cert.Proof.Post

end
-- ==== Proof.ProjB.Spec.lean ====
module

public import proofs.«01_k».proof.Proof.Spec

/-! # The formulas of the sliding-window mixer's projection, with its rotation -/

@[expose] public section

noncomputable section

namespace Layer

open Idealize.ShloMosaic

/-- The rotation's angle at position `s` and lane `l` of a head's half. -/
def angle (s : ℕ) (l : Fin 32) : EReal :=
  FloatOps.sitofp (F := Ideal) FTy.f32 (BitVec.ofNat 32 s) * Ideal.pow (Ideal.ofBits FTy.f32 1209170944#32)
    (Ideal.div (-FloatOps.sitofp (F := Ideal) FTy.f32 (BitVec.ofNat 32 l.val)) (Ideal.ofBits FTy.f32 1107296256#32))

/-- Column `f` of a projected row, rotated at position `s`: its partner is the column 32 to the right in a head's first half,
32 to the left in the second. -/
def rotated (P : Fin 9984 → EReal) (s : ℕ) (f : Fin 5760) : EReal :=
  if f.val % 64 < 32 then
    P ⟨f.val, by omega⟩ * Ideal.cos (angle s ⟨f.val % 32, by omega⟩) - P ⟨f.val + 32, by omega⟩ * Ideal.sin (angle s ⟨f.val % 32, by omega⟩)
  else P ⟨f.val, by omega⟩ * Ideal.cos (angle s ⟨f.val % 32, by omega⟩) + P ⟨f.val - 32, by omega⟩ * Ideal.sin (angle s ⟨f.val % 32, by omega⟩)

/-- A column of a head's first half. -/
theorem rotated_lo (P : Fin 9984 → EReal) (s : ℕ) (f : Fin 5760) (d : Fin 32) (hd : f.val % 64 = d.val) (a b : Fin 9984)
    (ha : a.val = f.val) (hb : b.val = f.val + 32) :
    rotated P s f = P a * Ideal.cos (angle s d) - P b * Ideal.sin (angle s d) := by
  have e : (⟨f.val % 32, by omega⟩ : Fin 32) = d := Fin.ext (by show f.val % 32 = d.val; omega)
  have ea : (⟨f.val, by omega⟩ : Fin 9984) = a := Fin.ext ha.symm
  have eb : (⟨f.val + 32, by omega⟩ : Fin 9984) = b := Fin.ext hb.symm
  unfold rotated
  rw [if_pos (by omega), e, ea, eb]

/-- A column of a head's second half. -/
theorem rotated_hi (P : Fin 9984 → EReal) (s : ℕ) (f : Fin 5760) (d : Fin 32) (hd : f.val % 64 = 32 + d.val) (a b : Fin 9984)
    (ha : a.val = f.val) (hb : b.val + 32 = f.val) :
    rotated P s f = P a * Ideal.cos (angle s d) + P b * Ideal.sin (angle s d) := by
  have e : (⟨f.val % 32, by omega⟩ : Fin 32) = d := Fin.ext (by show f.val % 32 = d.val; omega)
  have ea : (⟨f.val, by omega⟩ : Fin 9984) = a := Fin.ext ha.symm
  have eb : (⟨f.val - 32, by omega⟩ : Fin 9984) = b := Fin.ext (by show f.val - 32 = b.val; omega)
  unfold rotated
  rw [if_neg (by omega), e, ea, eb]

/-- The rotated queries, scaled. -/
def queries (P : Fin 9984 → EReal) (s : ℕ) (l : Fin 1024) : EReal := rotated P s ⟨4608 + l.val, by omega⟩ * eighth

/-- The rotated keys, then the values. -/
def keysValues (P : Fin 9984 → EReal) (s : ℕ) (l : Fin 256) : EReal :=
  if h : l.val < 128 then rotated P s ⟨5632 + l.val, by omega⟩ else P ⟨5632 + l.val, by omega⟩

theorem scaled_sub (e a b c s : EReal) (h0 : 0 ≤ e) (ht : e ≠ ⊤) : a * e * c + b * e * -s = (a * c - b * s) * e := by
  rw [sub_eq_add_neg, EReal.right_distrib_of_nonneg_of_ne_top h0 ht, mul_right_comm a e c, mul_right_comm b e (-s), mul_neg]

theorem scaled_add (e a b c s : EReal) (h0 : 0 ≤ e) (ht : e ≠ ⊤) : a * e * c + b * e * s = (a * c + b * s) * e := by
  rw [EReal.right_distrib_of_nonneg_of_ne_top h0 ht, mul_right_comm a e c, mul_right_comm b e s]

theorem colScale_pos (f : Fin 9984) : 0 ≤ colScale f ∧ colScale f ≠ ⊤ := by
  have h8 : 0 ≤ eighth ∧ eighth ≠ ⊤ := by
    rw [eighth_eq]; exact ⟨EReal.coe_nonneg.mpr (by norm_num), EReal.coe_ne_top _⟩
  have h1 : (0 : EReal) ≤ 1 ∧ (1 : EReal) ≠ ⊤ := by
    rw [← EReal.coe_one]; exact ⟨EReal.coe_nonneg.mpr (by norm_num), EReal.coe_ne_top _⟩
  unfold colScale
  split_ifs <;> assumption

/-- The factor of a column of this mixer. -/
theorem colScale_b (f : Fin 9984) (h : 4608 ≤ f.val) : colScale f = if f.val < 5632 then eighth else 1 := by
  unfold colScale
  rw [if_neg (by omega)]
  exact if_congr (by omega) rfl rfl

/-- A tile's rotation, of a row whose columns are already scaled. -/
theorem rope_at (P : Fin 9984 → EReal) (s : ℕ) (acc : Fin 1280 → EReal)
    (hacc : ∀ f : Fin 1280, acc f = P ⟨4608 + f.val, by omega⟩ * colScale ⟨4608 + f.val, by omega⟩)
    (l : Fin 128) (i j1 j2 : Fin 1280) (C S : EReal) (hC : C = Ideal.cos (angle s ⟨l.val % 32, by omega⟩))
    (hS : S = if l.val % 64 < 32 then -Ideal.sin (angle s ⟨l.val % 32, by omega⟩) else Ideal.sin (angle s ⟨l.val % 32, by omega⟩))
    (f : Fin 5760) (hf : f.val = 4608 + i.val) (hl : f.val % 64 = l.val % 64)
    (h1 : l.val % 64 < 32 → j1.val = i.val + 32) (h2 : ¬l.val % 64 < 32 → i.val = j2.val + 32) :
    acc i * C + Scalar.select (BitVec.ofBool (decide (l.val % 64 < 32))) (acc j1) (acc j2) * S
      = rotated P s f * colScale ⟨f.val, by omega⟩ := by
  obtain ⟨p0, pt⟩ := colScale_pos ⟨f.val, by omega⟩
  have e32 : (⟨l.val % 32, by omega⟩ : Fin 32) = ⟨f.val % 32, by omega⟩ := Fin.ext (by show l.val % 32 = f.val % 32; omega)
  have ei : (⟨4608 + i.val, by omega⟩ : Fin 9984) = ⟨f.val, by omega⟩ := Fin.ext hf.symm
  rw [e32] at hC hS
  rw [hC, hS, hacc, ei]
  unfold rotated
  by_cases h : l.val % 64 < 32
  · have h' : f.val % 64 < 32 := by omega
    have ej : (⟨4608 + j1.val, by omega⟩ : Fin 9984) = ⟨f.val + 32, by omega⟩ := Fin.ext (by have := h1 h; show 4608 + j1.val = f.val + 32; omega)
    have ec : colScale ⟨f.val + 32, by omega⟩ = colScale ⟨f.val, by omega⟩ := by
      rw [colScale_b _ (by show 4608 ≤ f.val + 32; omega), colScale_b _ (by show 4608 ≤ f.val; omega)]
      exact if_congr (by show f.val + 32 < 5632 ↔ f.val < 5632; omega) rfl rfl
    have es : Scalar.select (BitVec.ofBool (decide (l.val % 64 < 32))) (acc j1) (acc j2) = acc j1 := by simp [h, Scalar.select]
    rw [es, hacc, ej, ec, if_pos h, if_pos h', scaled_sub _ _ _ _ _ p0 pt]
  · have h' : ¬f.val % 64 < 32 := by omega
    have ej : (⟨4608 + j2.val, by omega⟩ : Fin 9984) = ⟨f.val - 32, by omega⟩ := Fin.ext (by have := h2 h; show 4608 + j2.val = f.val - 32; omega)
    have ec : colScale ⟨f.val - 32, by omega⟩ = colScale ⟨f.val, by omega⟩ := by
      have := h2 h
      rw [colScale_b _ (by show 4608 ≤ f.val - 32; omega), colScale_b _ (by show 4608 ≤ f.val; omega)]
      exact if_congr (by show f.val - 32 < 5632 ↔ f.val < 5632; omega) rfl rfl
    have es : Scalar.select (BitVec.ofBool (decide (l.val % 64 < 32))) (acc j1) (acc j2) = acc j2 := by simp [h, Scalar.select]
    rw [es, hacc, ej, ec, if_neg h, if_neg h', scaled_add _ _ _ _ _ p0 pt]

end Layer

end
-- ==== Proof.ProjB.Kernel.lean ====
module

public import proofs.«01_k».proof.Proof.Gen.ProjBIdeal.Value
public import proofs.«01_k».proof.Proof.Scale
public import proofs.«01_k».proof.Proof.ProjB.Spec
public import Idealize.ShloMosaic.Lib.Pipeline.ValueKit
public import Idealize.ShloMosaic.Lib.Pipeline.ReadBack
public import Idealize.ShloMosaic.Lib.Pointwise
public import Idealize.ShloMosaic.Lib.StableHlo.RunClose

/-! # What the kernel of the sliding-window mixer's projection leaves in its outputs -/

@[expose] public section

set_option maxRecDepth 16384

noncomputable section

namespace Cert.ProjBIdeal.Hand

open Cert.ProjBIdeal Cert.ProjBIdeal.Gen Idealize.ShloMosaic Idealize.ShloMosaic.TcCoe Idealize.SL.Sem Idealize.ShloMosaic.StableHlo

variable (m : (ℓ : Loc nD τ sig) → Buf (Elt Ideal) ℓ) (c : Dev nD)

/-- Row `R` of the activations. -/
def xr (R : Fin 16384) (k : Fin 2048) : EReal :=
  (m ((c.tc : Thread nD τ).loc main_arg0) : S8x2048x2048.Idx → EReal) (ix3 ⟨R.val / 2048, by omega⟩ ⟨R.val % 2048, by omega⟩ k)
/-- The modulation vector of row `R`. -/
def md (R : Fin 16384) (k : Fin 12288) : EReal :=
  (m ((c.tc : Thread nD τ).loc main_arg1) : S8x1x12288.Idx → EReal) (ix3 ⟨R.val / 2048, by omega⟩ 0 k)
/-- The input weights of the last layer. -/
def w (k : Fin 2048) (f : Fin 9984) : EReal :=
  (m ((c.tc : Thread nD τ).loc main_arg2) : S2x2048x9984.Idx → EReal) (ix3 1 k f)

theorem idx (t : Fin cfg0.N) : win0_0.index t = ![t.val, 0] ∧ win0_1.index t = ![0, t.val / 2, 0, 0]
    ∧ win0_2.index t = ![1, 0, 4608] ∧ win0_3.index t = ![t.val % 2, 0] ∧ win0_4.index t = ![t.val % 2, 0]
    ∧ win0_5.index t = ![t.val, 0] ∧ win0_6.index t = ![t.val, 0] :=
  (by decide +kernel : ∀ t : Fin cfg0.N, win0_0.index t = ![t.val, 0] ∧ win0_1.index t = ![0, t.val / 2, 0, 0]
    ∧ win0_2.index t = ![1, 0, 4608] ∧ win0_3.index t = ![t.val % 2, 0] ∧ win0_4.index t = ![t.val % 2, 0]
    ∧ win0_5.index t = ![t.val, 0] ∧ win0_6.index t = ![t.val, 0]) t

theorem row_lt (t : Fin cfg0.N) (r : Fin 1024) : t.val * 1024 + r.val < 16384 := by
  have := lt_of_lt_of_eq t.isLt (N_0 : cfg0.N = 16); omega

/-- The array row that row `r` of point `t`'s tile is. -/
def row (t : Fin cfg0.N) (r : Fin 1024) : Fin 16384 := ⟨t.val * 1024 + r.val, row_lt t r⟩

theorem rd_x (t : Fin cfg0.N) (r : Fin 1024) (l : Fin 2048) :
    (iblk m c 0 t : S1024x2048.Idx → EReal) (ix2 r l) = xr m c (row t r) l := by
  unfold xr row
  blk_point [iblk, V, idx t]

theorem rd_m (t : Fin cfg0.N) (r : Fin 1024) (j : Fin 6) (l : Fin 2048) :
    (iblk m c 1 t : S6x1x1x2048.Idx → EReal) (ix4 j 0 0 l) = Layer.chunk (md m c (row t r)) j l := by
  unfold md row Layer.chunk
  blk_point [iblk, V, idx t]

/-- The weights the kernel is given: every column times its factor. -/
theorem host :
    (V m c main_v34 : S2x2048x9984.Idx → EReal) = truncf (F := Ideal) .bf16 (mulf (F := Ideal) (φ := .f32) (m ((c.tc : Thread nD τ).loc main_arg2))
      (broadcastInDim S2x2048x9984 ![0, 1, 2] bcast_S1x1x9984_S2x2048x9984_0_1_2 (broadcastInDim S1x1x9984 ![2] bcast_S9984_S1x1x9984_2 Cert.GatesIdeal.Hand.scale))) bitsLt_bf16_f32 := by
  unfold_abbrev_sides
  unfold Cert.GatesIdeal.Hand.scale Cert.GatesIdeal.Hand.groupScale
  after_results_entrywise (rounds := 1) []

theorem host_at (k : Fin 2048) (f : Fin 9984) :
    (V m c main_v34 : S2x2048x9984.Idx → EReal) (ix3 1 k f) = w m c k f * Layer.colScale f := by
  rw [host, ← Cert.GatesIdeal.Hand.scale_at]
  unfold w
  pointwise

theorem rd_w (t : Fin cfg0.N) (k : Fin 2048) (f : Fin 1280) :
    (iblk m c 2 t : S1x2048x1280.Idx → EReal) (ix3 0 k f)
      = w m c k ⟨4608 + f.val, by omega⟩ * Layer.colScale ⟨4608 + f.val, by omega⟩ := by
  rw [← host_at]
  refine congrArg (V m c main_v34 : S2x2048x9984.Idx → EReal) ?_
  funext a
  apply Fin.ext
  match a with
  | ⟨0, _⟩ =>
    show win0_2.index t 0 + 1 * 0 = 1
    rw [(idx t).2.2.1]; rfl
  | ⟨1, _⟩ =>
    show win0_2.index t 1 + 1 * k.val = k.val
    rw [(idx t).2.2.1]; show 0 + 1 * k.val = _; omega
  | ⟨2, _⟩ =>
    show win0_2.index t 2 + 1 * f.val = 4608 + f.val
    rw [(idx t).2.2.1]; show 4608 + 1 * f.val = 4608 + f.val; omega

/-- The angles of the rotation, as the host lines make them. -/
def angles : S2048x32.Idx → EReal :=
  mulf (F := Ideal) (φ := .f32)
    (broadcastInDim S2048x32 ![0, 1] bcast_S2048x1_S2048x32_0_1 (broadcastInDim S2048x1 ![0] bcast_S2048_S2048x1_0 (sitofp (F := Ideal) .f32 (iotaInDim S2048 32 0))))
    (broadcastInDim S2048x32 ![0, 1] bcast_S1x32_S2048x32_0_1 (broadcastInDim S1x32 ![1] bcast_S32_S1x32_1
      (Host.powf (F := Ideal) (φ := .f32) (broadcastInDim S32 ![] bcast_S_S32 (constant (F := Ideal) S_ .f32 0x48127C00#32))
        (Host.divf (F := Ideal) (φ := .f32) (Host.negf (F := Ideal) (φ := .f32) (sitofp (F := Ideal) .f32 (iotaInDim S32 32 0)))
          (broadcastInDim S32 ![] bcast_S_S32 (constant (F := Ideal) S_ .f32 0x42000000#32))))))

theorem host_cos : (V m c main_v15 : S2048x128.Idx → EReal) = concatenate S2048x128 1 [⟨S2048x32, Host.cos (F := Ideal) (φ := .f32) angles⟩,
    ⟨S2048x32, Host.cos (F := Ideal) (φ := .f32) angles⟩, ⟨S2048x32, Host.cos (F := Ideal) (φ := .f32) angles⟩, ⟨S2048x32, Host.cos (F := Ideal) (φ := .f32) angles⟩]
    concatenates_S2048x32_S2048x32_S2048x32_S2048x32_S2048x128_d1 := by
  unfold_abbrev_sides
  unfold angles
  after_results_entrywise (rounds := 1) []

theorem host_sin : (V m c main_v18 : S2048x128.Idx → EReal) = concatenate S2048x128 1 [⟨S2048x32, Host.negf (F := Ideal) (φ := .f32) (Host.sin (F := Ideal) (φ := .f32) angles)⟩,
    ⟨S2048x32, Host.sin (F := Ideal) (φ := .f32) angles⟩, ⟨S2048x32, Host.negf (F := Ideal) (φ := .f32) (Host.sin (F := Ideal) (φ := .f32) angles)⟩, ⟨S2048x32, Host.sin (F := Ideal) (φ := .f32) angles⟩]
    concatenates_S2048x32_S2048x32_S2048x32_S2048x32_S2048x128_d1 := by
  unfold_abbrev_sides
  unfold angles
  after_results_entrywise (rounds := 1) []

theorem angles_at (s : Fin 2048) (l : Fin 32) : angles (ix2 s l) = Layer.angle s l := by
  unfold angles Layer.angle
  pointwise

/-- Lane `l` of the cosine table holds the cosine at lane `l % 32` of a half. -/
theorem cos_at (s : Fin 2048) (l : Fin 128) :
    (V m c main_v15 : S2048x128.Idx → EReal) (ix2 s l) = Ideal.cos (Layer.angle s ⟨l.val % 32, by omega⟩) := by
  have key : ∀ k : Fin 32, k.val = l.val % 32 → Ideal.cos (angles (ix2 s k)) = Ideal.cos (Layer.angle s ⟨l.val % 32, by omega⟩) := fun k hk => by
    rw [angles_at]; exact congrArg (fun k => Ideal.cos (Layer.angle s k)) (Fin.ext hk)
  rw [host_cos]
  generalize angles = v at key
  pointwise
  split_ifs <;> exact key _ (by simp only []; omega)

/-- Lane `l` of the sine table, negative in a head's first half. -/
theorem sin_at (s : Fin 2048) (l : Fin 128) :
    (V m c main_v18 : S2048x128.Idx → EReal) (ix2 s l) = if l.val % 64 < 32 then -Ideal.sin (Layer.angle s ⟨l.val % 32, by omega⟩)
      else Ideal.sin (Layer.angle s ⟨l.val % 32, by omega⟩) := by
  have key : ∀ k : Fin 32, k.val = l.val % 32 → Ideal.sin (angles (ix2 s k)) = Ideal.sin (Layer.angle s ⟨l.val % 32, by omega⟩) := fun k hk => by
    rw [angles_at]; exact congrArg (fun k => Ideal.sin (Layer.angle s k)) (Fin.ext hk)
  rw [host_sin]
  generalize angles = v at key
  pointwise
  by_cases h1 : l.val < 32
  · rw [if_pos (by omega : l.val % 64 < 32)]
    simp only [dif_pos h1]
    exact congrArg (fun x : EReal => -x) (key _ (by show l.val = _; omega))
  · by_cases h2 : l.val - 32 < 32
    · rw [if_neg (by omega : ¬l.val % 64 < 32)]
      simp only [dif_neg h1, dif_pos h2]
      exact key _ (by show l.val - 32 = _; omega)
    · by_cases h3 : l.val - 32 - 32 < 32
      · rw [if_pos (by omega : l.val % 64 < 32)]
        simp only [dif_neg h1, dif_neg h2, dif_pos h3]
        exact congrArg (fun x : EReal => -x) (key _ (by show l.val - 32 - 32 = _; omega))
      · rw [if_neg (by omega : ¬l.val % 64 < 32)]
        simp only [dif_neg h1, dif_neg h2, dif_neg h3]
        exact key _ (by show l.val - 32 - 32 - 32 = _; omega)

theorem mask_at (r : Fin 1024) (l : Fin 128) :
    k0_pay8 (Scalar.select (Scalar.cmpi .eq 64#32 0#32) 1#32 64#32) k0_pay6 k0_pay7 (ix2 r l) = BitVec.ofBool (decide (l.val % 64 < 32)) := by
  pointwise [k0_pay8, k0_pay6, k0_pay7]
  revert l
  decide +kernel

end Cert.ProjBIdeal.Hand

end
-- ==== Proof.ProjB.Tiles.lean ====
module

public import proofs.«01_k».proof.Proof.ProjB.Kernel

/-! # The tiles of the sliding-window mixer's projection, and its two arrays -/

@[expose] public section

set_option maxRecDepth 16384

noncomputable section

namespace Cert.ProjBIdeal.Hand

open Cert.ProjBIdeal Cert.ProjBIdeal.Gen Idealize.ShloMosaic Idealize.ShloMosaic.TcCoe Idealize.SL.Sem Idealize.ShloMosaic.StableHlo

variable (m : (ℓ : Loc nD τ sig) → Buf (Elt Ideal) ℓ) (c : Dev nD)

/-- A row's position in its sequence. -/
def pos (R : Fin 16384) : Fin 2048 := ⟨R.val % 2048, by omega⟩

/-- The projected row, unscaled. -/
def pr (R : Fin 16384) : Fin 9984 → EReal := Layer.proj (Layer.modulated (xr m c R) (md m c R) 1 0) (w m c)

theorem pos_row (t : Fin cfg0.N) (r : Fin 1024) : (pos (row t r)).val = t.val % 2 * 1024 + r.val := by
  show (t.val * 1024 + r.val) % 2048 = _
  omega

theorem rd_cos (t : Fin cfg0.N) (r : Fin 1024) (l : Fin 128) :
    (iblk m c 3 t : S1024x128.Idx → EReal) (ix2 r l) = Ideal.cos (Layer.angle (pos (row t r)) ⟨l.val % 32, by omega⟩) := by
  rw [← cos_at m c]
  refine congrArg (V m c main_v15 : S2048x128.Idx → EReal) ?_
  funext a
  apply Fin.ext
  match a with
  | ⟨0, _⟩ =>
    show win0_3.index t 0 * 1024 + 1 * r.val = (pos (row t r)).val
    rw [(idx t).2.2.2.1, pos_row]; show t.val % 2 * 1024 + 1 * r.val = _; omega
  | ⟨1, _⟩ =>
    show win0_3.index t 1 * 128 + 1 * l.val = l.val
    rw [(idx t).2.2.2.1]; show 0 * 128 + 1 * l.val = _; omega

theorem rd_sin (t : Fin cfg0.N) (r : Fin 1024) (l : Fin 128) :
    (iblk m c 4 t : S1024x128.Idx → EReal) (ix2 r l) = if l.val % 64 < 32 then -Ideal.sin (Layer.angle (pos (row t r)) ⟨l.val % 32, by omega⟩)
      else Ideal.sin (Layer.angle (pos (row t r)) ⟨l.val % 32, by omega⟩) := by
  rw [← sin_at m c]
  refine congrArg (V m c main_v18 : S2048x128.Idx → EReal) ?_
  funext a
  apply Fin.ext
  match a with
  | ⟨0, _⟩ =>
    show win0_4.index t 0 * 1024 + 1 * r.val = (pos (row t r)).val
    rw [(idx t).2.2.2.2.1, pos_row]; show t.val % 2 * 1024 + 1 * r.val = _; omega
  | ⟨1, _⟩ =>
    show win0_4.index t 1 * 128 + 1 * l.val = l.val
    rw [(idx t).2.2.2.2.1]; show 0 * 128 + 1 * l.val = _; omega

/-- A point's accumulator: its rows' columns, scaled. -/
theorem acc_at (t : Fin cfg0.N) (r : Fin 1024) (f : Fin 1280) :
    k0_pay3 (View.ld (iblk m c 0 t) r0_0) (View.ld (iblk m c 1 t) r0_1) (View.ld (iblk m c 1 t) r0_2) (View.ld (iblk m c 2 t) r0_3) (ix2 r f)
      = pr m c (row t r) ⟨4608 + f.val, by omega⟩ * Layer.colScale ⟨4608 + f.val, by omega⟩ := by
  pointwise [k0_pay3]
  simp only [rd_x m c t, rd_m m c t r, rd_w m c t]
  exact Layer.proj_scaled _ _ _

theorem cosTile_at (t : Fin cfg0.N) (r : Fin 1024) (l : Fin 128) :
    k0_pay4 (View.ld (iblk m c 3 t) r0_4) (ix2 r l) = Ideal.cos (Layer.angle (pos (row t r)) ⟨l.val % 32, by omega⟩) := by
  rw [← rd_cos m c t]
  pointwise [k0_pay4]

theorem sinTile_at (t : Fin cfg0.N) (r : Fin 1024) (l : Fin 128) :
    k0_pay5 (View.ld (iblk m c 4 t) r0_4) (ix2 r l) = if l.val % 64 < 32 then -Ideal.sin (Layer.angle (pos (row t r)) ⟨l.val % 32, by omega⟩)
      else Ideal.sin (Layer.angle (pos (row t r)) ⟨l.val % 32, by omega⟩) := by
  rw [← rd_sin m c t]
  pointwise [k0_pay5]

/-- A tile's rotation as the kernel writes it. -/
def tile (acc : FVec Ideal S1024x1280 .f32) (C S : FVec Ideal S1024x128 .f32) (r : Fin 1024) (l : Fin 128) (i j1 j2 : Fin 1280) : EReal :=
  acc (ix2 r i) * C (ix2 r l) + Scalar.select (BitVec.ofBool (decide (l.val % 64 < 32))) (acc (ix2 r j1)) (acc (ix2 r j2)) * S (ix2 r l)

section Payloads

variable (acc : FVec Ideal S1024x1280 .f32) (C S : FVec Ideal S1024x128 .f32) (r : Fin 1024) (l : Fin 128)
variable (v : IVec S1024x128 1) (hv : ∀ (r : Fin 1024) (l : Fin 128), v (ix2 r l) = BitVec.ofBool (decide (l.val % 64 < 32)))

theorem pay9_at : k0_pay9 acc C S (Scalar.select (Scalar.cmpi .eq 64#32 0#32) 1#32 64#32) k0_pay6 k0_pay7 (ix2 r l)
    = tile acc C S r l ⟨l.val, by omega⟩ ⟨(l.val + 128 - 96) % 128, by omega⟩ ⟨(l.val + 128 - 32) % 128, by omega⟩ := by
  have h := mask_at r l
  generalize hv : k0_pay8 (Scalar.select (Scalar.cmpi .eq 64#32 0#32) 1#32 64#32) k0_pay6 k0_pay7 = v at h
  unfold k0_pay9
  rw [hv]
  pointwise
  rw [h]
  rfl

theorem pay10_at : k0_pay10 acc C S (Scalar.select (Scalar.cmpi .eq 64#32 0#32) 1#32 64#32) k0_pay6 k0_pay7 (ix2 r l)
    = tile acc C S r l ⟨128 + l.val, by omega⟩ ⟨128 + (l.val + 128 - 96) % 128, by omega⟩ ⟨128 + (l.val + 128 - 32) % 128, by omega⟩ := by
  have h := mask_at r l
  generalize hv : k0_pay8 (Scalar.select (Scalar.cmpi .eq 64#32 0#32) 1#32 64#32) k0_pay6 k0_pay7 = v at h
  unfold k0_pay10
  rw [hv]
  pointwise
  rw [h]
  rfl

theorem pay11_at : k0_pay11 acc C S (Scalar.select (Scalar.cmpi .eq 64#32 0#32) 1#32 64#32) k0_pay6 k0_pay7 (ix2 r l)
    = tile acc C S r l ⟨256 + l.val, by omega⟩ ⟨256 + (l.val + 128 - 96) % 128, by omega⟩ ⟨256 + (l.val + 128 - 32) % 128, by omega⟩ := by
  have h := mask_at r l
  generalize hv : k0_pay8 (Scalar.select (Scalar.cmpi .eq 64#32 0#32) 1#32 64#32) k0_pay6 k0_pay7 = v at h
  unfold k0_pay11
  rw [hv]
  pointwise
  rw [h]
  rfl

theorem pay12_at : k0_pay12 acc C S (Scalar.select (Scalar.cmpi .eq 64#32 0#32) 1#32 64#32) k0_pay6 k0_pay7 (ix2 r l)
    = tile acc C S r l ⟨384 + l.val, by omega⟩ ⟨384 + (l.val + 128 - 96) % 128, by omega⟩ ⟨384 + (l.val + 128 - 32) % 128, by omega⟩ := by
  have h := mask_at r l
  generalize hv : k0_pay8 (Scalar.select (Scalar.cmpi .eq 64#32 0#32) 1#32 64#32) k0_pay6 k0_pay7 = v at h
  unfold k0_pay12
  rw [hv]
  pointwise
  rw [h]
  rfl

theorem pay2_at : k0_pay2 acc (ix2 r l) = acc (ix2 r ⟨1152 + l.val, by omega⟩) := by
  pointwise [k0_pay2]

include hv

theorem pay13_at : k0_pay13 acc C S v (ix2 r l)
    = tile acc C S r l ⟨512 + l.val, by omega⟩ ⟨512 + (l.val + 128 - 96) % 128, by omega⟩ ⟨512 + (l.val + 128 - 32) % 128, by omega⟩ := by
  have h := hv r l
  pointwise [k0_pay13]
  rw [h]
  rfl

theorem pay14_at : k0_pay14 acc C S v (ix2 r l)
    = tile acc C S r l ⟨640 + l.val, by omega⟩ ⟨640 + (l.val + 128 - 96) % 128, by omega⟩ ⟨640 + (l.val + 128 - 32) % 128, by omega⟩ := by
  have h := hv r l
  pointwise [k0_pay14]
  rw [h]
  rfl

theorem pay15_at : k0_pay15 acc C S v (ix2 r l)
    = tile acc C S r l ⟨768 + l.val, by omega⟩ ⟨768 + (l.val + 128 - 96) % 128, by omega⟩ ⟨768 + (l.val + 128 - 32) % 128, by omega⟩ := by
  have h := hv r l
  pointwise [k0_pay15]
  rw [h]
  rfl

theorem pay16_at : k0_pay16 acc C S v (ix2 r l)
    = tile acc C S r l ⟨896 + l.val, by omega⟩ ⟨896 + (l.val + 128 - 96) % 128, by omega⟩ ⟨896 + (l.val + 128 - 32) % 128, by omega⟩ := by
  have h := hv r l
  pointwise [k0_pay16]
  rw [h]
  rfl

theorem pay1_at : k0_pay1 C S v (k0_pay17 acc) 96#32 (ix2 r l)
    = tile acc C S r l ⟨1024 + l.val, by omega⟩ ⟨1024 + (l.val + 128 - 96) % 128, by omega⟩ ⟨1024 + (l.val + 128 - 32) % 128, by omega⟩ := by
  have h := hv r l
  pointwise [k0_pay1, k0_pay17]
  rw [h]
  rfl

end Payloads

/-- The accumulator of point `t`, its cosines and its signed sines. -/
structure Tables (t : Fin cfg0.N) (acc : FVec Ideal S1024x1280 .f32) (C S : FVec Ideal S1024x128 .f32) : Prop where
  acc_eq : ∀ (r : Fin 1024) (f : Fin 1280), acc (ix2 r f) = pr m c (row t r) ⟨4608 + f.val, by omega⟩ * Layer.colScale ⟨4608 + f.val, by omega⟩
  cos_eq : ∀ (r : Fin 1024) (l : Fin 128), C (ix2 r l) = Ideal.cos (Layer.angle (pos (row t r)) ⟨l.val % 32, by omega⟩)
  sin_eq : ∀ (r : Fin 1024) (l : Fin 128), S (ix2 r l) = if l.val % 64 < 32 then -Ideal.sin (Layer.angle (pos (row t r)) ⟨l.val % 32, by omega⟩)
    else Ideal.sin (Layer.angle (pos (row t r)) ⟨l.val % 32, by omega⟩)

theorem tables (t : Fin cfg0.N) : Tables m c t
    (k0_pay3 (View.ld (iblk m c 0 t) r0_0) (View.ld (iblk m c 1 t) r0_1) (View.ld (iblk m c 1 t) r0_2) (View.ld (iblk m c 2 t) r0_3))
    (k0_pay4 (View.ld (iblk m c 3 t) r0_4)) (k0_pay5 (View.ld (iblk m c 4 t) r0_4)) :=
  ⟨acc_at m c t, cosTile_at m c t, sinTile_at m c t⟩

/-- A tile of the point, at the accumulator's columns. -/
theorem tile_at (t : Fin cfg0.N) (acc : FVec Ideal S1024x1280 .f32) (C S : FVec Ideal S1024x128 .f32) (T : Tables m c t acc C S)
    (r : Fin 1024) (l : Fin 128) (i j1 j2 : Fin 1280) (f : Fin 5760) (hf : f.val = 4608 + i.val) (hl : f.val % 64 = l.val % 64)
    (h1 : l.val % 64 < 32 → j1.val = i.val + 32) (h2 : ¬l.val % 64 < 32 → i.val = j2.val + 32) :
    tile acc C S r l i j1 j2 = Layer.rotated (pr m c (row t r)) (pos (row t r)) f * Layer.colScale ⟨f.val, by omega⟩ :=
  Layer.rope_at (pr m c (row t r)) (pos (row t r)) (fun f => acc (ix2 r f)) (T.acc_eq r) l i j1 j2 _ _ (T.cos_eq r l) (T.sin_eq r l) f hf hl h1 h2

theorem query_scale (l : Fin 1024) (f : Fin 9984) (h : f.val = 4608 + l.val) : Layer.colScale f = Layer.eighth := by
  rw [Layer.colScale_b _ (by omega), if_pos (by omega)]

theorem key_scale (f : Fin 9984) (h : 5632 ≤ f.val) : Layer.colScale f = 1 := by
  rw [Layer.colScale_b _ (by omega), if_neg (by omega)]

/-- The queries of row `R`. -/
def resultQ (R : Fin 16384) : Fin 1024 → EReal := Layer.queries (pr m c R) (pos R)
/-- The keys and values of row `R`. -/
def resultKV (R : Fin 16384) : Fin 256 → EReal := Layer.keysValues (pr m c R) (pos R)

theorem query_tile (t : Fin cfg0.N) (acc : FVec Ideal S1024x1280 .f32) (C S : FVec Ideal S1024x128 .f32) (T : Tables m c t acc C S)
    (r : Fin 1024) (l : Fin 128) (i j1 j2 : Fin 1280) (q : Fin 1024) (hq : q.val = i.val) (hl : i.val % 64 = l.val % 64)
    (h1 : l.val % 64 < 32 → j1.val = i.val + 32) (h2 : ¬l.val % 64 < 32 → i.val = j2.val + 32) :
    tile acc C S r l i j1 j2 = resultQ m c (row t r) q := by
  unfold resultQ Layer.queries
  rw [tile_at m c t acc C S T r l i j1 j2 ⟨4608 + q.val, by omega⟩ (by show 4608 + q.val = _; omega) (by show (4608 + q.val) % 64 = _; omega) h1 h2,
    query_scale q _ rfl]

theorem key_tile (t : Fin cfg0.N) (acc : FVec Ideal S1024x1280 .f32) (C S : FVec Ideal S1024x128 .f32) (T : Tables m c t acc C S)
    (r : Fin 1024) (l : Fin 128) (i j1 j2 : Fin 1280) (q : Fin 256) (hi : i.val = 1024 + l.val) (hq : q.val = l.val)
    (h1 : l.val % 64 < 32 → j1.val = i.val + 32) (h2 : ¬l.val % 64 < 32 → i.val = j2.val + 32) :
    tile acc C S r l i j1 j2 = resultKV m c (row t r) q := by
  unfold resultKV Layer.keysValues
  rw [dif_pos (by omega), tile_at m c t acc C S T r l i j1 j2 ⟨5632 + q.val, by omega⟩ (by show 5632 + q.val = _; omega)
    (by show (5632 + q.val) % 64 = _; omega) h1 h2, key_scale _ (by show 5632 ≤ 5632 + q.val; omega), mul_one]

theorem value_tile (t : Fin cfg0.N) (acc : FVec Ideal S1024x1280 .f32) (C S : FVec Ideal S1024x128 .f32) (T : Tables m c t acc C S)
    (r : Fin 1024) (i : Fin 1280) (q : Fin 256) (hi : i.val = 1024 + q.val) (hq : 128 ≤ q.val) :
    acc (ix2 r i) = resultKV m c (row t r) q := by
  unfold resultKV Layer.keysValues
  rw [dif_neg (by omega), T.acc_eq, key_scale _ (by show 5632 ≤ 4608 + i.val; omega), mul_one]
  exact congrArg _ (Fin.ext (by show 4608 + i.val = 5632 + q.val; omega))

/-- What a point stores in its tile of the queries. -/
theorem out5_at (t : Fin cfg0.N) (y : S1024x1024.Idx) :
    out0_5 (iblk m c 0 t) (iblk m c 1 t) (iblk m c 2 t) (iblk m c 3 t) (iblk m c 4 t) y = resultQ m c (row t (y 0)) (y 1) := by
  have T := tables m c t
  have hm := mask_at
  unfold_out out0_5
  generalize k0_pay3 (View.ld (iblk m c 0 t) r0_0) (View.ld (iblk m c 1 t) r0_1) (View.ld (iblk m c 1 t) r0_2) (View.ld (iblk m c 2 t) r0_3) = acc at T ⊢
  generalize k0_pay4 (View.ld (iblk m c 3 t) r0_4) = C at T ⊢
  generalize k0_pay5 (View.ld (iblk m c 4 t) r0_4) = S at T ⊢
  canon_tiles x h
  all_goals
    obtain ⟨r, l, rfl⟩ : ∃ (r : Fin 1024) (l : Fin 128), x = ix2 r l := ⟨x 0, x 1, eq_ix2 x⟩
    have e : y 0 = r := Fin.ext (by simpa using h0)
    have e1 : (ix2 r l : S1024x128.Idx) 1 = l := rfl
    rw [e1] at h1
    have hl := l.isLt
    rw [e]
    first
      | exact (pay9_at acc C S r l).trans (query_tile m c t _ _ _ T r l _ _ _ _ (by simp only []; omega) (by simp only []) (by simp only []; omega) (by simp only []; omega))
      | exact (pay10_at acc C S r l).trans (query_tile m c t _ _ _ T r l _ _ _ _ (by simp only []; omega) (by simp only []; omega) (by simp only []; omega) (by simp only []; omega))
      | exact (pay11_at acc C S r l).trans (query_tile m c t _ _ _ T r l _ _ _ _ (by simp only []; omega) (by simp only []; omega) (by simp only []; omega) (by simp only []; omega))
      | exact (pay12_at acc C S r l).trans (query_tile m c t _ _ _ T r l _ _ _ _ (by simp only []; omega) (by simp only []; omega) (by simp only []; omega) (by simp only []; omega))
      | exact (pay13_at acc C S r l _ hm).trans (query_tile m c t _ _ _ T r l _ _ _ _ (by simp only []; omega) (by simp only []; omega) (by simp only []; omega) (by simp only []; omega))
      | exact (pay14_at acc C S r l _ hm).trans (query_tile m c t _ _ _ T r l _ _ _ _ (by simp only []; omega) (by simp only []; omega) (by simp only []; omega) (by simp only []; omega))
      | exact (pay15_at acc C S r l _ hm).trans (query_tile m c t _ _ _ T r l _ _ _ _ (by simp only []; omega) (by simp only []; omega) (by simp only []; omega) (by simp only []; omega))
      | exact (pay16_at acc C S r l _ hm).trans (query_tile m c t _ _ _ T r l _ _ _ _ (by simp only []; omega) (by simp only []; omega) (by simp only []; omega) (by simp only []; omega))

/-- What a point stores in its tile of the keys and values. -/
theorem out6_at (t : Fin cfg0.N) (y : S1024x256.Idx) :
    out0_6 (iblk m c 0 t) (iblk m c 1 t) (iblk m c 2 t) (iblk m c 3 t) (iblk m c 4 t) y = resultKV m c (row t (y 0)) (y 1) := by
  have T := tables m c t
  have hm := mask_at
  unfold_out out0_6
  generalize k0_pay3 (View.ld (iblk m c 0 t) r0_0) (View.ld (iblk m c 1 t) r0_1) (View.ld (iblk m c 1 t) r0_2) (View.ld (iblk m c 2 t) r0_3) = acc at T ⊢
  generalize k0_pay4 (View.ld (iblk m c 3 t) r0_4) = C at T ⊢
  generalize k0_pay5 (View.ld (iblk m c 4 t) r0_4) = S at T ⊢
  canon_tiles x h
  all_goals
    obtain ⟨r, l, rfl⟩ : ∃ (r : Fin 1024) (l : Fin 128), x = ix2 r l := ⟨x 0, x 1, eq_ix2 x⟩
    have e : y 0 = r := Fin.ext (by simpa using h0)
    have e1 : (ix2 r l : S1024x128.Idx) 1 = l := rfl
    rw [e1] at h1
    have hl := l.isLt
    rw [e]
    first
      | exact (pay1_at acc C S r l _ hm).trans (key_tile m c t _ _ _ T r l _ _ _ _ (by simp only []) (by omega) (by simp only []; omega) (by simp only []; omega))
      | exact (pay2_at acc r l).trans (value_tile m c t acc C S T r _ _ (by simp only []; omega) (by omega))

/-- THE FIRST ARRAY: every entry is its row's query. -/
theorem arrayQ (i : S16384x1024.Idx) : (dats m 0 c).arrAt 5 cfg0.N i = resultQ m c (i 0) (i 1) := by
  refine congrFun (g := fun i : S16384x1024.Idx => resultQ m c (i 0) (i 1)) ?_ i
  refine (dats m 0 c).arrAt_eq_of_covers 5 _ (by decide +kernel) fun t hf y => ?_
  refine ((congrFun (after0_5 m c t) y).trans (out5_at m c t y)).trans ?_
  have e0 : ((cfg0.win 5).blk t).view.emb y 0 = row t (y 0) := Fin.ext (by
    show win0_5.index t 0 * 1024 + 1 * (y 0).val = t.val * 1024 + (y 0).val
    rw [(idx t).2.2.2.2.2.1]; show t.val * 1024 + 1 * (y 0).val = _; omega)
  have e1 : (((cfg0.win 5).blk t).view.emb y 1).val = (y 1).val := by
    show win0_5.index t 1 * 1024 + 1 * (y 1).val = (y 1).val
    rw [(idx t).2.2.2.2.2.1]; show 0 * 1024 + 1 * (y 1).val = _; omega
  rw [e0]
  exact congrArg _ (Fin.ext e1.symm)

/-- THE SECOND ARRAY: every entry is its row's key or value. -/
theorem arrayKV (i : S16384x256.Idx) : (dats m 0 c).arrAt 6 cfg0.N i = resultKV m c (i 0) (i 1) := by
  refine congrFun (g := fun i : S16384x256.Idx => resultKV m c (i 0) (i 1)) ?_ i
  refine (dats m 0 c).arrAt_eq_of_covers 6 _ (by decide +kernel) fun t hf y => ?_
  refine ((congrFun (after0_6 m c t) y).trans (out6_at m c t y)).trans ?_
  have e0 : ((cfg0.win 6).blk t).view.emb y 0 = row t (y 0) := Fin.ext (by
    show win0_6.index t 0 * 1024 + 1 * (y 0).val = t.val * 1024 + (y 0).val
    rw [(idx t).2.2.2.2.2.2]; show t.val * 1024 + 1 * (y 0).val = _; omega)
  have e1 : (((cfg0.win 6).blk t).view.emb y 1).val = (y 1).val := by
    show win0_6.index t 1 * 256 + 1 * (y 1).val = (y 1).val
    rw [(idx t).2.2.2.2.2.2]; show 0 * 256 + 1 * (y 1).val = _; omega
  rw [e0]
  exact congrArg _ (Fin.ext e1.symm)

end Cert.ProjBIdeal.Hand

end
-- ==== Proof.ProjB.Reference.lean ====
module

public import proofs.«01_k».proof.Proof.Gen.ProjBRefIdeal.Read
public import proofs.«01_k».proof.Proof.ProjB.Spec
public import Idealize.ShloMosaic.Lib.Pointwise

/-! # What the reference of the sliding-window mixer's projection returns -/

@[expose] public section

set_option maxRecDepth 16384

noncomputable section

namespace Cert.ProjBRefIdeal.Hand

open Cert.ProjBRefIdeal Cert.ProjBRefIdeal.Gen Cert.ProjBRefIdeal.Read Idealize.ShloMosaic Idealize.ShloMosaic.TcCoe Idealize.SL.Sem Idealize.ShloMosaic.StableHlo

variable (x0 : S8x2048x2048.Idx → EReal) (x1 : S8x1x12288.Idx → EReal) (x2 : S2x2048x9984.Idx → EReal)

/-- Row `s` of batch `b` of the activations. -/
abbrev xr (b : Fin 8) (s k : Fin 2048) : EReal := x0 (ix3 b s k)
/-- The modulation vector of batch `b`. -/
abbrev md (b : Fin 8) (k : Fin 12288) : EReal := x1 (ix3 b 0 k)
/-- The input weights of the last layer. -/
abbrev w (k : Fin 2048) (f : Fin 9984) : EReal := x2 (ix3 1 k f)
/-- The projected row. -/
def pr (b : Fin 8) (s : Fin 2048) : Fin 9984 → EReal := Layer.proj (Layer.modulated (xr x0 b s) (md x1 b) 1 0) (w x2)

theorem u_at (b : Fin 8) (s : Fin 2048) (k : Fin 2048) :
    val_main_v11 (F := Ideal) x0 x1 (ix3 b s k) = Layer.modulated (xr x0 b s) (md x1 b) 1 0 k := by
  unfold Layer.modulated Layer.chunk
  pointwise [val_main_v11, val_main_v10, val_main_v9, val_main_v8, val_main_v7, val_main_v6, val_main_v1, val_main_v0, val_main_cst]

theorem proj_at (b : Fin 8) (s : Fin 2048) (f : Fin 9984) :
    val_main_v14 (F := Ideal) x0 x1 x2 (ix3 b s f) = pr x0 x1 x2 b s f := by
  have h := u_at x0 x1 b s
  unfold pr Layer.proj
  pointwise [val_main_v14, val_main_v13, val_main_v12]
  simp only [h]

/-! ## The rotation's tables -/

theorem angle_q (s : Fin 2048) (l : Fin 32) : val_main_v33 (F := Ideal) (ix2 s l) = Layer.angle s l := by
  unfold Layer.angle
  pointwise [val_main_v33, val_main_v32, val_main_v31, val_main_v30, val_main_v29, val_main_v28, val_main_v27, val_main_v26, val_main_v25,
    val_main_v24, val_main_v23, val_main_v22, val_main_v21, val_main_cst_0, val_main_cst_1]

theorem cos_q (s : Fin 2048) (l : Fin 32) : val_main_v35 (F := Ideal) (ix4 s 0 0 l) = Ideal.cos (Layer.angle s l) := by
  have h := angle_q s l
  generalize hv : val_main_v33 (F := Ideal) = v at h
  unfold val_main_v35 val_main_v34
  rw [hv]
  pointwise
  rw [h]

theorem sin_q (s : Fin 2048) (l : Fin 32) : val_main_v36 (F := Ideal) (ix4 s 0 0 l) = Ideal.sin (Layer.angle s l) := by
  have h := angle_q s l
  generalize hv : val_main_v33 (F := Ideal) = v at h
  unfold val_main_v36 val_main_v34
  rw [hv]
  pointwise
  rw [h]

theorem angle_k (s : Fin 2048) (l : Fin 32) : val_main_v65 (F := Ideal) (ix2 s l) = Layer.angle s l := by
  unfold Layer.angle
  pointwise [val_main_v65, val_main_v64, val_main_v63, val_main_v62, val_main_v61, val_main_v60, val_main_v59, val_main_v58, val_main_v57,
    val_main_v56, val_main_v55, val_main_v54, val_main_v21, val_main_cst_2, val_main_cst_3]

theorem cos_k (s : Fin 2048) (l : Fin 32) : val_main_v67 (F := Ideal) (ix3 s 0 l) = Ideal.cos (Layer.angle s l) := by
  have h := angle_k s l
  generalize hv : val_main_v65 (F := Ideal) = v at h
  unfold val_main_v67 val_main_v66
  rw [hv]
  pointwise
  rw [h]

theorem sin_k (s : Fin 2048) (l : Fin 32) : val_main_v68 (F := Ideal) (ix3 s 0 l) = Ideal.sin (Layer.angle s l) := by
  have h := angle_k s l
  generalize hv : val_main_v65 (F := Ideal) = v at h
  unfold val_main_v68 val_main_v66
  rw [hv]
  pointwise
  rw [h]

/-! ## The queries -/

theorem q_at (b : Fin 8) (s : Fin 2048) (g : Fin 2) (h : Fin 8) (d : Fin 64) :
    val_main_v16 (F := Ideal) x0 x1 x2 (ix5 b s g h d) = pr x0 x1 x2 b s ⟨4608 + (g.val * 512 + h.val * 64 + d.val), by omega⟩ := by
  rw [← proj_at]
  unfold val_main_v16 val_main_v15
  generalize val_main_v14 (F := Ideal) x0 x1 x2 = v
  pointwise

theorem k_at (b : Fin 8) (s : Fin 2048) (g : Fin 2) (d : Fin 64) :
    val_main_v18 (F := Ideal) x0 x1 x2 (ix4 b s g d) = pr x0 x1 x2 b s ⟨5632 + (g.val * 64 + d.val), by omega⟩ := by
  rw [← proj_at]
  unfold val_main_v18 val_main_v17
  generalize val_main_v14 (F := Ideal) x0 x1 x2 = v
  pointwise

theorem v_at (R : Fin 16384) (l : Fin 128) :
    val_main_v91 (F := Ideal) x0 x1 x2 (ix2 R l) = pr x0 x1 x2 ⟨R.val / 2048, by omega⟩ ⟨R.val % 2048, by omega⟩ ⟨5760 + l.val, by omega⟩ := by
  rw [← proj_at]
  unfold val_main_v91 val_main_v20 val_main_v19
  generalize val_main_v14 (F := Ideal) x0 x1 x2 = v
  pointwise

theorem qa_at (b : Fin 8) (s : Fin 2048) (g : Fin 2) (h : Fin 8) (d : Fin 32) :
    val_main_v45 (F := Ideal) x0 x1 x2 (ix5 b s g h d)
      = pr x0 x1 x2 b s ⟨4608 + (g.val * 512 + h.val * 64 + d.val), by omega⟩ * Ideal.cos (Layer.angle s d)
        - pr x0 x1 x2 b s ⟨4608 + (g.val * 512 + h.val * 64 + (32 + d.val)), by omega⟩ * Ideal.sin (Layer.angle s d) := by
  have hc := cos_q s d
  have hs := sin_q s d
  have h1 := q_at x0 x1 x2 b s g h ⟨d.val, by omega⟩
  have h2 := q_at x0 x1 x2 b s g h ⟨32 + d.val, by omega⟩
  unfold val_main_v45 val_main_v44 val_main_v43 val_main_v42 val_main_v41 val_main_v40 val_main_v39 val_main_v38 val_main_v37
  generalize val_main_v16 (F := Ideal) x0 x1 x2 = q at h1 h2 ⊢
  generalize val_main_v35 (F := Ideal) = C at hc ⊢
  generalize val_main_v36 (F := Ideal) = S at hs ⊢
  pointwise
  rw [h1, h2, hc, hs]

theorem qb_at (b : Fin 8) (s : Fin 2048) (g : Fin 2) (h : Fin 8) (d : Fin 32) :
    val_main_v52 (F := Ideal) x0 x1 x2 (ix5 b s g h d)
      = pr x0 x1 x2 b s ⟨4608 + (g.val * 512 + h.val * 64 + (32 + d.val)), by omega⟩ * Ideal.cos (Layer.angle s d)
        + pr x0 x1 x2 b s ⟨4608 + (g.val * 512 + h.val * 64 + d.val), by omega⟩ * Ideal.sin (Layer.angle s d) := by
  have hc := cos_q s d
  have hs := sin_q s d
  have h1 := q_at x0 x1 x2 b s g h ⟨d.val, by omega⟩
  have h2 := q_at x0 x1 x2 b s g h ⟨32 + d.val, by omega⟩
  unfold val_main_v52 val_main_v51 val_main_v50 val_main_v49 val_main_v48 val_main_v47 val_main_v46 val_main_v38 val_main_v37
  generalize val_main_v16 (F := Ideal) x0 x1 x2 = q at h1 h2 ⊢
  generalize val_main_v35 (F := Ideal) = C at hc ⊢
  generalize val_main_v36 (F := Ideal) = S at hs ⊢
  pointwise
  rw [h1, h2, hc, hs]

/-- The queries rotated. -/
theorem rq_at (b : Fin 8) (s : Fin 2048) (g : Fin 2) (h : Fin 8) (d : Fin 64) :
    val_main_v53 (F := Ideal) x0 x1 x2 (ix5 b s g h d) = Layer.rotated (pr x0 x1 x2 b s) s ⟨4608 + (g.val * 512 + h.val * 64 + d.val), by omega⟩ := by
  have ha := qa_at x0 x1 x2 b s g h
  have hb := qb_at x0 x1 x2 b s g h
  unfold val_main_v53
  generalize val_main_v45 (F := Ideal) x0 x1 x2 = A at ha ⊢
  generalize val_main_v52 (F := Ideal) x0 x1 x2 = B at hb ⊢
  generalize pr x0 x1 x2 b s = P at ha hb ⊢
  pointwise
  by_cases hd : d.val < 32
  · rw [dif_pos hd, ha]
    exact (Layer.rotated_lo P s _ ⟨d.val, hd⟩ (by simp only []; omega) _ _ rfl (by simp only []; omega)).symm
  · rw [dif_neg hd, hb]
    exact (Layer.rotated_hi P s _ ⟨d.val - 32, by omega⟩ (by simp only []; omega) _ _ (by simp only []; omega) (by simp only []; omega)).symm

/-! ## The keys -/

theorem ka_at (b : Fin 8) (s : Fin 2048) (g : Fin 2) (d : Fin 32) :
    val_main_v77 (F := Ideal) x0 x1 x2 (ix4 b s g d)
      = pr x0 x1 x2 b s ⟨5632 + (g.val * 64 + d.val), by omega⟩ * Ideal.cos (Layer.angle s d)
        - pr x0 x1 x2 b s ⟨5632 + (g.val * 64 + (32 + d.val)), by omega⟩ * Ideal.sin (Layer.angle s d) := by
  have hc := cos_k s d
  have hs := sin_k s d
  have h1 := k_at x0 x1 x2 b s g ⟨d.val, by omega⟩
  have h2 := k_at x0 x1 x2 b s g ⟨32 + d.val, by omega⟩
  unfold val_main_v77 val_main_v76 val_main_v75 val_main_v74 val_main_v73 val_main_v72 val_main_v71 val_main_v70 val_main_v69
  generalize val_main_v18 (F := Ideal) x0 x1 x2 = q at h1 h2 ⊢
  generalize val_main_v67 (F := Ideal) = C at hc ⊢
  generalize val_main_v68 (F := Ideal) = S at hs ⊢
  pointwise
  rw [h1, h2, hc, hs]

theorem kb_at (b : Fin 8) (s : Fin 2048) (g : Fin 2) (d : Fin 32) :
    val_main_v84 (F := Ideal) x0 x1 x2 (ix4 b s g d)
      = pr x0 x1 x2 b s ⟨5632 + (g.val * 64 + (32 + d.val)), by omega⟩ * Ideal.cos (Layer.angle s d)
        + pr x0 x1 x2 b s ⟨5632 + (g.val * 64 + d.val), by omega⟩ * Ideal.sin (Layer.angle s d) := by
  have hc := cos_k s d
  have hs := sin_k s d
  have h1 := k_at x0 x1 x2 b s g ⟨d.val, by omega⟩
  have h2 := k_at x0 x1 x2 b s g ⟨32 + d.val, by omega⟩
  unfold val_main_v84 val_main_v83 val_main_v82 val_main_v81 val_main_v80 val_main_v79 val_main_v78 val_main_v70 val_main_v69
  generalize val_main_v18 (F := Ideal) x0 x1 x2 = q at h1 h2 ⊢
  generalize val_main_v67 (F := Ideal) = C at hc ⊢
  generalize val_main_v68 (F := Ideal) = S at hs ⊢
  pointwise
  rw [h1, h2, hc, hs]

/-- The keys rotated. -/
theorem rk_at (b : Fin 8) (s : Fin 2048) (g : Fin 2) (d : Fin 64) :
    val_main_v85 (F := Ideal) x0 x1 x2 (ix4 b s g d) = Layer.rotated (pr x0 x1 x2 b s) s ⟨5632 + (g.val * 64 + d.val), by omega⟩ := by
  have ha := ka_at x0 x1 x2 b s g
  have hb := kb_at x0 x1 x2 b s g
  unfold val_main_v85
  generalize val_main_v77 (F := Ideal) x0 x1 x2 = A at ha ⊢
  generalize val_main_v84 (F := Ideal) x0 x1 x2 = B at hb ⊢
  generalize pr x0 x1 x2 b s = P at ha hb ⊢
  pointwise
  by_cases hd : d.val < 32
  · rw [dif_pos hd, ha]
    exact (Layer.rotated_lo P s _ ⟨d.val, hd⟩ (by simp only []; omega) _ _ rfl (by simp only []; omega)).symm
  · rw [dif_neg hd, hb]
    exact (Layer.rotated_hi P s _ ⟨d.val - 32, by omega⟩ (by simp only []; omega) _ _ (by simp only []; omega) (by simp only []; omega)).symm

/-- THE FIRST RESULT: every entry is its row's query. -/
theorem resultQ_at (R : Fin 16384) (l : Fin 1024) :
    val_main_v89 (F := Ideal) x0 x1 x2 (ix2 R l)
      = Layer.queries (pr x0 x1 x2 ⟨R.val / 2048, by omega⟩ ⟨R.val % 2048, by omega⟩) (R.val % 2048) l := by
  have h := rq_at x0 x1 x2
  unfold val_main_v89 val_main_v88 val_main_v87 val_main_v86 val_main_cst_4
  generalize val_main_v53 (F := Ideal) x0 x1 x2 = q at h ⊢
  pointwise
  rw [h]
  unfold Layer.queries Layer.eighth
  refine congrArg (· * _) (congrArg _ (Fin.ext ?_))
  show 4608 + (l.val / 512 * 512 + l.val / 64 % 8 * 64 + l.val % 64) = 4608 + l.val
  omega

/-- THE SECOND RESULT: every entry is its row's key or value. -/
theorem resultKV_at (R : Fin 16384) (l : Fin 256) :
    val_main_v92 (F := Ideal) x0 x1 x2 (ix2 R l)
      = Layer.keysValues (pr x0 x1 x2 ⟨R.val / 2048, by omega⟩ ⟨R.val % 2048, by omega⟩) (R.val % 2048) l := by
  have hv := v_at x0 x1 x2
  have hk := rk_at x0 x1 x2
  unfold val_main_v92 val_main_v90
  generalize val_main_v91 (F := Ideal) x0 x1 x2 = v at hv ⊢
  generalize val_main_v85 (F := Ideal) x0 x1 x2 = k at hk ⊢
  pointwise
  unfold Layer.keysValues
  by_cases h : l.val < 128
  · rw [dif_pos h, dif_pos h, hk]
    refine congrArg _ (Fin.ext ?_)
    show 5632 + (l.val / 64 * 64 + l.val % 64) = 5632 + l.val
    omega
  · rw [dif_neg h, dif_neg h, hv]
    refine congrArg _ (Fin.ext ?_)
    show 5760 + (l.val - 128) = 5632 + l.val
    omega

end Cert.ProjBRefIdeal.Hand

end
-- ==== Proof.ProjB.lean ====
module

public import proofs.«01_k».proof.Defs
public import proofs.«01_k».proof.Proof.Gen.ProjB.Frame
public import proofs.«01_k».proof.Proof.Gen.ProjBIdeal
public import proofs.«01_k».proof.Proof.Gen.ProjBIdeal.Value
public import proofs.«01_k».proof.Proof.Gen.ProjBRefIdeal
public import proofs.«01_k».proof.Proof.Gen.ProjBRefIdeal.Run
public import proofs.«01_k».proof.Proof.Gen.ProjBRefIdeal.Read
public import proofs.«01_k».proof.Proof.ProjB.Tiles
public import proofs.«01_k».proof.Proof.ProjB.Reference

/-! # The projection of the sliding-window mixer: the claims -/

@[expose] public section

noncomputable section

namespace Cert.Proof.ProjB

open Idealize.ShloMosaic Idealize.ShloMosaic.TcCoe Idealize.SL.Sem

theorem frame_p : Cert.quiescent_ProjB := fun m g _ => Cert.ProjB.Gen.frame m g

theorem frame_pi : Cert.quiescent_ProjBIdeal := fun m g _ => Cert.ProjBIdeal.Gen.frame m g

theorem frame_ri : Cert.quiescent_ProjBRefIdeal := fun m g _ =>
  (θ_run Cert.ProjBRefIdeal.defs _ _).mono (fun r h => ⟨fun c => (h c).2.2, sem_eq_zero_of_no_sems (by decide) r.2⟩)
    (Cert.ProjBRefIdeal.Value.run m g)

/-- The queries both programs end with. -/
def queries (m : (ℓ : Loc Cert.ProjBIdeal.nD Cert.ProjBIdeal.τ Cert.ProjBIdeal.sig) → Buf (Elt Ideal) ℓ) (c : Dev Cert.ProjBIdeal.nD) :
    Cert.ProjBIdeal.S16384x1024.Idx → EReal := fun i => Cert.ProjBIdeal.Hand.resultQ m c (i 0) (i 1)

/-- The keys and values both programs end with. -/
def keysValues (m : (ℓ : Loc Cert.ProjBIdeal.nD Cert.ProjBIdeal.τ Cert.ProjBIdeal.sig) → Buf (Elt Ideal) ℓ) (c : Dev Cert.ProjBIdeal.nD) :
    Cert.ProjBIdeal.S16384x256.Idx → EReal := fun i => Cert.ProjBIdeal.Hand.resultKV m c (i 0) (i 1)

theorem algebraic : Cert.algebraic_ProjBIdeal_ProjBRefIdeal := by
  intro m g m' g' _ hagree
  refine ⟨fun c => queries m c, fun c => keysValues m c, ?_, ?_⟩
  · refine (θ_run Cert.ProjBIdeal.defs _ _).mono (fun r h c => ?_) (Cert.ProjBIdeal.Value.run_blocks m g)
    refine ⟨(h c).1.trans ?_, (h c).2.1.trans ?_, (h c).2.2⟩
    · exact funext (Cert.ProjBIdeal.Hand.arrayQ m c)
    · exact funext (Cert.ProjBIdeal.Hand.arrayKV m c)
  · refine (θ_run Cert.ProjBRefIdeal.defs _ _).mono (fun r h c => ?_) (Cert.ProjBRefIdeal.Value.run m' g')
    refine ⟨(h c).1.trans ?_, (h c).2.1.trans ?_, (h c).2.2⟩
    · rw [Cert.ProjBRefIdeal.Read.val_main_v89_eq, (hagree c).1, (hagree c).2.1, (hagree c).2.2]
      funext i
      idx_vars i
      exact Cert.ProjBRefIdeal.Hand.resultQ_at _ _ _ _ _
    · rw [Cert.ProjBRefIdeal.Read.val_main_v92_eq, (hagree c).1, (hagree c).2.1, (hagree c).2.2]
      funext i
      idx_vars i
      exact Cert.ProjBRefIdeal.Hand.resultKV_at _ _ _ _ _

end Cert.Proof.ProjB

end
-- ==== Proof.FfnS.Kernel.lean ====
module

public import proofs.«01_k».proof.Proof.Gen.FfnSIdeal.Value
public import proofs.«01_k».proof.Proof.Spec
public import Idealize.ShloMosaic.Lib.Pipeline.ValueKit
public import Idealize.ShloMosaic.Lib.Pipeline.ValueKit.Held
public import Idealize.ShloMosaic.Lib.Pipeline.ReadBack
public import Idealize.ShloMosaic.Lib.Pointwise

/-! # What the feed-forward kernel leaves in its output for the sample

The sample is one tile of 128 rows, each with its own modulation vector, so the grid is the 11 blocks of 512 hidden units.
The first point stores the modulated rows, every point adds its block's share of the down projection to the accumulator, and the last applies the residual step and the norm. -/

@[expose] public section

set_option maxRecDepth 16384

noncomputable section

namespace Cert.FfnSIdeal.Hand

open Cert.FfnSIdeal Cert.FfnSIdeal.Gen Idealize.ShloMosaic Idealize.ShloMosaic.TcCoe Idealize.SL.Sem Idealize.ShloMosaic.StableHlo

variable (m : (ℓ : Loc nD τ sig) → Buf (Elt Ideal) ℓ) (c : Dev nD)

/-- Row `r` of the sample. -/
def xr (r : Fin 128) (k : Fin 2048) : EReal :=
  (m ((c.tc : Thread nD τ).loc main_arg0) : S128x1x2048.Idx → EReal) (ix3 r 0 k)
/-- The modulation vector of row `r`. -/
def md (r : Fin 128) (k : Fin 12288) : EReal :=
  (m ((c.tc : Thread nD τ).loc main_arg1) : S128x1x12288.Idx → EReal) (ix3 r 0 k)
/-- The gate and up weights of the last layer. -/
def wgu (k : Fin 2048) (f : Fin 11264) : EReal :=
  (m ((c.tc : Thread nD τ).loc main_arg2) : S2x2048x11264.Idx → EReal) (ix3 1 k f)
/-- The down weights of the last layer. -/
def wd (f : Fin 5632) (l : Fin 2048) : EReal :=
  (m ((c.tc : Thread nD τ).loc main_arg3) : S2x5632x2048.Idx → EReal) (ix3 1 f l)
/-- The norm's scale. -/
def lg (l : Fin 2048) : EReal := (m ((c.tc : Thread nD τ).loc main_arg4) : S2x2x2048.Idx → EReal) (ix3 1 1 l)
/-- The norm's shift. -/
def lb (l : Fin 2048) : EReal := (m ((c.tc : Thread nD τ).loc main_arg5) : S2x2x2048.Idx → EReal) (ix3 1 1 l)

/-! ## The blocks a point reads -/

theorem idx (t : Fin cfg0.N) : win0_0.index t = ![0, 0] ∧ win0_1.index t = ![0, 0, 0, 0]
    ∧ win0_2.index t = ![1, 0, t.val % 11] ∧ win0_3.index t = ![1, 0, t.val % 11 + 11] ∧ win0_4.index t = ![1, t.val % 11, 0]
    ∧ win0_5.index t = ![1, 0, 0] ∧ win0_6.index t = ![1, 0, 0] ∧ win0_7.index t = ![0, 0] :=
  (by decide +kernel : ∀ t : Fin cfg0.N, win0_0.index t = ![0, 0] ∧ win0_1.index t = ![0, 0, 0, 0]
    ∧ win0_2.index t = ![1, 0, t.val % 11] ∧ win0_3.index t = ![1, 0, t.val % 11 + 11] ∧ win0_4.index t = ![1, t.val % 11, 0]
    ∧ win0_5.index t = ![1, 0, 0] ∧ win0_6.index t = ![1, 0, 0] ∧ win0_7.index t = ![0, 0]) t

theorem rd_x (t : Fin cfg0.N) (r : Fin 128) (l : Fin 2048) :
    (iblk m c 0 t : S128x2048.Idx → EReal) (ix2 r l) = xr m c r l := by
  unfold xr
  blk_point [iblk, V, idx t]

theorem rd_m (t : Fin cfg0.N) (r : Fin 128) (j : Fin 6) (l : Fin 2048) :
    (iblk m c 1 t : S6x1x128x2048.Idx → EReal) (ix4 j 0 r l) = Layer.chunk (md m c r) j l := by
  unfold md Layer.chunk
  blk_point [iblk, V, idx t]

theorem rd_wg (t : Fin cfg0.N) (k : Fin 2048) (f : Fin 512) :
    (iblk m c 2 t : S1x2048x512.Idx → EReal) (ix3 0 k f) = wgu m c k ⟨t.val % 11 * 512 + f.val, by omega⟩ := by
  unfold wgu
  blk_point [iblk, V, idx t]

theorem rd_wu (t : Fin cfg0.N) (k : Fin 2048) (f : Fin 512) :
    (iblk m c 3 t : S1x2048x512.Idx → EReal) (ix3 0 k f) = wgu m c k ⟨5632 + (t.val % 11 * 512 + f.val), by omega⟩ := by
  unfold wgu
  blk_point [iblk, V, idx t]

theorem rd_wd (t : Fin cfg0.N) (f : Fin 512) (l : Fin 2048) :
    (iblk m c 4 t : S1x512x2048.Idx → EReal) (ix3 0 f l) = wd m c ⟨t.val % 11 * 512 + f.val, by omega⟩ l := by
  unfold wd
  blk_point [iblk, V, idx t]

theorem rd_g (t : Fin cfg0.N) (l : Fin 2048) : (iblk m c 5 t : S1x2x2048.Idx → EReal) (ix3 0 1 l) = lg m c l := by
  unfold lg
  blk_point [iblk, V, idx t]

theorem rd_b (t : Fin cfg0.N) (l : Fin 2048) : (iblk m c 6 t : S1x2x2048.Idx → EReal) (ix3 0 1 l) = lb m c l := by
  unfold lb
  blk_point [iblk, V, idx t]

/-! ## What a point stores -/

/-- The modulated row. -/
def ur (r : Fin 128) : Fin 2048 → EReal := Layer.modulated (xr m c r) (md m c r) 4 3

theorem pay1_at (t : Fin cfg0.N) (j : S128x2048.Idx) :
    k0_pay1 (iblk m c 0 t)
      (View.ld (iblk m c 1 t) (Rect.unit ![4, 0, 0, 0] ![1, 1, 128, 2048] inb_S6x1x128x2048_S1x1x128x2048_4_0_0_0))
      (View.ld (iblk m c 1 t) (Rect.unit ![3, 0, 0, 0] ![1, 1, 128, 2048] inb_S6x1x128x2048_S1x1x128x2048_3_0_0_0)) j
      = ur m c (j 0) (j 1) := by
  idx_vars j
  pointwise [k0_pay1]
  rw [rd_x m c t, rd_m m c t j0, rd_m m c t j0]
  rfl

/-- A point's share of the down projection. -/
def share (r : Fin 128) (q : Fin 11) (l : Fin 2048) : EReal :=
  ∑ f : Fin 512, Layer.hidden (ur m c r) (wgu m c) ⟨q.val * 512 + f.val, by omega⟩ * wd m c ⟨q.val * 512 + f.val, by omega⟩ l

theorem pay3_at (t : Fin cfg0.N) (u : Vec Ideal S128x2048 .bf16) (acc : Vec Ideal S128x2048 .f32)
    (hu : ∀ r k, u (ix2 r k) = ur m c r k) (j : S128x2048.Idx) :
    k0_pay3 u (iblk m c 2 t) (iblk m c 3 t) acc (iblk m c 4 t) j
      = acc j + share m c (j 0) ⟨t.val % 11, by omega⟩ (j 1) := by
  idx_vars j
  pointwise [k0_pay3]
  simp only [hu, share, Layer.hidden]
  simp only [rd_wg m c t, rd_wu m c t, rd_wd m c t]

theorem pay4_at (t : Fin cfg0.N) (acc : Vec Ideal S128x2048 .f32) (j : S128x2048.Idx) :
    k0_pay4 (iblk m c 0 t)
      (View.ld (iblk m c 1 t) (Rect.unit ![5, 0, 0, 0] ![1, 1, 128, 2048] inb_S6x1x128x2048_S1x1x128x2048_5_0_0_0))
      acc
      (View.ld (iblk m c 5 t) (Rect.unit ![0, 1, 0] ![1, 1, 2048] inb_S1x2x2048_S1x1x2048_0_1_0))
      (View.ld (iblk m c 6 t) (Rect.unit ![0, 1, 0] ![1, 1, 2048] inb_S1x2x2048_S1x1x2048_0_1_0)) j
      = Layer.norm (Layer.residual (xr m c (j 0)) (md m c (j 0)) 5 fun l => acc (ix2 (j 0) l)) (lg m c) (lb m c) (j 1) := by
  idx_vars j
  pointwise [k0_pay4]
  simp only [rd_x m c t, rd_m m c t j0, rd_g m c t, rd_b m c t]
  rfl

/-! ## The scratch through the grid -/

theorem u_first (t : Fin cfg0.N) (h0 : t.val % 11 = 0) (j : S128x2048.Idx) :
    (outsAt0 m c t.val t.isLt).2.1 j = ur m c (j 0) (j 1) := by
  rw [outsAt0_A m c t h0 (by omega)]
  frame_out
  exact pay1_at m c t j

theorem u_next (t : Fin cfg0.N) (h0 : ¬t.val % 11 = 0) (j : S128x2048.Idx) :
    (outsAt0 m c t.val t.isLt).2.1 j = (outsAt0 m c (t.val - 1) (Nat.lt_of_le_of_lt (Nat.sub_le _ _) t.isLt)).2.1 j := by
  by_cases h1 : t.val % 11 = 10
  · rw [outsAt0_C m c t h0 h1]; rfl
  · rw [outsAt0_B m c t h0 h1]; rfl

/-- At every point the first scratch holds the modulated rows. -/
theorem u_at (t : Fin cfg0.N) (j : S128x2048.Idx) :
    (outsAt0 m c t.val t.isLt).2.1 j = ur m c (j 0) (j 1) := by
  exact Pipeline.eq_of_write_hold_apply (fun n h => (outsAt0 m c n h).2.1) 11
    (fun _ j => ur m c (j 0) (j 1)) (u_first m c) (u_next m c) t j

/-- The tile of the point before. -/
theorem u_prev (t : Fin cfg0.N) (h0 : ¬t.val % 11 = 0) (r : Fin 128) (k : Fin 2048) :
    (outsAt0 m c (t.val - 1) (Nat.lt_of_le_of_lt (Nat.sub_le _ _) t.isLt)).2.1 (ix2 r k) = ur m c r k :=
  (u_next m c t h0 (ix2 r k)).symm.trans (u_at m c t (ix2 r k))

theorem acc_first (t : Fin cfg0.N) (h0 : t.val % 11 = 0) (j : S128x2048.Idx) :
    (outsAt0 m c t.val t.isLt).2.2 j = 0 + share m c (j 0) ⟨t.val % 11, by omega⟩ (j 1) := by
  rw [outsAt0_A m c t h0 (by omega)]
  frame_out
  refine (pay3_at m c t _ _ (fun r k => pay1_at m c t (ix2 r k)) j).trans ?_
  congr 1
  idx_vars j
  pointwise [k0_pay2]

theorem acc_next (t : Fin cfg0.N) (h0 : ¬t.val % 11 = 0) (j : S128x2048.Idx) :
    (outsAt0 m c t.val t.isLt).2.2 j = (outsAt0 m c (t.val - 1) (Nat.lt_of_le_of_lt (Nat.sub_le _ _) t.isLt)).2.2 j
      + share m c (j 0) ⟨t.val % 11, by omega⟩ (j 1) := by
  by_cases h1 : t.val % 11 = 10
  · rw [outsAt0_C m c t h0 h1]
    frame_out
    simp only [read_unread_whole]
    exact pay3_at m c t _ _ (u_prev m c t h0) j
  · rw [outsAt0_B m c t h0 h1]
    frame_out
    simp only [read_unread_whole]
    exact pay3_at m c t _ _ (u_prev m c t h0) j

/-- The down projection of a row. -/
def down (r : Fin 128) (l : Fin 2048) : EReal := ∑ f, Layer.hidden (ur m c r) (wgu m c) f * wd m c f l

/-- At the last point the accumulator holds the whole down projection. -/
theorem acc_last (t : Fin cfg0.N) (h1 : t.val % 11 = 10) (j : S128x2048.Idx) :
    (outsAt0 m c t.val t.isLt).2.2 j = down m c (j 0) (j 1) := by
  refine (Pipeline.eq_sum_fin_of_reset_step_apply_of_flush (fun n h => (outsAt0 m c n h).2.2) 11 (fun _ => 0)
    (fun t j => share m c (j 0) ⟨t.val % 11, by omega⟩ (j 1)) (acc_first m c) (acc_next m c) t h1 j).trans ?_
  rw [zero_add]
  unfold down
  rw [← Fin.sum_mul_add_fin 11 512 (fun f => Layer.hidden (ur m c (j 0)) (wgu m c) f * wd m c f (j 1))]
  refine Finset.sum_congr rfl fun s _ => ?_
  have e2 : (⟨(11 * (t.val / 11) + s.val) % 11, by omega⟩ : Fin 11) = s := Fin.ext (by show (11 * (t.val / 11) + s.val) % 11 = s.val; omega)
  show share m c (j 0) ⟨(11 * (t.val / 11) + s.val) % 11, _⟩ (j 1) = _
  rw [e2]
  rfl

/-- The feed-forward half of row `r`. -/
def result (r : Fin 128) : Fin 2048 → EReal :=
  Layer.ffn (xr m c r) (md m c r) (wgu m c) (wd m c) (lg m c) (lb m c)

theorem out_last (t : Fin cfg0.N) (h1 : t.val % 11 = 10) (j : S128x2048.Idx) :
    (outsAt0 m c t.val t.isLt).1 j = result m c (j 0) (j 1) := by
  have hacc : ∀ l, (outsAt0 m c t.val t.isLt).2.2 (ix2 (j 0) l) = down m c (j 0) l :=
    fun l => acc_last m c t h1 (ix2 (j 0) l)
  rw [outsAt0_C m c t (by omega) h1] at hacc ⊢
  frame_out
  revert hacc
  frame_out
  intro hacc
  refine (pay4_at m c t _ j).trans ?_
  unfold result Layer.ffn
  congr 2
  exact funext hacc

/-- THE ARRAY: every entry is the feed-forward half of its row. -/
theorem array (i : S128x2048.Idx) : (dats m 0 c).arrAt 7 cfg0.N i = result m c (i 0) (i 1) := by
  refine congrFun (g := fun i : S128x2048.Idx => result m c (i 0) (i 1)) ?_ i
  refine (dats m 0 c).arrAt_eq_of_covers 7 _ (by decide +kernel) fun t hf y => ?_
  have h1 := (flush0_7 t).mp hf
  rw [after0_7]
  refine (out_last m c t h1 y).trans ?_
  have e0 : ((cfg0.win 7).blk t).view.emb y 0 = y 0 := Fin.ext (by
    show win0_7.index t 0 * 128 + 1 * (y 0).val = (y 0).val
    rw [(idx t).2.2.2.2.2.2.2]; show 0 * 128 + 1 * (y 0).val = _; omega)
  have e1 : ((cfg0.win 7).blk t).view.emb y 1 = y 1 := Fin.ext (by
    show win0_7.index t 1 * 2048 + 1 * (y 1).val = (y 1).val
    rw [(idx t).2.2.2.2.2.2.2]; show 0 * 2048 + 1 * (y 1).val = _; omega)
  rw [e0, e1]

end Cert.FfnSIdeal.Hand
-- ==== Proof.FfnS.Reference.lean ====
module

public import proofs.«01_k».proof.Proof.Gen.FfnSRefIdeal.Read
public import proofs.«01_k».proof.Proof.Spec
public import Idealize.ShloMosaic.Lib.Pointwise

/-! # What the feed-forward reference returns for the sample -/

@[expose] public section

set_option maxRecDepth 16384

noncomputable section

namespace Cert.FfnSRefIdeal.Hand

open Cert.FfnSRefIdeal Cert.FfnSRefIdeal.Gen Cert.FfnSRefIdeal.Read Idealize.ShloMosaic Idealize.ShloMosaic.TcCoe Idealize.SL.Sem Idealize.ShloMosaic.StableHlo

variable (x0 : S128x1x2048.Idx → EReal) (x1 : S128x1x12288.Idx → EReal) (x2 : S2x2048x11264.Idx → EReal)
  (x3 : S2x5632x2048.Idx → EReal) (x4 x5 : S2x2x2048.Idx → EReal)

/-- Row `b` of the sample. -/
abbrev xr (b : Fin 128) (k : Fin 2048) : EReal := x0 (ix3 b 0 k)
/-- The modulation vector of row `b`. -/
abbrev md (b : Fin 128) (k : Fin 12288) : EReal := x1 (ix3 b 0 k)
/-- The gate and up weights of the last layer. -/
abbrev wgu (k : Fin 2048) (f : Fin 11264) : EReal := x2 (ix3 1 k f)
/-- The down weights of the last layer. -/
abbrev wd (f : Fin 5632) (l : Fin 2048) : EReal := x3 (ix3 1 f l)

theorem u_at (b : Fin 128) (k : Fin 2048) :
    val_main_v9 (F := Ideal) x0 x1 (ix3 b 0 k) = Layer.modulated (xr x0 b) (md x1 b) 4 3 k := by
  unfold Layer.modulated Layer.chunk
  pointwise [val_main_v9, val_main_v8, val_main_v7, val_main_v6, val_main_v4, val_main_v3, val_main_cst]

theorem gu_at (b : Fin 128) (f : Fin 11264) :
    val_main_v12 (F := Ideal) x0 x1 x2 (ix3 b 0 f) = ∑ k, Layer.modulated (xr x0 b) (md x1 b) 4 3 k * wgu x2 k f := by
  have h := u_at x0 x1 b
  pointwise [val_main_v12, val_main_v11, val_main_v10]
  simp only [h]

theorem hidden_at (b : Fin 128) (f : Fin 5632) :
    val_main_v16 (F := Ideal) x0 x1 x2 (ix3 b 0 f) = Layer.hidden (Layer.modulated (xr x0 b) (md x1 b) 4 3) (wgu x2) f := by
  have h := gu_at x0 x1 x2 b
  unfold Layer.hidden
  pointwise [val_main_v16, val_main_v15, val_main_v14, val_main_v13, val_main_call0_v0, val_main_call0_v1, val_main_call0_v2, val_main_call0_v3, val_main_call0_v4, val_main_call0_v5, val_main_call0_cst, val_main_call0_cst_0]
  simp only [h]
  rfl

theorem z_at (b : Fin 128) (l : Fin 2048) :
    val_main_v23 (F := Ideal) x0 x1 x2 x3 (ix3 b 0 l) = Layer.residual (xr x0 b) (md x1 b) 5
      (fun l => ∑ f, Layer.hidden (Layer.modulated (xr x0 b) (md x1 b) 4 3) (wgu x2) f * wd x3 f l) l := by
  have h := hidden_at x0 x1 x2 b
  unfold Layer.residual Layer.chunk Layer.resid
  pointwise [val_main_v23, val_main_v22, val_main_v21, val_main_v20, val_main_v19, val_main_v18, val_main_v17, val_main_v5, val_main_cst_0]
  simp only [h]

theorem out_at (b : Fin 128) (l : Fin 2048) :
    val_main_v55 (F := Ideal) x0 x1 x2 x3 x4 x5 (ix3 b 0 l) = Layer.ffn (xr x0 b) (md x1 b) (wgu x2) (wd x3)
      (fun l => x4 (ix3 1 1 l)) (fun l => x5 (ix3 1 1 l)) l := by
  have h := z_at x0 x1 x2 x3 b
  unfold Layer.ffn Layer.norm Layer.mean Layer.lanes Layer.eps
  generalize Layer.residual (xr x0 b) (md x1 b) 5
      (fun l => ∑ f, Layer.hidden (Layer.modulated (xr x0 b) (md x1 b) 4 3) (wgu x2) f * wd x3 f l) = z at h ⊢
  generalize hv : val_main_v23 (F := Ideal) x0 x1 x2 x3 = v at h
  unfold val_main_v55 val_main_v52 val_main_v49 val_main_v48 val_main_v47 val_main_v46 val_main_v44 val_main_v43 val_main_v42 val_main_v40
    val_main_v39 val_main_v38 val_main_v37 val_main_v36 val_main_v35 val_main_v33 val_main_v32
  rw [hv]
  pointwise [val_main_v54, val_main_v53, val_main_v51, val_main_v50,
    val_main_v45, val_main_cst_5, val_main_v41, val_main_cst_4, val_main_cst_3,
    val_main_v34, val_main_cst_2, val_main_cst_1,
    val_main_v31, val_main_v30, val_main_v29, val_main_v28, val_main_v27, val_main_v26, val_main_v25, val_main_v24]
  simp only [h]

/-- THE RESULT: every entry is the feed-forward half of its row. -/
theorem result_at (R : Fin 128) (l : Fin 2048) :
    val_main_v56 (F := Ideal) x0 x1 x2 x3 x4 x5 (ix2 R l)
      = Layer.ffn (xr x0 R) (md x1 R) (wgu x2) (wd x3)
        (fun l => x4 (ix3 1 1 l)) (fun l => x5 (ix3 1 1 l)) l := by
  rw [← out_at x0 x1 x2 x3 x4 x5]
  pointwise [val_main_v56]

end Cert.FfnSRefIdeal.Hand
-- ==== Proof.FfnS.lean ====
module

public import proofs.«01_k».proof.Defs
public import proofs.«01_k».proof.Proof.Gen.FfnS.Frame
public import proofs.«01_k».proof.Proof.Gen.FfnSIdeal
public import proofs.«01_k».proof.Proof.Gen.FfnSIdeal.Value
public import proofs.«01_k».proof.Proof.Gen.FfnSRefIdeal
public import proofs.«01_k».proof.Proof.Gen.FfnSRefIdeal.Run
public import proofs.«01_k».proof.Proof.Gen.FfnSRefIdeal.Read
public import proofs.«01_k».proof.Proof.FfnS.Kernel
public import proofs.«01_k».proof.Proof.FfnS.Reference

/-! # The feed-forward half for the sample: the claims -/

@[expose] public section

noncomputable section

namespace Cert.Proof.FfnS

open Idealize.ShloMosaic Idealize.ShloMosaic.TcCoe Idealize.SL.Sem

theorem frame_p : Cert.quiescent_FfnS := fun m g _ => Cert.FfnS.Gen.frame m g

theorem frame_pi : Cert.quiescent_FfnSIdeal := fun m g _ => Cert.FfnSIdeal.Gen.frame m g

theorem frame_ri : Cert.quiescent_FfnSRefIdeal := fun m g _ =>
  (θ_run Cert.FfnSRefIdeal.defs _ _).mono (fun r h => ⟨fun c => (h c).2, sem_eq_zero_of_no_sems (by decide) r.2⟩)
    (Cert.FfnSRefIdeal.Value.run m g)

/-- The value both programs end with: every entry is the feed-forward half of its row. -/
def value (m : (ℓ : Loc Cert.FfnSIdeal.nD Cert.FfnSIdeal.τ Cert.FfnSIdeal.sig) → Buf (Elt Ideal) ℓ) (c : Dev Cert.FfnSIdeal.nD) :
    Cert.FfnSIdeal.S128x2048.Idx → EReal := fun i => Cert.FfnSIdeal.Hand.result m c (i 0) (i 1)

theorem algebraic : Cert.algebraic_FfnSIdeal_FfnSRefIdeal := by
  intro m g m' g' _ hagree
  refine ⟨fun c => value m c, ?_, ?_⟩
  · refine (θ_run Cert.FfnSIdeal.defs _ _).mono (fun r h c => ?_) (Cert.FfnSIdeal.Value.run m g)
    refine ⟨(h c).1.trans ?_, (h c).2⟩
    rw [← Cert.FfnSIdeal.Value.final7]
    exact funext (Cert.FfnSIdeal.Hand.array m c)
  · refine (θ_run Cert.FfnSRefIdeal.defs _ _).mono (fun r h c => ?_) (Cert.FfnSRefIdeal.Value.run m' g')
    refine ⟨(h c).1.trans ?_, (h c).2⟩
    rw [Cert.FfnSRefIdeal.Read.val_main_v56_eq, (hagree c).1, (hagree c).2.1, (hagree c).2.2.1, (hagree c).2.2.2.1,
      (hagree c).2.2.2.2.1, (hagree c).2.2.2.2.2]
    funext i
    idx_vars i
    exact Cert.FfnSRefIdeal.Hand.result_at _ _ _ _ _ _ _ _

end Cert.Proof.FfnS

end
-- ==== Proof.ProjAS.Kernel.lean ====
module

public import proofs.«01_k».proof.Proof.Gen.ProjASIdeal.Value
public import proofs.«01_k».proof.Proof.Scale
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.StableHlo.RunClose

/-! # What the kernel of the dilated mixer's projection leaves in its output for the sample

The sample is one tile of 128 rows, each with its own modulation vector, so the grid is the three dilated head groups. The
first point stores the modulated rows, and every point multiplies them by its group's 1536 columns. -/

@[expose] public section

set_option maxRecDepth 16384

noncomputable section

namespace Cert.ProjASIdeal.Hand

open Cert.ProjASIdeal Cert.ProjASIdeal.Gen Idealize.ShloMosaic Idealize.ShloMosaic.TcCoe Idealize.SL.Sem Idealize.ShloMosaic.StableHlo

variable (m : (ℓ : Loc nD τ sig) → Buf (Elt Ideal) ℓ) (c : Dev nD)

/-- Row `r` of the sample. -/
def xr (r : Fin 128) (k : Fin 2048) : EReal :=
  (m ((c.tc : Thread nD τ).loc main_arg0) : S128x1x2048.Idx → EReal) (ix3 r 0 k)
/-- The modulation vector of row `r`. -/
def md (r : Fin 128) (k : Fin 12288) : EReal :=
  (m ((c.tc : Thread nD τ).loc main_arg1) : S128x1x12288.Idx → EReal) (ix3 r 0 k)
/-- The input weights of the last layer. -/
def w (k : Fin 2048) (f : Fin 9984) : EReal :=
  (m ((c.tc : Thread nD τ).loc main_arg2) : S2x2048x9984.Idx → EReal) (ix3 1 k f)

/-! ## The blocks a point reads -/

theorem idx (t : Fin cfg0.N) : win0_0.index t = ![0, 0] ∧ win0_1.index t = ![0, 0, 0, 0]
    ∧ win0_2.index t = ![1, 0, t.val] ∧ win0_3.index t = ![0, t.val] :=
  (by decide +kernel : ∀ t : Fin cfg0.N, win0_0.index t = ![0, 0] ∧ win0_1.index t = ![0, 0, 0, 0]
    ∧ win0_2.index t = ![1, 0, t.val] ∧ win0_3.index t = ![0, t.val]) t

/-- Lane `f` of a point's group is a column of the array. -/
theorem col_lt (t : Fin cfg0.N) (f : Fin 1536) : t.val * 1536 + f.val < 4608 := by
  have := lt_of_lt_of_eq t.isLt (N_0 : cfg0.N = 3); omega

theorem rd_x (t : Fin cfg0.N) (r : Fin 128) (l : Fin 2048) :
    (iblk m c 0 t : S128x2048.Idx → EReal) (ix2 r l) = xr m c r l := by
  unfold xr
  blk_point [iblk, V, idx t]

theorem rd_m (t : Fin cfg0.N) (r : Fin 128) (j : Fin 6) (l : Fin 2048) :
    (iblk m c 1 t : S6x1x128x2048.Idx → EReal) (ix4 j 0 r l) = Layer.chunk (md m c r) j l := by
  unfold md Layer.chunk
  blk_point [iblk, V, idx t]

/-- The weights the kernel is given: every column times its factor. -/
theorem host :
    (V m c main_v15 : S2x2048x9984.Idx → EReal) = truncf (F := Ideal) .bf16 (mulf (F := Ideal) (φ := .f32) (m ((c.tc : Thread nD τ).loc main_arg2))
      (broadcastInDim S2x2048x9984 ![0, 1, 2] bcast_S1x1x9984_S2x2048x9984_0_1_2 (broadcastInDim S1x1x9984 ![2] bcast_S9984_S1x1x9984_2 Cert.GatesIdeal.Hand.scale))) bitsLt_bf16_f32 := by
  unfold_abbrev_sides
  unfold Cert.GatesIdeal.Hand.scale Cert.GatesIdeal.Hand.groupScale
  after_results_entrywise (rounds := 1) []

theorem host_at (k : Fin 2048) (f : Fin 9984) :
    (V m c main_v15 : S2x2048x9984.Idx → EReal) (ix3 1 k f) = w m c k f * Layer.colScale f := by
  rw [host, ← Cert.GatesIdeal.Hand.scale_at]
  unfold w
  pointwise

theorem rd_w (t : Fin cfg0.N) (k : Fin 2048) (f : Fin 1536) :
    (X0_2 m c t : S1x2048x1536.Idx → EReal) (ix3 0 k f)
      = w m c k ⟨t.val * 1536 + f.val, (col_lt t f).trans (by decide)⟩ * Layer.colScale ⟨t.val * 1536 + f.val, (col_lt t f).trans (by decide)⟩ := by
  rw [← host_at]
  unfold X0_2 Pipeline.Window.fill
  rw [dif_pos (moved0_2 t _)]
  refine congrArg (V m c main_v15 : S2x2048x9984.Idx → EReal) ?_
  funext a
  apply Fin.ext
  match a with
  | ⟨0, _⟩ =>
    show win0_2.index t 0 * 1 + 1 * 0 = 1
    rw [(idx t).2.2.1]; rfl
  | ⟨1, _⟩ =>
    show win0_2.index t 1 * 2048 + 1 * k.val = k.val
    rw [(idx t).2.2.1]; show 0 * 2048 + 1 * k.val = _; omega
  | ⟨2, _⟩ =>
    show win0_2.index t 2 * 1536 + 1 * f.val = t.val * 1536 + f.val
    rw [(idx t).2.2.1]; show t.val * 1536 + 1 * f.val = t.val * 1536 + f.val; omega

/-! ## What a point stores -/

/-- The modulated row. -/
def ur (r : Fin 128) : Fin 2048 → EReal := Layer.modulated (xr m c r) (md m c r) 1 0

theorem pay1_at (t : Fin cfg0.N) (j : S128x2048.Idx) :
    k0_pay1 (iblk m c 0 t)
      (View.ld (iblk m c 1 t) (Rect.unit ![1, 0, 0, 0] ![1, 1, 128, 2048] inb_S6x1x128x2048_S1x1x128x2048_1_0_0_0))
      (View.ld (iblk m c 1 t) (Rect.unit ![0, 0, 0, 0] ![1, 1, 128, 2048] inb_S6x1x128x2048_S1x1x128x2048_0_0_0_0)) j
      = ur m c (j 0) (j 1) := by
  idx_vars j
  pointwise [k0_pay1]
  rw [rd_x m c t, rd_m m c t j0, rd_m m c t j0]
  rfl

theorem pay2_at (t : Fin cfg0.N) (u : Vec Ideal S128x2048 .bf16) (hu : ∀ r k, u (ix2 r k) = ur m c r k) (j : S128x1536.Idx) :
    k0_pay2 u (X0_2 m c t) j = Layer.groups (ur m c (j 0)) (w m c) ⟨t.val * 1536 + (j 1).val, col_lt t (j 1)⟩ := by
  idx_vars j
  pointwise [k0_pay2]
  simp only [hu, rd_w m c t]
  exact Layer.proj_scaled _ _ _

/-! ## The scratch through the grid -/

theorem u_first (t : Fin cfg0.N) (h0 : t.val % 3 = 0) (j : S128x2048.Idx) :
    (outsAt0 m c t.val t.isLt).2 j = ur m c (j 0) (j 1) := by
  rw [outsAt0_A m c t h0]
  frame_out
  exact pay1_at m c t j

theorem u_next (t : Fin cfg0.N) (h0 : ¬t.val % 3 = 0) (j : S128x2048.Idx) :
    (outsAt0 m c t.val t.isLt).2 j = (outsAt0 m c (t.val - 1) (Nat.lt_of_le_of_lt (Nat.sub_le _ _) t.isLt)).2 j := by
  rw [outsAt0_B m c t h0]; rfl

/-- At every point the scratch holds the modulated rows. -/
theorem u_at (t : Fin cfg0.N) (j : S128x2048.Idx) :
    (outsAt0 m c t.val t.isLt).2 j = ur m c (j 0) (j 1) :=
  Pipeline.eq_of_write_hold_apply (fun n h => (outsAt0 m c n h).2) 3
    (fun _ j => ur m c (j 0) (j 1)) (u_first m c) (u_next m c) t j

theorem u_prev (t : Fin cfg0.N) (h0 : ¬t.val % 3 = 0) (r : Fin 128) (k : Fin 2048) :
    (outsAt0 m c (t.val - 1) (Nat.lt_of_le_of_lt (Nat.sub_le _ _) t.isLt)).2 (ix2 r k) = ur m c r k :=
  (u_next m c t h0 (ix2 r k)).symm.trans (u_at m c t (ix2 r k))

/-- The dilated head groups of row `r`. -/
def result (r : Fin 128) : Fin 4608 → EReal := Layer.groups (ur m c r) (w m c)

theorem out_at (t : Fin cfg0.N) (j : S128x1536.Idx) :
    (outsAt0 m c t.val t.isLt).1 j = result m c (j 0) ⟨t.val * 1536 + (j 1).val, col_lt t (j 1)⟩ := by
  by_cases h0 : t.val % 3 = 0
  · rw [outsAt0_A m c t h0]
    frame_out
    exact pay2_at m c t _ (fun r k => pay1_at m c t (ix2 r k)) j
  · rw [outsAt0_B m c t h0]
    frame_out
    simp only [read_unread_whole]
    exact pay2_at m c t _ (u_prev m c t h0) j

/-- THE ARRAY: every entry is its row's projection. -/
theorem array (i : S128x4608.Idx) : (dats m 0 c).arrAt 3 cfg0.N i = result m c (i 0) (i 1) := by
  refine congrFun (g := fun i : S128x4608.Idx => result m c (i 0) (i 1)) ?_ i
  refine (dats m 0 c).arrAt_eq_of_covers 3 _ (by decide +kernel) fun t hf y => ?_
  rw [after0_3]
  refine (out_at m c t y).trans ?_
  have e0 : ((cfg0.win 3).blk t).view.emb y 0 = y 0 := Fin.ext (by
    show win0_3.index t 0 * 128 + 1 * (y 0).val = (y 0).val
    rw [(idx t).2.2.2]; show 0 * 128 + 1 * (y 0).val = _; omega)
  have e1 : (((cfg0.win 3).blk t).view.emb y 1).val = t.val * 1536 + (y 1).val := by
    show win0_3.index t 1 * 1536 + 1 * (y 1).val = t.val * 1536 + (y 1).val
    rw [(idx t).2.2.2]; show t.val * 1536 + 1 * (y 1).val = _; omega
  rw [e0]
  exact congrArg _ (Fin.ext e1.symm)

end Cert.ProjASIdeal.Hand
-- ==== Proof.ProjAS.Reference.lean ====
module

public import proofs.«01_k».proof.Proof.Gen.ProjASRefIdeal.Read
public import proofs.«01_k».proof.Proof.Spec
public import proofs.«01_k».proof.Proof.ProjA.Reference
public import Idealize.ShloMosaic.Lib.Pointwise

/-! # What the reference of the dilated mixer's projection returns for the sample -/

@[expose] public section

set_option maxRecDepth 16384

noncomputable section

namespace Cert.ProjASRefIdeal.Hand

open Cert.ProjASRefIdeal Cert.ProjASRefIdeal.Gen Cert.ProjASRefIdeal.Read Idealize.ShloMosaic Idealize.ShloMosaic.TcCoe Idealize.SL.Sem Idealize.ShloMosaic.StableHlo

variable (x0 : S128x1x2048.Idx → EReal) (x1 : S128x1x12288.Idx → EReal) (x2 : S2x2048x9984.Idx → EReal)

/-- Row `b` of the sample. -/
abbrev xr (b : Fin 128) (k : Fin 2048) : EReal := x0 (ix3 b 0 k)
/-- The modulation vector of row `b`. -/
abbrev md (b : Fin 128) (k : Fin 12288) : EReal := x1 (ix3 b 0 k)
/-- The input weights of the last layer. -/
abbrev w (k : Fin 2048) (f : Fin 9984) : EReal := x2 (ix3 1 k f)

theorem u_at (b : Fin 128) (k : Fin 2048) :
    val_main_v9 (F := Ideal) x0 x1 (ix3 b 0 k) = Layer.modulated (xr x0 b) (md x1 b) 1 0 k := by
  unfold Layer.modulated Layer.chunk
  pointwise [val_main_v9, val_main_v8, val_main_v7, val_main_v6, val_main_v1, val_main_v0, val_main_cst]

theorem proj_at (b : Fin 128) (f : Fin 9984) :
    val_main_v12 (F := Ideal) x0 x1 x2 (ix3 b 0 f) = Layer.proj (Layer.modulated (xr x0 b) (md x1 b) 1 0) (w x2) f := by
  have h := u_at x0 x1 b
  unfold Layer.proj
  pointwise [val_main_v12, val_main_v11, val_main_v10]
  simp only [h]

theorem stage_at (R : Fin 128) (l : Fin 4608) :
    val_main_v20 (F := Ideal) x0 x1 x2 (ix2 R l)
      = if h : l.val / 512 % 3 < 1 then val_main_v12 (F := Ideal) x0 x1 x2 (ix3 R 0 ⟨l.val, by omega⟩) * Layer.eighth
        else val_main_v12 (F := Ideal) x0 x1 x2 (ix3 R 0 ⟨l.val / 1536 * 1536 + (1 + (l.val / 512 % 3 - 1)) * 512 + l.val / 64 % 8 * 64 + l.val % 64, by
        rw [Cert.ProjARefIdeal.Hand.column_eq l.val (mt (Cert.ProjARefIdeal.Hand.part_iff l.val).mpr h)]; omega⟩) := by
  unfold val_main_v20 val_main_v19 val_main_v18 val_main_v17 val_main_v15 val_main_v14 val_main_v13
  generalize val_main_v12 (F := Ideal) x0 x1 x2 = v
  unfold Layer.eighth
  pointwise [val_main_v16, val_main_cst_0]

/-- THE RESULT: every entry is its row's projection, the query columns scaled. -/
theorem result_at (R : Fin 128) (l : Fin 4608) :
    val_main_v20 (F := Ideal) x0 x1 x2 (ix2 R l)
      = Layer.groups (Layer.modulated (xr x0 R) (md x1 R) 1 0) (w x2) l := by
  rw [stage_at]
  simp only [proj_at]
  generalize Layer.modulated (xr x0 R) (md x1 R) 1 0 = u
  unfold Layer.groups Layer.colScale
  rw [if_pos l.isLt]
  exact Cert.ProjARefIdeal.Hand.pick (Layer.proj u (w x2)) _ l

end Cert.ProjASRefIdeal.Hand
-- ==== Proof.ProjAS.lean ====
module

public import proofs.«01_k».proof.Defs
public import proofs.«01_k».proof.Proof.Gen.ProjAS.Frame
public import proofs.«01_k».proof.Proof.Gen.ProjASIdeal
public import proofs.«01_k».proof.Proof.Gen.ProjASIdeal.Value
public import proofs.«01_k».proof.Proof.Gen.ProjASRefIdeal
public import proofs.«01_k».proof.Proof.Gen.ProjASRefIdeal.Run
public import proofs.«01_k».proof.Proof.Gen.ProjASRefIdeal.Read
public import proofs.«01_k».proof.Proof.ProjAS.Kernel
public import proofs.«01_k».proof.Proof.ProjAS.Reference

/-! # The dilated mixer's projection for the sample: the claims -/

@[expose] public section

noncomputable section

namespace Cert.Proof.ProjAS

open Idealize.ShloMosaic Idealize.ShloMosaic.TcCoe Idealize.SL.Sem

theorem frame_p : Cert.quiescent_ProjAS := fun m g _ => Cert.ProjAS.Gen.frame m g

theorem frame_pi : Cert.quiescent_ProjASIdeal := fun m g _ => Cert.ProjASIdeal.Gen.frame m g

theorem frame_ri : Cert.quiescent_ProjASRefIdeal := fun m g _ =>
  (θ_run Cert.ProjASRefIdeal.defs _ _).mono (fun r h => ⟨fun c => (h c).2, sem_eq_zero_of_no_sems (by decide) r.2⟩)
    (Cert.ProjASRefIdeal.Value.run m g)

/-- The value both programs end with: every entry is its row's projection. -/
def value (m : (ℓ : Loc Cert.ProjASIdeal.nD Cert.ProjASIdeal.τ Cert.ProjASIdeal.sig) → Buf (Elt Ideal) ℓ) (c : Dev Cert.ProjASIdeal.nD) :
    Cert.ProjASIdeal.S128x4608.Idx → EReal := fun i => Cert.ProjASIdeal.Hand.result m c (i 0) (i 1)

theorem algebraic : Cert.algebraic_ProjASIdeal_ProjASRefIdeal := by
  intro m g m' g' _ hagree
  refine ⟨fun c => value m c, ?_, ?_⟩
  · refine (θ_run Cert.ProjASIdeal.defs _ _).mono (fun r h c => ?_) (Cert.ProjASIdeal.Value.run m g)
    refine ⟨(h c).1.trans ?_, (h c).2⟩
    rw [← Cert.ProjASIdeal.Value.final3]
    exact funext (Cert.ProjASIdeal.Hand.array m c)
  · refine (θ_run Cert.ProjASRefIdeal.defs _ _).mono (fun r h c => ?_) (Cert.ProjASRefIdeal.Value.run m' g')
    refine ⟨(h c).1.trans ?_, (h c).2⟩
    rw [Cert.ProjASRefIdeal.Read.val_main_v20_eq, (hagree c).1, (hagree c).2.1, (hagree c).2.2]
    funext i
    idx_vars i
    exact Cert.ProjASRefIdeal.Hand.result_at _ _ _ _ _

end Cert.Proof.ProjAS

end
-- ==== Proof.ProjBS.Kernel.lean ====
module

public import proofs.«01_k».proof.Proof.Gen.ProjBSIdeal.Value
public import proofs.«01_k».proof.Proof.Scale
public import proofs.«01_k».proof.Proof.ProjB.Spec
public import Idealize.ShloMosaic.Lib.Pipeline.ValueKit
public import Idealize.ShloMosaic.Lib.Pipeline.ReadBack
public import Idealize.ShloMosaic.Lib.Pointwise
public import Idealize.ShloMosaic.Lib.StableHlo.RunClose

/-! # What the kernel of the sliding-window mixer's projection leaves in its outputs for the sample

The sample is one tile of 128 rows, each with its own modulation vector, all at position 8192. -/

@[expose] public section

set_option maxRecDepth 16384

noncomputable section

namespace Cert.ProjBSIdeal.Hand

open Cert.ProjBSIdeal Cert.ProjBSIdeal.Gen Idealize.ShloMosaic Idealize.ShloMosaic.TcCoe Idealize.SL.Sem Idealize.ShloMosaic.StableHlo

variable (m : (ℓ : Loc nD τ sig) → Buf (Elt Ideal) ℓ) (c : Dev nD)

/-- Row `r` of the sample. -/
def xr (r : Fin 128) (k : Fin 2048) : EReal :=
  (m ((c.tc : Thread nD τ).loc main_arg0) : S128x1x2048.Idx → EReal) (ix3 r 0 k)
/-- The modulation vector of row `r`. -/
def md (r : Fin 128) (k : Fin 12288) : EReal :=
  (m ((c.tc : Thread nD τ).loc main_arg1) : S128x1x12288.Idx → EReal) (ix3 r 0 k)
/-- The input weights of the last layer. -/
def w (k : Fin 2048) (f : Fin 9984) : EReal :=
  (m ((c.tc : Thread nD τ).loc main_arg2) : S2x2048x9984.Idx → EReal) (ix3 1 k f)

theorem idx (t : Fin cfg0.N) : win0_0.index t = ![0, 0] ∧ win0_1.index t = ![0, 0, 0, 0]
    ∧ win0_2.index t = ![1, 0, 4608] ∧ win0_3.index t = ![0, 0] ∧ win0_4.index t = ![0, 0]
    ∧ win0_5.index t = ![0, 0] ∧ win0_6.index t = ![0, 0] :=
  (by decide +kernel : ∀ t : Fin cfg0.N, win0_0.index t = ![0, 0] ∧ win0_1.index t = ![0, 0, 0, 0]
    ∧ win0_2.index t = ![1, 0, 4608] ∧ win0_3.index t = ![0, 0] ∧ win0_4.index t = ![0, 0]
    ∧ win0_5.index t = ![0, 0] ∧ win0_6.index t = ![0, 0]) t

theorem rd_x (t : Fin cfg0.N) (r : Fin 128) (l : Fin 2048) :
    (iblk m c 0 t : S128x2048.Idx → EReal) (ix2 r l) = xr m c r l := by
  unfold xr
  blk_point [iblk, V, idx t]

theorem rd_m (t : Fin cfg0.N) (r : Fin 128) (j : Fin 6) (l : Fin 2048) :
    (iblk m c 1 t : S6x1x128x2048.Idx → EReal) (ix4 j 0 r l) = Layer.chunk (md m c r) j l := by
  unfold md Layer.chunk
  blk_point [iblk, V, idx t]

/-- The weights the kernel is given: every column times its factor. -/
theorem host :
    (V m c main_v34 : S2x2048x9984.Idx → EReal) = truncf (F := Ideal) .bf16 (mulf (F := Ideal) (φ := .f32) (m ((c.tc : Thread nD τ).loc main_arg2))
      (broadcastInDim S2x2048x9984 ![0, 1, 2] bcast_S1x1x9984_S2x2048x9984_0_1_2 (broadcastInDim S1x1x9984 ![2] bcast_S9984_S1x1x9984_2 Cert.GatesIdeal.Hand.scale))) bitsLt_bf16_f32 := by
  unfold_abbrev_sides
  unfold Cert.GatesIdeal.Hand.scale Cert.GatesIdeal.Hand.groupScale
  after_results_entrywise (rounds := 1) []

theorem host_at (k : Fin 2048) (f : Fin 9984) :
    (V m c main_v34 : S2x2048x9984.Idx → EReal) (ix3 1 k f) = w m c k f * Layer.colScale f := by
  rw [host, ← Cert.GatesIdeal.Hand.scale_at]
  unfold w
  pointwise

theorem rd_w (t : Fin cfg0.N) (k : Fin 2048) (f : Fin 1280) :
    (iblk m c 2 t : S1x2048x1280.Idx → EReal) (ix3 0 k f)
      = w m c k ⟨4608 + f.val, by omega⟩ * Layer.colScale ⟨4608 + f.val, by omega⟩ := by
  rw [← host_at]
  refine congrArg (V m c main_v34 : S2x2048x9984.Idx → EReal) ?_
  funext a
  apply Fin.ext
  match a with
  | ⟨0, _⟩ =>
    show win0_2.index t 0 + 1 * 0 = 1
    rw [(idx t).2.2.1]; rfl
  | ⟨1, _⟩ =>
    show win0_2.index t 1 + 1 * k.val = k.val
    rw [(idx t).2.2.1]; show 0 + 1 * k.val = _; omega
  | ⟨2, _⟩ =>
    show win0_2.index t 2 + 1 * f.val = 4608 + f.val
    rw [(idx t).2.2.1]; show 4608 + 1 * f.val = 4608 + f.val; omega

/-- The angles of the rotation, as the host lines make them. -/
def angles : S128x32.Idx → EReal :=
  mulf (F := Ideal) (φ := .f32)
    (broadcastInDim S128x32 ![0, 1] bcast_S128x1_S128x32_0_1 (broadcastInDim S128x1 ![0] bcast_S128_S128x1_0 (sitofp (F := Ideal) .f32 (broadcastInDim S128 ![] bcast_S_S128 (constantI S_ 32 8192#32)))))
    (broadcastInDim S128x32 ![0, 1] bcast_S1x32_S128x32_0_1 (broadcastInDim S1x32 ![1] bcast_S32_S1x32_1
      (Host.powf (F := Ideal) (φ := .f32) (broadcastInDim S32 ![] bcast_S_S32 (constant (F := Ideal) S_ .f32 0x48127C00#32))
        (Host.divf (F := Ideal) (φ := .f32) (Host.negf (F := Ideal) (φ := .f32) (sitofp (F := Ideal) .f32 (iotaInDim S32 32 0)))
          (broadcastInDim S32 ![] bcast_S_S32 (constant (F := Ideal) S_ .f32 0x42000000#32))))))

theorem host_cos : (V m c main_v15 : S128x128.Idx → EReal) = concatenate S128x128 1 [⟨S128x32, Host.cos (F := Ideal) (φ := .f32) angles⟩,
    ⟨S128x32, Host.cos (F := Ideal) (φ := .f32) angles⟩, ⟨S128x32, Host.cos (F := Ideal) (φ := .f32) angles⟩, ⟨S128x32, Host.cos (F := Ideal) (φ := .f32) angles⟩]
    concatenates_S128x32_S128x32_S128x32_S128x32_S128x128_d1 := by
  unfold_abbrev_sides
  unfold angles
  after_results_entrywise (rounds := 1) []

theorem host_sin : (V m c main_v18 : S128x128.Idx → EReal) = concatenate S128x128 1 [⟨S128x32, Host.negf (F := Ideal) (φ := .f32) (Host.sin (F := Ideal) (φ := .f32) angles)⟩,
    ⟨S128x32, Host.sin (F := Ideal) (φ := .f32) angles⟩, ⟨S128x32, Host.negf (F := Ideal) (φ := .f32) (Host.sin (F := Ideal) (φ := .f32) angles)⟩, ⟨S128x32, Host.sin (F := Ideal) (φ := .f32) angles⟩]
    concatenates_S128x32_S128x32_S128x32_S128x32_S128x128_d1 := by
  unfold_abbrev_sides
  unfold angles
  after_results_entrywise (rounds := 1) []

theorem angles_at (s : Fin 128) (l : Fin 32) : angles (ix2 s l) = Layer.angle 8192 l := by
  unfold angles Layer.angle
  pointwise

/-- Lane `l` of the cosine table holds the cosine at lane `l % 32` of a half. -/
theorem cos_at (s : Fin 128) (l : Fin 128) :
    (V m c main_v15 : S128x128.Idx → EReal) (ix2 s l) = Ideal.cos (Layer.angle 8192 ⟨l.val % 32, by omega⟩) := by
  have key : ∀ k : Fin 32, k.val = l.val % 32 → Ideal.cos (angles (ix2 s k)) = Ideal.cos (Layer.angle 8192 ⟨l.val % 32, by omega⟩) := fun k hk => by
    rw [angles_at]; exact congrArg (fun k => Ideal.cos (Layer.angle 8192 k)) (Fin.ext hk)
  rw [host_cos]
  generalize angles = v at key
  pointwise
  split_ifs <;> exact key _ (by simp only []; omega)

/-- Lane `l` of the sine table, negative in a head's first half. -/
theorem sin_at (s : Fin 128) (l : Fin 128) :
    (V m c main_v18 : S128x128.Idx → EReal) (ix2 s l) = if l.val % 64 < 32 then -Ideal.sin (Layer.angle 8192 ⟨l.val % 32, by omega⟩)
      else Ideal.sin (Layer.angle 8192 ⟨l.val % 32, by omega⟩) := by
  have key : ∀ k : Fin 32, k.val = l.val % 32 → Ideal.sin (angles (ix2 s k)) = Ideal.sin (Layer.angle 8192 ⟨l.val % 32, by omega⟩) := fun k hk => by
    rw [angles_at]; exact congrArg (fun k => Ideal.sin (Layer.angle 8192 k)) (Fin.ext hk)
  rw [host_sin]
  generalize angles = v at key
  pointwise
  by_cases h1 : l.val < 32
  · rw [if_pos (by omega : l.val % 64 < 32)]
    simp only [dif_pos h1]
    exact congrArg (fun x : EReal => -x) (key _ (by show l.val = _; omega))
  · by_cases h2 : l.val - 32 < 32
    · rw [if_neg (by omega : ¬l.val % 64 < 32)]
      simp only [dif_neg h1, dif_pos h2]
      exact key _ (by show l.val - 32 = _; omega)
    · by_cases h3 : l.val - 32 - 32 < 32
      · rw [if_pos (by omega : l.val % 64 < 32)]
        simp only [dif_neg h1, dif_neg h2, dif_pos h3]
        exact congrArg (fun x : EReal => -x) (key _ (by show l.val - 32 - 32 = _; omega))
      · rw [if_neg (by omega : ¬l.val % 64 < 32)]
        simp only [dif_neg h1, dif_neg h2, dif_neg h3]
        exact key _ (by show l.val - 32 - 32 - 32 = _; omega)

theorem mask_at (r l : Fin 128) :
    k0_pay9 k0_pay6 k0_pay7 k0_pay8 (ix2 r l) = BitVec.ofBool (decide (l.val % 64 < 32)) := by
  pointwise [k0_pay9, k0_pay6, k0_pay7, k0_pay8]
  revert l
  decide +kernel

end Cert.ProjBSIdeal.Hand

end
-- ==== Proof.ProjBS.Tiles.lean ====
module

public import proofs.«01_k».proof.Proof.ProjBS.Kernel

/-! # The tiles of the sliding-window mixer's projection for the sample, and its two arrays -/

@[expose] public section

set_option maxRecDepth 16384

noncomputable section

namespace Cert.ProjBSIdeal.Hand

open Cert.ProjBSIdeal Cert.ProjBSIdeal.Gen Idealize.ShloMosaic Idealize.ShloMosaic.TcCoe Idealize.SL.Sem Idealize.ShloMosaic.StableHlo

variable (m : (ℓ : Loc nD τ sig) → Buf (Elt Ideal) ℓ) (c : Dev nD)

/-- The projected row, unscaled. -/
def pr (r : Fin 128) : Fin 9984 → EReal := Layer.proj (Layer.modulated (xr m c r) (md m c r) 1 0) (w m c)

theorem rd_cos (t : Fin cfg0.N) (r : Fin 128) (l : Fin 128) :
    (iblk m c 3 t : S128x128.Idx → EReal) (ix2 r l) = Ideal.cos (Layer.angle 8192 ⟨l.val % 32, by omega⟩) := by
  rw [← cos_at m c r]
  refine congrArg (V m c main_v15 : S128x128.Idx → EReal) ?_
  funext a
  apply Fin.ext
  match a with
  | ⟨0, _⟩ =>
    show win0_3.index t 0 * 128 + 1 * r.val = r.val
    rw [(idx t).2.2.2.1]; show 0 * 128 + 1 * r.val = _; omega
  | ⟨1, _⟩ =>
    show win0_3.index t 1 * 128 + 1 * l.val = l.val
    rw [(idx t).2.2.2.1]; show 0 * 128 + 1 * l.val = _; omega

theorem rd_sin (t : Fin cfg0.N) (r : Fin 128) (l : Fin 128) :
    (iblk m c 4 t : S128x128.Idx → EReal) (ix2 r l) = if l.val % 64 < 32 then -Ideal.sin (Layer.angle 8192 ⟨l.val % 32, by omega⟩)
      else Ideal.sin (Layer.angle 8192 ⟨l.val % 32, by omega⟩) := by
  rw [← sin_at m c r]
  refine congrArg (V m c main_v18 : S128x128.Idx → EReal) ?_
  funext a
  apply Fin.ext
  match a with
  | ⟨0, _⟩ =>
    show win0_4.index t 0 * 128 + 1 * r.val = r.val
    rw [(idx t).2.2.2.2.1]; show 0 * 128 + 1 * r.val = _; omega
  | ⟨1, _⟩ =>
    show win0_4.index t 1 * 128 + 1 * l.val = l.val
    rw [(idx t).2.2.2.2.1]; show 0 * 128 + 1 * l.val = _; omega

/-- A point's accumulator: its rows' columns, scaled. -/
theorem acc_at (t : Fin cfg0.N) (r : Fin 128) (f : Fin 1280) :
    k0_pay3 (View.ld (iblk m c 0 t) r0_0) (View.ld (iblk m c 1 t) r0_1) (View.ld (iblk m c 1 t) r0_2) (View.ld (iblk m c 2 t) r0_3) (ix2 r f)
      = pr m c r ⟨4608 + f.val, by omega⟩ * Layer.colScale ⟨4608 + f.val, by omega⟩ := by
  pointwise [k0_pay3]
  simp only [rd_x m c t, rd_m m c t r, rd_w m c t]
  exact Layer.proj_scaled _ _ _

theorem cosTile_at (t : Fin cfg0.N) (r : Fin 128) (l : Fin 128) :
    k0_pay4 (View.ld (iblk m c 3 t) r0_4) (ix2 r l) = Ideal.cos (Layer.angle 8192 ⟨l.val % 32, by omega⟩) := by
  rw [← rd_cos m c t r]
  pointwise [k0_pay4]

theorem sinTile_at (t : Fin cfg0.N) (r : Fin 128) (l : Fin 128) :
    k0_pay5 (View.ld (iblk m c 4 t) r0_4) (ix2 r l) = if l.val % 64 < 32 then -Ideal.sin (Layer.angle 8192 ⟨l.val % 32, by omega⟩)
      else Ideal.sin (Layer.angle 8192 ⟨l.val % 32, by omega⟩) := by
  rw [← rd_sin m c t r]
  pointwise [k0_pay5]

/-- A tile's rotation as the kernel writes it. -/
def tile (acc : FVec Ideal S128x1280 .f32) (C S : FVec Ideal S128x128 .f32) (r : Fin 128) (l : Fin 128) (i j1 j2 : Fin 1280) : EReal :=
  acc (ix2 r i) * C (ix2 r l) + Scalar.select (BitVec.ofBool (decide (l.val % 64 < 32))) (acc (ix2 r j1)) (acc (ix2 r j2)) * S (ix2 r l)

section Payloads

variable (acc : FVec Ideal S128x1280 .f32) (C S : FVec Ideal S128x128 .f32) (r l : Fin 128)
variable (a : IVec S128x128 32) (b : IVec S128x128 1) (d : IVec S128x128 32)
  (hd : ∀ r l : Fin 128, k0_pay9 a b d (ix2 r l) = BitVec.ofBool (decide (l.val % 64 < 32)))
variable (v : IVec S128x128 1) (hv : ∀ r l : Fin 128, v (ix2 r l) = BitVec.ofBool (decide (l.val % 64 < 32)))

theorem pay2_at : k0_pay2 acc (ix2 r l) = acc (ix2 r ⟨1152 + l.val, by omega⟩) := by
  pointwise [k0_pay2]

section First

include hd

theorem pay10_at : k0_pay10 acc C S a b d (ix2 r l)
    = tile acc C S r l ⟨l.val, by omega⟩ ⟨(l.val + 128 - 96) % 128, by omega⟩ ⟨(l.val + 128 - 32) % 128, by omega⟩ := by
  have h := hd r l
  unfold k0_pay10
  generalize k0_pay9 a b d = v at h ⊢
  pointwise
  rw [h]
  rfl

theorem pay11_at : k0_pay11 acc C S a b d (ix2 r l)
    = tile acc C S r l ⟨128 + l.val, by omega⟩ ⟨128 + (l.val + 128 - 96) % 128, by omega⟩ ⟨128 + (l.val + 128 - 32) % 128, by omega⟩ := by
  have h := hd r l
  unfold k0_pay11
  generalize k0_pay9 a b d = v at h ⊢
  pointwise
  rw [h]
  rfl

theorem pay12_at : k0_pay12 acc C S a b d (ix2 r l)
    = tile acc C S r l ⟨256 + l.val, by omega⟩ ⟨256 + (l.val + 128 - 96) % 128, by omega⟩ ⟨256 + (l.val + 128 - 32) % 128, by omega⟩ := by
  have h := hd r l
  unfold k0_pay12
  generalize k0_pay9 a b d = v at h ⊢
  pointwise
  rw [h]
  rfl

theorem pay13_at : k0_pay13 acc C S a b d (ix2 r l)
    = tile acc C S r l ⟨384 + l.val, by omega⟩ ⟨384 + (l.val + 128 - 96) % 128, by omega⟩ ⟨384 + (l.val + 128 - 32) % 128, by omega⟩ := by
  have h := hd r l
  unfold k0_pay13
  generalize k0_pay9 a b d = v at h ⊢
  pointwise
  rw [h]
  rfl

end First

section Rest

include hv

theorem pay14_at : k0_pay14 acc C S v (ix2 r l)
    = tile acc C S r l ⟨512 + l.val, by omega⟩ ⟨512 + (l.val + 128 - 96) % 128, by omega⟩ ⟨512 + (l.val + 128 - 32) % 128, by omega⟩ := by
  have h := hv r l
  pointwise [k0_pay14]
  rw [h]
  rfl

theorem pay15_at : k0_pay15 acc C S v (ix2 r l)
    = tile acc C S r l ⟨640 + l.val, by omega⟩ ⟨640 + (l.val + 128 - 96) % 128, by omega⟩ ⟨640 + (l.val + 128 - 32) % 128, by omega⟩ := by
  have h := hv r l
  pointwise [k0_pay15]
  rw [h]
  rfl

theorem pay16_at : k0_pay16 acc C S v (ix2 r l)
    = tile acc C S r l ⟨768 + l.val, by omega⟩ ⟨768 + (l.val + 128 - 96) % 128, by omega⟩ ⟨768 + (l.val + 128 - 32) % 128, by omega⟩ := by
  have h := hv r l
  pointwise [k0_pay16]
  rw [h]
  rfl

theorem pay17_at : k0_pay17 acc C S v (ix2 r l)
    = tile acc C S r l ⟨896 + l.val, by omega⟩ ⟨896 + (l.val + 128 - 96) % 128, by omega⟩ ⟨896 + (l.val + 128 - 32) % 128, by omega⟩ := by
  have h := hv r l
  pointwise [k0_pay17]
  rw [h]
  rfl

theorem pay1_at : k0_pay1 C S v (k0_pay18 acc) (k0_pay19 acc) 32#32 (ix2 r l)
    = tile acc C S r l ⟨1024 + l.val, by omega⟩ ⟨1024 + (l.val + 128 - 96) % 128, by omega⟩ ⟨1024 + (l.val + 128 - 32) % 128, by omega⟩ := by
  have h := hv r l
  pointwise [k0_pay1, k0_pay18, k0_pay19]
  rw [h]
  rfl

end Rest

end Payloads

/-- The accumulator of point `t`, its cosines and its signed sines. -/
structure Tables (t : Fin cfg0.N) (acc : FVec Ideal S128x1280 .f32) (C S : FVec Ideal S128x128 .f32) : Prop where
  acc_eq : ∀ (r : Fin 128) (f : Fin 1280), acc (ix2 r f) = pr m c r ⟨4608 + f.val, by omega⟩ * Layer.colScale ⟨4608 + f.val, by omega⟩
  cos_eq : ∀ (r : Fin 128) (l : Fin 128), C (ix2 r l) = Ideal.cos (Layer.angle 8192 ⟨l.val % 32, by omega⟩)
  sin_eq : ∀ (r : Fin 128) (l : Fin 128), S (ix2 r l) = if l.val % 64 < 32 then -Ideal.sin (Layer.angle 8192 ⟨l.val % 32, by omega⟩)
    else Ideal.sin (Layer.angle 8192 ⟨l.val % 32, by omega⟩)

theorem tables (t : Fin cfg0.N) : Tables m c t
    (k0_pay3 (View.ld (iblk m c 0 t) r0_0) (View.ld (iblk m c 1 t) r0_1) (View.ld (iblk m c 1 t) r0_2) (View.ld (iblk m c 2 t) r0_3))
    (k0_pay4 (View.ld (iblk m c 3 t) r0_4)) (k0_pay5 (View.ld (iblk m c 4 t) r0_4)) :=
  ⟨acc_at m c t, cosTile_at m c t, sinTile_at m c t⟩

/-- A tile of the point, at the accumulator's columns. -/
theorem tile_at (t : Fin cfg0.N) (acc : FVec Ideal S128x1280 .f32) (C S : FVec Ideal S128x128 .f32) (T : Tables m c t acc C S)
    (r : Fin 128) (l : Fin 128) (i j1 j2 : Fin 1280) (f : Fin 5760) (hf : f.val = 4608 + i.val) (hl : f.val % 64 = l.val % 64)
    (h1 : l.val % 64 < 32 → j1.val = i.val + 32) (h2 : ¬l.val % 64 < 32 → i.val = j2.val + 32) :
    tile acc C S r l i j1 j2 = Layer.rotated (pr m c r) 8192 f * Layer.colScale ⟨f.val, by omega⟩ :=
  Layer.rope_at (pr m c r) 8192 (fun f => acc (ix2 r f)) (T.acc_eq r) l i j1 j2 _ _ (T.cos_eq r l) (T.sin_eq r l) f hf hl h1 h2

theorem query_scale (l : Fin 1024) (f : Fin 9984) (h : f.val = 4608 + l.val) : Layer.colScale f = Layer.eighth := by
  rw [Layer.colScale_b _ (by omega), if_pos (by omega)]

theorem key_scale (f : Fin 9984) (h : 5632 ≤ f.val) : Layer.colScale f = 1 := by
  rw [Layer.colScale_b _ (by omega), if_neg (by omega)]

/-- The queries of row `r`. -/
def resultQ (r : Fin 128) : Fin 1024 → EReal := Layer.queries (pr m c r) 8192
/-- The keys and values of row `r`. -/
def resultKV (r : Fin 128) : Fin 256 → EReal := Layer.keysValues (pr m c r) 8192

theorem query_tile (t : Fin cfg0.N) (acc : FVec Ideal S128x1280 .f32) (C S : FVec Ideal S128x128 .f32) (T : Tables m c t acc C S)
    (r : Fin 128) (l : Fin 128) (i j1 j2 : Fin 1280) (q : Fin 1024) (hq : q.val = i.val) (hl : i.val % 64 = l.val % 64)
    (h1 : l.val % 64 < 32 → j1.val = i.val + 32) (h2 : ¬l.val % 64 < 32 → i.val = j2.val + 32) :
    tile acc C S r l i j1 j2 = resultQ m c r q := by
  unfold resultQ Layer.queries
  rw [tile_at m c t acc C S T r l i j1 j2 ⟨4608 + q.val, by omega⟩ (by show 4608 + q.val = _; omega) (by show (4608 + q.val) % 64 = _; omega) h1 h2,
    query_scale q _ rfl]

theorem key_tile (t : Fin cfg0.N) (acc : FVec Ideal S128x1280 .f32) (C S : FVec Ideal S128x128 .f32) (T : Tables m c t acc C S)
    (r : Fin 128) (l : Fin 128) (i j1 j2 : Fin 1280) (q : Fin 256) (hi : i.val = 1024 + l.val) (hq : q.val = l.val)
    (h1 : l.val % 64 < 32 → j1.val = i.val + 32) (h2 : ¬l.val % 64 < 32 → i.val = j2.val + 32) :
    tile acc C S r l i j1 j2 = resultKV m c r q := by
  unfold resultKV Layer.keysValues
  rw [dif_pos (by omega), tile_at m c t acc C S T r l i j1 j2 ⟨5632 + q.val, by omega⟩ (by show 5632 + q.val = _; omega)
    (by show (5632 + q.val) % 64 = _; omega) h1 h2, key_scale _ (by show 5632 ≤ 5632 + q.val; omega), mul_one]

theorem value_tile (t : Fin cfg0.N) (acc : FVec Ideal S128x1280 .f32) (C S : FVec Ideal S128x128 .f32) (T : Tables m c t acc C S)
    (r : Fin 128) (i : Fin 1280) (q : Fin 256) (hi : i.val = 1024 + q.val) (hq : 128 ≤ q.val) :
    acc (ix2 r i) = resultKV m c r q := by
  unfold resultKV Layer.keysValues
  rw [dif_neg (by omega), T.acc_eq, key_scale _ (by show 5632 ≤ 4608 + i.val; omega), mul_one]
  exact congrArg _ (Fin.ext (by show 4608 + i.val = 5632 + q.val; omega))

/-- What a point stores in its tile of the queries. -/
theorem out5_at (t : Fin cfg0.N) (y : S128x1024.Idx) :
    out0_5 (iblk m c 0 t) (iblk m c 1 t) (iblk m c 2 t) (iblk m c 3 t) (iblk m c 4 t) y = resultQ m c (y 0) (y 1) := by
  have T := tables m c t
  have hm := mask_at
  unfold_out out0_5
  generalize k0_pay3 (View.ld (iblk m c 0 t) r0_0) (View.ld (iblk m c 1 t) r0_1) (View.ld (iblk m c 1 t) r0_2) (View.ld (iblk m c 2 t) r0_3) = acc at T ⊢
  generalize k0_pay4 (View.ld (iblk m c 3 t) r0_4) = C at T ⊢
  generalize k0_pay5 (View.ld (iblk m c 4 t) r0_4) = S at T ⊢
  canon_tiles x h
  all_goals
    obtain ⟨r, l, rfl⟩ : ∃ (r : Fin 128) (l : Fin 128), x = ix2 r l := ⟨x 0, x 1, eq_ix2 x⟩
    have e : y 0 = r := Fin.ext (by simpa using h0)
    have e1 : (ix2 r l : S128x128.Idx) 1 = l := rfl
    rw [e1] at h1
    have hl := l.isLt
    rw [e]
    first
      | exact (pay10_at acc C S r l _ _ _ hm).trans (query_tile m c t _ _ _ T r l _ _ _ _ (by simp only []; omega) (by simp only []) (by simp only []; omega) (by simp only []; omega))
      | exact (pay11_at acc C S r l _ _ _ hm).trans (query_tile m c t _ _ _ T r l _ _ _ _ (by simp only []; omega) (by simp only []; omega) (by simp only []; omega) (by simp only []; omega))
      | exact (pay12_at acc C S r l _ _ _ hm).trans (query_tile m c t _ _ _ T r l _ _ _ _ (by simp only []; omega) (by simp only []; omega) (by simp only []; omega) (by simp only []; omega))
      | exact (pay13_at acc C S r l _ _ _ hm).trans (query_tile m c t _ _ _ T r l _ _ _ _ (by simp only []; omega) (by simp only []; omega) (by simp only []; omega) (by simp only []; omega))
      | exact (pay14_at acc C S r l _ hm).trans (query_tile m c t _ _ _ T r l _ _ _ _ (by simp only []; omega) (by simp only []; omega) (by simp only []; omega) (by simp only []; omega))
      | exact (pay15_at acc C S r l _ hm).trans (query_tile m c t _ _ _ T r l _ _ _ _ (by simp only []; omega) (by simp only []; omega) (by simp only []; omega) (by simp only []; omega))
      | exact (pay16_at acc C S r l _ hm).trans (query_tile m c t _ _ _ T r l _ _ _ _ (by simp only []; omega) (by simp only []; omega) (by simp only []; omega) (by simp only []; omega))
      | exact (pay17_at acc C S r l _ hm).trans (query_tile m c t _ _ _ T r l _ _ _ _ (by simp only []; omega) (by simp only []; omega) (by simp only []; omega) (by simp only []; omega))

/-- What a point stores in its tile of the keys and values. -/
theorem out6_at (t : Fin cfg0.N) (y : S128x256.Idx) :
    out0_6 (iblk m c 0 t) (iblk m c 1 t) (iblk m c 2 t) (iblk m c 3 t) (iblk m c 4 t) y = resultKV m c (y 0) (y 1) := by
  have T := tables m c t
  have hm := mask_at
  unfold_out out0_6
  generalize k0_pay3 (View.ld (iblk m c 0 t) r0_0) (View.ld (iblk m c 1 t) r0_1) (View.ld (iblk m c 1 t) r0_2) (View.ld (iblk m c 2 t) r0_3) = acc at T ⊢
  generalize k0_pay4 (View.ld (iblk m c 3 t) r0_4) = C at T ⊢
  generalize k0_pay5 (View.ld (iblk m c 4 t) r0_4) = S at T ⊢
  canon_tiles x h
  all_goals
    obtain ⟨r, l, rfl⟩ : ∃ (r : Fin 128) (l : Fin 128), x = ix2 r l := ⟨x 0, x 1, eq_ix2 x⟩
    have e : y 0 = r := Fin.ext (by simpa using h0)
    have e1 : (ix2 r l : S128x128.Idx) 1 = l := rfl
    rw [e1] at h1
    have hl := l.isLt
    rw [e]
    first
      | exact (pay1_at acc C S r l _ hm).trans (key_tile m c t _ _ _ T r l _ _ _ _ (by simp only []) (by omega) (by simp only []; omega) (by simp only []; omega))
      | exact (pay2_at acc r l).trans (value_tile m c t acc C S T r _ _ (by simp only []; omega) (by omega))

/-- THE FIRST ARRAY: every entry is its row's query. -/
theorem arrayQ (i : S128x1024.Idx) : (dats m 0 c).arrAt 5 cfg0.N i = resultQ m c (i 0) (i 1) := by
  refine congrFun (g := fun i : S128x1024.Idx => resultQ m c (i 0) (i 1)) ?_ i
  refine (dats m 0 c).arrAt_eq_of_covers 5 _ (by decide +kernel) fun t hf y => ?_
  refine ((congrFun (after0_5 m c t) y).trans (out5_at m c t y)).trans ?_
  have e0 : ((cfg0.win 5).blk t).view.emb y 0 = y 0 := Fin.ext (by
    show win0_5.index t 0 * 128 + 1 * (y 0).val = (y 0).val
    rw [(idx t).2.2.2.2.2.1]; show 0 * 128 + 1 * (y 0).val = _; omega)
  have e1 : (((cfg0.win 5).blk t).view.emb y 1).val = (y 1).val := by
    show win0_5.index t 1 * 1024 + 1 * (y 1).val = (y 1).val
    rw [(idx t).2.2.2.2.2.1]; show 0 * 1024 + 1 * (y 1).val = _; omega
  rw [e0]
  exact congrArg _ (Fin.ext e1.symm)

/-- THE SECOND ARRAY: every entry is its row's key or value. -/
theorem arrayKV (i : S128x256.Idx) : (dats m 0 c).arrAt 6 cfg0.N i = resultKV m c (i 0) (i 1) := by
  refine congrFun (g := fun i : S128x256.Idx => resultKV m c (i 0) (i 1)) ?_ i
  refine (dats m 0 c).arrAt_eq_of_covers 6 _ (by decide +kernel) fun t hf y => ?_
  refine ((congrFun (after0_6 m c t) y).trans (out6_at m c t y)).trans ?_
  have e0 : ((cfg0.win 6).blk t).view.emb y 0 = y 0 := Fin.ext (by
    show win0_6.index t 0 * 128 + 1 * (y 0).val = (y 0).val
    rw [(idx t).2.2.2.2.2.2]; show 0 * 128 + 1 * (y 0).val = _; omega)
  have e1 : (((cfg0.win 6).blk t).view.emb y 1).val = (y 1).val := by
    show win0_6.index t 1 * 256 + 1 * (y 1).val = (y 1).val
    rw [(idx t).2.2.2.2.2.2]; show 0 * 256 + 1 * (y 1).val = _; omega
  rw [e0]
  exact congrArg _ (Fin.ext e1.symm)

end Cert.ProjBSIdeal.Hand

end
-- ==== Proof.ProjBS.Reference.lean ====
module

public import proofs.«01_k».proof.Proof.Gen.ProjBSRefIdeal.Read
public import proofs.«01_k».proof.Proof.ProjB.Spec
public import Idealize.ShloMosaic.Lib.Pointwise

/-! # What the reference of the sliding-window mixer's projection returns for the sample -/

@[expose] public section

set_option maxRecDepth 16384

noncomputable section

namespace Cert.ProjBSRefIdeal.Hand

open Cert.ProjBSRefIdeal Cert.ProjBSRefIdeal.Gen Cert.ProjBSRefIdeal.Read Idealize.ShloMosaic Idealize.ShloMosaic.TcCoe Idealize.SL.Sem Idealize.ShloMosaic.StableHlo

variable (x0 : S128x1x2048.Idx → EReal) (x1 : S128x1x12288.Idx → EReal) (x2 : S2x2048x9984.Idx → EReal)

/-- Row `b` of the sample. -/
abbrev xr (b : Fin 128) (k : Fin 2048) : EReal := x0 (ix3 b 0 k)
/-- The modulation vector of row `b`. -/
abbrev md (b : Fin 128) (k : Fin 12288) : EReal := x1 (ix3 b 0 k)
/-- The input weights of the last layer. -/
abbrev w (k : Fin 2048) (f : Fin 9984) : EReal := x2 (ix3 1 k f)
/-- The projected row. -/
def pr (b : Fin 128) : Fin 9984 → EReal := Layer.proj (Layer.modulated (xr x0 b) (md x1 b) 1 0) (w x2)

theorem u_at (b : Fin 128) (k : Fin 2048) :
    val_main_v9 (F := Ideal) x0 x1 (ix3 b 0 k) = Layer.modulated (xr x0 b) (md x1 b) 1 0 k := by
  unfold Layer.modulated Layer.chunk
  pointwise [val_main_v9, val_main_v8, val_main_v7, val_main_v6, val_main_v1, val_main_v0, val_main_cst]

theorem proj_at (b : Fin 128) (f : Fin 9984) :
    val_main_v12 (F := Ideal) x0 x1 x2 (ix3 b 0 f) = pr x0 x1 x2 b f := by
  have h := u_at x0 x1 b
  unfold pr Layer.proj
  pointwise [val_main_v12, val_main_v11, val_main_v10]
  simp only [h]

/-! ## The rotation's tables -/

theorem angle_q (l : Fin 32) : val_main_v32 (F := Ideal) (ix2 0 l) = Layer.angle 8192 l := by
  unfold Layer.angle
  pointwise [val_main_v32, val_main_v31, val_main_v30, val_main_v29, val_main_v28, val_main_v27, val_main_v26, val_main_v25,
    val_main_v24, val_main_v23, val_main_v22, val_main_v21, val_main_v20, val_main_v19, val_main_c, val_main_cst_0, val_main_cst_1]
  rw [show IntOp.addi 8192#32 0#32 = 8192#32 from rfl]

theorem cos_q (l : Fin 32) : val_main_v34 (F := Ideal) (ix4 0 0 0 l) = Ideal.cos (Layer.angle 8192 l) := by
  have h := angle_q l
  generalize hv : val_main_v32 (F := Ideal) = v at h
  unfold val_main_v34 val_main_v33
  rw [hv]
  pointwise
  rw [h]

theorem sin_q (l : Fin 32) : val_main_v35 (F := Ideal) (ix4 0 0 0 l) = Ideal.sin (Layer.angle 8192 l) := by
  have h := angle_q l
  generalize hv : val_main_v32 (F := Ideal) = v at h
  unfold val_main_v35 val_main_v33
  rw [hv]
  pointwise
  rw [h]

theorem angle_k (l : Fin 32) : val_main_v63 (F := Ideal) (ix2 0 l) = Layer.angle 8192 l := by
  unfold Layer.angle
  pointwise [val_main_v63, val_main_v62, val_main_v61, val_main_v60, val_main_v59, val_main_v58, val_main_v57, val_main_v56,
    val_main_v55, val_main_v54, val_main_v53, val_main_v21, val_main_v20, val_main_v19, val_main_c, val_main_cst_2, val_main_cst_3]
  rw [show IntOp.addi 8192#32 0#32 = 8192#32 from rfl]

theorem cos_k (l : Fin 32) : val_main_v65 (F := Ideal) (ix3 0 0 l) = Ideal.cos (Layer.angle 8192 l) := by
  have h := angle_k l
  generalize hv : val_main_v63 (F := Ideal) = v at h
  unfold val_main_v65 val_main_v64
  rw [hv]
  pointwise
  rw [h]

theorem sin_k (l : Fin 32) : val_main_v66 (F := Ideal) (ix3 0 0 l) = Ideal.sin (Layer.angle 8192 l) := by
  have h := angle_k l
  generalize hv : val_main_v63 (F := Ideal) = v at h
  unfold val_main_v66 val_main_v64
  rw [hv]
  pointwise
  rw [h]

/-! ## The queries -/

theorem q_at (b : Fin 128) (g : Fin 2) (h : Fin 8) (d : Fin 64) :
    val_main_v14 (F := Ideal) x0 x1 x2 (ix5 b 0 g h d) = pr x0 x1 x2 b ⟨4608 + (g.val * 512 + h.val * 64 + d.val), by omega⟩ := by
  rw [← proj_at]
  unfold val_main_v14 val_main_v13
  generalize val_main_v12 (F := Ideal) x0 x1 x2 = v
  pointwise

theorem k_at (b : Fin 128) (g : Fin 2) (d : Fin 64) :
    val_main_v16 (F := Ideal) x0 x1 x2 (ix4 b 0 g d) = pr x0 x1 x2 b ⟨5632 + (g.val * 64 + d.val), by omega⟩ := by
  rw [← proj_at]
  unfold val_main_v16 val_main_v15
  generalize val_main_v12 (F := Ideal) x0 x1 x2 = v
  pointwise

theorem v_at (R : Fin 128) (l : Fin 128) :
    val_main_v89 (F := Ideal) x0 x1 x2 (ix2 R l) = pr x0 x1 x2 R ⟨5760 + l.val, by omega⟩ := by
  rw [← proj_at]
  unfold val_main_v89 val_main_v18 val_main_v17
  generalize val_main_v12 (F := Ideal) x0 x1 x2 = v
  pointwise

theorem qa_at (b : Fin 128) (g : Fin 2) (h : Fin 8) (d : Fin 32) :
    val_main_v44 (F := Ideal) x0 x1 x2 (ix5 b 0 g h d)
      = pr x0 x1 x2 b ⟨4608 + (g.val * 512 + h.val * 64 + d.val), by omega⟩ * Ideal.cos (Layer.angle 8192 d)
        - pr x0 x1 x2 b ⟨4608 + (g.val * 512 + h.val * 64 + (32 + d.val)), by omega⟩ * Ideal.sin (Layer.angle 8192 d) := by
  have hc := cos_q d
  have hs := sin_q d
  have h1 := q_at x0 x1 x2 b g h ⟨d.val, by omega⟩
  have h2 := q_at x0 x1 x2 b g h ⟨32 + d.val, by omega⟩
  unfold val_main_v44 val_main_v43 val_main_v42 val_main_v41 val_main_v40 val_main_v39 val_main_v38 val_main_v37 val_main_v36
  generalize val_main_v14 (F := Ideal) x0 x1 x2 = q at h1 h2 ⊢
  generalize val_main_v34 (F := Ideal) = C at hc ⊢
  generalize val_main_v35 (F := Ideal) = S at hs ⊢
  pointwise
  rw [h1, h2, hc, hs]

theorem qb_at (b : Fin 128) (g : Fin 2) (h : Fin 8) (d : Fin 32) :
    val_main_v51 (F := Ideal) x0 x1 x2 (ix5 b 0 g h d)
      = pr x0 x1 x2 b ⟨4608 + (g.val * 512 + h.val * 64 + (32 + d.val)), by omega⟩ * Ideal.cos (Layer.angle 8192 d)
        + pr x0 x1 x2 b ⟨4608 + (g.val * 512 + h.val * 64 + d.val), by omega⟩ * Ideal.sin (Layer.angle 8192 d) := by
  have hc := cos_q d
  have hs := sin_q d
  have h1 := q_at x0 x1 x2 b g h ⟨d.val, by omega⟩
  have h2 := q_at x0 x1 x2 b g h ⟨32 + d.val, by omega⟩
  unfold val_main_v51 val_main_v50 val_main_v49 val_main_v48 val_main_v47 val_main_v46 val_main_v45 val_main_v37 val_main_v36
  generalize val_main_v14 (F := Ideal) x0 x1 x2 = q at h1 h2 ⊢
  generalize val_main_v34 (F := Ideal) = C at hc ⊢
  generalize val_main_v35 (F := Ideal) = S at hs ⊢
  pointwise
  rw [h1, h2, hc, hs]

/-- The queries rotated. -/
theorem rq_at (b : Fin 128) (g : Fin 2) (h : Fin 8) (d : Fin 64) :
    val_main_v52 (F := Ideal) x0 x1 x2 (ix5 b 0 g h d) = Layer.rotated (pr x0 x1 x2 b) 8192 ⟨4608 + (g.val * 512 + h.val * 64 + d.val), by omega⟩ := by
  have ha := qa_at x0 x1 x2 b g h
  have hb := qb_at x0 x1 x2 b g h
  unfold val_main_v52
  generalize val_main_v44 (F := Ideal) x0 x1 x2 = A at ha ⊢
  generalize val_main_v51 (F := Ideal) x0 x1 x2 = B at hb ⊢
  generalize pr x0 x1 x2 b = P at ha hb ⊢
  pointwise
  by_cases hd : d.val < 32
  · rw [dif_pos hd, ha]
    exact (Layer.rotated_lo P 8192 _ ⟨d.val, hd⟩ (by simp only []; omega) _ _ rfl (by simp only []; omega)).symm
  · rw [dif_neg hd, hb]
    exact (Layer.rotated_hi P 8192 _ ⟨d.val - 32, by omega⟩ (by simp only []; omega) _ _ (by simp only []; omega) (by simp only []; omega)).symm

/-! ## The keys -/

theorem ka_at (b : Fin 128) (g : Fin 2) (d : Fin 32) :
    val_main_v75 (F := Ideal) x0 x1 x2 (ix4 b 0 g d)
      = pr x0 x1 x2 b ⟨5632 + (g.val * 64 + d.val), by omega⟩ * Ideal.cos (Layer.angle 8192 d)
        - pr x0 x1 x2 b ⟨5632 + (g.val * 64 + (32 + d.val)), by omega⟩ * Ideal.sin (Layer.angle 8192 d) := by
  have hc := cos_k d
  have hs := sin_k d
  have h1 := k_at x0 x1 x2 b g ⟨d.val, by omega⟩
  have h2 := k_at x0 x1 x2 b g ⟨32 + d.val, by omega⟩
  unfold val_main_v75 val_main_v74 val_main_v73 val_main_v72 val_main_v71 val_main_v70 val_main_v69 val_main_v68 val_main_v67
  generalize val_main_v16 (F := Ideal) x0 x1 x2 = q at h1 h2 ⊢
  generalize val_main_v65 (F := Ideal) = C at hc ⊢
  generalize val_main_v66 (F := Ideal) = S at hs ⊢
  pointwise
  rw [h1, h2, hc, hs]

theorem kb_at (b : Fin 128) (g : Fin 2) (d : Fin 32) :
    val_main_v82 (F := Ideal) x0 x1 x2 (ix4 b 0 g d)
      = pr x0 x1 x2 b ⟨5632 + (g.val * 64 + (32 + d.val)), by omega⟩ * Ideal.cos (Layer.angle 8192 d)
        + pr x0 x1 x2 b ⟨5632 + (g.val * 64 + d.val), by omega⟩ * Ideal.sin (Layer.angle 8192 d) := by
  have hc := cos_k d
  have hs := sin_k d
  have h1 := k_at x0 x1 x2 b g ⟨d.val, by omega⟩
  have h2 := k_at x0 x1 x2 b g ⟨32 + d.val, by omega⟩
  unfold val_main_v82 val_main_v81 val_main_v80 val_main_v79 val_main_v78 val_main_v77 val_main_v76 val_main_v68 val_main_v67
  generalize val_main_v16 (F := Ideal) x0 x1 x2 = q at h1 h2 ⊢
  generalize val_main_v65 (F := Ideal) = C at hc ⊢
  generalize val_main_v66 (F := Ideal) = S at hs ⊢
  pointwise
  rw [h1, h2, hc, hs]

/-- The keys rotated. -/
theorem rk_at (b : Fin 128) (g : Fin 2) (d : Fin 64) :
    val_main_v83 (F := Ideal) x0 x1 x2 (ix4 b 0 g d) = Layer.rotated (pr x0 x1 x2 b) 8192 ⟨5632 + (g.val * 64 + d.val), by omega⟩ := by
  have ha := ka_at x0 x1 x2 b g
  have hb := kb_at x0 x1 x2 b g
  unfold val_main_v83
  generalize val_main_v75 (F := Ideal) x0 x1 x2 = A at ha ⊢
  generalize val_main_v82 (F := Ideal) x0 x1 x2 = B at hb ⊢
  generalize pr x0 x1 x2 b = P at ha hb ⊢
  pointwise
  by_cases hd : d.val < 32
  · rw [dif_pos hd, ha]
    exact (Layer.rotated_lo P 8192 _ ⟨d.val, hd⟩ (by simp only []; omega) _ _ rfl (by simp only []; omega)).symm
  · rw [dif_neg hd, hb]
    exact (Layer.rotated_hi P 8192 _ ⟨d.val - 32, by omega⟩ (by simp only []; omega) _ _ (by simp only []; omega) (by simp only []; omega)).symm

/-- THE FIRST RESULT: every entry is its row's query. -/
theorem resultQ_at (R : Fin 128) (l : Fin 1024) :
    val_main_v87 (F := Ideal) x0 x1 x2 (ix2 R l)
      = Layer.queries (pr x0 x1 x2 R) 8192 l := by
  have h := rq_at x0 x1 x2
  unfold val_main_v87 val_main_v86 val_main_v85 val_main_v84 val_main_cst_4
  generalize val_main_v52 (F := Ideal) x0 x1 x2 = q at h ⊢
  pointwise
  rw [h]
  unfold Layer.queries Layer.eighth
  refine congrArg (· * _) (congrArg _ (Fin.ext ?_))
  show 4608 + (l.val / 512 * 512 + l.val / 64 % 8 * 64 + l.val % 64) = 4608 + l.val
  omega

/-- THE SECOND RESULT: every entry is its row's key or value. -/
theorem resultKV_at (R : Fin 128) (l : Fin 256) :
    val_main_v90 (F := Ideal) x0 x1 x2 (ix2 R l)
      = Layer.keysValues (pr x0 x1 x2 R) 8192 l := by
  have hv := v_at x0 x1 x2
  have hk := rk_at x0 x1 x2
  unfold val_main_v90 val_main_v88
  generalize val_main_v89 (F := Ideal) x0 x1 x2 = v at hv ⊢
  generalize val_main_v83 (F := Ideal) x0 x1 x2 = k at hk ⊢
  pointwise
  unfold Layer.keysValues
  by_cases h : l.val < 128
  · rw [dif_pos h, dif_pos h, hk]
    refine congrArg _ (Fin.ext ?_)
    show 5632 + (l.val / 64 * 64 + l.val % 64) = 5632 + l.val
    omega
  · rw [dif_neg h, dif_neg h, hv]
    refine congrArg _ (Fin.ext ?_)
    show 5760 + (l.val - 128) = 5632 + l.val
    omega

end Cert.ProjBSRefIdeal.Hand

end
-- ==== Proof.ProjBS.lean ====
module

public import proofs.«01_k».proof.Defs
public import proofs.«01_k».proof.Proof.Gen.ProjBS.Frame
public import proofs.«01_k».proof.Proof.Gen.ProjBSIdeal
public import proofs.«01_k».proof.Proof.Gen.ProjBSIdeal.Value
public import proofs.«01_k».proof.Proof.Gen.ProjBSRefIdeal
public import proofs.«01_k».proof.Proof.Gen.ProjBSRefIdeal.Run
public import proofs.«01_k».proof.Proof.Gen.ProjBSRefIdeal.Read
public import proofs.«01_k».proof.Proof.ProjBS.Tiles
public import proofs.«01_k».proof.Proof.ProjBS.Reference

/-! # The projection of the sliding-window mixer for the sample: the claims -/

@[expose] public section

noncomputable section

namespace Cert.Proof.ProjBS

open Idealize.ShloMosaic Idealize.ShloMosaic.TcCoe Idealize.SL.Sem

theorem frame_p : Cert.quiescent_ProjBS := fun m g _ => Cert.ProjBS.Gen.frame m g

theorem frame_pi : Cert.quiescent_ProjBSIdeal := fun m g _ => Cert.ProjBSIdeal.Gen.frame m g

theorem frame_ri : Cert.quiescent_ProjBSRefIdeal := fun m g _ =>
  (θ_run Cert.ProjBSRefIdeal.defs _ _).mono (fun r h => ⟨fun c => (h c).2.2, sem_eq_zero_of_no_sems (by decide) r.2⟩)
    (Cert.ProjBSRefIdeal.Value.run m g)

/-- The queries both programs end with. -/
def queries (m : (ℓ : Loc Cert.ProjBSIdeal.nD Cert.ProjBSIdeal.τ Cert.ProjBSIdeal.sig) → Buf (Elt Ideal) ℓ) (c : Dev Cert.ProjBSIdeal.nD) :
    Cert.ProjBSIdeal.S128x1024.Idx → EReal := fun i => Cert.ProjBSIdeal.Hand.resultQ m c (i 0) (i 1)

/-- The keys and values both programs end with. -/
def keysValues (m : (ℓ : Loc Cert.ProjBSIdeal.nD Cert.ProjBSIdeal.τ Cert.ProjBSIdeal.sig) → Buf (Elt Ideal) ℓ) (c : Dev Cert.ProjBSIdeal.nD) :
    Cert.ProjBSIdeal.S128x256.Idx → EReal := fun i => Cert.ProjBSIdeal.Hand.resultKV m c (i 0) (i 1)

theorem algebraic : Cert.algebraic_ProjBSIdeal_ProjBSRefIdeal := by
  intro m g m' g' _ hagree
  refine ⟨fun c => queries m c, fun c => keysValues m c, ?_, ?_⟩
  · refine (θ_run Cert.ProjBSIdeal.defs _ _).mono (fun r h c => ?_) (Cert.ProjBSIdeal.Value.run_blocks m g)
    refine ⟨(h c).1.trans ?_, (h c).2.1.trans ?_, (h c).2.2⟩
    · exact funext (Cert.ProjBSIdeal.Hand.arrayQ m c)
    · exact funext (Cert.ProjBSIdeal.Hand.arrayKV m c)
  · refine (θ_run Cert.ProjBSRefIdeal.defs _ _).mono (fun r h c => ?_) (Cert.ProjBSRefIdeal.Value.run m' g')
    refine ⟨(h c).1.trans ?_, (h c).2.1.trans ?_, (h c).2.2⟩
    · rw [Cert.ProjBSRefIdeal.Read.val_main_v87_eq, (hagree c).1, (hagree c).2.1, (hagree c).2.2]
      funext i
      idx_vars i
      exact Cert.ProjBSRefIdeal.Hand.resultQ_at _ _ _ _ _
    · rw [Cert.ProjBSRefIdeal.Read.val_main_v90_eq, (hagree c).1, (hagree c).2.1, (hagree c).2.2]
      funext i
      idx_vars i
      exact Cert.ProjBSRefIdeal.Hand.resultKV_at _ _ _ _ _

end Cert.Proof.ProjBS

end
-- ==== Proof.GatesS.Kernel.lean ====
module

public import proofs.«01_k».proof.Proof.Gen.GatesSIdeal.Value
public import proofs.«01_k».proof.Proof.Scale
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.StableHlo.RunClose

/-! # What the gates kernel leaves in its output for the sample

The sample is one tile of 128 rows, each with its own modulation vector, so the grid is the two halves of the gate columns. The
first point stores the modulated rows, and both points multiply them by their half of the columns and put the products through
the sigmoid. -/

@[expose] public section

set_option maxRecDepth 16384

noncomputable section

namespace Cert.GatesSIdeal.Hand

open Cert.GatesSIdeal Cert.GatesSIdeal.Gen Idealize.ShloMosaic Idealize.ShloMosaic.TcCoe Idealize.SL.Sem Idealize.ShloMosaic.StableHlo

variable (m : (ℓ : Loc nD τ sig) → Buf (Elt Ideal) ℓ) (c : Dev nD)

/-- Row `r` of the sample. -/
def xr (r : Fin 128) (k : Fin 2048) : EReal :=
  (m ((c.tc : Thread nD τ).loc main_arg0) : S128x1x2048.Idx → EReal) (ix3 r 0 k)
/-- The modulation vector of row `r`. -/
def md (r : Fin 128) (k : Fin 12288) : EReal :=
  (m ((c.tc : Thread nD τ).loc main_arg1) : S128x1x12288.Idx → EReal) (ix3 r 0 k)
/-- The input weights of the last layer. -/
def w (k : Fin 2048) (f : Fin 9984) : EReal :=
  (m ((c.tc : Thread nD τ).loc main_arg2) : S2x2048x9984.Idx → EReal) (ix3 1 k f)

/-! ## The blocks a point reads -/

theorem idx (t : Fin cfg0.N) : win0_0.index t = ![0, 0] ∧ win0_1.index t = ![0, 0, 0, 0]
    ∧ win0_2.index t = ![1, 0, 5888 + t.val * 2048] ∧ win0_3.index t = ![0, t.val] :=
  (by decide +kernel : ∀ t : Fin cfg0.N, win0_0.index t = ![0, 0] ∧ win0_1.index t = ![0, 0, 0, 0]
    ∧ win0_2.index t = ![1, 0, 5888 + t.val * 2048] ∧ win0_3.index t = ![0, t.val]) t

/-- Lane `f` of a point's half is a gate column. -/
theorem col_lt (t : Fin cfg0.N) (f : Fin 2048) : t.val * 2048 + f.val < 4096 := by
  have := lt_of_lt_of_eq t.isLt (N_0 : cfg0.N = 2); omega

theorem rd_x (t : Fin cfg0.N) (r : Fin 128) (l : Fin 2048) :
    (iblk m c 0 t : S128x2048.Idx → EReal) (ix2 r l) = xr m c r l := by
  unfold xr
  blk_point [iblk, V, idx t]

theorem rd_m (t : Fin cfg0.N) (r : Fin 128) (j : Fin 6) (l : Fin 2048) :
    (iblk m c 1 t : S6x1x128x2048.Idx → EReal) (ix4 j 0 r l) = Layer.chunk (md m c r) j l := by
  unfold md Layer.chunk
  blk_point [iblk, V, idx t]

/-- The weights the kernel is given: every column times its factor. -/
theorem host :
    (V m c main_v15 : S2x2048x9984.Idx → EReal) = truncf (F := Ideal) .bf16 (mulf (F := Ideal) (φ := .f32) (m ((c.tc : Thread nD τ).loc main_arg2))
      (broadcastInDim S2x2048x9984 ![0, 1, 2] bcast_S1x1x9984_S2x2048x9984_0_1_2 (broadcastInDim S1x1x9984 ![2] bcast_S9984_S1x1x9984_2 Cert.GatesIdeal.Hand.scale))) bitsLt_bf16_f32 := by
  unfold_abbrev_sides
  unfold Cert.GatesIdeal.Hand.scale Cert.GatesIdeal.Hand.groupScale
  after_results_entrywise (rounds := 1) []

theorem host_at (k : Fin 2048) (f : Fin 9984) :
    (V m c main_v15 : S2x2048x9984.Idx → EReal) (ix3 1 k f) = w m c k f * Layer.colScale f := by
  rw [host, ← Cert.GatesIdeal.Hand.scale_at]
  unfold w
  pointwise

theorem rd_host (t : Fin cfg0.N) (k : Fin 2048) (f : Fin 2048) :
    (iblk m c 2 t : S1x2048x2048.Idx → EReal) (ix3 0 k f) = (V m c main_v15 : S2x2048x9984.Idx → EReal) (ix3 1 k ⟨5888 + (t.val * 2048 + f.val), by have := col_lt t f; omega⟩) := by
  blk_ext [iblk, idx t]
  · show win0_2.index t 0 + 1 * 0 = 1
    rw [(idx t).2.2.1]; rfl
  · show win0_2.index t 1 + 1 * k.val = k.val
    rw [(idx t).2.2.1]; show 0 + 1 * k.val = _; omega
  · show win0_2.index t 2 + 1 * f.val = _
    rw [(idx t).2.2.1]; show 5888 + t.val * 2048 + 1 * f.val = _; omega

theorem rd_w (t : Fin cfg0.N) (k : Fin 2048) (f : Fin 2048) :
    (iblk m c 2 t : S1x2048x2048.Idx → EReal) (ix3 0 k f)
      = w m c k ⟨5888 + (t.val * 2048 + f.val), by have := col_lt t f; omega⟩ * Layer.colScale ⟨5888 + (t.val * 2048 + f.val), by have := col_lt t f; omega⟩ := by
  rw [rd_host, host_at]

/-! ## What a point stores -/

/-- The modulated row. -/
def ur (r : Fin 128) : Fin 2048 → EReal := Layer.modulated (xr m c r) (md m c r) 1 0

theorem pay1_at (t : Fin cfg0.N) (j : S128x2048.Idx) :
    k0_pay1 (iblk m c 0 t)
      (View.ld (iblk m c 1 t) (Rect.unit ![1, 0, 0, 0] ![1, 1, 128, 2048] inb_S6x1x128x2048_S1x1x128x2048_1_0_0_0))
      (View.ld (iblk m c 1 t) (Rect.unit ![0, 0, 0, 0] ![1, 1, 128, 2048] inb_S6x1x128x2048_S1x1x128x2048_0_0_0_0)) j
      = ur m c (j 0) (j 1) := by
  idx_vars j
  pointwise [k0_pay1]
  rw [rd_x m c t, rd_m m c t j0, rd_m m c t j0]
  rfl

theorem gate_scale (f : Fin 9984) (h : 5888 ≤ f.val) : Layer.colScale f = 1 := by
  unfold Layer.colScale
  rw [if_neg (by omega), if_neg (by omega)]

theorem pay2_at (t : Fin cfg0.N) (u : Vec Ideal S128x2048 .bf16) (hu : ∀ r k, u (ix2 r k) = ur m c r k) (j : S128x2048.Idx) :
    k0_pay2 u (iblk m c 2 t) j
      = Layer.gate (ur m c (j 0)) (w m c) ⟨t.val * 2048 + (j 1).val, col_lt t (j 1)⟩ := by
  idx_vars j
  pointwise [k0_pay2]
  simp only [hu, rd_w m c t]
  rw [Layer.proj_scaled, gate_scale _ (by show 5888 ≤ 5888 + _; omega), mul_one]
  rfl

/-! ## The scratch through the grid -/

theorem u_first (t : Fin cfg0.N) (h0 : t.val % 2 = 0) (j : S128x2048.Idx) :
    (outsAt0 m c t.val t.isLt).2 j = ur m c (j 0) (j 1) := by
  rw [outsAt0_A m c t h0]
  frame_out
  exact pay1_at m c t j

theorem u_next (t : Fin cfg0.N) (h0 : ¬t.val % 2 = 0) (j : S128x2048.Idx) :
    (outsAt0 m c t.val t.isLt).2 j = (outsAt0 m c (t.val - 1) (Nat.lt_of_le_of_lt (Nat.sub_le _ _) t.isLt)).2 j := by
  rw [outsAt0_B m c t h0]; rfl

/-- At every point the scratch holds the modulated rows. -/
theorem u_at (t : Fin cfg0.N) (j : S128x2048.Idx) :
    (outsAt0 m c t.val t.isLt).2 j = ur m c (j 0) (j 1) :=
  Pipeline.eq_of_write_hold_apply (fun n h => (outsAt0 m c n h).2) 2
    (fun _ j => ur m c (j 0) (j 1)) (u_first m c) (u_next m c) t j

theorem u_prev (t : Fin cfg0.N) (h0 : ¬t.val % 2 = 0) (r : Fin 128) (k : Fin 2048) :
    (outsAt0 m c (t.val - 1) (Nat.lt_of_le_of_lt (Nat.sub_le _ _) t.isLt)).2 (ix2 r k) = ur m c r k :=
  (u_next m c t h0 (ix2 r k)).symm.trans (u_at m c t (ix2 r k))

/-- The gates of row `r`. -/
def result (r : Fin 128) : Fin 4096 → EReal := Layer.gate (ur m c r) (w m c)

theorem out_at (t : Fin cfg0.N) (j : S128x2048.Idx) :
    (outsAt0 m c t.val t.isLt).1 j
      = result m c (j 0) ⟨t.val * 2048 + (j 1).val, col_lt t (j 1)⟩ := by
  by_cases h0 : t.val % 2 = 0
  · rw [outsAt0_A m c t h0]
    frame_out
    exact pay2_at m c t _ (fun r k => pay1_at m c t (ix2 r k)) j
  · rw [outsAt0_B m c t h0]
    frame_out
    simp only [read_unread_whole]
    exact pay2_at m c t _ (u_prev m c t h0) j

/-- THE ARRAY: every entry is a gate of its row. -/
theorem array (i : S128x4096.Idx) : (dats m 0 c).arrAt 3 cfg0.N i = result m c (i 0) (i 1) := by
  refine congrFun (g := fun i : S128x4096.Idx => result m c (i 0) (i 1)) ?_ i
  refine (dats m 0 c).arrAt_eq_of_covers 3 _ (by decide +kernel) fun t hf y => ?_
  rw [after0_3]
  refine (out_at m c t y).trans ?_
  have e0 : ((cfg0.win 3).blk t).view.emb y 0 = y 0 := Fin.ext (by
    show win0_3.index t 0 * 128 + 1 * (y 0).val = (y 0).val
    rw [(idx t).2.2.2]; show 0 * 128 + 1 * (y 0).val = _; omega)
  have e1 : (((cfg0.win 3).blk t).view.emb y 1).val = t.val * 2048 + (y 1).val := by
    show win0_3.index t 1 * 2048 + 1 * (y 1).val = t.val * 2048 + (y 1).val
    rw [(idx t).2.2.2]; show t.val * 2048 + 1 * (y 1).val = _; omega
  rw [e0]
  exact congrArg _ (Fin.ext e1.symm)

end Cert.GatesSIdeal.Hand
-- ==== Proof.GatesS.Reference.lean ====
module

public import proofs.«01_k».proof.Proof.Gen.GatesSRefIdeal.Read
public import proofs.«01_k».proof.Proof.Spec
public import Idealize.ShloMosaic.Lib.Pointwise

/-! # What the gates reference returns for the sample -/

@[expose] public section

set_option maxRecDepth 16384

noncomputable section

namespace Cert.GatesSRefIdeal.Hand

open Cert.GatesSRefIdeal Cert.GatesSRefIdeal.Gen Cert.GatesSRefIdeal.Read Idealize.ShloMosaic Idealize.ShloMosaic.TcCoe Idealize.SL.Sem Idealize.ShloMosaic.StableHlo

variable (x0 : S128x1x2048.Idx → EReal) (x1 : S128x1x12288.Idx → EReal) (x2 : S2x2048x9984.Idx → EReal)

/-- Row `b` of the sample. -/
abbrev xr (b : Fin 128) (k : Fin 2048) : EReal := x0 (ix3 b 0 k)
/-- The modulation vector of row `b`. -/
abbrev md (b : Fin 128) (k : Fin 12288) : EReal := x1 (ix3 b 0 k)
/-- The input weights of the last layer. -/
abbrev w (k : Fin 2048) (f : Fin 9984) : EReal := x2 (ix3 1 k f)

theorem u_at (b : Fin 128) (k : Fin 2048) :
    val_main_v9 (F := Ideal) x0 x1 (ix3 b 0 k) = Layer.modulated (xr x0 b) (md x1 b) 1 0 k := by
  unfold Layer.modulated Layer.chunk
  pointwise [val_main_v9, val_main_v8, val_main_v7, val_main_v6, val_main_v1, val_main_v0, val_main_cst]

theorem proj_at (b : Fin 128) (f : Fin 9984) :
    val_main_v12 (F := Ideal) x0 x1 x2 (ix3 b 0 f) = Layer.proj (Layer.modulated (xr x0 b) (md x1 b) 1 0) (w x2) f := by
  have h := u_at x0 x1 b
  unfold Layer.proj
  pointwise [val_main_v12, val_main_v11, val_main_v10]
  simp only [h]

/-- THE RESULT: every entry is a gate of its row. -/
theorem result_at (R : Fin 128) (l : Fin 4096) :
    val_main_v21 (F := Ideal) x0 x1 x2 (ix2 R l)
      = Layer.gate (Layer.modulated (xr x0 R) (md x1 R) 1 0) (w x2) l := by
  have h := proj_at x0 x1 x2
  generalize hv : val_main_v12 (F := Ideal) x0 x1 x2 = v at h
  unfold val_main_v21 val_main_v20 val_main_v19 val_main_v17 val_main_v15 val_main_v14 val_main_v13
  rw [hv]
  unfold Layer.gate
  pointwise [val_main_v18, val_main_v16, val_main_cst_1, val_main_cst_0]
  simp only [h]
  rfl

end Cert.GatesSRefIdeal.Hand
-- ==== Proof.GatesS.lean ====
module

public import proofs.«01_k».proof.Defs
public import proofs.«01_k».proof.Proof.Gen.GatesS.Frame
public import proofs.«01_k».proof.Proof.Gen.GatesSIdeal
public import proofs.«01_k».proof.Proof.Gen.GatesSIdeal.Value
public import proofs.«01_k».proof.Proof.Gen.GatesSRefIdeal
public import proofs.«01_k».proof.Proof.Gen.GatesSRefIdeal.Run
public import proofs.«01_k».proof.Proof.Gen.GatesSRefIdeal.Read
public import proofs.«01_k».proof.Proof.GatesS.Kernel
public import proofs.«01_k».proof.Proof.GatesS.Reference

/-! # The merge gates for the sample: the claims -/

@[expose] public section

noncomputable section

namespace Cert.Proof.GatesS

open Idealize.ShloMosaic Idealize.ShloMosaic.TcCoe Idealize.SL.Sem

theorem frame_p : Cert.quiescent_GatesS := fun m g _ => Cert.GatesS.Gen.frame m g

theorem frame_pi : Cert.quiescent_GatesSIdeal := fun m g _ => Cert.GatesSIdeal.Gen.frame m g

theorem frame_ri : Cert.quiescent_GatesSRefIdeal := fun m g _ =>
  (θ_run Cert.GatesSRefIdeal.defs _ _).mono (fun r h => ⟨fun c => (h c).2, sem_eq_zero_of_no_sems (by decide) r.2⟩)
    (Cert.GatesSRefIdeal.Value.run m g)

/-- The value both programs end with: every entry is a gate of its row. -/
def value (m : (ℓ : Loc Cert.GatesSIdeal.nD Cert.GatesSIdeal.τ Cert.GatesSIdeal.sig) → Buf (Elt Ideal) ℓ) (c : Dev Cert.GatesSIdeal.nD) :
    Cert.GatesSIdeal.S128x4096.Idx → EReal := fun i => Cert.GatesSIdeal.Hand.result m c (i 0) (i 1)

theorem algebraic : Cert.algebraic_GatesSIdeal_GatesSRefIdeal := by
  intro m g m' g' _ hagree
  refine ⟨fun c => value m c, ?_, ?_⟩
  · refine (θ_run Cert.GatesSIdeal.defs _ _).mono (fun r h c => ?_) (Cert.GatesSIdeal.Value.run m g)
    refine ⟨(h c).1.trans ?_, (h c).2⟩
    rw [← Cert.GatesSIdeal.Value.final3]
    exact funext (Cert.GatesSIdeal.Hand.array m c)
  · refine (θ_run Cert.GatesSRefIdeal.defs _ _).mono (fun r h c => ?_) (Cert.GatesSRefIdeal.Value.run m' g')
    refine ⟨(h c).1.trans ?_, (h c).2⟩
    rw [Cert.GatesSRefIdeal.Read.val_main_v21_eq, (hagree c).1, (hagree c).2.1, (hagree c).2.2]
    funext i
    idx_vars i
    exact Cert.GatesSRefIdeal.Hand.result_at _ _ _ _ _

end Cert.Proof.GatesS

end
-- ==== Proof.PostS.Kernel.lean ====
module

public import proofs.«01_k».proof.Proof.Gen.PostSIdeal.Value
public import proofs.«01_k».proof.Proof.Spec
public import Idealize.ShloMosaic.Lib.Pipeline.ValueKit
public import Idealize.ShloMosaic.Lib.Pipeline.ValueKit.Held
public import Idealize.ShloMosaic.Lib.Pipeline.ReadBack
public import Idealize.ShloMosaic.Lib.Pointwise

/-! # What the kernel that ends the attention half leaves in its output for the sample

The sample is one tile of 128 rows, computed at the grid's only point. -/

@[expose] public section

set_option maxRecDepth 16384

noncomputable section

namespace Cert.PostSIdeal.Hand

open Cert.PostSIdeal Cert.PostSIdeal.Gen Idealize.ShloMosaic Idealize.ShloMosaic.TcCoe Idealize.SL.Sem Idealize.ShloMosaic.StableHlo

variable (m : (ℓ : Loc nD τ sig) → Buf (Elt Ideal) ℓ) (c : Dev nD)

/-- Row `R` of the dilated mixer: head `k / 64`, lane `k % 64`. -/
def ar (R : Fin 128) (k : Fin 512) : EReal :=
  (m ((c.tc : Thread nD τ).loc main_arg0) : S128x1x8x64.Idx → EReal) (ix4 R 0 ⟨k.val / 64, by omega⟩ ⟨k.val % 64, by omega⟩)
/-- Row `R` of the sliding-window mixer. -/
def br (R : Fin 128) (k : Fin 1024) : EReal :=
  (m ((c.tc : Thread nD τ).loc main_arg1) : S128x1x2x8x64.Idx → EReal) (ix5 R 0 ⟨k.val / 512, by omega⟩ ⟨k.val / 64 % 8, by omega⟩ ⟨k.val % 64, by omega⟩)
/-- Row `R` of the gates. -/
def gr (R : Fin 128) (k : Fin 4096) : EReal :=
  (m ((c.tc : Thread nD τ).loc main_arg2) : S128x1x4096.Idx → EReal) (ix3 R 0 k)
/-- Row `R` of the activations. -/
def xr (R : Fin 128) (k : Fin 2048) : EReal :=
  (m ((c.tc : Thread nD τ).loc main_arg3) : S128x1x2048.Idx → EReal) (ix3 R 0 k)
/-- The modulation vector of row `R`. -/
def md (R : Fin 128) (k : Fin 12288) : EReal :=
  (m ((c.tc : Thread nD τ).loc main_arg4) : S128x1x12288.Idx → EReal) (ix3 R 0 k)
/-- The dilated mixer's output weights of the last layer. -/
def wpa (k : Fin 512) (l : Fin 2048) : EReal :=
  (m ((c.tc : Thread nD τ).loc main_arg5) : S2x512x2048.Idx → EReal) (ix3 1 k l)
/-- The sliding-window mixer's output weights of the last layer. -/
def wpb (k : Fin 1024) (l : Fin 2048) : EReal :=
  (m ((c.tc : Thread nD τ).loc main_arg6) : S2x1024x2048.Idx → EReal) (ix3 1 k l)
/-- The merged output weights of the last layer. -/
def wo (k : Fin 2048) (l : Fin 2048) : EReal :=
  (m ((c.tc : Thread nD τ).loc main_arg7) : S2x2048x2048.Idx → EReal) (ix3 1 k l)
/-- The norm's scale. -/
def lg (l : Fin 2048) : EReal :=
  (m ((c.tc : Thread nD τ).loc main_arg8) : S2x2x2048.Idx → EReal) (ix3 1 0 l)
/-- The norm's shift. -/
def lb (l : Fin 2048) : EReal :=
  (m ((c.tc : Thread nD τ).loc main_arg9) : S2x2x2048.Idx → EReal) (ix3 1 0 l)

/-! ## The blocks a point reads -/

theorem idx (t : Fin cfg0.N) : win0_0.index t = ![0, 0] ∧ win0_1.index t = ![0, 0] ∧ win0_2.index t = ![0, 0] ∧ win0_3.index t = ![0, 0]
    ∧ win0_4.index t = ![0, 0, 0, 0] ∧ win0_5.index t = ![1, 0, 0] ∧ win0_6.index t = ![1, 0, 0] ∧ win0_7.index t = ![1, 0, 0]
    ∧ win0_8.index t = ![1, 0, 0] ∧ win0_9.index t = ![1, 0, 0] ∧ win0_10.index t = ![0, 0] :=
  (by decide +kernel : ∀ t : Fin cfg0.N, win0_0.index t = ![0, 0] ∧ win0_1.index t = ![0, 0] ∧ win0_2.index t = ![0, 0] ∧ win0_3.index t = ![0, 0]
    ∧ win0_4.index t = ![0, 0, 0, 0] ∧ win0_5.index t = ![1, 0, 0] ∧ win0_6.index t = ![1, 0, 0] ∧ win0_7.index t = ![1, 0, 0]
    ∧ win0_8.index t = ![1, 0, 0] ∧ win0_9.index t = ![1, 0, 0] ∧ win0_10.index t = ![0, 0]) t

theorem rd_a (t : Fin cfg0.N) (r : Fin 128) (l : Fin 512) :
    (iblk m c 0 t : S128x512.Idx → EReal) (ix2 r l) = ar m c r l := by
  unfold ar
  blk_point [iblk, V, idx t]

theorem rd_o (t : Fin cfg0.N) (r : Fin 128) (l : Fin 1024) :
    (iblk m c 1 t : S128x1024.Idx → EReal) (ix2 r l) = br m c r l := by
  unfold br
  blk_point [iblk, V, idx t]

theorem rd_gate (t : Fin cfg0.N) (r : Fin 128) (l : Fin 4096) :
    (iblk m c 2 t : S128x4096.Idx → EReal) (ix2 r l) = gr m c r l := by
  unfold gr
  blk_point [iblk, V, idx t]

theorem rd_x (t : Fin cfg0.N) (r : Fin 128) (l : Fin 2048) :
    (iblk m c 3 t : S128x2048.Idx → EReal) (ix2 r l) = xr m c r l := by
  unfold xr
  blk_point [iblk, V, idx t]

theorem rd_m (t : Fin cfg0.N) (r : Fin 128) (j : Fin 6) (l : Fin 2048) :
    (iblk m c 4 t : S6x1x128x2048.Idx → EReal) (ix4 j 0 r l) = Layer.chunk (md m c r) j l := by
  unfold md Layer.chunk
  blk_point [iblk, V, idx t]

theorem rd_wpa (t : Fin cfg0.N) (k : Fin 512) (l : Fin 2048) :
    (iblk m c 5 t : S1x512x2048.Idx → EReal) (ix3 0 k l) = wpa m c k l := by
  unfold wpa
  blk_point [iblk, V, idx t]

theorem rd_wpb (t : Fin cfg0.N) (k : Fin 1024) (l : Fin 2048) :
    (iblk m c 6 t : S1x1024x2048.Idx → EReal) (ix3 0 k l) = wpb m c k l := by
  unfold wpb
  blk_point [iblk, V, idx t]

theorem rd_wo (t : Fin cfg0.N) (k : Fin 2048) (l : Fin 2048) :
    (iblk m c 7 t : S1x2048x2048.Idx → EReal) (ix3 0 k l) = wo m c k l := by
  unfold wo
  blk_point [iblk, V, idx t]

theorem rd_g (t : Fin cfg0.N) (l : Fin 2048) : (iblk m c 8 t : S1x2x2048.Idx → EReal) (ix3 0 0 l) = lg m c l := by
  unfold lg
  blk_point [iblk, V, idx t]

theorem rd_b (t : Fin cfg0.N) (l : Fin 2048) : (iblk m c 9 t : S1x2x2048.Idx → EReal) (ix3 0 0 l) = lb m c l := by
  unfold lb
  blk_point [iblk, V, idx t]

/-! ## What a point stores -/

/-- The attention half's end on row `R`. -/
def result (R : Fin 128) : Fin 2048 → EReal :=
  Layer.post (ar m c R) (br m c R) (gr m c R) (xr m c R) (md m c R) (wpa m c) (wpb m c) (wo m c) (lg m c) (lb m c)

theorem pay2_at (t : Fin cfg0.N) (j : S128x2048.Idx) :
    k0_pay2 (F := Ideal) (View.ld (iblk m c 0 t) r0_0) (View.ld (iblk m c 5 t) r0_1) (View.ld (iblk m c 1 t) r0_2) (View.ld (iblk m c 6 t) r0_3)
      (View.ld (iblk m c 2 t) r0_4) (View.ld (iblk m c 2 t) r0_5) (View.ld (iblk m c 7 t) r0_6) (View.ld (iblk m c 3 t) r0_7)
      (View.ld (iblk m c 4 t) r0_8) j
      = Layer.residual (xr m c (j 0)) (md m c (j 0)) 2
          (fun l => ∑ k, Layer.merged (ar m c (j 0)) (br m c (j 0)) (gr m c (j 0)) (wpa m c) (wpb m c) k * wo m c k l) (j 1) := by
  idx_vars j
  pointwise [k0_pay2]
  simp only [rd_a m c t, rd_o m c t, rd_gate m c t, rd_x m c t, rd_m m c t j0, rd_wpa m c t, rd_wpb m c t, rd_wo m c t]
  rfl

theorem pay1_at (t : Fin cfg0.N) (z : FVec Ideal S128x2048 .f32) (j : S128x2048.Idx) :
    k0_pay1 (F := Ideal) z (View.ld (iblk m c 8 t) r0_9) (View.ld (iblk m c 9 t) r0_9) j
      = Layer.norm (fun l => z (ix2 (j 0) l)) (lg m c) (lb m c) (j 1) := by
  idx_vars j
  pointwise [k0_pay1]
  simp only [rd_g m c t, rd_b m c t]
  rfl

theorem out_at (t : Fin cfg0.N) (j : S128x2048.Idx) :
    out0_10 (F := Ideal) (iblk m c 0 t) (iblk m c 1 t) (iblk m c 2 t) (iblk m c 3 t) (iblk m c 4 t) (iblk m c 5 t) (iblk m c 6 t) (iblk m c 7 t)
      (iblk m c 8 t) (iblk m c 9 t) j = result m c (j 0) (j 1) := by
  unfold out0_10
  rw [View.canon_unit_zero (by funext a; match a with | ⟨0, _⟩ => rfl | ⟨1, _⟩ => rfl : (![0, 0] : Fin 2 → ℕ) = fun _ => 0)]
  refine (pay1_at m c t _ j).trans ?_
  unfold result Layer.post
  congr 1
  exact funext fun l => pay2_at m c t (ix2 (j 0) l)

/-- THE ARRAY: every entry is the attention half's end on its row. -/
theorem array (i : S128x2048.Idx) : (dats m 0 c).arrAt 10 cfg0.N i = result m c (i 0) (i 1) := by
  refine congrFun (g := fun i : S128x2048.Idx => result m c (i 0) (i 1)) ?_ i
  refine (dats m 0 c).arrAt_eq_of_covers 10 _ (by decide +kernel) fun t hf y => ?_
  refine ((congrFun (after0_10 m c t) y).trans (out_at m c t y)).trans ?_
  have e0 : ((cfg0.win 10).blk t).view.emb y 0 = y 0 := Fin.ext (by
    show win0_10.index t 0 * 128 + 1 * (y 0).val = (y 0).val
    rw [(idx t).2.2.2.2.2.2.2.2.2.2]; show 0 * 128 + 1 * (y 0).val = _; omega)
  have e1 : ((cfg0.win 10).blk t).view.emb y 1 = y 1 := Fin.ext (by
    show win0_10.index t 1 * 2048 + 1 * (y 1).val = (y 1).val
    rw [(idx t).2.2.2.2.2.2.2.2.2.2]; show 0 * 2048 + 1 * (y 1).val = _; omega)
  rw [e0, e1]

end Cert.PostSIdeal.Hand
-- ==== Proof.PostS.Reference.lean ====
module

public import proofs.«01_k».proof.Proof.Gen.PostSRefIdeal.Read
public import proofs.«01_k».proof.Proof.Spec
public import Idealize.ShloMosaic.Lib.Pointwise

/-! # What the reference of the attention half's end returns for the sample -/

@[expose] public section

set_option maxRecDepth 16384

noncomputable section

namespace Cert.PostSRefIdeal.Hand

open Cert.PostSRefIdeal Cert.PostSRefIdeal.Gen Cert.PostSRefIdeal.Read Idealize.ShloMosaic Idealize.ShloMosaic.TcCoe Idealize.SL.Sem Idealize.ShloMosaic.StableHlo

variable (x0 : S128x1x8x64.Idx → EReal) (x1 : S128x1x2x8x64.Idx → EReal) (x2 : S128x1x4096.Idx → EReal)
  (x3 : S128x1x2048.Idx → EReal) (x4 : S128x1x12288.Idx → EReal) (x5 : S2x512x2048.Idx → EReal) (x6 : S2x1024x2048.Idx → EReal)
  (x7 : S2x2048x2048.Idx → EReal) (x8 x9 : S2x2x2048.Idx → EReal)

/-- Row `b` of the dilated mixer. -/
abbrev ar (b : Fin 128) (k : Fin 512) : EReal := x0 (ix4 b 0 ⟨k.val / 64, by omega⟩ ⟨k.val % 64, by omega⟩)
/-- Row `b` of the sliding-window mixer. -/
abbrev br (b : Fin 128) (k : Fin 1024) : EReal :=
  x1 (ix5 b 0 ⟨k.val / 512, by omega⟩ ⟨k.val / 64 % 8, by omega⟩ ⟨k.val % 64, by omega⟩)
/-- Row `b` of the gates. -/
abbrev gr (b : Fin 128) (k : Fin 4096) : EReal := x2 (ix3 b 0 k)
/-- Row `b` of the activations. -/
abbrev xr (b : Fin 128) (k : Fin 2048) : EReal := x3 (ix3 b 0 k)
/-- The modulation vector of row `b`. -/
abbrev md (b : Fin 128) (k : Fin 12288) : EReal := x4 (ix3 b 0 k)
/-- The dilated mixer's output weights of the last layer. -/
abbrev wpa (k : Fin 512) (l : Fin 2048) : EReal := x5 (ix3 1 k l)
/-- The sliding-window mixer's output weights of the last layer. -/
abbrev wpb (k : Fin 1024) (l : Fin 2048) : EReal := x6 (ix3 1 k l)
/-- The merged output weights of the last layer. -/
abbrev wo (k l : Fin 2048) : EReal := x7 (ix3 1 k l)

theorem ya_at (b : Fin 128) (l : Fin 2048) :
    val_main_v9 (F := Ideal) x0 x5 (ix3 b 0 l) = ∑ k, ar x0 b k * wpa x5 k l := by
  pointwise [val_main_v9, val_main_v8, val_main_v7, val_main_v6]

theorem yb_at (b : Fin 128) (l : Fin 2048) :
    val_main_v13 (F := Ideal) x1 x6 (ix3 b 0 l) = ∑ k, br x1 b k * wpb x6 k l := by
  pointwise [val_main_v13, val_main_v12, val_main_v11, val_main_v10]

theorem merged_at (b : Fin 128) (l : Fin 2048) :
    val_main_v18 (F := Ideal) x0 x1 x2 x5 x6 (ix3 b 0 l) = Layer.merged (ar x0 b) (br x1 b) (gr x2 b) (wpa x5) (wpb x6) l := by
  have h1 := ya_at x0 x5 b
  have h2 := yb_at x1 x6 b
  unfold Layer.merged
  pointwise [val_main_v18, val_main_v17, val_main_v16, val_main_v15, val_main_v14]
  simp only [h1, h2]

theorem z_at (b : Fin 128) (l : Fin 2048) :
    val_main_v25 (F := Ideal) x0 x1 x2 x3 x4 x5 x6 x7 (ix3 b 0 l) = Layer.residual (xr x3 b) (md x4 b) 2
      (fun l => ∑ k, Layer.merged (ar x0 b) (br x1 b) (gr x2 b) (wpa x5) (wpb x6) k * wo x7 k l) l := by
  have h := merged_at x0 x1 x2 x5 x6 b
  unfold Layer.residual Layer.chunk Layer.resid
  pointwise [val_main_v25, val_main_v24, val_main_v23, val_main_v22, val_main_v21, val_main_v20, val_main_v19, val_main_v2, val_main_cst]
  simp only [h]

theorem out_at (b : Fin 128) (l : Fin 2048) :
    val_main_v57 (F := Ideal) x0 x1 x2 x3 x4 x5 x6 x7 x8 x9 (ix3 b 0 l) = Layer.post (ar x0 b) (br x1 b) (gr x2 b) (xr x3 b) (md x4 b) (wpa x5) (wpb x6)
      (wo x7) (fun l => x8 (ix3 1 0 l)) (fun l => x9 (ix3 1 0 l)) l := by
  have h := z_at x0 x1 x2 x3 x4 x5 x6 x7 b
  unfold Layer.post Layer.norm Layer.mean Layer.lanes Layer.eps
  generalize Layer.residual (xr x3 b) (md x4 b) 2
      (fun l => ∑ k, Layer.merged (ar x0 b) (br x1 b) (gr x2 b) (wpa x5) (wpb x6) k * wo x7 k l) = z at h ⊢
  generalize hv : val_main_v25 (F := Ideal) x0 x1 x2 x3 x4 x5 x6 x7 = v at h
  unfold val_main_v57 val_main_v54 val_main_v51 val_main_v50 val_main_v49 val_main_v48 val_main_v46 val_main_v45 val_main_v44 val_main_v42
    val_main_v41 val_main_v40 val_main_v39 val_main_v38 val_main_v37 val_main_v35 val_main_v34
  rw [hv]
  pointwise [val_main_v56, val_main_v55, val_main_v53, val_main_v52,
    val_main_v47, val_main_cst_4, val_main_v43, val_main_cst_3, val_main_cst_2,
    val_main_v36, val_main_cst_1, val_main_cst_0,
    val_main_v33, val_main_v32, val_main_v31, val_main_v30, val_main_v29, val_main_v28, val_main_v27, val_main_v26]
  simp only [h]

/-- THE RESULT: every entry is the attention half's end on its row. -/
theorem result_at (R : Fin 128) (l : Fin 2048) :
    val_main_v58 (F := Ideal) x0 x1 x2 x3 x4 x5 x6 x7 x8 x9 (ix2 R l)
      = Layer.post (ar x0 R) (br x1 R)
        (gr x2 R) (xr x3 R)
        (md x4 R) (wpa x5) (wpb x6) (wo x7) (fun l => x8 (ix3 1 0 l)) (fun l => x9 (ix3 1 0 l)) l := by
  rw [← out_at x0 x1 x2 x3 x4 x5 x6 x7 x8 x9]
  pointwise [val_main_v58]

end Cert.PostSRefIdeal.Hand
-- ==== Proof.PostS.lean ====
module

public import proofs.«01_k».proof.Defs
public import proofs.«01_k».proof.Proof.Gen.PostS.Frame
public import proofs.«01_k».proof.Proof.Gen.PostSIdeal
public import proofs.«01_k».proof.Proof.Gen.PostSIdeal.Value
public import proofs.«01_k».proof.Proof.Gen.PostSRefIdeal
public import proofs.«01_k».proof.Proof.Gen.PostSRefIdeal.Run
public import proofs.«01_k».proof.Proof.Gen.PostSRefIdeal.Read
public import proofs.«01_k».proof.Proof.PostS.Kernel
public import proofs.«01_k».proof.Proof.PostS.Reference

/-! # The end of the attention half for the sample: the claims -/

@[expose] public section

noncomputable section

namespace Cert.Proof.PostS

open Idealize.ShloMosaic Idealize.ShloMosaic.TcCoe Idealize.SL.Sem

theorem frame_p : Cert.quiescent_PostS := fun m g _ => Cert.PostS.Gen.frame m g

theorem frame_pi : Cert.quiescent_PostSIdeal := fun m g _ => Cert.PostSIdeal.Gen.frame m g

theorem frame_ri : Cert.quiescent_PostSRefIdeal := fun m g _ =>
  (θ_run Cert.PostSRefIdeal.defs _ _).mono (fun r h => ⟨fun c => (h c).2, sem_eq_zero_of_no_sems (by decide) r.2⟩)
    (Cert.PostSRefIdeal.Value.run m g)

/-- The value both programs end with: every entry is the attention half's end on its row. -/
def value (m : (ℓ : Loc Cert.PostSIdeal.nD Cert.PostSIdeal.τ Cert.PostSIdeal.sig) → Buf (Elt Ideal) ℓ) (c : Dev Cert.PostSIdeal.nD) :
    Cert.PostSIdeal.S128x2048.Idx → EReal := fun i => Cert.PostSIdeal.Hand.result m c (i 0) (i 1)

theorem algebraic : Cert.algebraic_PostSIdeal_PostSRefIdeal := by
  intro m g m' g' _ hagree
  refine ⟨fun c => value m c, ?_, ?_⟩
  · refine (θ_run Cert.PostSIdeal.defs _ _).mono (fun r h c => ?_) (Cert.PostSIdeal.Value.run_blocks m g)
    refine ⟨(h c).1.trans ?_, (h c).2⟩
    exact funext (Cert.PostSIdeal.Hand.array m c)
  · refine (θ_run Cert.PostSRefIdeal.defs _ _).mono (fun r h c => ?_) (Cert.PostSRefIdeal.Value.run m' g')
    refine ⟨(h c).1.trans ?_, (h c).2⟩
    rw [Cert.PostSRefIdeal.Read.val_main_v58_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2.1, (hagree c).2.2.2.2.2.2.2.2.2]
    funext i
    idx_vars i
    exact Cert.PostSRefIdeal.Hand.result_at _ _ _ _ _ _ _ _ _ _ _ _

end Cert.Proof.PostS

end
-- ==== Proof.Adaln.Kernel.lean ====
module

public import proofs.«01_k».proof.Proof.Gen.AdalnIdeal.Value
public import proofs.«01_k».proof.Proof.Spec
public import Idealize.ShloMosaic.Lib.Pipeline.ValueKit
public import Idealize.ShloMosaic.Lib.Pipeline.ReadBack
public import Idealize.ShloMosaic.Lib.Pointwise
public import Idealize.ShloMosaic.Lib.StableHlo.RunClose

/-! # What the modulation kernel leaves in its output

The grid is the two layers by 12 blocks of 1024 columns. The rows are the prompt's 8 conditions, then the sample's 128. -/

@[expose] public section

set_option maxRecDepth 16384

noncomputable section

namespace Cert.AdalnIdeal.Hand

open Cert.AdalnIdeal Cert.AdalnIdeal.Gen Idealize.ShloMosaic Idealize.ShloMosaic.TcCoe Idealize.SL.Sem Idealize.ShloMosaic.StableHlo

variable (m : (ℓ : Loc nD τ sig) → Buf (Elt Ideal) ℓ) (c : Dev nD)

/-- Row `R` of the conditions. -/
def cr (R : Fin 136) (k : Fin 2048) : EReal :=
  if h : R.val < 8 then (m ((c.tc : Thread nD τ).loc main_arg0) : S8x2048.Idx → EReal) (ix2 ⟨R.val, h⟩ k)
  else (m ((c.tc : Thread nD τ).loc main_arg1) : S128x2048.Idx → EReal) (ix2 ⟨R.val - 8, by omega⟩ k)
/-- The modulation weights of layer `L`. -/
def w (L : Fin 2) (k : Fin 2048) (f : Fin 12288) : EReal :=
  (m ((c.tc : Thread nD τ).loc main_arg2) : S2x2048x12288.Idx → EReal) (ix3 L k f)
/-- The modulation's bias of layer `L`. -/
def b (L : Fin 2) (f : Fin 12288) : EReal :=
  (m ((c.tc : Thread nD τ).loc main_arg3) : S2x12288.Idx → EReal) (ix2 L f)

/-! ## The blocks a point reads -/

theorem idx (t : Fin cfg0.N) : win0_0.index t = ![0, 0] ∧ win0_1.index t = ![t.val / 12, 0, t.val % 12]
    ∧ win0_2.index t = ![t.val / 12, 0, t.val % 12] ∧ win0_3.index t = ![t.val / 12, 0, t.val % 12] :=
  (by decide +kernel : ∀ t : Fin cfg0.N, win0_0.index t = ![0, 0] ∧ win0_1.index t = ![t.val / 12, 0, t.val % 12]
    ∧ win0_2.index t = ![t.val / 12, 0, t.val % 12] ∧ win0_3.index t = ![t.val / 12, 0, t.val % 12]) t

/-- The layer of point `t`. -/
def layer (t : Fin cfg0.N) : Fin 2 := ⟨t.val / 12, by have := lt_of_lt_of_eq t.isLt (N_0 : cfg0.N = 24); omega⟩

/-- The column of the array that lane `f` of point `t`'s block is. -/
def col (t : Fin cfg0.N) (f : Fin 1024) : Fin 12288 := ⟨t.val % 12 * 1024 + f.val, by omega⟩

/-- The conditions the kernel is given: the prompt's rows, then the sample's. -/
theorem host : (V m c main_v0 : S136x2048.Idx → EReal)
    = concatenate S136x2048 0 [⟨S8x2048, (m ((c.tc : Thread nD τ).loc main_arg0) : S8x2048.Idx → EReal)⟩,
        ⟨S128x2048, (m ((c.tc : Thread nD τ).loc main_arg1) : S128x2048.Idx → EReal)⟩] concatenates_S8x2048_S128x2048_S136x2048_d0 := by
  unfold_abbrev_sides
  after_results_entrywise (rounds := 1) []

theorem host_at (R : Fin 136) (k : Fin 2048) : (V m c main_v0 : S136x2048.Idx → EReal) (ix2 R k) = cr m c R k := by
  rw [host]
  unfold cr
  generalize (m ((c.tc : Thread nD τ).loc main_arg0) : S8x2048.Idx → EReal) = x
  generalize (m ((c.tc : Thread nD τ).loc main_arg1) : S128x2048.Idx → EReal) = y
  pointwise

theorem rd_c (t : Fin cfg0.N) (r : Fin 136) (k : Fin 2048) :
    (iblk m c 0 t : S136x2048.Idx → EReal) (ix2 r k) = cr m c r k := by
  rw [← host_at]
  blk_ext [iblk, idx t]

theorem rd_w (t : Fin cfg0.N) (k : Fin 2048) (f : Fin 1024) :
    (iblk m c 1 t : S1x2048x1024.Idx → EReal) (ix3 0 k f) = w m c (layer t) k (col t f) := by
  unfold w layer col
  blk_point [iblk, V, idx t]

theorem rd_b (t : Fin cfg0.N) (f : Fin 1024) :
    (iblk m c 2 t : S1x1x1024.Idx → EReal) (ix3 0 0 f) = b m c (layer t) (col t f) := by
  unfold b layer col
  blk_point [iblk, V, idx t]

/-! ## What a point stores -/

/-- The modulation of row `R` in layer `L`. -/
def result (L : Fin 2) (R : Fin 136) : Fin 12288 → EReal := Layer.modulation (cr m c R) (w m c L) (b m c L)

theorem pay1_at (t : Fin cfg0.N) (r : Fin 136) (f : Fin 1024) :
    k0_pay1 (F := Ideal) (View.ld (iblk m c 0 t) r0_0) (View.ld (iblk m c 1 t) r0_1) (View.ld (iblk m c 2 t) r0_2) (ix3 0 r f)
      = result m c (layer t) r (col t f) := by
  pointwise [k0_pay1]
  simp only [rd_c m c t, rd_w m c t, rd_b m c t]
  rfl

theorem out_at (t : Fin cfg0.N) (j : S1x136x1024.Idx) :
    out0_3 (F := Ideal) (iblk m c 0 t) (iblk m c 1 t) (iblk m c 2 t) j = result m c (layer t) (j 1) (col t (j 2)) := by
  unfold out0_3
  rw [View.canon_unit_zero (by funext a; match a with | ⟨0, _⟩ => rfl | ⟨1, _⟩ => rfl | ⟨2, _⟩ => rfl : (![0, 0, 0] : Fin 3 → ℕ) = fun _ => 0)]
  obtain ⟨r, f, rfl⟩ : ∃ (r : Fin 136) (f : Fin 1024), j = ix3 0 r f :=
    ⟨j 1, j 2, by
      have h : j 0 = (0 : Fin 1) := Subsingleton.elim (α := Fin 1) _ _
      exact (eq_ix3 j).trans (by rw [h])⟩
  exact pay1_at m c t r f

/-- THE ARRAY: every entry is the modulation of its layer and row. -/
theorem array (i : S2x136x12288.Idx) : (dats m 0 c).arrAt 3 cfg0.N i = result m c (i 0) (i 1) (i 2) := by
  refine congrFun (g := fun i : S2x136x12288.Idx => result m c (i 0) (i 1) (i 2)) ?_ i
  refine (dats m 0 c).arrAt_eq_of_covers 3 _ (by decide +kernel) fun t hf y => ?_
  refine ((congrFun (after0_3 m c t) y).trans (out_at m c t y)).trans ?_
  have h0 : (y 0).val = 0 := by have := (y 0).isLt; change _ < 1 at this; omega
  have e0 : ((cfg0.win 3).blk t).view.emb y 0 = layer t := Fin.ext (by
    show win0_3.index t 0 * 1 + 1 * (y 0).val = t.val / 12
    rw [(idx t).2.2.2, h0]; show t.val / 12 * 1 + 1 * 0 = _; omega)
  have e1 : ((cfg0.win 3).blk t).view.emb y 1 = y 1 := Fin.ext (by
    show win0_3.index t 1 * 136 + 1 * (y 1).val = (y 1).val
    rw [(idx t).2.2.2]; show 0 * 136 + 1 * (y 1).val = _; omega)
  have e2 : ((cfg0.win 3).blk t).view.emb y 2 = col t (y 2) := Fin.ext (by
    show win0_3.index t 2 * 1024 + 1 * (y 2).val = t.val % 12 * 1024 + (y 2).val
    rw [(idx t).2.2.2]; show t.val % 12 * 1024 + 1 * (y 2).val = _; omega)
  rw [e0, e1, e2]

end Cert.AdalnIdeal.Hand
-- ==== Proof.Adaln.Reference.lean ====
module

public import proofs.«01_k».proof.Proof.Gen.AdalnRefIdeal.Read
public import proofs.«01_k».proof.Proof.Spec
public import Idealize.ShloMosaic.Lib.Pointwise

/-! # What the modulation's reference returns -/

@[expose] public section

set_option maxRecDepth 16384

noncomputable section

namespace Cert.AdalnRefIdeal.Hand

open Cert.AdalnRefIdeal Cert.AdalnRefIdeal.Gen Cert.AdalnRefIdeal.Read Idealize.ShloMosaic Idealize.ShloMosaic.TcCoe Idealize.SL.Sem Idealize.ShloMosaic.StableHlo

variable (x0 : S8x2048.Idx → EReal) (x1 : S128x2048.Idx → EReal) (x2 : S2x2048x12288.Idx → EReal) (x3 : S2x12288.Idx → EReal)

/-- Row `R` of the conditions: the prompt's rows, then the sample's. -/
abbrev cr (R : Fin 136) (k : Fin 2048) : EReal :=
  if h : R.val < 8 then x0 (ix2 ⟨R.val, h⟩ k) else x1 (ix2 ⟨R.val - 8, by omega⟩ k)

/-- The modulation of layer `L` of one row of conditions. -/
abbrev modOf (u : Fin 2048 → EReal) (L : Fin 2) : Fin 12288 → EReal :=
  Layer.modulation u (fun k f => x2 (ix3 L k f)) fun f => x3 (ix2 L f)

theorem prompt0 (r : Fin 8) (f : Fin 12288) :
    val_main_v8 (F := Ideal) x0 x2 x3 (ix2 r f) = modOf x2 x3 (fun k => x0 (ix2 r k)) 0 f := by
  unfold modOf Layer.modulation
  pointwise [val_main_v8, val_main_v7, val_main_v6, val_main_v5, val_main_v4, val_main_v3, val_main_v2, val_main_v1, val_main_v0,
    val_main_call0_v0, val_main_call0_v1, val_main_call0_v2, val_main_call0_v3, val_main_call0_v4, val_main_call0_v5, val_main_call0_cst, val_main_call0_cst_0]
  rfl

theorem prompt1 (r : Fin 8) (f : Fin 12288) :
    val_main_v17 (F := Ideal) x0 x2 x3 (ix2 r f) = modOf x2 x3 (fun k => x0 (ix2 r k)) 1 f := by
  unfold modOf Layer.modulation
  pointwise [val_main_v17, val_main_v16, val_main_v15, val_main_v14, val_main_v13, val_main_v12, val_main_v11, val_main_v10, val_main_v9,
    val_main_call1_v0, val_main_call1_v1, val_main_call1_v2, val_main_call1_v3, val_main_call1_v4, val_main_call1_v5, val_main_call1_cst, val_main_call1_cst_0]
  rfl

theorem sample0 (r : Fin 128) (f : Fin 12288) :
    val_main_v29 (F := Ideal) x1 x2 x3 (ix2 r f) = modOf x2 x3 (fun k => x1 (ix2 r k)) 0 f := by
  unfold modOf Layer.modulation
  pointwise [val_main_v29, val_main_v28, val_main_v27, val_main_v26, val_main_v25, val_main_v24, val_main_v23, val_main_v22, val_main_v21,
    val_main_call2_v0, val_main_call2_v1, val_main_call2_v2, val_main_call2_v3, val_main_call2_v4, val_main_call2_v5, val_main_call2_cst, val_main_call2_cst_0]
  rfl

theorem sample1 (r : Fin 128) (f : Fin 12288) :
    val_main_v38 (F := Ideal) x1 x2 x3 (ix2 r f) = modOf x2 x3 (fun k => x1 (ix2 r k)) 1 f := by
  unfold modOf Layer.modulation
  pointwise [val_main_v38, val_main_v37, val_main_v36, val_main_v35, val_main_v34, val_main_v33, val_main_v32, val_main_v31, val_main_v30,
    val_main_call3_v0, val_main_call3_v1, val_main_call3_v2, val_main_call3_v3, val_main_call3_v4, val_main_call3_v5, val_main_call3_cst, val_main_call3_cst_0]
  rfl

theorem prompt_at (L : Fin 2) (r : Fin 8) (f : Fin 12288) :
    val_main_v20 (F := Ideal) x0 x2 x3 (ix3 L r f) = modOf x2 x3 (fun k => x0 (ix2 r k)) L f := by
  have h0 := prompt0 x0 x2 x3 r f
  have h1 := prompt1 x0 x2 x3 r f
  unfold val_main_v20 val_main_v19 val_main_v18
  generalize val_main_v8 (F := Ideal) x0 x2 x3 = v at h0 ⊢
  generalize val_main_v17 (F := Ideal) x0 x2 x3 = w at h1 ⊢
  match L with
  | ⟨0, _⟩ => exact Eq.trans (by pointwise) h0
  | ⟨1, _⟩ => exact Eq.trans (by pointwise) h1

theorem sample_at (L : Fin 2) (r : Fin 128) (f : Fin 12288) :
    val_main_v41 (F := Ideal) x1 x2 x3 (ix3 L r f) = modOf x2 x3 (fun k => x1 (ix2 r k)) L f := by
  have h0 := sample0 x1 x2 x3 r f
  have h1 := sample1 x1 x2 x3 r f
  unfold val_main_v41 val_main_v40 val_main_v39
  generalize val_main_v29 (F := Ideal) x1 x2 x3 = v at h0 ⊢
  generalize val_main_v38 (F := Ideal) x1 x2 x3 = w at h1 ⊢
  match L with
  | ⟨0, _⟩ => exact Eq.trans (by pointwise) h0
  | ⟨1, _⟩ => exact Eq.trans (by pointwise) h1

/-- THE RESULT: every entry is the modulation of its layer and row. -/
theorem result_at (L : Fin 2) (R : Fin 136) (f : Fin 12288) :
    val_main_v42 (F := Ideal) x0 x1 x2 x3 (ix3 L R f) = modOf x2 x3 (cr x0 x1 R) L f := by
  have hp := prompt_at x0 x2 x3 L
  have hs := sample_at x1 x2 x3 L
  unfold val_main_v42
  generalize val_main_v20 (F := Ideal) x0 x2 x3 = v at hp ⊢
  generalize val_main_v41 (F := Ideal) x1 x2 x3 = w at hs ⊢
  by_cases h : R.val < 8
  · have e : cr x0 x1 R = fun k => x0 (ix2 ⟨R.val, h⟩ k) := funext fun k => dif_pos h
    rw [e, ← hp]
    pointwise
    rw [dif_pos h]
  · have e : cr x0 x1 R = fun k => x1 (ix2 ⟨R.val - 8, by omega⟩ k) := funext fun k => dif_neg h
    rw [e, ← hs]
    pointwise
    rw [dif_neg h]

end Cert.AdalnRefIdeal.Hand

end
-- ==== Proof.Adaln.lean ====
module

public import proofs.«01_k».proof.Defs
public import proofs.«01_k».proof.Proof.Gen.Adaln.Frame
public import proofs.«01_k».proof.Proof.Gen.AdalnIdeal
public import proofs.«01_k».proof.Proof.Gen.AdalnIdeal.Value
public import proofs.«01_k».proof.Proof.Gen.AdalnRefIdeal
public import proofs.«01_k».proof.Proof.Gen.AdalnRefIdeal.Run
public import proofs.«01_k».proof.Proof.Gen.AdalnRefIdeal.Read
public import proofs.«01_k».proof.Proof.Adaln.Kernel
public import proofs.«01_k».proof.Proof.Adaln.Reference

/-! # The modulation: the claims -/

@[expose] public section

noncomputable section

namespace Cert.Proof.Adaln

open Idealize.ShloMosaic Idealize.ShloMosaic.TcCoe Idealize.SL.Sem

theorem frame_p : Cert.quiescent_Adaln := fun m g _ => Cert.Adaln.Gen.frame m g

theorem frame_pi : Cert.quiescent_AdalnIdeal := fun m g _ => Cert.AdalnIdeal.Gen.frame m g

theorem frame_ri : Cert.quiescent_AdalnRefIdeal := fun m g _ =>
  (θ_run Cert.AdalnRefIdeal.defs _ _).mono (fun r h => ⟨fun c => (h c).2, sem_eq_zero_of_no_sems (by decide) r.2⟩)
    (Cert.AdalnRefIdeal.Value.run m g)

/-- The value both programs end with: every entry is the modulation of its layer and row. -/
def value (m : (ℓ : Loc Cert.AdalnIdeal.nD Cert.AdalnIdeal.τ Cert.AdalnIdeal.sig) → Buf (Elt Ideal) ℓ) (c : Dev Cert.AdalnIdeal.nD) :
    Cert.AdalnIdeal.S2x136x12288.Idx → EReal := fun i => Cert.AdalnIdeal.Hand.result m c (i 0) (i 1) (i 2)

theorem algebraic : Cert.algebraic_AdalnIdeal_AdalnRefIdeal := by
  intro m g m' g' _ hagree
  refine ⟨fun c => value m c, ?_, ?_⟩
  · refine (θ_run Cert.AdalnIdeal.defs _ _).mono (fun r h c => ?_) (Cert.AdalnIdeal.Value.run_blocks m g)
    refine ⟨(h c).1.trans ?_, (h c).2⟩
    exact funext (Cert.AdalnIdeal.Hand.array m c)
  · refine (θ_run Cert.AdalnRefIdeal.defs _ _).mono (fun r h c => ?_) (Cert.AdalnRefIdeal.Value.run m' g')
    refine ⟨(h c).1.trans ?_, (h c).2⟩
    rw [Cert.AdalnRefIdeal.Read.val_main_v42_eq, (hagree c).1, (hagree c).2.1, (hagree c).2.2.1, (hagree c).2.2.2]
    funext i
    idx_vars i
    exact Cert.AdalnRefIdeal.Hand.result_at _ _ _ _ _ _ _

end Cert.Proof.Adaln

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Ffn
public import proofs.«01_k».proof.Proof.Gen.Ffn.Frame
public import proofs.«01_k».proof.Proof.Gen.FfnIdeal
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.ProjA
public import proofs.«01_k».proof.Proof.Gen.ProjA.Frame
public import proofs.«01_k».proof.Proof.Gen.ProjAIdeal
public import proofs.«01_k».proof.Proof.Gen.ProjAIdeal.Value
public import proofs.«01_k».proof.Proof.Gen.ProjARefIdeal
public import proofs.«01_k».proof.Proof.Gen.ProjARefIdeal.Run
public import proofs.«01_k».proof.Proof.Gen.ProjARefIdeal.Read
public import proofs.«01_k».proof.Proof.Gen.Gates
public import proofs.«01_k».proof.Proof.Gen.Gates.Frame
public import proofs.«01_k».proof.Proof.Gen.GatesIdeal
public import proofs.«01_k».proof.Proof.Gen.GatesIdeal.Value
public import proofs.«01_k».proof.Proof.Gen.GatesRefIdeal
public import proofs.«01_k».proof.Proof.Gen.GatesRefIdeal.Run
public import proofs.«01_k».proof.Proof.Gen.GatesRefIdeal.Read
public import proofs.«01_k».proof.Proof.Gen.Post
public import proofs.«01_k».proof.Proof.Gen.Post.Frame
public import proofs.«01_k».proof.Proof.Gen.PostIdeal
public import proofs.«01_k».proof.Proof.Gen.PostIdeal.Value
public import proofs.«01_k».proof.Proof.Gen.PostRefIdeal
public import proofs.«01_k».proof.Proof.Gen.PostRefIdeal.Run
public import proofs.«01_k».proof.Proof.Gen.PostRefIdeal.Read
public import proofs.«01_k».proof.Proof.Gen.ProjB
public import proofs.«01_k».proof.Proof.Gen.ProjB.Frame
public import proofs.«01_k».proof.Proof.Gen.ProjBIdeal
public import proofs.«01_k».proof.Proof.Gen.ProjBIdeal.Value
public import proofs.«01_k».proof.Proof.Gen.ProjBRefIdeal
public import proofs.«01_k».proof.Proof.Gen.ProjBRefIdeal.Run
public import proofs.«01_k».proof.Proof.Gen.ProjBRefIdeal.Read
public import proofs.«01_k».proof.Proof.Gen.FfnS
public import proofs.«01_k».proof.Proof.Gen.FfnS.Frame
public import proofs.«01_k».proof.Proof.Gen.FfnSIdeal
public import proofs.«01_k».proof.Proof.Gen.FfnSIdeal.Value
public import proofs.«01_k».proof.Proof.Gen.FfnSRefIdeal
public import proofs.«01_k».proof.Proof.Gen.FfnSRefIdeal.Run
public import proofs.«01_k».proof.Proof.Gen.FfnSRefIdeal.Read
public import proofs.«01_k».proof.Proof.Gen.ProjAS
public import proofs.«01_k».proof.Proof.Gen.ProjAS.Frame
public import proofs.«01_k».proof.Proof.Gen.ProjASIdeal
public import proofs.«01_k».proof.Proof.Gen.ProjASIdeal.Value
public import proofs.«01_k».proof.Proof.Gen.ProjASRefIdeal
public import proofs.«01_k».proof.Proof.Gen.ProjASRefIdeal.Run
public import proofs.«01_k».proof.Proof.Gen.ProjASRefIdeal.Read
public import proofs.«01_k».proof.Proof.Gen.ProjBS
public import proofs.«01_k».proof.Proof.Gen.ProjBS.Frame
public import proofs.«01_k».proof.Proof.Gen.ProjBSIdeal
public import proofs.«01_k».proof.Proof.Gen.ProjBSIdeal.Value
public import proofs.«01_k».proof.Proof.Gen.ProjBSRefIdeal
public import proofs.«01_k».proof.Proof.Gen.ProjBSRefIdeal.Run
public import proofs.«01_k».proof.Proof.Gen.ProjBSRefIdeal.Read
public import proofs.«01_k».proof.Proof.Gen.GatesS
public import proofs.«01_k».proof.Proof.Gen.GatesS.Frame
public import proofs.«01_k».proof.Proof.Gen.GatesSIdeal
public import proofs.«01_k».proof.Proof.Gen.GatesSIdeal.Value
public import proofs.«01_k».proof.Proof.Gen.GatesSRefIdeal
public import proofs.«01_k».proof.Proof.Gen.GatesSRefIdeal.Run
public import proofs.«01_k».proof.Proof.Gen.GatesSRefIdeal.Read
public import proofs.«01_k».proof.Proof.Gen.PostS
public import proofs.«01_k».proof.Proof.Gen.PostS.Frame
public import proofs.«01_k».proof.Proof.Gen.PostSIdeal
public import proofs.«01_k».proof.Proof.Gen.PostSIdeal.Value
public import proofs.«01_k».proof.Proof.Gen.PostSRefIdeal
public import proofs.«01_k».proof.Proof.Gen.PostSRefIdeal.Run
public import proofs.«01_k».proof.Proof.Gen.PostSRefIdeal.Read
public import proofs.«01_k».proof.Proof.Gen.Adaln
public import proofs.«01_k».proof.Proof.Gen.Adaln.Frame
public import proofs.«01_k».proof.Proof.Gen.AdalnIdeal
public import proofs.«01_k».proof.Proof.Gen.AdalnIdeal.Value
public import proofs.«01_k».proof.Proof.Gen.AdalnRefIdeal
public import proofs.«01_k».proof.Proof.Gen.AdalnRefIdeal.Run
public import proofs.«01_k».proof.Proof.Gen.AdalnRefIdeal.Read
public import proofs.«01_k».proof.Proof.Band
public import proofs.«01_k».proof.Proof.Ffn
public import proofs.«01_k».proof.Proof.ProjA
public import proofs.«01_k».proof.Proof.Gates
public import proofs.«01_k».proof.Proof.Post
public import proofs.«01_k».proof.Proof.ProjB
public import proofs.«01_k».proof.Proof.FfnS
public import proofs.«01_k».proof.Proof.ProjAS
public import proofs.«01_k».proof.Proof.ProjBS
public import proofs.«01_k».proof.Proof.GatesS
public import proofs.«01_k».proof.Proof.PostS
public import proofs.«01_k».proof.Proof.Adaln

/-! # The certificate: the claims of each call, put together -/

@[expose] public section

noncomputable section

namespace Cert.Proof

theorem claim : Cert.Claim := ⟨Cert.Kernel.Gen.facts, Cert.KernelIdeal.Gen.facts, Cert.ReferenceIdeal.Gen.facts, Cert.Ffn.Gen.facts, Cert.FfnIdeal.Gen.facts, Cert.FfnRefIdeal.Gen.facts, Cert.ProjA.Gen.facts, Cert.ProjAIdeal.Gen.facts, Cert.ProjARefIdeal.Gen.facts, Cert.Gates.Gen.facts, Cert.GatesIdeal.Gen.facts, Cert.GatesRefIdeal.Gen.facts, Cert.Post.Gen.facts, Cert.PostIdeal.Gen.facts, Cert.PostRefIdeal.Gen.facts, Cert.ProjB.Gen.facts, Cert.ProjBIdeal.Gen.facts, Cert.ProjBRefIdeal.Gen.facts, Cert.FfnS.Gen.facts, Cert.FfnSIdeal.Gen.facts, Cert.FfnSRefIdeal.Gen.facts, Cert.ProjAS.Gen.facts, Cert.ProjASIdeal.Gen.facts, Cert.ProjASRefIdeal.Gen.facts, Cert.ProjBS.Gen.facts, Cert.ProjBSIdeal.Gen.facts, Cert.ProjBSRefIdeal.Gen.facts, Cert.GatesS.Gen.facts, Cert.GatesSIdeal.Gen.facts, Cert.GatesSRefIdeal.Gen.facts, Cert.PostS.Gen.facts, Cert.PostSIdeal.Gen.facts, Cert.PostSRefIdeal.Gen.facts, Cert.Adaln.Gen.facts, Cert.AdalnIdeal.Gen.facts, Cert.AdalnRefIdeal.Gen.facts, Pre_finite.facts,
  Band.frame_p,
  Band.frame_pi,
  Band.frame_pi_finite,
  Band.frame_ri,
  Band.frame_ri_finite,
  Ffn.frame_p,
  Ffn.frame_pi,
  Ffn.frame_ri,
  ProjA.frame_p,
  ProjA.frame_pi,
  ProjA.frame_ri,
  Gates.frame_p,
  Gates.frame_pi,
  Gates.frame_ri,
  Post.frame_p,
  Post.frame_pi,
  Post.frame_ri,
  ProjB.frame_p,
  ProjB.frame_pi,
  ProjB.frame_ri,
  FfnS.frame_p,
  FfnS.frame_pi,
  FfnS.frame_ri,
  ProjAS.frame_p,
  ProjAS.frame_pi,
  ProjAS.frame_ri,
  ProjBS.frame_p,
  ProjBS.frame_pi,
  ProjBS.frame_ri,
  GatesS.frame_p,
  GatesS.frame_pi,
  GatesS.frame_ri,
  PostS.frame_p,
  PostS.frame_pi,
  PostS.frame_ri,
  Adaln.frame_p,
  Adaln.frame_pi,
  Adaln.frame_ri,
  Band.preserves,
  Band.algebraic,
  trivial,
  Ffn.algebraic,
  trivial,
  ProjA.algebraic,
  trivial,
  Gates.algebraic,
  trivial,
  Post.algebraic,
  trivial,
  ProjB.algebraic,
  trivial,
  FfnS.algebraic,
  trivial,
  ProjAS.algebraic,
  trivial,
  ProjBS.algebraic,
  trivial,
  GatesS.algebraic,
  trivial,
  PostS.algebraic,
  trivial,
  Adaln.algebraic⟩

end Cert.Proof

end
